-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lb_range [hPre_lb_range : Cert.Pre_lb_range.Facts] (m : (ℓ : Loc Cert.KernelIdeal.nD Cert.KernelIdeal.τ Cert.KernelIdeal.sig) → Buf (Elt Ideal) ℓ) : Prop :=
  ∀ c : Dev Cert.KernelIdeal.nD,
    (Cert.Pre_lb_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lb_range [hPre_lb_range : Cert.Pre_lb_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lb_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleReferenceIdeal (m : (ℓ : Loc Cert.MlpSampleReferenceIdeal.nD Cert.MlpSampleReferenceIdeal.τ Cert.MlpSampleReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite [hPre_finite : Cert.Pre_finite.Facts] (m : (ℓ : Loc Cert.ProjIdeal.nD Cert.ProjIdeal.τ Cert.ProjIdeal.sig) → Buf (Elt Ideal) ℓ) : Prop :=
  ∀ c : Dev Cert.ProjIdeal.nD,
    (Cert.Pre_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite [hPre_finite : Cert.Pre_finite.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))) = (fun _ => 1#1)

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleIdeal_finite_sample [hPre_finite_sample : Cert.Pre_finite_sample.Facts] (m : (ℓ : Loc Cert.ProjSampleIdeal.nD Cert.ProjSampleIdeal.τ Cert.ProjSampleIdeal.sig) → Buf (Elt Ideal) ℓ) : Prop :=
  ∀ c : Dev Cert.ProjSampleIdeal.nD,
    (Cert.Pre_finite_sample.fn (F := Ideal) (m ((c.tc : Thread Cert.ProjSampleIdeal.nD Cert.ProjSampleIdeal.τ).loc Cert.ProjSampleIdeal.main_arg0)) (m ((c.tc : Thread Cert.ProjSampleIdeal.nD Cert.ProjSampleIdeal.τ).loc Cert.ProjSampleIdeal.main_arg1)) (m ((c.tc : Thread Cert.ProjSampleIdeal.nD Cert.ProjSampleIdeal.τ).loc Cert.ProjSampleIdeal.main_arg2)) (m ((c.tc : Thread Cert.ProjSampleIdeal.nD Cert.ProjSampleIdeal.τ).loc Cert.ProjSampleIdeal.main_arg3)) (m ((c.tc : Thread Cert.ProjSampleIdeal.nD Cert.ProjSampleIdeal.τ).loc Cert.ProjSampleIdeal.main_arg4))) = (fun _ => 1#1)

def Pre_ProjSampleReferenceIdeal (m : (ℓ : Loc Cert.ProjSampleReferenceIdeal.nD Cert.ProjSampleReferenceIdeal.τ Cert.ProjSampleReferenceIdeal.sig) → Buf (Elt Ideal) ℓ) : Prop :=
  True

def Pre_ProjSampleReferenceIdeal_finite_sample [hPre_finite_sample : Cert.Pre_finite_sample.Facts] (m : (ℓ : Loc Cert.ProjSampleReferenceIdeal.nD Cert.ProjSampleReferenceIdeal.τ Cert.ProjSampleReferenceIdeal.sig) → Buf (Elt Ideal) ℓ) : Prop :=
  ∀ c : Dev Cert.ProjSampleReferenceIdeal.nD,
    (Cert.Pre_finite_sample.fn (F := Ideal) (m ((c.tc : Thread Cert.ProjSampleReferenceIdeal.nD Cert.ProjSampleReferenceIdeal.τ).loc Cert.ProjSampleReferenceIdeal.main_arg0)) (m ((c.tc : Thread Cert.ProjSampleReferenceIdeal.nD Cert.ProjSampleReferenceIdeal.τ).loc Cert.ProjSampleReferenceIdeal.main_arg1)) (m ((c.tc : Thread Cert.ProjSampleReferenceIdeal.nD Cert.ProjSampleReferenceIdeal.τ).loc Cert.ProjSampleReferenceIdeal.main_arg2)) (m ((c.tc : Thread Cert.ProjSampleReferenceIdeal.nD Cert.ProjSampleReferenceIdeal.τ).loc Cert.ProjSampleReferenceIdeal.main_arg3)) (m ((c.tc : Thread Cert.ProjSampleReferenceIdeal.nD Cert.ProjSampleReferenceIdeal.τ).loc Cert.ProjSampleReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lb_range [hKernelIdeal : Cert.KernelIdeal.Facts] [hPre_lb_range : Cert.Pre_lb_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lb_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lb_range [hReferenceIdeal : Cert.ReferenceIdeal.Facts] [hPre_lb_range : Cert.Pre_lb_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lb_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4)
      ∧ r.2.mem ((c.tc : Thread Cert.MlpSample.nD Cert.MlpSample.τ).loc Cert.MlpSample.main_arg5) = m ((c.tc : Thread Cert.MlpSample.nD Cert.MlpSample.τ).loc Cert.MlpSample.main_arg5)
      ∧ r.2.mem ((c.tc : Thread Cert.MlpSample.nD Cert.MlpSample.τ).loc Cert.MlpSample.main_arg6) = m ((c.tc : Thread Cert.MlpSample.nD Cert.MlpSample.τ).loc Cert.MlpSample.main_arg6))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
      ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5)
      ∧ r.2.mem ((c.tc : Thread Cert.MlpSampleIdeal.nD Cert.MlpSampleIdeal.τ).loc Cert.MlpSampleIdeal.main_arg6) = m ((c.tc : Thread Cert.MlpSampleIdeal.nD Cert.MlpSampleIdeal.τ).loc Cert.MlpSampleIdeal.main_arg6))
      ∧ r.2.sem = fun _ => 0)

def quiescent_MlpSampleReferenceIdeal [hMlpSampleReferenceIdeal : Cert.MlpSampleReferenceIdeal.Facts] : Prop :=
  ∀ (m : (ℓ : Loc Cert.MlpSampleReferenceIdeal.nD Cert.MlpSampleReferenceIdeal.τ Cert.MlpSampleReferenceIdeal.sig) → Buf (Elt Ideal) ℓ) (g : Dev Cert.MlpSampleReferenceIdeal.nD → PrngReg), Pre_MlpSampleReferenceIdeal m →
    θ_run (Cert.MlpSampleReferenceIdeal.defs (F := Ideal)) (onTc (τ := Cert.MlpSampleReferenceIdeal.τ) (Cert.MlpSampleReferenceIdeal.main (F := Ideal))) ⟨m, fun _ => 0, g⟩ (fun r => (∀ c : Dev Cert.MlpSampleReferenceIdeal.nD,
      r.2.mem ((c.tc : Thread Cert.MlpSampleReferenceIdeal.nD Cert.MlpSampleReferenceIdeal.τ).loc Cert.MlpSampleReferenceIdeal.main_arg0) = m ((c.tc : Thread Cert.MlpSampleReferenceIdeal.nD Cert.MlpSampleReferenceIdeal.τ).loc Cert.MlpSampleReferenceIdeal.main_arg0)
      ∧ r.2.mem ((c.tc : Thread Cert.MlpSampleReferenceIdeal.nD Cert.MlpSampleReferenceIdeal.τ).loc Cert.MlpSampleReferenceIdeal.main_arg1) = m ((c.tc : Thread Cert.MlpSampleReferenceIdeal.nD Cert.MlpSampleReferenceIdeal.τ).loc Cert.MlpSampleReferenceIdeal.main_arg1)
      ∧ r.2.mem ((c.tc : Thread Cert.MlpSampleReferenceIdeal.nD Cert.MlpSampleReferenceIdeal.τ).loc Cert.MlpSampleReferenceIdeal.main_arg2) = m ((c.tc : Thread Cert.MlpSampleReferenceIdeal.nD Cert.MlpSampleReferenceIdeal.τ).loc Cert.MlpSampleReferenceIdeal.main_arg2)
      ∧ r.2.mem ((c.tc : Thread Cert.MlpSampleReferenceIdeal.nD Cert.MlpSampleReferenceIdeal.τ).loc Cert.MlpSampleReferenceIdeal.main_arg3) = m ((c.tc : Thread Cert.MlpSampleReferenceIdeal.nD Cert.MlpSampleReferenceIdeal.τ).loc Cert.MlpSampleReferenceIdeal.main_arg3)
      ∧ r.2.mem ((c.tc : Thread Cert.MlpSampleReferenceIdeal.nD Cert.MlpSampleReferenceIdeal.τ).loc Cert.MlpSampleReferenceIdeal.main_arg4) = m ((c.tc : Thread Cert.MlpSampleReferenceIdeal.nD Cert.MlpSampleReferenceIdeal.τ).loc Cert.MlpSampleReferenceIdeal.main_arg4)
      ∧ r.2.mem ((c.tc : Thread Cert.MlpSampleReferenceIdeal.nD Cert.MlpSampleReferenceIdeal.τ).loc Cert.MlpSampleReferenceIdeal.main_arg5) = m ((c.tc : Thread Cert.MlpSampleReferenceIdeal.nD Cert.MlpSampleReferenceIdeal.τ).loc Cert.MlpSampleReferenceIdeal.main_arg5)
      ∧ r.2.mem ((c.tc : Thread Cert.MlpSampleReferenceIdeal.nD Cert.MlpSampleReferenceIdeal.τ).loc Cert.MlpSampleReferenceIdeal.main_arg6) = m ((c.tc : Thread Cert.MlpSampleReferenceIdeal.nD Cert.MlpSampleReferenceIdeal.τ).loc Cert.MlpSampleReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_finite [hProjIdeal : Cert.ProjIdeal.Facts] [hPre_finite : Cert.Pre_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjReferenceIdeal_pre_finite [hProjReferenceIdeal : Cert.ProjReferenceIdeal.Facts] [hPre_finite : Cert.Pre_finite.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4))
      ∧ r.2.sem = fun _ => 0)

def quiescent_ProjSampleIdeal_pre_finite_sample [hProjSampleIdeal : Cert.ProjSampleIdeal.Facts] [hPre_finite_sample : Cert.Pre_finite_sample.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal_finite_sample m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4))
      ∧ r.2.sem = fun _ => 0)

def quiescent_ProjSampleReferenceIdeal [hProjSampleReferenceIdeal : Cert.ProjSampleReferenceIdeal.Facts] : Prop :=
  ∀ (m : (ℓ : Loc Cert.ProjSampleReferenceIdeal.nD Cert.ProjSampleReferenceIdeal.τ Cert.ProjSampleReferenceIdeal.sig) → Buf (Elt Ideal) ℓ) (g : Dev Cert.ProjSampleReferenceIdeal.nD → PrngReg), Pre_ProjSampleReferenceIdeal m →
    θ_run (Cert.ProjSampleReferenceIdeal.defs (F := Ideal)) (onTc (τ := Cert.ProjSampleReferenceIdeal.τ) (Cert.ProjSampleReferenceIdeal.main (F := Ideal))) ⟨m, fun _ => 0, g⟩ (fun r => (∀ c : Dev Cert.ProjSampleReferenceIdeal.nD,
      r.2.mem ((c.tc : Thread Cert.ProjSampleReferenceIdeal.nD Cert.ProjSampleReferenceIdeal.τ).loc Cert.ProjSampleReferenceIdeal.main_arg0) = m ((c.tc : Thread Cert.ProjSampleReferenceIdeal.nD Cert.ProjSampleReferenceIdeal.τ).loc Cert.ProjSampleReferenceIdeal.main_arg0)
      ∧ r.2.mem ((c.tc : Thread Cert.ProjSampleReferenceIdeal.nD Cert.ProjSampleReferenceIdeal.τ).loc Cert.ProjSampleReferenceIdeal.main_arg1) = m ((c.tc : Thread Cert.ProjSampleReferenceIdeal.nD Cert.ProjSampleReferenceIdeal.τ).loc Cert.ProjSampleReferenceIdeal.main_arg1)
      ∧ r.2.mem ((c.tc : Thread Cert.ProjSampleReferenceIdeal.nD Cert.ProjSampleReferenceIdeal.τ).loc Cert.ProjSampleReferenceIdeal.main_arg2) = m ((c.tc : Thread Cert.ProjSampleReferenceIdeal.nD Cert.ProjSampleReferenceIdeal.τ).loc Cert.ProjSampleReferenceIdeal.main_arg2)
      ∧ r.2.mem ((c.tc : Thread Cert.ProjSampleReferenceIdeal.nD Cert.ProjSampleReferenceIdeal.τ).loc Cert.ProjSampleReferenceIdeal.main_arg3) = m ((c.tc : Thread Cert.ProjSampleReferenceIdeal.nD Cert.ProjSampleReferenceIdeal.τ).loc Cert.ProjSampleReferenceIdeal.main_arg3)
      ∧ r.2.mem ((c.tc : Thread Cert.ProjSampleReferenceIdeal.nD Cert.ProjSampleReferenceIdeal.τ).loc Cert.ProjSampleReferenceIdeal.main_arg4) = m ((c.tc : Thread Cert.ProjSampleReferenceIdeal.nD Cert.ProjSampleReferenceIdeal.τ).loc Cert.ProjSampleReferenceIdeal.main_arg4))
      ∧ r.2.sem = fun _ => 0)

def quiescent_ProjSampleReferenceIdeal_pre_finite_sample [hProjSampleReferenceIdeal : Cert.ProjSampleReferenceIdeal.Facts] [hPre_finite_sample : Cert.Pre_finite_sample.Facts] : Prop :=
  ∀ (m : (ℓ : Loc Cert.ProjSampleReferenceIdeal.nD Cert.ProjSampleReferenceIdeal.τ Cert.ProjSampleReferenceIdeal.sig) → Buf (Elt Ideal) ℓ) (g : Dev Cert.ProjSampleReferenceIdeal.nD → PrngReg), Pre_ProjSampleReferenceIdeal_finite_sample m →
    θ_run (Cert.ProjSampleReferenceIdeal.defs (F := Ideal)) (onTc (τ := Cert.ProjSampleReferenceIdeal.τ) (Cert.ProjSampleReferenceIdeal.main (F := Ideal))) ⟨m, fun _ => 0, g⟩ (fun r => (∀ c : Dev Cert.ProjSampleReferenceIdeal.nD,
      r.2.mem ((c.tc : Thread Cert.ProjSampleReferenceIdeal.nD Cert.ProjSampleReferenceIdeal.τ).loc Cert.ProjSampleReferenceIdeal.main_arg0) = m ((c.tc : Thread Cert.ProjSampleReferenceIdeal.nD Cert.ProjSampleReferenceIdeal.τ).loc Cert.ProjSampleReferenceIdeal.main_arg0)
      ∧ r.2.mem ((c.tc : Thread Cert.ProjSampleReferenceIdeal.nD Cert.ProjSampleReferenceIdeal.τ).loc Cert.ProjSampleReferenceIdeal.main_arg1) = m ((c.tc : Thread Cert.ProjSampleReferenceIdeal.nD Cert.ProjSampleReferenceIdeal.τ).loc Cert.ProjSampleReferenceIdeal.main_arg1)
      ∧ r.2.mem ((c.tc : Thread Cert.ProjSampleReferenceIdeal.nD Cert.ProjSampleReferenceIdeal.τ).loc Cert.ProjSampleReferenceIdeal.main_arg2) = m ((c.tc : Thread Cert.ProjSampleReferenceIdeal.nD Cert.ProjSampleReferenceIdeal.τ).loc Cert.ProjSampleReferenceIdeal.main_arg2)
      ∧ r.2.mem ((c.tc : Thread Cert.ProjSampleReferenceIdeal.nD Cert.ProjSampleReferenceIdeal.τ).loc Cert.ProjSampleReferenceIdeal.main_arg3) = m ((c.tc : Thread Cert.ProjSampleReferenceIdeal.nD Cert.ProjSampleReferenceIdeal.τ).loc Cert.ProjSampleReferenceIdeal.main_arg3)
      ∧ r.2.mem ((c.tc : Thread Cert.ProjSampleReferenceIdeal.nD Cert.ProjSampleReferenceIdeal.τ).loc Cert.ProjSampleReferenceIdeal.main_arg4) = m ((c.tc : Thread Cert.ProjSampleReferenceIdeal.nD Cert.ProjSampleReferenceIdeal.τ).loc Cert.ProjSampleReferenceIdeal.main_arg4))
      ∧ r.2.sem = fun _ => 0)

def preserves_Kernel_KernelIdeal : Prop :=
  True

def algebraic_KernelIdeal_ReferenceIdeal_pre_lb_range [hKernelIdeal : Cert.KernelIdeal.Facts] [hReferenceIdeal : Cert.ReferenceIdeal.Facts] [hPre_lb_range : Cert.Pre_lb_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lb_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v69_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v31) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6))

def preserves_MlpSample_MlpSampleIdeal : Prop :=
  True

def algebraic_MlpSampleIdeal_MlpSampleReferenceIdeal [hMlpSampleIdeal : Cert.MlpSampleIdeal.Facts] [hMlpSampleReferenceIdeal : Cert.MlpSampleReferenceIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleReferenceIdeal.nD Cert.MlpSampleReferenceIdeal.τ Cert.MlpSampleReferenceIdeal.sig) → Buf (Elt Ideal) ℓ) (g' : Dev Cert.MlpSampleReferenceIdeal.nD → PrngReg), Pre_MlpSampleIdeal m →
    (∀ c : Dev Cert.MlpSampleIdeal.nD,
      m' ((c.tc : Thread Cert.MlpSampleReferenceIdeal.nD Cert.MlpSampleReferenceIdeal.τ).loc Cert.MlpSampleReferenceIdeal.main_arg0) = m ((c.tc : Thread Cert.MlpSampleIdeal.nD Cert.MlpSampleIdeal.τ).loc Cert.MlpSampleIdeal.main_arg0)
      ∧ m' ((c.tc : Thread Cert.MlpSampleReferenceIdeal.nD Cert.MlpSampleReferenceIdeal.τ).loc Cert.MlpSampleReferenceIdeal.main_arg1) = m ((c.tc : Thread Cert.MlpSampleIdeal.nD Cert.MlpSampleIdeal.τ).loc Cert.MlpSampleIdeal.main_arg1)
      ∧ m' ((c.tc : Thread Cert.MlpSampleReferenceIdeal.nD Cert.MlpSampleReferenceIdeal.τ).loc Cert.MlpSampleReferenceIdeal.main_arg2) = m ((c.tc : Thread Cert.MlpSampleIdeal.nD Cert.MlpSampleIdeal.τ).loc Cert.MlpSampleIdeal.main_arg2)
      ∧ m' ((c.tc : Thread Cert.MlpSampleReferenceIdeal.nD Cert.MlpSampleReferenceIdeal.τ).loc Cert.MlpSampleReferenceIdeal.main_arg3) = m ((c.tc : Thread Cert.MlpSampleIdeal.nD Cert.MlpSampleIdeal.τ).loc Cert.MlpSampleIdeal.main_arg3)
      ∧ m' ((c.tc : Thread Cert.MlpSampleReferenceIdeal.nD Cert.MlpSampleReferenceIdeal.τ).loc Cert.MlpSampleReferenceIdeal.main_arg4) = m ((c.tc : Thread Cert.MlpSampleIdeal.nD Cert.MlpSampleIdeal.τ).loc Cert.MlpSampleIdeal.main_arg4)
      ∧ m' ((c.tc : Thread Cert.MlpSampleReferenceIdeal.nD Cert.MlpSampleReferenceIdeal.τ).loc Cert.MlpSampleReferenceIdeal.main_arg5) = m ((c.tc : Thread Cert.MlpSampleIdeal.nD Cert.MlpSampleIdeal.τ).loc Cert.MlpSampleIdeal.main_arg5)
      ∧ m' ((c.tc : Thread Cert.MlpSampleReferenceIdeal.nD Cert.MlpSampleReferenceIdeal.τ).loc Cert.MlpSampleReferenceIdeal.main_arg6) = m ((c.tc : Thread Cert.MlpSampleIdeal.nD Cert.MlpSampleIdeal.τ).loc Cert.MlpSampleIdeal.main_arg6)) →
    ∃ (v0 : (c : Dev Cert.MlpSampleIdeal.nD) → Buf (Elt Ideal) ((c.tc : Thread Cert.MlpSampleIdeal.nD Cert.MlpSampleIdeal.τ).loc Cert.MlpSampleIdeal.main_v11)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v11) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
          ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5)
          ∧ r.2.mem ((c.tc : Thread Cert.MlpSampleIdeal.nD Cert.MlpSampleIdeal.τ).loc Cert.MlpSampleIdeal.main_arg6) = m ((c.tc : Thread Cert.MlpSampleIdeal.nD Cert.MlpSampleIdeal.τ).loc Cert.MlpSampleIdeal.main_arg6))
      ∧ θ_run (Cert.MlpSampleReferenceIdeal.defs (F := Ideal)) (onTc (τ := Cert.MlpSampleReferenceIdeal.τ) (Cert.MlpSampleReferenceIdeal.main (F := Ideal))) ⟨m', fun _ => 0, g'⟩ (fun r => ∀ c : Dev Cert.MlpSampleReferenceIdeal.nD,
          r.2.mem ((c.tc : Thread Cert.MlpSampleReferenceIdeal.nD Cert.MlpSampleReferenceIdeal.τ).loc Cert.MlpSampleReferenceIdeal.main_v29) = v0 c
          ∧ r.2.mem ((c.tc : Thread Cert.MlpSampleReferenceIdeal.nD Cert.MlpSampleReferenceIdeal.τ).loc Cert.MlpSampleReferenceIdeal.main_arg0) = m' ((c.tc : Thread Cert.MlpSampleReferenceIdeal.nD Cert.MlpSampleReferenceIdeal.τ).loc Cert.MlpSampleReferenceIdeal.main_arg0)
          ∧ r.2.mem ((c.tc : Thread Cert.MlpSampleReferenceIdeal.nD Cert.MlpSampleReferenceIdeal.τ).loc Cert.MlpSampleReferenceIdeal.main_arg1) = m' ((c.tc : Thread Cert.MlpSampleReferenceIdeal.nD Cert.MlpSampleReferenceIdeal.τ).loc Cert.MlpSampleReferenceIdeal.main_arg1)
          ∧ r.2.mem ((c.tc : Thread Cert.MlpSampleReferenceIdeal.nD Cert.MlpSampleReferenceIdeal.τ).loc Cert.MlpSampleReferenceIdeal.main_arg2) = m' ((c.tc : Thread Cert.MlpSampleReferenceIdeal.nD Cert.MlpSampleReferenceIdeal.τ).loc Cert.MlpSampleReferenceIdeal.main_arg2)
          ∧ r.2.mem ((c.tc : Thread Cert.MlpSampleReferenceIdeal.nD Cert.MlpSampleReferenceIdeal.τ).loc Cert.MlpSampleReferenceIdeal.main_arg3) = m' ((c.tc : Thread Cert.MlpSampleReferenceIdeal.nD Cert.MlpSampleReferenceIdeal.τ).loc Cert.MlpSampleReferenceIdeal.main_arg3)
          ∧ r.2.mem ((c.tc : Thread Cert.MlpSampleReferenceIdeal.nD Cert.MlpSampleReferenceIdeal.τ).loc Cert.MlpSampleReferenceIdeal.main_arg4) = m' ((c.tc : Thread Cert.MlpSampleReferenceIdeal.nD Cert.MlpSampleReferenceIdeal.τ).loc Cert.MlpSampleReferenceIdeal.main_arg4)
          ∧ r.2.mem ((c.tc : Thread Cert.MlpSampleReferenceIdeal.nD Cert.MlpSampleReferenceIdeal.τ).loc Cert.MlpSampleReferenceIdeal.main_arg5) = m' ((c.tc : Thread Cert.MlpSampleReferenceIdeal.nD Cert.MlpSampleReferenceIdeal.τ).loc Cert.MlpSampleReferenceIdeal.main_arg5)
          ∧ r.2.mem ((c.tc : Thread Cert.MlpSampleReferenceIdeal.nD Cert.MlpSampleReferenceIdeal.τ).loc Cert.MlpSampleReferenceIdeal.main_arg6) = m' ((c.tc : Thread Cert.MlpSampleReferenceIdeal.nD Cert.MlpSampleReferenceIdeal.τ).loc Cert.MlpSampleReferenceIdeal.main_arg6))

def preserves_Proj_ProjIdeal : Prop :=
  True

def algebraic_ProjIdeal_ProjReferenceIdeal_pre_finite [hProjIdeal : Cert.ProjIdeal.Facts] [hProjReferenceIdeal : Cert.ProjReferenceIdeal.Facts] [hPre_finite : Cert.Pre_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v77_0)) (v1 : (c : Dev Cert.ProjIdeal.nD) → Buf (Elt Ideal) ((c.tc : Thread Cert.ProjIdeal.nD Cert.ProjIdeal.τ).loc Cert.ProjIdeal.main_v77_1)) (v2 : (c : Dev Cert.ProjIdeal.nD) → Buf (Elt Ideal) ((c.tc : Thread Cert.ProjIdeal.nD Cert.ProjIdeal.τ).loc Cert.ProjIdeal.main_v77_2)) (v3 : (c : Dev Cert.ProjIdeal.nD) → Buf (Elt Ideal) ((c.tc : Thread Cert.ProjIdeal.nD Cert.ProjIdeal.τ).loc Cert.ProjIdeal.main_v77_3)) (v4 : (c : Dev Cert.ProjIdeal.nD) → Buf (Elt Ideal) ((c.tc : Thread Cert.ProjIdeal.nD Cert.ProjIdeal.τ).loc Cert.ProjIdeal.main_v77_5)) (v5 : (c : Dev Cert.ProjIdeal.nD) → Buf (Elt Ideal) ((c.tc : Thread Cert.ProjIdeal.nD Cert.ProjIdeal.τ).loc Cert.ProjIdeal.main_v77_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v77_0) = v0 c
          ∧ r.2.mem ((c.tc : Thread Cert.ProjIdeal.nD Cert.ProjIdeal.τ).loc Cert.ProjIdeal.main_v77_1) = v1 c
          ∧ r.2.mem ((c.tc : Thread Cert.ProjIdeal.nD Cert.ProjIdeal.τ).loc Cert.ProjIdeal.main_v77_2) = v2 c
          ∧ r.2.mem ((c.tc : Thread Cert.ProjIdeal.nD Cert.ProjIdeal.τ).loc Cert.ProjIdeal.main_v77_3) = v3 c
          ∧ r.2.mem ((c.tc : Thread Cert.ProjIdeal.nD Cert.ProjIdeal.τ).loc Cert.ProjIdeal.main_v77_5) = v4 c
          ∧ r.2.mem ((c.tc : Thread Cert.ProjIdeal.nD Cert.ProjIdeal.τ).loc Cert.ProjIdeal.main_v77_6) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v185) = v0 c
          ∧ r.2.mem ((c.tc : Thread Cert.ProjReferenceIdeal.nD Cert.ProjReferenceIdeal.τ).loc Cert.ProjReferenceIdeal.main_v189) = v1 c
          ∧ r.2.mem ((c.tc : Thread Cert.ProjReferenceIdeal.nD Cert.ProjReferenceIdeal.τ).loc Cert.ProjReferenceIdeal.main_v190) = v2 c
          ∧ r.2.mem ((c.tc : Thread Cert.ProjReferenceIdeal.nD Cert.ProjReferenceIdeal.τ).loc Cert.ProjReferenceIdeal.main_v191) = v3 c
          ∧ r.2.mem ((c.tc : Thread Cert.ProjReferenceIdeal.nD Cert.ProjReferenceIdeal.τ).loc Cert.ProjReferenceIdeal.main_v192) = v4 c
          ∧ r.2.mem ((c.tc : Thread Cert.ProjReferenceIdeal.nD Cert.ProjReferenceIdeal.τ).loc Cert.ProjReferenceIdeal.main_v193) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_ProjSample_ProjSampleIdeal : Prop :=
  True

def algebraic_ProjSampleIdeal_ProjSampleReferenceIdeal_pre_finite_sample [hProjSampleIdeal : Cert.ProjSampleIdeal.Facts] [hProjSampleReferenceIdeal : Cert.ProjSampleReferenceIdeal.Facts] [hPre_finite_sample : Cert.Pre_finite_sample.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleReferenceIdeal.nD Cert.ProjSampleReferenceIdeal.τ Cert.ProjSampleReferenceIdeal.sig) → Buf (Elt Ideal) ℓ) (g' : Dev Cert.ProjSampleReferenceIdeal.nD → PrngReg), Pre_ProjSampleIdeal_finite_sample m →
    (∀ c : Dev Cert.ProjSampleIdeal.nD,
      m' ((c.tc : Thread Cert.ProjSampleReferenceIdeal.nD Cert.ProjSampleReferenceIdeal.τ).loc Cert.ProjSampleReferenceIdeal.main_arg0) = m ((c.tc : Thread Cert.ProjSampleIdeal.nD Cert.ProjSampleIdeal.τ).loc Cert.ProjSampleIdeal.main_arg0)
      ∧ m' ((c.tc : Thread Cert.ProjSampleReferenceIdeal.nD Cert.ProjSampleReferenceIdeal.τ).loc Cert.ProjSampleReferenceIdeal.main_arg1) = m ((c.tc : Thread Cert.ProjSampleIdeal.nD Cert.ProjSampleIdeal.τ).loc Cert.ProjSampleIdeal.main_arg1)
      ∧ m' ((c.tc : Thread Cert.ProjSampleReferenceIdeal.nD Cert.ProjSampleReferenceIdeal.τ).loc Cert.ProjSampleReferenceIdeal.main_arg2) = m ((c.tc : Thread Cert.ProjSampleIdeal.nD Cert.ProjSampleIdeal.τ).loc Cert.ProjSampleIdeal.main_arg2)
      ∧ m' ((c.tc : Thread Cert.ProjSampleReferenceIdeal.nD Cert.ProjSampleReferenceIdeal.τ).loc Cert.ProjSampleReferenceIdeal.main_arg3) = m ((c.tc : Thread Cert.ProjSampleIdeal.nD Cert.ProjSampleIdeal.τ).loc Cert.ProjSampleIdeal.main_arg3)
      ∧ m' ((c.tc : Thread Cert.ProjSampleReferenceIdeal.nD Cert.ProjSampleReferenceIdeal.τ).loc Cert.ProjSampleReferenceIdeal.main_arg4) = m ((c.tc : Thread Cert.ProjSampleIdeal.nD Cert.ProjSampleIdeal.τ).loc Cert.ProjSampleIdeal.main_arg4)) →
    ∃ (v0 : (c : Dev Cert.ProjSampleIdeal.nD) → Buf (Elt Ideal) ((c.tc : Thread Cert.ProjSampleIdeal.nD Cert.ProjSampleIdeal.τ).loc Cert.ProjSampleIdeal.main_v74_0)) (v1 : (c : Dev Cert.ProjSampleIdeal.nD) → Buf (Elt Ideal) ((c.tc : Thread Cert.ProjSampleIdeal.nD Cert.ProjSampleIdeal.τ).loc Cert.ProjSampleIdeal.main_v74_1)) (v2 : (c : Dev Cert.ProjSampleIdeal.nD) → Buf (Elt Ideal) ((c.tc : Thread Cert.ProjSampleIdeal.nD Cert.ProjSampleIdeal.τ).loc Cert.ProjSampleIdeal.main_v74_2)) (v3 : (c : Dev Cert.ProjSampleIdeal.nD) → Buf (Elt Ideal) ((c.tc : Thread Cert.ProjSampleIdeal.nD Cert.ProjSampleIdeal.τ).loc Cert.ProjSampleIdeal.main_v74_3)) (v4 : (c : Dev Cert.ProjSampleIdeal.nD) → Buf (Elt Ideal) ((c.tc : Thread Cert.ProjSampleIdeal.nD Cert.ProjSampleIdeal.τ).loc Cert.ProjSampleIdeal.main_v74_5)) (v5 : (c : Dev Cert.ProjSampleIdeal.nD) → Buf (Elt Ideal) ((c.tc : Thread Cert.ProjSampleIdeal.nD Cert.ProjSampleIdeal.τ).loc Cert.ProjSampleIdeal.main_v74_6)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v74_0) = v0 c
          ∧ r.2.mem ((c.tc : Thread Cert.ProjSampleIdeal.nD Cert.ProjSampleIdeal.τ).loc Cert.ProjSampleIdeal.main_v74_1) = v1 c
          ∧ r.2.mem ((c.tc : Thread Cert.ProjSampleIdeal.nD Cert.ProjSampleIdeal.τ).loc Cert.ProjSampleIdeal.main_v74_2) = v2 c
          ∧ r.2.mem ((c.tc : Thread Cert.ProjSampleIdeal.nD Cert.ProjSampleIdeal.τ).loc Cert.ProjSampleIdeal.main_v74_3) = v3 c
          ∧ r.2.mem ((c.tc : Thread Cert.ProjSampleIdeal.nD Cert.ProjSampleIdeal.τ).loc Cert.ProjSampleIdeal.main_v74_5) = v4 c
          ∧ r.2.mem ((c.tc : Thread Cert.ProjSampleIdeal.nD Cert.ProjSampleIdeal.τ).loc Cert.ProjSampleIdeal.main_v74_6) = v5 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4))
      ∧ θ_run (Cert.ProjSampleReferenceIdeal.defs (F := Ideal)) (onTc (τ := Cert.ProjSampleReferenceIdeal.τ) (Cert.ProjSampleReferenceIdeal.main (F := Ideal))) ⟨m', fun _ => 0, g'⟩ (fun r => ∀ c : Dev Cert.ProjSampleReferenceIdeal.nD,
          r.2.mem ((c.tc : Thread Cert.ProjSampleReferenceIdeal.nD Cert.ProjSampleReferenceIdeal.τ).loc Cert.ProjSampleReferenceIdeal.main_v187) = v0 c
          ∧ r.2.mem ((c.tc : Thread Cert.ProjSampleReferenceIdeal.nD Cert.ProjSampleReferenceIdeal.τ).loc Cert.ProjSampleReferenceIdeal.main_v191) = v1 c
          ∧ r.2.mem ((c.tc : Thread Cert.ProjSampleReferenceIdeal.nD Cert.ProjSampleReferenceIdeal.τ).loc Cert.ProjSampleReferenceIdeal.main_v192) = v2 c
          ∧ r.2.mem ((c.tc : Thread Cert.ProjSampleReferenceIdeal.nD Cert.ProjSampleReferenceIdeal.τ).loc Cert.ProjSampleReferenceIdeal.main_v193) = v3 c
          ∧ r.2.mem ((c.tc : Thread Cert.ProjSampleReferenceIdeal.nD Cert.ProjSampleReferenceIdeal.τ).loc Cert.ProjSampleReferenceIdeal.main_v194) = v4 c
          ∧ r.2.mem ((c.tc : Thread Cert.ProjSampleReferenceIdeal.nD Cert.ProjSampleReferenceIdeal.τ).loc Cert.ProjSampleReferenceIdeal.main_v195) = v5 c
          ∧ r.2.mem ((c.tc : Thread Cert.ProjSampleReferenceIdeal.nD Cert.ProjSampleReferenceIdeal.τ).loc Cert.ProjSampleReferenceIdeal.main_arg0) = m' ((c.tc : Thread Cert.ProjSampleReferenceIdeal.nD Cert.ProjSampleReferenceIdeal.τ).loc Cert.ProjSampleReferenceIdeal.main_arg0)
          ∧ r.2.mem ((c.tc : Thread Cert.ProjSampleReferenceIdeal.nD Cert.ProjSampleReferenceIdeal.τ).loc Cert.ProjSampleReferenceIdeal.main_arg1) = m' ((c.tc : Thread Cert.ProjSampleReferenceIdeal.nD Cert.ProjSampleReferenceIdeal.τ).loc Cert.ProjSampleReferenceIdeal.main_arg1)
          ∧ r.2.mem ((c.tc : Thread Cert.ProjSampleReferenceIdeal.nD Cert.ProjSampleReferenceIdeal.τ).loc Cert.ProjSampleReferenceIdeal.main_arg2) = m' ((c.tc : Thread Cert.ProjSampleReferenceIdeal.nD Cert.ProjSampleReferenceIdeal.τ).loc Cert.ProjSampleReferenceIdeal.main_arg2)
          ∧ r.2.mem ((c.tc : Thread Cert.ProjSampleReferenceIdeal.nD Cert.ProjSampleReferenceIdeal.τ).loc Cert.ProjSampleReferenceIdeal.main_arg3) = m' ((c.tc : Thread Cert.ProjSampleReferenceIdeal.nD Cert.ProjSampleReferenceIdeal.τ).loc Cert.ProjSampleReferenceIdeal.main_arg3)
          ∧ r.2.mem ((c.tc : Thread Cert.ProjSampleReferenceIdeal.nD Cert.ProjSampleReferenceIdeal.τ).loc Cert.ProjSampleReferenceIdeal.main_arg4) = m' ((c.tc : Thread Cert.ProjSampleReferenceIdeal.nD Cert.ProjSampleReferenceIdeal.τ).loc Cert.ProjSampleReferenceIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMlpSample : Cert.MlpSample.Facts) (hMlpSampleIdeal : Cert.MlpSampleIdeal.Facts) (hMlpSampleReferenceIdeal : Cert.MlpSampleReferenceIdeal.Facts) (hProj : Cert.Proj.Facts) (hProjIdeal : Cert.ProjIdeal.Facts) (hProjReferenceIdeal : Cert.ProjReferenceIdeal.Facts) (hProjSample : Cert.ProjSample.Facts) (hProjSampleIdeal : Cert.ProjSampleIdeal.Facts) (hProjSampleReferenceIdeal : Cert.ProjSampleReferenceIdeal.Facts) (hPre_lb_range : Cert.Pre_lb_range.Facts) (hPre_finite : Cert.Pre_finite.Facts) (hPre_finite_sample : Cert.Pre_finite_sample.Facts),
    quiescent_Kernel (hKernel := hKernel)
    ∧ quiescent_KernelIdeal (hKernelIdeal := hKernelIdeal)
    ∧ quiescent_KernelIdeal_pre_lb_range (hKernelIdeal := hKernelIdeal) (hPre_lb_range := hPre_lb_range)
    ∧ quiescent_ReferenceIdeal (hReferenceIdeal := hReferenceIdeal)
    ∧ quiescent_ReferenceIdeal_pre_lb_range (hReferenceIdeal := hReferenceIdeal) (hPre_lb_range := hPre_lb_range)
    ∧ quiescent_Mlp (hMlp := hMlp)
    ∧ quiescent_MlpIdeal (hMlpIdeal := hMlpIdeal)
    ∧ quiescent_MlpReferenceIdeal (hMlpReferenceIdeal := hMlpReferenceIdeal)
    ∧ quiescent_MlpSample (hMlpSample := hMlpSample)
    ∧ quiescent_MlpSampleIdeal (hMlpSampleIdeal := hMlpSampleIdeal)
    ∧ quiescent_MlpSampleReferenceIdeal (hMlpSampleReferenceIdeal := hMlpSampleReferenceIdeal)
    ∧ quiescent_Proj (hProj := hProj)
    ∧ quiescent_ProjIdeal (hProjIdeal := hProjIdeal)
    ∧ quiescent_ProjIdeal_pre_finite (hProjIdeal := hProjIdeal) (hPre_finite := hPre_finite)
    ∧ quiescent_ProjReferenceIdeal (hProjReferenceIdeal := hProjReferenceIdeal)
    ∧ quiescent_ProjReferenceIdeal_pre_finite (hProjReferenceIdeal := hProjReferenceIdeal) (hPre_finite := hPre_finite)
    ∧ quiescent_ProjSample (hProjSample := hProjSample)
    ∧ quiescent_ProjSampleIdeal (hProjSampleIdeal := hProjSampleIdeal)
    ∧ quiescent_ProjSampleIdeal_pre_finite_sample (hProjSampleIdeal := hProjSampleIdeal) (hPre_finite_sample := hPre_finite_sample)
    ∧ quiescent_ProjSampleReferenceIdeal (hProjSampleReferenceIdeal := hProjSampleReferenceIdeal)
    ∧ quiescent_ProjSampleReferenceIdeal_pre_finite_sample (hProjSampleReferenceIdeal := hProjSampleReferenceIdeal) (hPre_finite_sample := hPre_finite_sample)
    ∧ preserves_Kernel_KernelIdeal
    ∧ algebraic_KernelIdeal_ReferenceIdeal_pre_lb_range (hKernelIdeal := hKernelIdeal) (hReferenceIdeal := hReferenceIdeal) (hPre_lb_range := hPre_lb_range)
    ∧ preserves_Mlp_MlpIdeal
    ∧ algebraic_MlpIdeal_MlpReferenceIdeal (hMlpIdeal := hMlpIdeal) (hMlpReferenceIdeal := hMlpReferenceIdeal)
    ∧ preserves_MlpSample_MlpSampleIdeal
    ∧ algebraic_MlpSampleIdeal_MlpSampleReferenceIdeal (hMlpSampleIdeal := hMlpSampleIdeal) (hMlpSampleReferenceIdeal := hMlpSampleReferenceIdeal)
    ∧ preserves_Proj_ProjIdeal
    ∧ algebraic_ProjIdeal_ProjReferenceIdeal_pre_finite (hProjIdeal := hProjIdeal) (hProjReferenceIdeal := hProjReferenceIdeal) (hPre_finite := hPre_finite)
    ∧ preserves_ProjSample_ProjSampleIdeal
    ∧ algebraic_ProjSampleIdeal_ProjSampleReferenceIdeal_pre_finite_sample (hProjSampleIdeal := hProjSampleIdeal) (hProjSampleReferenceIdeal := hProjSampleReferenceIdeal) (hPre_finite_sample := hPre_finite_sample)
-- ==== Pre_finite.lean ====
abbrev S4x4096x1024 : Shape := ⟨3, ![4, 4096, 1024]⟩
abbrev S4x1024 : Shape := ⟨2, ![4, 1024]⟩
abbrev S4x1024x3352 : Shape := ⟨3, ![4, 1024, 3352]⟩
abbrev S4x64 : Shape := ⟨2, ![4, 64]⟩
abbrev S4x3x64 : Shape := ⟨3, ![4, 3, 64]⟩
abbrev S1x1024 : Shape := ⟨2, ![1, 1024]⟩
abbrev S1024 : Shape := ⟨1, ![1024]⟩
abbrev S_ : Shape := ⟨0, ![]⟩
abbrev S1x1024x3352 : Shape := ⟨3, ![1, 1024, 3352]⟩
abbrev S1024x3352 : Shape := ⟨2, ![1024, 3352]⟩

class Facts : Prop where
  slices_S4x1024_S1x1024_3_0 : S4x1024.Slices ![3, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S4x1024x3352_S1x1024x3352_3_0_0 : S4x1024x3352.Slices ![3, 0, 0] S1x1024x3352
  shapeCasts_S1x1024x3352_S1024x3352 : S1x1024x3352.ShapeCasts S1024x3352
  bcast_S_S1024x3352 : S_.BroadcastsInDim S1024x3352 (![] : Fin 0 → Fin S1024x3352.rank)
  reducesTo_S1024x3352_S_d0_1 : S1024x3352.ReducesTo [0, 1] S_

variable [Facts]

def fn {F : FTy → Type} [FloatOps F] (main_arg0 : FVec F S4x4096x1024 .f32) (main_arg1 : FVec F S4x1024 .f32) (main_arg2 : FVec F S4x1024x3352 .f32) (main_arg3 : FVec F S4x64 .f32) (main_arg4 : FVec F S4x3x64 .f32) : IVec S_ 1 :=
  let main_v0 : FVec F S1x1024 .f32 := (extractStridedSlice S1x1024 ![3, 0] · slices_S4x1024_S1x1024_3_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x3352 .f32 := (extractStridedSlice S1x1024x3352 ![3, 0, 0] · slices_S4x1024x3352_S1x1024x3352_3_0_0) main_arg2
  let main_v7 : FVec F S1024x3352 .f32 := shapeCast S1024x3352 main_v6 shapeCasts_S1x1024x3352_S1024x3352
  let main_v8 : FVec F S1024x3352 .f32 := Host.absf main_v7
  let main_cst_0 : FVec F S_ .f32 := constant S_ .f32 0x7F800000#32
  let main_v9 : FVec F S1024x3352 .f32 := broadcastInDim S1024x3352 ![] bcast_S_S1024x3352 main_cst_0
  let main_v10 : IVec S1024x3352 1 := cmpf .olt main_v8 main_v9
  let main_c_1 : IVec S_ 1 := constantI S_ 1 1#1
  let main_v11 : IVec S_ 1 := (fun x v => Host.reduce IntOp.andi x v reducesTo_S1024x3352_S_d0_1 h_S_) main_v10 main_c_1
  let main_v12 : IVec S_ 1 := andi main_v5 main_v11
  main_v12
-- ==== Pre_finite_sample.lean ====
abbrev S32x8x1024 : Shape := ⟨3, ![32, 8, 1024]⟩
abbrev S4x1024 : Shape := ⟨2, ![4, 1024]⟩
abbrev S4x1024x3352 : Shape := ⟨3, ![4, 1024, 3352]⟩
abbrev S4x64 : Shape := ⟨2, ![4, 64]⟩
abbrev S4x3x64 : Shape := ⟨3, ![4, 3, 64]⟩
abbrev S1x1024 : Shape := ⟨2, ![1, 1024]⟩
abbrev S1024 : Shape := ⟨1, ![1024]⟩
abbrev S_ : Shape := ⟨0, ![]⟩
abbrev S1x1024x3352 : Shape := ⟨3, ![1, 1024, 3352]⟩
abbrev S1024x3352 : Shape := ⟨2, ![1024, 3352]⟩

class Facts : Prop where
  slices_S4x1024_S1x1024_3_0 : S4x1024.Slices ![3, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S4x1024x3352_S1x1024x3352_3_0_0 : S4x1024x3352.Slices ![3, 0, 0] S1x1024x3352
  shapeCasts_S1x1024x3352_S1024x3352 : S1x1024x3352.ShapeCasts S1024x3352
  bcast_S_S1024x3352 : S_.BroadcastsInDim S1024x3352 (![] : Fin 0 → Fin S1024x3352.rank)
  reducesTo_S1024x3352_S_d0_1 : S1024x3352.ReducesTo [0, 1] S_

variable [Facts]

def fn {F : FTy → Type} [FloatOps F] (main_arg0 : FVec F S32x8x1024 .f32) (main_arg1 : FVec F S4x1024 .f32) (main_arg2 : FVec F S4x1024x3352 .f32) (main_arg3 : FVec F S4x64 .f32) (main_arg4 : FVec F S4x3x64 .f32) : IVec S_ 1 :=
  let main_v0 : FVec F S1x1024 .f32 := (extractStridedSlice S1x1024 ![3, 0] · slices_S4x1024_S1x1024_3_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x3352 .f32 := (extractStridedSlice S1x1024x3352 ![3, 0, 0] · slices_S4x1024x3352_S1x1024x3352_3_0_0) main_arg2
  let main_v7 : FVec F S1024x3352 .f32 := shapeCast S1024x3352 main_v6 shapeCasts_S1x1024x3352_S1024x3352
  let main_v8 : FVec F S1024x3352 .f32 := Host.absf main_v7
  let main_cst_0 : FVec F S_ .f32 := constant S_ .f32 0x7F800000#32
  let main_v9 : FVec F S1024x3352 .f32 := broadcastInDim S1024x3352 ![] bcast_S_S1024x3352 main_cst_0
  let main_v10 : IVec S1024x3352 1 := cmpf .olt main_v8 main_v9
  let main_c_1 : IVec S_ 1 := constantI S_ 1 1#1
  let main_v11 : IVec S_ 1 := (fun x v => Host.reduce IntOp.andi x v reducesTo_S1024x3352_S_d0_1 h_S_) main_v10 main_c_1
  let main_v12 : IVec S_ 1 := andi main_v5 main_v11
  main_v12
-- ==== Pre_lb_range.lean ====
abbrev S4x4096x2048 : Shape := ⟨3, ![4, 4096, 2048]⟩
abbrev S512 : Shape := ⟨1, ![512]⟩
abbrev S128 : Shape := ⟨1, ![128]⟩
abbrev S4x4x128x128 : Shape := ⟨4, ![4, 4, 128, 128]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S4x4096x2048 .f32) (main_arg1 : FVec F S512 .f32) (main_arg2 : FVec F S128 .f32) (main_arg3 : FVec F S4x4x128x128 .f32) : IVec S_ 1 :=
  let main_cst : FVec F S_ .f32 := constant S_ .f32 0x00000000#32
  let main_v0 : FVec F S512 .f32 := broadcastInDim S512 ![] bcast_S_S512 main_cst
  let main_v1 : IVec S512 1 := cmpf .oge main_arg1 main_v0
  let main_cst_0 : FVec F S_ .f32 := constant S_ .f32 0x3F800000#32
  let main_v2 : FVec F S512 .f32 := broadcastInDim S512 ![] bcast_S_S512 main_cst_0
  let main_v3 : IVec S512 1 := cmpf .ole main_arg1 main_v2
  let main_v4 : IVec S512 1 := andi main_v1 main_v3
  let main_c : IVec S_ 1 := constantI S_ 1 1#1
  let main_v5 : IVec S_ 1 := (fun x v => Host.reduce IntOp.andi x v reducesTo_S512_S_d0 h_S_) main_v4 main_c
  main_v5
-- ==== Kernel.lean ====
abbrev S4x4096x2048 : Shape := ⟨3, ![4, 4096, 2048]⟩
abbrev S512 : Shape := ⟨1, ![512]⟩
abbrev S128 : Shape := ⟨1, ![128]⟩
abbrev S4x4x128x128 : Shape := ⟨4, ![4, 4, 128, 128]⟩
abbrev S1x512 : Shape := ⟨2, ![1, 512]⟩
abbrev S1x128 : Shape := ⟨2, ![1, 128]⟩
abbrev S4x4096x512 : Shape := ⟨3, ![4, 4096, 512]⟩
abbrev S4x128x2048 : Shape := ⟨3, ![4, 128, 2048]⟩
abbrev S4x128x512 : Shape := ⟨3, ![4, 128, 512]⟩
abbrev S16x128x128 : Shape := ⟨3, ![16, 128, 128]⟩
abbrev S1x1x128x128 : Shape := ⟨4, ![1, 1, 128, 128]⟩
abbrev S128x128 : Shape := ⟨2, ![128, 128]⟩
abbrev S1x128x128 : Shape := ⟨3, ![1, 128, 128]⟩
abbrev S1x128x2048 : Shape := ⟨3, ![1, 128, 2048]⟩
abbrev S128x2048 : Shape := ⟨2, ![128, 2048]⟩
abbrev S32x128 : Shape := ⟨2, ![32, 128]⟩
abbrev S128x1 : Shape := ⟨2, ![128, 1]⟩
abbrev S1x128x512 : Shape := ⟨3, ![1, 128, 512]⟩
abbrev S128x512 : Shape := ⟨2, ![128, 512]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S512, .f32⟩
  | .hbm, ⟨2, _⟩ => ⟨S128, .f32⟩
  | .hbm, ⟨3, _⟩ => ⟨S4x4x128x128, .f32⟩
  | .hbm, ⟨4, _⟩ => ⟨S1x512, .f32⟩
  | .hbm, ⟨5, _⟩ => ⟨S1x128, .f32⟩
  | .hbm, ⟨6, _⟩ => ⟨S4x4096x512, .bf16⟩
  | .hbm, ⟨7, _⟩ => ⟨S4x4x128x128, .f32⟩
  | .local _ .vmem, ⟨0, _⟩ => ⟨S4x128x2048, .f32⟩
  | .local _ .vmem, ⟨1, _⟩ => ⟨S4x128x2048, .f32⟩
  | .local _ .vmem, ⟨2, _⟩ => ⟨S1x512, .f32⟩
  | .local _ .vmem, ⟨3, _⟩ => ⟨S1x128, .f32⟩
  | .local _ .vmem, ⟨4, _⟩ => ⟨S4x4x128x128, .f32⟩
  | .local _ .vmem, ⟨5, _⟩ => ⟨S4x128x512, .bf16⟩
  | .local _ .vmem, ⟨6, _⟩ => ⟨S4x128x512, .bf16⟩
  | .local _ .vmem, ⟨7, _⟩ => ⟨S4x4x128x128, .f32⟩
  | .local _ .vmem, ⟨8, _⟩ => ⟨S16x128x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v5087 : BitVec 1 := Scalar.cmpi .eq arg1 c31_i32
  let v5088 : BitVec 32 := Scalar.extui v5087
  let c0_i32_1912 : BitVec 32 := 0#32
  let v5089 : BitVec 1 := Scalar.cmpi .ne v5088 c0_i32_1912
  v5089

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== ReferenceIdeal.lean ====
abbrev S4x4096x2048 : Shape := ⟨3, ![4, 4096, 2048]⟩
abbrev S512 : Shape := ⟨1, ![512]⟩
abbrev S128 : Shape := ⟨1, ![128]⟩
abbrev S4x4x128x128 : Shape := ⟨4, ![4, 4, 128, 128]⟩
abbrev S4x4096x512 : Shape := ⟨3, ![4, 4096, 512]⟩
abbrev S_ : Shape := ⟨0, ![]⟩
abbrev S1x1x512 : Shape := ⟨3, ![1, 1, 512]⟩
abbrev S4x128x32x4x128 : Shape := ⟨5, ![4, 128, 32, 4, 128]⟩
abbrev S4x128x4x32x128 : Shape := ⟨5, ![4, 128, 4, 32, 128]⟩
abbrev S32x32 : Shape := ⟨2, ![32, 32]⟩
abbrev S4x128x4x32x32 : Shape := ⟨5, ![4, 128, 4, 32, 32]⟩
abbrev S4x128x4x1x128 : Shape := ⟨5, ![4, 128, 4, 1, 128]⟩
abbrev S4x128x4x128 : Shape := ⟨4, ![4, 128, 4, 128]⟩
abbrev S128x4x4x32x128 : Shape := ⟨5, ![128, 4, 4, 32, 128]⟩
abbrev S128x4x4x128 : Shape := ⟨4, ![128, 4, 4, 128]⟩
abbrev S1x4x4x32x128 : Shape := ⟨5, ![1, 4, 4, 32, 128]⟩
abbrev S4x4x32x128 : Shape := ⟨4, ![4, 4, 32, 128]⟩
abbrev S1x4x4x128 : Shape := ⟨4, ![1, 4, 4, 128]⟩
abbrev S4x4x128 : Shape := ⟨3, ![4, 4, 128]⟩
abbrev S4x4x128x1 : Shape := ⟨4, ![4, 4, 128, 1]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 194
  | .vmem => 0
  | .smem => 0
  | _ => 0

abbrev hbmTy0_0 (i : Nat) : BufTy := match i % 128 with
  | 0 => ⟨S4x4096x2048, .f32⟩
  | 1 => ⟨S512, .f32⟩
  | 2 => ⟨S128, .f32⟩
  | 3 => ⟨S4x4x128x128, .f32⟩
  | 4 => ⟨S4x4096x512, .f32⟩
  | 5 => ⟨S4x4096x512, .f32⟩
  | 6 => ⟨S4x4096x512, .f32⟩
  | 7 => ⟨S4x4096x512, .f32⟩
  | 8 => ⟨S512, .f32⟩
  | 9 => ⟨S512, .f32⟩
  | 10 => ⟨S512, .f32⟩
  | 11 => ⟨S4x4096x512, .f32⟩
  | 12 => ⟨S_, .f32⟩
  | 13 => ⟨S4x4096x512, .f32⟩
  | 14 => ⟨S4x4096x512, .f32⟩
  | 15 => ⟨S4x4096x512, .f32⟩
  | 16 => ⟨S4x4096x512, .f32⟩
  | 17 => ⟨S4x4096x512, .i1⟩
  | 18 => ⟨S4x4096x512, .f32⟩
  | 19 => ⟨S4x4096x512, .f32⟩
  | 20 => ⟨S4x4096x512, .f32⟩
  | 21 => ⟨S4x4096x512, .f32⟩
  | 22 => ⟨S4x4096x512, .f32⟩
  | 23 => ⟨S4x4096x512, .f32⟩
  | 24 => ⟨S4x4096x512, .f32⟩
  | 25 => ⟨S4x4096x512, .f32⟩
  | 26 => ⟨S4x4096x512, .f32⟩
  | 27 => ⟨S1x1x512, .f32⟩
  | 28 => ⟨S4x4096x512, .f32⟩
  | 29 => ⟨S4x4096x512, .f32⟩
  | 30 => ⟨S1x1x512, .f32⟩
  | 31 => ⟨S4x4096x512, .f32⟩
  | 32 => ⟨S4x4096x512, .f32⟩
  | 33 => ⟨S4x4096x512, .f32⟩
  | 34 => ⟨S4x4096x512, .f32⟩
  | 35 => ⟨S4x4096x512, .i1⟩
  | 36 => ⟨S4x4096x512, .f32⟩
  | 37 => ⟨S4x4096x512, .f32⟩
  | 38 => ⟨S4x4096x512, .f32⟩
  | 39 => ⟨S4x4096x512, .f32⟩
  | 40 => ⟨S4x4096x512, .f32⟩
  | 41 => ⟨S4x4096x512, .f32⟩
  | 42 => ⟨S4x4096x512, .f32⟩
  | 43 => ⟨S4x4096x512, .f32⟩
  | 44 => ⟨S_, .f32⟩
  | 45 => ⟨S512, .f32⟩
  | 46 => ⟨S512, .f32⟩
  | 47 => ⟨S4x4096x512, .f32⟩
  | 48 => ⟨S4x4096x512, .f32⟩
  | 49 => ⟨S4x4096x512, .f32⟩
  | 50 => ⟨S_, .f32⟩
  | 51 => ⟨S4x4096x512, .f32⟩
  | 52 => ⟨S4x4096x512, .f32⟩
  | 53 => ⟨S_, .f32⟩
  | 54 => ⟨S4x4096x512, .f32⟩
  | 55 => ⟨S4x4096x512, .f32⟩
  | 56 => ⟨S1x1x512, .f32⟩
  | 57 => ⟨S4x4096x512, .f32⟩
  | 58 => ⟨S4x4096x512, .f32⟩
  | 59 => ⟨S4x4096x512, .f32⟩
  | 60 => ⟨S4x4096x512, .f32⟩
  | 61 => ⟨S_, .f32⟩
  | 62 => ⟨S4x4096x512, .f32⟩
  | 63 => ⟨S4x4096x512, .f32⟩
  | 64 => ⟨S_, .f32⟩
  | 65 => ⟨S4x4096x512, .f32⟩
  | 66 => ⟨S4x4096x512, .f32⟩
  | 67 => ⟨S4x4096x512, .f32⟩
  | 68 => ⟨S4x128x32x4x128, .f32⟩
  | 69 => ⟨S4x128x4x32x128, .f32⟩
  | 70 => ⟨S4x128x32x4x128, .f32⟩
  | 71 => ⟨S4x128x4x32x128, .f32⟩
  | 72 => ⟨S4x128x32x4x128, .f32⟩
  | 73 => ⟨S4x128x4x32x128, .f32⟩
  | 74 => ⟨S4x128x32x4x128, .f32⟩
  | 75 => ⟨S4x128x4x32x128, .f32⟩
  | 76 => ⟨S_, .f32⟩
  | 77 => ⟨S_, .f32⟩
  | 78 => ⟨S4x128x4x32x128, .f32⟩
  | 79 => ⟨S4x128x4x32x128, .f32⟩
  | 80 => ⟨S4x128x4x32x128, .f32⟩
  | 81 => ⟨S4x128x4x32x128, .f32⟩
  | 82 => ⟨S4x128x4x32x128, .f32⟩
  | 83 => ⟨S4x128x4x32x128, .f32⟩
  | 84 => ⟨S_, .i1⟩
  | 85 => ⟨S32x32, .i1⟩
  | 86 => ⟨S32x32, .i32⟩
  | 87 => ⟨S_, .i32⟩
  | 88 => ⟨S32x32, .i32⟩
  | 89 => ⟨S32x32, .i32⟩
  | 90 => ⟨S32x32, .i32⟩
  | 91 => ⟨S32x32, .i1⟩
  | 92 => ⟨S_, .i1⟩
  | 93 => ⟨S32x32, .i1⟩
  | 94 => ⟨S32x32, .i1⟩
  | 95 => ⟨S4x128x4x32x32, .f32⟩
  | 96 => ⟨S_, .f32⟩
  | 97 => ⟨S_, .f32⟩
  | 98 => ⟨S4x128x4x32x32, .i1⟩
  | 99 => ⟨S4x128x4x32x32, .f32⟩
  | 100 => ⟨S4x128x4x32x32, .f32⟩
  | 101 => ⟨S4x128x4x32x128, .f32⟩
  | 102 => ⟨S4x128x4x1x128, .f32⟩
  | 103 => ⟨S4x128x4x32x128, .f32⟩
  | 104 => ⟨S4x128x4x32x128, .f32⟩
  | 105 => ⟨S4x128x4x32x128, .f32⟩
  | 106 => ⟨S4x128x4x32x128, .f32⟩
  | 107 => ⟨S4x128x4x128, .f32⟩
  | 108 => ⟨S4x128x4x128, .f32⟩
  | 109 => ⟨S128x4x4x32x128, .f32⟩
  | 110 => ⟨S128x4x4x32x128, .f32⟩
  | 111 => ⟨S128x4x4x32x128, .f32⟩
  | 112 => ⟨S128x4x4x128, .f32⟩
  | 113 => ⟨S_, .f32⟩
  | 114 => ⟨S128x4x4x32x128, .f32⟩
  | 115 => ⟨S_, .i32⟩
  | 116 => ⟨S128x4x4x32x128, .f32⟩
  | 117 => ⟨S128x4x4x32x128, .f32⟩
  | 118 => ⟨S128x4x4x32x128, .f32⟩
  | 119 => ⟨S128x4x4x128, .f32⟩
  | 120 => ⟨S_, .i32⟩
  | 121 => ⟨S4x4x128x128, .f32⟩
  | 122 => ⟨S128x4x4x32x128, .f32⟩
  | 123 => ⟨S_, .i32⟩
  | 124 => ⟨S_, .i1⟩
  | 125 => ⟨S_, .i32⟩
  | 126 => ⟨S_, .i32⟩
  | 127 => ⟨S_, .i32⟩
  | _ => ⟨S4x4096x2048, .f32⟩

abbrev hbmTy0_1 (i : Nat) : BufTy := match i % 128 with
  | 0 => ⟨S_, .i32⟩
  | 1 => ⟨S1x4x4x32x128, .f32⟩
  | 2 => ⟨S4x4x32x128, .f32⟩
  | 3 => ⟨S_, .i32⟩
  | 4 => ⟨S_, .i32⟩
  | 5 => ⟨S_, .i32⟩
  | 6 => ⟨S_, .i32⟩
  | 7 => ⟨S1x4x4x32x128, .f32⟩
  | 8 => ⟨S4x4x32x128, .f32⟩
  | 9 => ⟨S_, .i32⟩
  | 10 => ⟨S_, .i32⟩
  | 11 => ⟨S_, .i32⟩
  | 12 => ⟨S_, .i32⟩
  | 13 => ⟨S1x4x4x32x128, .f32⟩
  | 14 => ⟨S4x4x32x128, .f32⟩
  | 15 => ⟨S_, .i32⟩
  | 16 => ⟨S_, .i32⟩
  | 17 => ⟨S_, .i32⟩
  | 18 => ⟨S1x4x4x128, .f32⟩
  | 19 => ⟨S4x4x128, .f32⟩
  | 20 => ⟨S4x4x32x128, .f32⟩
  | 21 => ⟨S4x4x128x1, .f32⟩
  | 22 => ⟨S4x4x128x128, .f32⟩
  | 23 => ⟨S4x4x128x128, .f32⟩
  | 24 => ⟨S4x4x128x128, .f32⟩
  | 25 => ⟨S4x4x128x128, .f32⟩
  | 26 => ⟨S1x4x4x32x128, .f32⟩
  | 27 => ⟨S_, .i32⟩
  | 28 => ⟨S_, .i32⟩
  | 29 => ⟨S_, .i32⟩
  | 30 => ⟨S_, .i32⟩
  | 31 => ⟨S128x4x4x32x128, .f32⟩
  | 32 => ⟨S_, .i32⟩
  | 33 => ⟨S_, .i32⟩
  | 34 => ⟨S4x128x4x32x128, .f32⟩
  | 35 => ⟨S4x128x4x32x128, .f32⟩
  | 36 => ⟨S4x128x32x4x128, .f32⟩
  | 37 => ⟨S4x4096x4x128, .f32⟩
  | 38 => ⟨S4x4096x4x128, .f32⟩
  | 39 => ⟨S_, .f32⟩
  | 40 => ⟨S4x4096x4, .f32⟩
  | 41 => ⟨S4x4096x4x1, .f32⟩
  | 42 => ⟨S_, .f32⟩
  | 43 => ⟨S4x4096x4x1, .f32⟩
  | 44 => ⟨S4x4096x4x1, .f32⟩
  | 45 => ⟨S_, .f32⟩
  | 46 => ⟨S4x4096x4x1, .f32⟩
  | 47 => ⟨S4x4096x4x1, .f32⟩
  | 48 => ⟨S4x4096x4x1, .f32⟩
  | 49 => ⟨S4x4096x4x128, .f32⟩
  | 50 => ⟨S4x4096x4x128, .f32⟩
  | 51 => ⟨S1x1x1x128, .f32⟩
  | 52 => ⟨S4x4096x4x128, .f32⟩
  | 53 => ⟨S4x4096x4x128, .f32⟩
  | 54 => ⟨S4x4096x512, .f32⟩
  | 55 => ⟨S4x4096x512, .f32⟩
  | 56 => ⟨S_, .f32⟩
  | 57 => ⟨S4x4096x512, .f32⟩
  | 58 => ⟨S4x4096x512, .f32⟩
  | 59 => ⟨S_, .f32⟩
  | 60 => ⟨S4x4096x512, .f32⟩
  | 61 => ⟨S4x4096x512, .f32⟩
  | 62 => ⟨S4x4096x4x128, .f32⟩
  | 63 => ⟨S4x4096x4x128, .f32⟩
  | 64 => ⟨S4x4096x512, .f32⟩
  | 65 => ⟨S4x4096x512, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_0 : Ref sig .tc := ⟨.hbm, 50, rfl⟩
abbrev main_v30 : Ref sig .tc := ⟨.hbm, 51, rfl⟩
abbrev main_v31 : Ref sig .tc := ⟨.hbm, 52, rfl⟩
abbrev main_cst_1 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call2_call0_cst : Ref sig .tc := ⟨.hbm, 76, rfl⟩
abbrev main_call2_call0_v0 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c : Ref sig .tc := ⟨.hbm, 84, rfl⟩
abbrev main_v52 : Ref sig .tc := ⟨.hbm, 85, rfl⟩
abbrev main_call3_v0 : Ref sig .tc := ⟨.hbm, 86, rfl⟩
abbrev main_call3_c : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_0 : Ref sig .tc := ⟨.hbm, 92, rfl⟩
abbrev main_call3_v5 : Ref sig .tc := ⟨.hbm, 93, rfl⟩
abbrev main_v53 : Ref sig .tc := ⟨.hbm, 94, rfl⟩
abbrev main_v54 : Ref sig .tc := ⟨.hbm, 95, rfl⟩
abbrev main_cst_2 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_3 : Ref sig .tc := ⟨.hbm, 113, rfl⟩
abbrev main_v68 : Ref sig .tc := ⟨.hbm, 114, rfl⟩
abbrev main_c_4 : Ref sig .tc := ⟨.hbm, 115, rfl⟩
abbrev main_v69_0 : Ref sig .tc := ⟨.hbm, 116, rfl⟩
abbrev main_v69_1 : Ref sig .tc := ⟨.hbm, 117, rfl⟩
abbrev main_v69_2 : Ref sig .tc := ⟨.hbm, 118, rfl⟩
abbrev main_v69_3 : Ref sig .tc := ⟨.hbm, 119, rfl⟩
abbrev main_v69_4 : Ref sig .tc := ⟨.hbm, 120, rfl⟩
abbrev main_v69_5 : Ref sig .tc := ⟨.hbm, 121, rfl⟩
abbrev main_v69_6 : Ref sig .tc := ⟨.hbm, 122, rfl⟩
abbrev main_while0c_c_16 : Ref sig .tc := ⟨.hbm, 123, rfl⟩
abbrev main_while0c_v97 : Ref sig .tc := ⟨.hbm, 124, rfl⟩
abbrev main_while0b_call5_c : Ref sig .tc := ⟨.hbm, 125, rfl⟩
abbrev main_while0b_call5_c_0 : Ref sig .tc := ⟨.hbm, 126, rfl⟩
abbrev main_while0b_call5_c_1 : Ref sig .tc := ⟨.hbm, 127, rfl⟩
abbrev main_while0b_call5_c_2 : Ref sig .tc := ⟨.hbm, 128, rfl⟩
abbrev main_while0b_call5_v0 : Ref sig .tc := ⟨.hbm, 129, rfl⟩
abbrev main_while0b_v97 : Ref sig .tc := ⟨.hbm, 130, rfl⟩
abbrev main_while0b_call6_c : Ref sig .tc := ⟨.hbm, 131, rfl⟩
abbrev main_while0b_call6_c_0 : Ref sig .tc := ⟨.hbm, 132, rfl⟩
abbrev main_while0b_call6_c_1 : Ref sig .tc := ⟨.hbm, 133, rfl⟩
abbrev main_while0b_call6_c_2 : Ref sig .tc := ⟨.hbm, 134, rfl⟩
abbrev main_while0b_call6_v0 : Ref sig .tc := ⟨.hbm, 135, rfl⟩
abbrev main_while0b_v98 : Ref sig .tc := ⟨.hbm, 136, rfl⟩
abbrev main_while0b_call7_c : Ref sig .tc := ⟨.hbm, 137, rfl⟩
abbrev main_while0b_call7_c_0 : Ref sig .tc := ⟨.hbm, 138, rfl⟩
abbrev main_while0b_call7_c_1 : Ref sig .tc := ⟨.hbm, 139, rfl⟩
abbrev main_while0b_call7_c_2 : Ref sig .tc := ⟨.hbm, 140, rfl⟩
abbrev main_while0b_call7_v0 : Ref sig .tc := ⟨.hbm, 141, rfl⟩
abbrev main_while0b_v99 : Ref sig .tc := ⟨.hbm, 142, rfl⟩
abbrev main_while0b_call8_c : Ref sig .tc := ⟨.hbm, 143, rfl⟩
abbrev main_while0b_call8_c_0 : Ref sig .tc := ⟨.hbm, 144, rfl⟩
abbrev main_while0b_call8_c_1 : Ref sig .tc := ⟨.hbm, 145, rfl⟩
abbrev main_while0b_call8_v0 : Ref sig .tc := ⟨.hbm, 146, rfl⟩
abbrev main_while0b_v100 : Ref sig .tc := ⟨.hbm, 147, rfl⟩
abbrev main_while0b_v101 : Ref sig .tc := ⟨.hbm, 148, rfl⟩
abbrev main_while0b_v102 : Ref sig .tc := ⟨.hbm, 149, rfl⟩
abbrev main_while0b_v103 : Ref sig .tc := ⟨.hbm, 150, rfl⟩
abbrev main_while0b_v104 : Ref sig .tc := ⟨.hbm, 151, rfl⟩
abbrev main_while0b_v105 : Ref sig .tc := ⟨.hbm, 152, rfl⟩
abbrev main_while0b_v106 : Ref sig .tc := ⟨.hbm, 153, rfl⟩
abbrev main_while0b_call9_v0 : Ref sig .tc := ⟨.hbm, 154, rfl⟩
abbrev main_while0b_call9_c : Ref sig .tc := ⟨.hbm, 155, rfl⟩
abbrev main_while0b_call9_c_0 : Ref sig .tc := ⟨.hbm, 156, rfl⟩
abbrev main_while0b_call9_c_1 : Ref sig .tc := ⟨.hbm, 157, rfl⟩
abbrev main_while0b_call9_c_2 : Ref sig .tc := ⟨.hbm, 158, rfl⟩
abbrev main_while0b_v107 : Ref sig .tc := ⟨.hbm, 159, rfl⟩
abbrev main_while0b_c_16 : Ref sig .tc := ⟨.hbm, 160, rfl⟩
abbrev main_while0b_v108 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_cst_5 : Ref sig .tc := ⟨.hbm, 167, rfl⟩
abbrev main_v75 : Ref sig .tc := ⟨.hbm, 168, rfl⟩
abbrev main_v76 : Ref sig .tc := ⟨.hbm, 169, rfl⟩
abbrev main_cst_6 : Ref sig .tc := ⟨.hbm, 170, rfl⟩
abbrev main_v77 : Ref sig .tc := ⟨.hbm, 171, rfl⟩
abbrev main_v78 : Ref sig .tc := ⟨.hbm, 172, rfl⟩
abbrev main_cst_7 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_cst_8 : Ref sig .tc := ⟨.hbm, 184, rfl⟩
abbrev main_v89 : Ref sig .tc := ⟨.hbm, 185, rfl⟩
abbrev main_v90 : Ref sig .tc := ⟨.hbm, 186, rfl⟩
abbrev main_cst_9 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩

abbrev nD : Nat := 1
abbrev τ : Topo := Topo.v7x

variable {F : FTy → Type} [FloatOps F]

abbrev main_while0_count : Scf.Loop 32 := ⟨0#32, 128#32, 1#32⟩
-- ==== Mlp.lean ====
abbrev S4x4096x1024 : Shape := ⟨3, ![4, 4096, 1024]⟩
abbrev S4x4096x512 : Shape := ⟨3, ![4, 4096, 512]⟩
abbrev S4x1024x1024 : Shape := ⟨3, ![4, 1024, 1024]⟩
abbrev S4x1024 : Shape := ⟨2, ![4, 1024]⟩
abbrev S4x1024x4096 : Shape := ⟨3, ![4, 1024, 4096]⟩
abbrev S16384x1024 : Shape := ⟨2, ![16384, 1024]⟩
abbrev S16384x512 : Shape := ⟨2, ![16384, 512]⟩
abbrev S1x1024 : Shape := ⟨2, ![1, 1024]⟩
abbrev S1024 : Shape := ⟨1, ![1024]⟩
abbrev S512x1024 : Shape := ⟨2, ![512, 1024]⟩
abbrev S512x512 : Shape := ⟨2, ![512, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x1024x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S16384x1024, .f32⟩
  | .hbm, ⟨8, _⟩ => ⟨S16384x512, .bf16⟩
  | .hbm, ⟨9, _⟩ => ⟨S16384x512, .bf16⟩
  | .hbm, ⟨10, _⟩ => ⟨S4x1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S4x1024x4096, .bf16⟩
  | .hbm, ⟨15, _⟩ => ⟨S4x4096x1024, .bf16⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024x1024, .bf16⟩
  | .local _ .vmem, ⟨7, _⟩ => ⟨S1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S512x1024, .f32⟩
  | .local _ .vmem, ⟨11, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpReferenceIdeal.lean ====
abbrev S4x4096x1024 : Shape := ⟨3, ![4, 4096, 1024]⟩
abbrev S4x4096x512 : Shape := ⟨3, ![4, 4096, 512]⟩
abbrev S4x1024x1024 : Shape := ⟨3, ![4, 1024, 1024]⟩
abbrev S4x1024 : Shape := ⟨2, ![4, 1024]⟩
abbrev S4x1024x4096 : Shape := ⟨3, ![4, 1024, 4096]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x1024x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S4x4096x512, .f32⟩
  | .hbm, ⟨8, _⟩ => ⟨S4x4096x512, .f32⟩
  | .hbm, ⟨9, _⟩ => ⟨S4x4096x1024, .f32⟩
  | .hbm, ⟨10, _⟩ => ⟨S1x1024x1024, .f32⟩
  | .hbm, ⟨11, _⟩ => ⟨S1024x1024, .f32⟩
  | .hbm, ⟨12, _⟩ => ⟨S4x4096x1024, .f32⟩
  | .hbm, ⟨13, _⟩ => ⟨S4x4096x1024, .f32⟩
  | .hbm, ⟨14, _⟩ => ⟨S1x1024, .f32⟩
  | .hbm, ⟨15, _⟩ => ⟨S1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S1x1024x4096, .f32⟩
  | .hbm, ⟨33, _⟩ => ⟨S1024x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S1x4096x1024, .f32⟩
  | .hbm, ⟨40, _⟩ => ⟨S4096x1024, .f32⟩
  | .hbm, ⟨41, _⟩ => ⟨S4x4096x1024, .f32⟩
  | .hbm, ⟨42, _⟩ => ⟨S4x4096x1024, .f32⟩
  | .hbm, ⟨43, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== MlpSample.lean ====
abbrev S32x8x1024 : Shape := ⟨3, ![32, 8, 1024]⟩
abbrev S32x8x512 : Shape := ⟨3, ![32, 8, 512]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S256x1024 : Shape := ⟨2, ![256, 1024]⟩
abbrev S256x512 : Shape := ⟨2, ![256, 512]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 19
  | .vmem => 8
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S32x8x512, .f32⟩
  | .hbm, ⟨3, _⟩ => ⟨S4x1024x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S256x1024, .f32⟩
  | .hbm, ⟨8, _⟩ => ⟨S256x512, .f32⟩
  | .hbm, ⟨9, _⟩ => ⟨S256x512, .bf16⟩
  | .hbm, ⟨10, _⟩ => ⟨S256x512, .f32⟩
  | .hbm, ⟨11, _⟩ => ⟨S256x512, .bf16⟩
  | .hbm, ⟨12, _⟩ => ⟨S4x1024x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4x1024x4096, .bf16⟩
  | .hbm, ⟨17, _⟩ => ⟨S4x4096x1024, .bf16⟩
  | .hbm, ⟨18, _⟩ => ⟨S256x1024, .f32⟩
  | .local _ .vmem, ⟨0, _⟩ => ⟨S256x1024, .f32⟩
  | .local _ .vmem, ⟨1, _⟩ => ⟨S256x512, .bf16⟩
  | .local _ .vmem, ⟨2, _⟩ => ⟨S256x512, .bf16⟩
  | .local _ .vmem, ⟨3, _⟩ => ⟨S1x1024x1024, .bf16⟩
  | .local _ .vmem, ⟨4, _⟩ => ⟨S1x1024, .f32⟩
  | .local _ .vmem, ⟨5, _⟩ => ⟨S1x1024x4096, .bf16⟩
  | .local _ .vmem, ⟨6, _⟩ => ⟨S1x4096x1024, .bf16⟩
  | .local _ .vmem, ⟨7, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== MlpSampleReferenceIdeal.lean ====
abbrev S32x8x1024 : Shape := ⟨3, ![32, 8, 1024]⟩
abbrev S32x8x512 : Shape := ⟨3, ![32, 8, 512]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S32x8x4096 : Shape := ⟨3, ![32, 8, 4096]⟩
abbrev S1x4096x1024 : Shape := ⟨3, ![1, 4096, 1024]⟩
abbrev S4096x1024 : Shape := ⟨2, ![4096, 1024]⟩
abbrev S256x1024 : Shape := ⟨2, ![256, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S32x8x512, .f32⟩
  | .hbm, ⟨3, _⟩ => ⟨S4x1024x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S32x8x1024, .f32⟩
  | .hbm, ⟨8, _⟩ => ⟨S1x1024x1024, .f32⟩
  | .hbm, ⟨9, _⟩ => ⟨S1024x1024, .f32⟩
  | .hbm, ⟨10, _⟩ => ⟨S32x8x1024, .f32⟩
  | .hbm, ⟨11, _⟩ => ⟨S32x8x1024, .f32⟩
  | .hbm, ⟨12, _⟩ => ⟨S1x1024, .f32⟩
  | .hbm, ⟨13, _⟩ => ⟨S1024, .f32⟩
  | .hbm, ⟨14, _⟩ => ⟨S32x8x1024, .f32⟩
  | .hbm, ⟨15, _⟩ => ⟨S_, .f32⟩
  | .hbm, ⟨16, _⟩ => ⟨S32x8, .f32⟩
  | .hbm, ⟨17, _⟩ => ⟨S32x8x1, .f32⟩
  | .hbm, ⟨18, _⟩ => ⟨S_, .f32⟩
  | .hbm, ⟨19, _⟩ => ⟨S32x8x1, .f32⟩
  | .hbm, ⟨20, _⟩ => ⟨S32x8x1, .f32⟩
  | .hbm, ⟨21, _⟩ => ⟨S_, .f32⟩
  | .hbm, ⟨22, _⟩ => ⟨S32x8x1, .f32⟩
  | .hbm, ⟨23, _⟩ => ⟨S32x8x1, .f32⟩
  | .hbm, ⟨24, _⟩ => ⟨S32x8x1, .f32⟩
  | .hbm, ⟨25, _⟩ => ⟨S32x8x1024, .f32⟩
  | .hbm, ⟨26, _⟩ => ⟨S32x8x1024, .f32⟩
  | .hbm, ⟨27, _⟩ => ⟨S1x1x1024, .f32⟩
  | .hbm, ⟨28, _⟩ => ⟨S32x8x1024, .f32⟩
  | .hbm, ⟨29, _⟩ => ⟨S32x8x1024, .f32⟩
  | .hbm, ⟨30, _⟩ => ⟨S1x1024x4096, .f32⟩
  | .hbm, ⟨31, _⟩ => ⟨S1024x4096, .f32⟩
  | .hbm, ⟨32, _⟩ => ⟨S32x8x4096, .f32⟩
  | .hbm, ⟨33, _⟩ => ⟨S_, .f32⟩
  | .hbm, ⟨34, _⟩ => ⟨S32x8x4096, .f32⟩
  | .hbm, ⟨35, _⟩ => ⟨S32x8x4096, .f32⟩
  | .hbm, ⟨36, _⟩ => ⟨S32x8x4096, .f32⟩
  | .hbm, ⟨37, _⟩ => ⟨S1x4096x1024, .f32⟩
  | .hbm, ⟨38, _⟩ => ⟨S4096x1024, .f32⟩
  | .hbm, ⟨39, _⟩ => ⟨S32x8x1024, .f32⟩
  | .hbm, ⟨40, _⟩ => ⟨S32x8x1024, .f32⟩
  | .hbm, ⟨41, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proj.lean ====
abbrev S4x4096x1024 : Shape := ⟨3, ![4, 4096, 1024]⟩
abbrev S4x1024 : Shape := ⟨2, ![4, 1024]⟩
abbrev S4x1024x3352 : Shape := ⟨3, ![4, 1024, 3352]⟩
abbrev S4x64 : Shape := ⟨2, ![4, 64]⟩
abbrev S4x3x64 : Shape := ⟨3, ![4, 3, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024x3352 : Shape := ⟨3, ![1, 1024, 3352]⟩
abbrev S1024x3352 : Shape := ⟨2, ![1024, 3352]⟩
abbrev S1024x24 : Shape := ⟨2, ![1024, 24]⟩
abbrev S1024x128 : Shape := ⟨2, ![1024, 128]⟩
abbrev S1024x1280 : Shape := ⟨2, ![1024, 1280]⟩
abbrev S1024x2048 : Shape := ⟨2, ![1024, 2048]⟩
abbrev S1024x3456 : Shape := ⟨2, ![1024, 3456]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S2x64 : Shape := ⟨2, ![2, 64]⟩
abbrev S128 : Shape := ⟨1, ![128]⟩
abbrev S1x128 : Shape := ⟨2, ![1, 128]⟩
abbrev S1x1x64 : Shape := ⟨3, ![1, 1, 64]⟩
abbrev S2x128 : Shape := ⟨2, ![2, 128]⟩
abbrev S16384x1024 : Shape := ⟨2, ![16384, 1024]⟩
abbrev S128x1 : Shape := ⟨2, ![128, 1]⟩
abbrev S128x128 : Shape := ⟨2, ![128, 128]⟩
abbrev S16384x512 : Shape := ⟨2, ![16384, 512]⟩
abbrev S16384x256 : Shape := ⟨2, ![16384, 256]⟩
abbrev S16384x128 : Shape := ⟨2, ![16384, 128]⟩
abbrev S16384x2048 : Shape := ⟨2, ![16384, 2048]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩

abbrev nBuf : Space → Nat
  | .hbm => 104
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x3352, .f32⟩
  | .hbm, ⟨3, _⟩ => ⟨S4x64, .f32⟩
  | .hbm, ⟨4, _⟩ => ⟨S4x3x64, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S1x4096x1x64, .f32⟩
  | .hbm, ⟨24, _⟩ => ⟨S1x4096x2x64, .f32⟩
  | .hbm, ⟨25, _⟩ => ⟨S4096x128, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S1x1024x3352, .f32⟩
  | .hbm, ⟨32, _⟩ => ⟨S1024x3352, .f32⟩
  | .hbm, ⟨33, _⟩ => ⟨S1024x24, .f32⟩
  | .hbm, ⟨34, _⟩ => ⟨S_, .i32⟩
  | .hbm, ⟨35, _⟩ => ⟨S_, .f32⟩
  | .hbm, ⟨36, _⟩ => ⟨S1024x128, .f32⟩
  | .hbm, ⟨37, _⟩ => ⟨S1024x1280, .f32⟩
  | .hbm, ⟨38, _⟩ => ⟨S1024x2048, .f32⟩
  | .hbm, ⟨39, _⟩ => ⟨S1024x3456, .f32⟩
  | .hbm, ⟨40, _⟩ => ⟨S1024x3456, .bf16⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S2x64, .f32⟩
  | .hbm, ⟨48, _⟩ => ⟨S128, .f32⟩
  | .hbm, ⟨49, _⟩ => ⟨S1x128, .f32⟩
  | .hbm, ⟨50, _⟩ => ⟨S1x1x64, .f32⟩
  | .hbm, ⟨51, _⟩ => ⟨S64, .f32⟩
  | .hbm, ⟨52, _⟩ => ⟨S1x64, .f32⟩
  | .hbm, ⟨53, _⟩ => ⟨S2x64, .f32⟩
  | .hbm, ⟨54, _⟩ => ⟨S128, .f32⟩
  | .hbm, ⟨55, _⟩ => ⟨S1x128, .f32⟩
  | .hbm, ⟨56, _⟩ => ⟨S1x1x64, .f32⟩
  | .hbm, ⟨57, _⟩ => ⟨S64, .f32⟩
  | .hbm, ⟨58, _⟩ => ⟨S1x64, .f32⟩
  | .hbm, ⟨59, _⟩ => ⟨S2x64, .f32⟩
  | .hbm, ⟨60, _⟩ => ⟨S128, .f32⟩
  | .hbm, ⟨61, _⟩ => ⟨S1x128, .f32⟩
  | .hbm, ⟨62, _⟩ => ⟨S2x128, .f32⟩
  | .hbm, ⟨63, _⟩ => ⟨S16384x1024, .f32⟩
  | .hbm, ⟨64, _⟩ => ⟨S128, .i32⟩
  | .hbm, ⟨65, _⟩ => ⟨S1x128, .i32⟩
  | .hbm, ⟨66, _⟩ => ⟨S4096, .i32⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S_, .i32⟩
  | .hbm, ⟨72, _⟩ => ⟨S4096x1, .i32⟩
  | .hbm, ⟨73, _⟩ => ⟨S4096x1, .i32⟩
  | .hbm, ⟨74, _⟩ => ⟨S4096x128, .i32⟩
  | .hbm, ⟨75, _⟩ => ⟨S4096x128, .i32⟩
  | .hbm, ⟨76, _⟩ => ⟨S4096x128, .i1⟩
  | .hbm, ⟨77, _⟩ => ⟨S_, .f32⟩
  | .hbm, ⟨78, _⟩ => ⟨S_, .f32⟩
  | .hbm, ⟨79, _⟩ => ⟨S4096x128, .f32⟩
  | .hbm, ⟨80, _⟩ => ⟨S4096x128, .f32⟩
  | .hbm, ⟨81, _⟩ => ⟨S4096x128, .f32⟩
  | .hbm, ⟨82, _⟩ => ⟨S128, .i32⟩
  | .hbm, ⟨83, _⟩ => ⟨S_, .i32⟩
  | .hbm, ⟨84, _⟩ => ⟨S128, .i32⟩
  | .hbm, ⟨85, _⟩ => ⟨S128, .i32⟩
  | .hbm, ⟨86, _⟩ => ⟨S128x1, .i32⟩
  | .hbm, ⟨87, _⟩ => ⟨S1x128, .i32⟩
  | .hbm, ⟨88, _⟩ => ⟨S128x128, .i32⟩
  | .hbm, ⟨89, _⟩ => ⟨S128x128, .i32⟩
  | .hbm, ⟨90, _⟩ => ⟨S128x128, .i1⟩
  | .hbm, ⟨91, _⟩ => ⟨S_, .f32⟩
  | .hbm, ⟨92, _⟩ => ⟨S_, .f32⟩
  | .hbm, ⟨93, _⟩ => ⟨S128x128, .f32⟩
  | .hbm, ⟨94, _⟩ => ⟨S128x128, .f32⟩
  | .hbm, ⟨95, _⟩ => ⟨S128x128, .f32⟩
  | .hbm, ⟨96, _⟩ => ⟨S128x128, .bf16⟩
  | .hbm, ⟨97, _⟩ => ⟨S16384x512, .bf16⟩
  | .hbm, ⟨98, _⟩ => ⟨S16384x512, .bf16⟩
  | .hbm, ⟨99, _⟩ => ⟨S16384x512, .f32⟩
  | .hbm, ⟨100, _⟩ => ⟨S16384x256, .f32⟩
  | .hbm, ⟨101, _⟩ => ⟨S16384x1024, .bf16⟩
  | .hbm, ⟨102, _⟩ => ⟨S16384x128, .f32⟩
  | .hbm, ⟨103, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S2x128, .f32⟩
  | .local _ .vmem, ⟨12, _⟩ => ⟨S128x128, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .f32⟩
  | .local _ .vmem, ⟨18, _⟩ => ⟨S512x512, .f32⟩
  | .local _ .vmem, ⟨19, _⟩ => ⟨S512x256, .f32⟩
  | .local _ .vmem, ⟨20, _⟩ => ⟨S512x256, .f32⟩
  | .local _ .vmem, ⟨21, _⟩ => ⟨S512x1024, .bf16⟩
  | .local _ .vmem, ⟨22, _⟩ => ⟨S512x1024, .bf16⟩
  | .local _ .vmem, ⟨23, _⟩ => ⟨S512x128, .f32⟩
  | .local _ .vmem, ⟨24, _⟩ => ⟨S512x128, .f32⟩
  | .local _ .vmem, ⟨25, _⟩ => ⟨S512x2048, .f32⟩
  | .local _ .vmem, ⟨26, _⟩ => ⟨S512x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_call0_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_c_1 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_2 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_3 : Ref sig .tc := ⟨.hbm, 77, rfl⟩
abbrev main_cst_4 : Ref sig .tc := ⟨.hbm, 78, rfl⟩
abbrev main_call1_v0 : Ref sig .tc := ⟨.hbm, 79, rfl⟩
abbrev main_call1_v1 : Ref sig .tc := ⟨.hbm, 80, rfl⟩
abbrev main_v66 : Ref sig .tc := ⟨.hbm, 81, rfl⟩
abbrev main_v67 : Ref sig .tc := ⟨.hbm, 82, rfl⟩
abbrev main_c_5 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_6 : Ref sig .tc := ⟨.hbm, 91, rfl⟩
abbrev main_cst_7 : Ref sig .tc := ⟨.hbm, 92, rfl⟩
abbrev main_call2_v0 : Ref sig .tc := ⟨.hbm, 93, rfl⟩
abbrev main_call2_v1 : Ref sig .tc := ⟨.hbm, 94, rfl⟩
abbrev main_v75 : Ref sig .tc := ⟨.hbm, 95, rfl⟩
abbrev main_v76 : Ref sig .tc := ⟨.hbm, 96, rfl⟩
abbrev main_v77_0 : Ref sig .tc := ⟨.hbm, 97, rfl⟩
abbrev main_v77_1 : Ref sig .tc := ⟨.hbm, 98, rfl⟩
abbrev main_v77_2 : Ref sig .tc := ⟨.hbm, 99, rfl⟩
abbrev main_v77_3 : Ref sig .tc := ⟨.hbm, 100, rfl⟩
abbrev main_v77_4 : Ref sig .tc := ⟨.hbm, 101, rfl⟩
abbrev main_v77_5 : Ref sig .tc := ⟨.hbm, 102, rfl⟩
abbrev main_v77_6 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjReferenceIdeal.lean ====
abbrev S4x4096x1024 : Shape := ⟨3, ![4, 4096, 1024]⟩
abbrev S4x1024 : Shape := ⟨2, ![4, 1024]⟩
abbrev S4x1024x3352 : Shape := ⟨3, ![4, 1024, 3352]⟩
abbrev S4x64 : Shape := ⟨2, ![4, 64]⟩
abbrev S4x3x64 : Shape := ⟨3, ![4, 3, 64]⟩
abbrev S4096 : Shape := ⟨1, ![4096]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x3352 : Shape := ⟨3, ![1, 1024, 3352]⟩
abbrev S1024x3352 : Shape := ⟨2, ![1024, 3352]⟩
abbrev S4x4096x3352 : Shape := ⟨3, ![4, 4096, 3352]⟩
abbrev S4x4096x512 : Shape := ⟨3, ![4, 4096, 512]⟩
abbrev S4x4096x128 : Shape := ⟨3, ![4, 4096, 128]⟩
abbrev S4x4096x24 : Shape := ⟨3, ![4, 4096, 24]⟩
abbrev S4x4096x2048 : Shape := ⟨3, ![4, 4096, 2048]⟩
abbrev S4x4096x8x64 : Shape := ⟨4, ![4, 4096, 8, 64]⟩
abbrev S1x64 : Shape := ⟨2, ![1, 64]⟩
abbrev S64 : Shape := ⟨1, ![64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩
abbrev S4x4096x2x64 : Shape := ⟨4, ![4, 4096, 2, 64]⟩
abbrev S1x1x64 : Shape := ⟨3, ![1, 1, 64]⟩
abbrev S4x4096x2 : Shape := ⟨3, ![4, 4096, 2]⟩
abbrev S4x4096x2x1 : Shape := ⟨4, ![4, 4096, 2, 1]⟩
abbrev S4x4096x2x32 : Shape := ⟨4, ![4, 4096, 2, 32]⟩
abbrev S4x4096x1x2x64 : Shape := ⟨5, ![4, 4096, 1, 2, 64]⟩
abbrev S4x4096x4x2x64 : Shape := ⟨5, ![4, 4096, 4, 2, 64]⟩
abbrev S4x4096x2x2x64 : Shape := ⟨5, ![4, 4096, 2, 2, 64]⟩
abbrev S16384x512 : Shape := ⟨2, ![16384, 512]⟩
abbrev S16384x256 : Shape := ⟨2, ![16384, 256]⟩
abbrev S16384x128 : Shape := ⟨2, ![16384, 128]⟩
abbrev S16384x2048 : Shape := ⟨2, ![16384, 2048]⟩

abbrev nBuf : Space → Nat
  | .hbm => 223
  | .vmem => 0
  | .smem => 0
  | _ => 0

abbrev hbmTy0_0 (i : Nat) : BufTy := match i % 128 with
  | 0 => ⟨S4x4096x1024, .f32⟩
  | 1 => ⟨S4x1024, .f32⟩
  | 2 => ⟨S4x1024x3352, .f32⟩
  | 3 => ⟨S4x64, .f32⟩
  | 4 => ⟨S4x3x64, .f32⟩
  | 5 => ⟨S4096, .i32⟩
  | 6 => ⟨S1x1024, .f32⟩
  | 7 => ⟨S1024, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S1x1024x3352, .f32⟩
  | 25 => ⟨S1024x3352, .f32⟩
  | 26 => ⟨S4x4096x3352, .f32⟩
  | 27 => ⟨S4x4096x512, .f32⟩
  | 28 => ⟨S4x4096x128, .f32⟩
  | 29 => ⟨S4x4096x128, .f32⟩
  | 30 => ⟨S4x4096x128, .f32⟩
  | 31 => ⟨S4x4096x128, .f32⟩
  | 32 => ⟨S4x4096x128, .f32⟩
  | 33 => ⟨S4x4096x128, .f32⟩
  | 34 => ⟨S4x4096x24, .f32⟩
  | 35 => ⟨S4x4096x2048, .f32⟩
  | 36 => ⟨S4x4096x8x64, .f32⟩
  | 37 => ⟨S1x64, .f32⟩
  | 38 => ⟨S64, .f32⟩
  | 39 => ⟨S4x4096x8x64, .f32⟩
  | 40 => ⟨S_, .f32⟩
  | 41 => ⟨S4x4096x8, .f32⟩
  | 42 => ⟨S4x4096x8x1, .f32⟩
  | 43 => ⟨S_, .f32⟩
  | 44 => ⟨S4x4096x8x1, .f32⟩
  | 45 => ⟨S4x4096x8x1, .f32⟩
  | 46 => ⟨S_, .f32⟩
  | 47 => ⟨S4x4096x8x1, .f32⟩
  | 48 => ⟨S4x4096x8x1, .f32⟩
  | 49 => ⟨S4x4096x8x1, .f32⟩
  | 50 => ⟨S4x4096x8x64, .f32⟩
  | 51 => ⟨S4x4096x8x64, .f32⟩
  | 52 => ⟨S1x1x1x64, .f32⟩
  | 53 => ⟨S4x4096x8x64, .f32⟩
  | 54 => ⟨S4x4096x8x64, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S4096, .f32⟩
  | 64 => ⟨S4096x1, .f32⟩
  | 65 => ⟨S1x32, .f32⟩
  | 66 => ⟨S4096x32, .f32⟩
  | 67 => ⟨S4096x32, .f32⟩
  | 68 => ⟨S4096x32, .f32⟩
  | 69 => ⟨S4096x32, .f32⟩
  | 70 => ⟨S1x4096x1x32, .f32⟩
  | 71 => ⟨S4096x32, .f32⟩
  | 72 => ⟨S1x4096x1x32, .f32⟩
  | 73 => ⟨S4x4096x8x32, .f32⟩
  | 74 => ⟨S4x4096x8x32, .f32⟩
  | 75 => ⟨S4x4096x8x32, .f32⟩
  | 76 => ⟨S4x4096x8x32, .f32⟩
  | 77 => ⟨S4x4096x8x32, .f32⟩
  | 78 => ⟨S4x4096x8x32, .f32⟩
  | 79 => ⟨S4x4096x8x32, .f32⟩
  | 80 => ⟨S4x4096x8x32, .f32⟩
  | 81 => ⟨S4x4096x8x32, .f32⟩
  | 82 => ⟨S4x4096x8x32, .f32⟩
  | 83 => ⟨S4x4096x8x32, .f32⟩
  | 84 => ⟨S4x4096x8x32, .f32⟩
  | 85 => ⟨S4x4096x8x64, .f32⟩
  | 86 => ⟨S4x4096x2x64, .f32⟩
  | 87 => ⟨S1x1x64, .f32⟩
  | 88 => ⟨S64, .f32⟩
  | 89 => ⟨S4x4096x2x64, .f32⟩
  | 90 => ⟨S_, .f32⟩
  | 91 => ⟨S4x4096x2, .f32⟩
  | 92 => ⟨S4x4096x2x1, .f32⟩
  | 93 => ⟨S_, .f32⟩
  | 94 => ⟨S4x4096x2x1, .f32⟩
  | 95 => ⟨S4x4096x2x1, .f32⟩
  | 96 => ⟨S_, .f32⟩
  | 97 => ⟨S4x4096x2x1, .f32⟩
  | 98 => ⟨S4x4096x2x1, .f32⟩
  | 99 => ⟨S4x4096x2x1, .f32⟩
  | 100 => ⟨S4x4096x2x64, .f32⟩
  | 101 => ⟨S4x4096x2x64, .f32⟩
  | 102 => ⟨S1x1x1x64, .f32⟩
  | 103 => ⟨S4x4096x2x64, .f32⟩
  | 104 => ⟨S4x4096x2x64, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S4096, .f32⟩
  | 114 => ⟨S4096x1, .f32⟩
  | 115 => ⟨S1x32, .f32⟩
  | 116 => ⟨S4096x32, .f32⟩
  | 117 => ⟨S4096x32, .f32⟩
  | 118 => ⟨S4096x32, .f32⟩
  | 119 => ⟨S4096x32, .f32⟩
  | 120 => ⟨S1x4096x1x32, .f32⟩
  | 121 => ⟨S4096x32, .f32⟩
  | 122 => ⟨S1x4096x1x32, .f32⟩
  | 123 => ⟨S4x4096x2x32, .f32⟩
  | 124 => ⟨S4x4096x2x32, .f32⟩
  | 125 => ⟨S4x4096x2x32, .f32⟩
  | 126 => ⟨S4x4096x2x32, .f32⟩
  | 127 => ⟨S4x4096x2x32, .f32⟩
  | _ => ⟨S4x4096x1024, .f32⟩

abbrev hbmTy0_1 (i : Nat) : BufTy := match i % 128 with
  | 0 => ⟨S4x4096x2x32, .f32⟩
  | 1 => ⟨S4x4096x2x32, .f32⟩
  | 2 => ⟨S4x4096x2x32, .f32⟩
  | 3 => ⟨S4x4096x2x32, .f32⟩
  | 4 => ⟨S4x4096x2x32, .f32⟩
  | 5 => ⟨S4x4096x2x32, .f32⟩
  | 6 => ⟨S4x4096x2x32, .f32⟩
  | 7 => ⟨S4x4096x2x64, .f32⟩
  | 8 => ⟨S4x4096x2x64, .f32⟩
  | 9 => ⟨S1x1x64, .f32⟩
  | 10 => ⟨S64, .f32⟩
  | 11 => ⟨S4x4096x2x64, .f32⟩
  | 12 => ⟨S_, .f32⟩
  | 13 => ⟨S4x4096x2, .f32⟩
  | 14 => ⟨S4x4096x2x1, .f32⟩
  | 15 => ⟨S_, .f32⟩
  | 16 => ⟨S4x4096x2x1, .f32⟩
  | 17 => ⟨S4x4096x2x1, .f32⟩
  | 18 => ⟨S_, .f32⟩
  | 19 => ⟨S4x4096x2x1, .f32⟩
  | 20 => ⟨S4x4096x2x1, .f32⟩
  | 21 => ⟨S4x4096x2x1, .f32⟩
  | 22 => ⟨S4x4096x2x64, .f32⟩
  | 23 => ⟨S4x4096x2x64, .f32⟩
  | 24 => ⟨S1x1x1x64, .f32⟩
  | 25 => ⟨S4x4096x2x64, .f32⟩
  | 26 => ⟨S4x4096x2x64, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S4096, .f32⟩
  | 36 => ⟨S4096x1, .f32⟩
  | 37 => ⟨S1x32, .f32⟩
  | 38 => ⟨S4096x32, .f32⟩
  | 39 => ⟨S4096x32, .f32⟩
  | 40 => ⟨S4096x32, .f32⟩
  | 41 => ⟨S4096x32, .f32⟩
  | 42 => ⟨S1x4096x1x32, .f32⟩
  | 43 => ⟨S4096x32, .f32⟩
  | 44 => ⟨S1x4096x1x32, .f32⟩
  | 45 => ⟨S4x4096x2x32, .f32⟩
  | 46 => ⟨S4x4096x2x32, .f32⟩
  | 47 => ⟨S4x4096x2x32, .f32⟩
  | 48 => ⟨S4x4096x2x32, .f32⟩
  | 49 => ⟨S4x4096x2x32, .f32⟩
  | 50 => ⟨S4x4096x2x32, .f32⟩
  | 51 => ⟨S4x4096x2x32, .f32⟩
  | 52 => ⟨S4x4096x2x32, .f32⟩
  | 53 => ⟨S4x4096x2x32, .f32⟩
  | 54 => ⟨S4x4096x2x32, .f32⟩
  | 55 => ⟨S4x4096x2x32, .f32⟩
  | 56 => ⟨S4x4096x2x32, .f32⟩
  | 57 => ⟨S4x4096x2x64, .f32⟩
  | 58 => ⟨S4x4096x2x64, .f32⟩
  | 59 => ⟨S4x4096x2x64, .f32⟩
  | 60 => ⟨S4x4096x2x64, .f32⟩
  | 61 => ⟨S4x4096x1x2x64, .f32⟩
  | 62 => ⟨S4x4096x1x2x64, .f32⟩
  | 63 => ⟨S4x4096x1x2x64, .f32⟩
  | 64 => ⟨S4x4096x1x2x64, .f32⟩
  | 65 => ⟨S4x4096x4x2x64, .f32⟩
  | 66 => ⟨S4x4096x2x64, .f32⟩
  | 67 => ⟨S4x4096x1x2x64, .f32⟩
  | 68 => ⟨S4x4096x1x2x64, .f32⟩
  | 69 => ⟨S4x4096x2x2x64, .f32⟩
  | 70 => ⟨S_, .i32⟩
  | 71 => ⟨S_, .f32⟩
  | 72 => ⟨S4x4096x128, .f32⟩
  | 73 => ⟨S4x4096x128, .f32⟩
  | 74 => ⟨S4x4096x128, .f32⟩
  | 75 => ⟨S_, .f32⟩
  | 76 => ⟨S4x4096x128, .f32⟩
  | 77 => ⟨S4x4096x128, .f32⟩
  | 78 => ⟨S_, .f32⟩
  | 79 => ⟨S4x4096x128, .f32⟩
  | 80 => ⟨S4x4096x128, .f32⟩
  | 81 => ⟨S_, .f32⟩
  | 82 => ⟨S4x4096x8x64, .f32⟩
  | 83 => ⟨S4x4096x8x64, .f32⟩
  | 84 => ⟨S16384x512, .f32⟩
  | 85 => ⟨S16384x512, .bf16⟩
  | 86 => ⟨S_, .f32⟩
  | 87 => ⟨S4x4096x8x64, .f32⟩
  | 88 => ⟨S4x4096x8x64, .f32⟩
  | 89 => ⟨S16384x512, .f32⟩
  | 90 => ⟨S16384x512, .bf16⟩
  | 91 => ⟨S16384x512, .f32⟩
  | 92 => ⟨S16384x256, .f32⟩
  | 93 => ⟨S16384x128, .f32⟩
  | 94 => ⟨S16384x2048, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_7 : Ref sig .tc := ⟨.hbm, 90, rfl⟩
abbrev main_v77 : Ref sig .tc := ⟨.hbm, 91, rfl⟩
abbrev main_v78 : Ref sig .tc := ⟨.hbm, 92, rfl⟩
abbrev main_cst_8 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_10 : Ref sig .tc := ⟨.hbm, 107, rfl⟩
abbrev main_v91 : Ref sig .tc := ⟨.hbm, 108, rfl⟩
abbrev main_v92 : Ref sig .tc := ⟨.hbm, 109, rfl⟩
abbrev main_cst_11 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_cst_12 : Ref sig .tc := ⟨.hbm, 140, rfl⟩
abbrev main_v122 : Ref sig .tc := ⟨.hbm, 141, rfl⟩
abbrev main_v123 : Ref sig .tc := ⟨.hbm, 142, rfl⟩
abbrev main_cst_13 : Ref sig .tc := ⟨.hbm, 143, rfl⟩
abbrev main_v124 : Ref sig .tc := ⟨.hbm, 144, rfl⟩
abbrev main_v125 : Ref sig .tc := ⟨.hbm, 145, rfl⟩
abbrev main_cst_14 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_15 : Ref sig .tc := ⟨.hbm, 157, rfl⟩
abbrev main_v136 : Ref sig .tc := ⟨.hbm, 158, rfl⟩
abbrev main_v137 : Ref sig .tc := ⟨.hbm, 159, rfl⟩
abbrev main_cst_16 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_c : Ref sig .tc := ⟨.hbm, 198, rfl⟩
abbrev main_call0_v0 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_cst_17 : Ref sig .tc := ⟨.hbm, 203, rfl⟩
abbrev main_v178 : Ref sig .tc := ⟨.hbm, 204, rfl⟩
abbrev main_v179 : Ref sig .tc := ⟨.hbm, 205, rfl⟩
abbrev main_cst_18 : Ref sig .tc := ⟨.hbm, 206, rfl⟩
abbrev main_v180 : Ref sig .tc := ⟨.hbm, 207, rfl⟩
abbrev main_v181 : Ref sig .tc := ⟨.hbm, 208, rfl⟩
abbrev main_cst_19 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_cst_20 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩

abbrev nD : Nat := 1
abbrev τ : Topo := Topo.v7x

variable {F : FTy → Type} [FloatOps F]
-- ==== ProjSample.lean ====
abbrev S32x8x1024 : Shape := ⟨3, ![32, 8, 1024]⟩
abbrev S4x1024 : Shape := ⟨2, ![4, 1024]⟩
abbrev S4x1024x3352 : Shape := ⟨3, ![4, 1024, 3352]⟩
abbrev S4x64 : Shape := ⟨2, ![4, 64]⟩
abbrev S4x3x64 : Shape := ⟨3, ![4, 3, 64]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S1x1024x3352 : Shape := ⟨3, ![1, 1024, 3352]⟩
abbrev S1024x3352 : Shape := ⟨2, ![1024, 3352]⟩
abbrev S1024x24 : Shape := ⟨2, ![1024, 24]⟩
abbrev S1024x128 : Shape := ⟨2, ![1024, 128]⟩
abbrev S1024x1280 : Shape := ⟨2, ![1024, 1280]⟩
abbrev S1024x2048 : Shape := ⟨2, ![1024, 2048]⟩
abbrev S1024x3456 : Shape := ⟨2, ![1024, 3456]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S2x64 : Shape := ⟨2, ![2, 64]⟩
abbrev S128 : Shape := ⟨1, ![128]⟩
abbrev S1x128 : Shape := ⟨2, ![1, 128]⟩
abbrev S1x1x64 : Shape := ⟨3, ![1, 1, 64]⟩
abbrev S2x128 : Shape := ⟨2, ![2, 128]⟩
abbrev S256x1024 : Shape := ⟨2, ![256, 1024]⟩
abbrev S128x1 : Shape := ⟨2, ![128, 1]⟩
abbrev S128x128 : Shape := ⟨2, ![128, 128]⟩
abbrev S256x512 : Shape := ⟨2, ![256, 512]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩

abbrev nBuf : Space → Nat
  | .hbm => 97
  | .vmem => 16
  | .smem => 0
  | _ => 0

abbrev bufTy : (tb : Table) → Fin (tcTables nBuf tb) → BufTy
  | .hbm, ⟨0, _⟩ => ⟨S32x8x1024, .f32⟩
  | .hbm, ⟨1, _⟩ => ⟨S4x1024, .f32⟩
  | .hbm, ⟨2, _⟩ => ⟨S4x1024x3352, .f32⟩
  | .hbm, ⟨3, _⟩ => ⟨S4x64, .f32⟩
  | .hbm, ⟨4, _⟩ => ⟨S4x3x64, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8, .f32⟩
  | .hbm, ⟨18, _⟩ => ⟨S8x1, .f32⟩
  | .hbm, ⟨19, _⟩ => ⟨S1x32, .f32⟩
  | .hbm, ⟨20, _⟩ => ⟨S8x32, .f32⟩
  | .hbm, ⟨21, _⟩ => ⟨S8x32, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S8x64, .f32⟩
  | .hbm, ⟨26, _⟩ => ⟨S1x8x1x64, .f32⟩
  | .hbm, ⟨27, _⟩ => ⟨S1x8x2x64, .f32⟩
  | .hbm, ⟨28, _⟩ => ⟨S8x128, .f32⟩
  | .hbm, ⟨29, _⟩ => ⟨S8x32, .f32⟩
  | .hbm, ⟨30, _⟩ => ⟨S8x64, .f32⟩
  | .hbm, ⟨31, _⟩ => ⟨S1x8x1x64, .f32⟩
  | .hbm, ⟨32, _⟩ => ⟨S1x8x2x64, .f32⟩
  | .hbm, ⟨33, _⟩ => ⟨S8x128, .f32⟩
  | .hbm, ⟨34, _⟩ => ⟨S1x8x1x128, .f32⟩
  | .hbm, ⟨35, _⟩ => ⟨S32x8x1x128, .f32⟩
  | .hbm, ⟨36, _⟩ => ⟨S256x128, .f32⟩
  | .hbm, ⟨37, _⟩ => ⟨S1x8x1x128, .f32⟩
  | .hbm, ⟨38, _⟩ => ⟨S32x8x1x128, .f32⟩
  | .hbm, ⟨39, _⟩ => ⟨S256x128, .f32⟩
  | .hbm, ⟨40, _⟩ => ⟨S1x1024x3352, .f32⟩
  | .hbm, ⟨41, _⟩ => ⟨S1024x3352, .f32⟩
  | .hbm, ⟨42, _⟩ => ⟨S1024x24, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x1280, .f32⟩
  | .hbm, ⟨47, _⟩ => ⟨S1024x2048, .f32⟩
  | .hbm, ⟨48, _⟩ => ⟨S1024x3456, .f32⟩
  | .hbm, ⟨49, _⟩ => ⟨S1024x3456, .bf16⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S1x64, .f32⟩
  | .hbm, ⟨54, _⟩ => ⟨S64, .f32⟩
  | .hbm, ⟨55, _⟩ => ⟨S1x64, .f32⟩
  | .hbm, ⟨56, _⟩ => ⟨S2x64, .f32⟩
  | .hbm, ⟨57, _⟩ => ⟨S128, .f32⟩
  | .hbm, ⟨58, _⟩ => ⟨S1x128, .f32⟩
  | .hbm, ⟨59, _⟩ => ⟨S1x1x64, .f32⟩
  | .hbm, ⟨60, _⟩ => ⟨S64, .f32⟩
  | .hbm, ⟨61, _⟩ => ⟨S1x64, .f32⟩
  | .hbm, ⟨62, _⟩ => ⟨S2x64, .f32⟩
  | .hbm, ⟨63, _⟩ => ⟨S128, .f32⟩
  | .hbm, ⟨64, _⟩ => ⟨S1x128, .f32⟩
  | .hbm, ⟨65, _⟩ => ⟨S1x1x64, .f32⟩
  | .hbm, ⟨66, _⟩ => ⟨S64, .f32⟩
  | .hbm, ⟨67, _⟩ => ⟨S1x64, .f32⟩
  | .hbm, ⟨68, _⟩ => ⟨S2x64, .f32⟩
  | .hbm, ⟨69, _⟩ => ⟨S128, .f32⟩
  | .hbm, ⟨70, _⟩ => ⟨S1x128, .f32⟩
  | .hbm, ⟨71, _⟩ => ⟨S2x128, .f32⟩
  | .hbm, ⟨72, _⟩ => ⟨S256x1024, .f32⟩
  | .hbm, ⟨73, _⟩ => ⟨S_, .f32⟩
  | .hbm, ⟨74, _⟩ => ⟨S256x128, .f32⟩
  | .hbm, ⟨75, _⟩ => ⟨S128, .i32⟩
  | .hbm, ⟨76, _⟩ => ⟨S_, .i32⟩
  | .hbm, ⟨77, _⟩ => ⟨S128, .i32⟩
  | .hbm, ⟨78, _⟩ => ⟨S128, .i32⟩
  | .hbm, ⟨79, _⟩ => ⟨S128x1, .i32⟩
  | .hbm, ⟨80, _⟩ => ⟨S1x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .f32⟩
  | .hbm, ⟨85, _⟩ => ⟨S_, .f32⟩
  | .hbm, ⟨86, _⟩ => ⟨S128x128, .f32⟩
  | .hbm, ⟨87, _⟩ => ⟨S128x128, .f32⟩
  | .hbm, ⟨88, _⟩ => ⟨S128x128, .f32⟩
  | .hbm, ⟨89, _⟩ => ⟨S128x128, .bf16⟩
  | .hbm, ⟨90, _⟩ => ⟨S256x512, .bf16⟩
  | .hbm, ⟨91, _⟩ => ⟨S256x512, .bf16⟩
  | .hbm, ⟨92, _⟩ => ⟨S256x512, .f32⟩
  | .hbm, ⟨93, _⟩ => ⟨S256x256, .f32⟩
  | .hbm, ⟨94, _⟩ => ⟨S256x1024, .bf16⟩
  | .hbm, ⟨95, _⟩ => ⟨S256x128, .f32⟩
  | .hbm, ⟨96, _⟩ => ⟨S256x2048, .f32⟩
  | .local _ .vmem, ⟨0, _⟩ => ⟨S256x1024, .f32⟩
  | .local _ .vmem, ⟨1, _⟩ => ⟨S1x1024, .f32⟩
  | .local _ .vmem, ⟨2, _⟩ => ⟨S1024x3456, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S2x128, .f32⟩
  | .local _ .vmem, ⟨8, _⟩ => ⟨S128x128, .bf16⟩
  | .local _ .vmem, ⟨9, _⟩ => ⟨S256x512, .bf16⟩
  | .local _ .vmem, ⟨10, _⟩ => ⟨S256x512, .bf16⟩
  | .local _ .vmem, ⟨11, _⟩ => ⟨S256x512, .f32⟩
  | .local _ .vmem, ⟨12, _⟩ => ⟨S256x256, .f32⟩
  | .local _ .vmem, ⟨13, _⟩ => ⟨S256x1024, .bf16⟩
  | .local _ .vmem, ⟨14, _⟩ => ⟨S256x128, .f32⟩
  | .local _ .vmem, ⟨15, _⟩ => ⟨S256x2048, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_1 : Ref sig .tc := ⟨.hbm, 43, rfl⟩
abbrev main_call0_v0 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_2 : Ref sig .tc := ⟨.hbm, 73, rfl⟩
abbrev main_v63 : Ref sig .tc := ⟨.hbm, 74, rfl⟩
abbrev main_v64 : Ref sig .tc := ⟨.hbm, 75, rfl⟩
abbrev main_c_3 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_4 : Ref sig .tc := ⟨.hbm, 84, rfl⟩
abbrev main_cst_5 : Ref sig .tc := ⟨.hbm, 85, rfl⟩
abbrev main_call1_v0 : Ref sig .tc := ⟨.hbm, 86, rfl⟩
abbrev main_call1_v1 : Ref sig .tc := ⟨.hbm, 87, rfl⟩
abbrev main_v72 : Ref sig .tc := ⟨.hbm, 88, rfl⟩
abbrev main_v73 : Ref sig .tc := ⟨.hbm, 89, rfl⟩
abbrev main_v74_0 : Ref sig .tc := ⟨.hbm, 90, rfl⟩
abbrev main_v74_1 : Ref sig .tc := ⟨.hbm, 91, rfl⟩
abbrev main_v74_2 : Ref sig .tc := ⟨.hbm, 92, rfl⟩
abbrev main_v74_3 : Ref sig .tc := ⟨.hbm, 93, rfl⟩
abbrev main_v74_4 : Ref sig .tc := ⟨.hbm, 94, rfl⟩
abbrev main_v74_5 : Ref sig .tc := ⟨.hbm, 95, rfl⟩
abbrev main_v74_6 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== ProjSampleReferenceIdeal.lean ====
abbrev S32x8x1024 : Shape := ⟨3, ![32, 8, 1024]⟩
abbrev S4x1024 : Shape := ⟨2, ![4, 1024]⟩
abbrev S4x1024x3352 : Shape := ⟨3, ![4, 1024, 3352]⟩
abbrev S4x64 : Shape := ⟨2, ![4, 64]⟩
abbrev S4x3x64 : Shape := ⟨3, ![4, 3, 64]⟩
abbrev S8 : Shape := ⟨1, ![8]⟩
abbrev S_ : Shape := ⟨0, ![]⟩
abbrev S1x1024 : Shape := ⟨2, ![1, 1024]⟩
abbrev S1024 : Shape := ⟨1, ![1024]⟩
abbrev S32x8 : Shape := ⟨2, ![32, 8]⟩
abbrev S32x8x1 : Shape := ⟨3, ![32, 8, 1]⟩
abbrev S1x1x1024 : Shape := ⟨3, ![1, 1, 1024]⟩
abbrev S1x1024x3352 : Shape := ⟨3, ![1, 1024, 3352]⟩
abbrev S1024x3352 : Shape := ⟨2, ![1024, 3352]⟩
abbrev S32x8x3352 : Shape := ⟨3, ![32, 8, 3352]⟩
abbrev S32x8x512 : Shape := ⟨3, ![32, 8, 512]⟩
abbrev S32x8x128 : Shape := ⟨3, ![32, 8, 128]⟩
abbrev S32x8x24 : Shape := ⟨3, ![32, 8, 24]⟩
abbrev S32x8x2048 : Shape := ⟨3, ![32, 8, 2048]⟩
abbrev S32x8x8x64 : Shape := ⟨4, ![32, 8, 8, 64]⟩
abbrev S1x64 : Shape := ⟨2, ![1, 64]⟩
abbrev S64 : Shape := ⟨1, ![64]⟩
abbrev S32x8x8 : Shape := ⟨3, ![32, 8, 8]⟩
abbrev S32x8x8x1 : Shape := ⟨4, ![32, 8, 8, 1]⟩
abbrev S1x1x1x64 : Shape := ⟨4, ![1, 1, 1, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S32x8x8x32 : Shape := ⟨4, ![32, 8, 8, 32]⟩
abbrev S32x8x2x64 : Shape := ⟨4, ![32, 8, 2, 64]⟩
abbrev S1x1x64 : Shape := ⟨3, ![1, 1, 64]⟩
abbrev S32x8x2 : Shape := ⟨3, ![32, 8, 2]⟩
abbrev S32x8x2x1 : Shape := ⟨4, ![32, 8, 2, 1]⟩
abbrev S32x8x2x32 : Shape := ⟨4, ![32, 8, 2, 32]⟩
abbrev S32x8x1x2x64 : Shape := ⟨5, ![32, 8, 1, 2, 64]⟩
abbrev S32x8x4x2x64 : Shape := ⟨5, ![32, 8, 4, 2, 64]⟩
abbrev S32x8x2x2x64 : Shape := ⟨5, ![32, 8, 2, 2, 64]⟩
abbrev S256x512 : Shape := ⟨2, ![256, 512]⟩
abbrev S256x256 : Shape := ⟨2, ![256, 256]⟩
abbrev S256x128 : Shape := ⟨2, ![256, 128]⟩
abbrev S256x2048 : Shape := ⟨2, ![256, 2048]⟩

abbrev nBuf : Space → Nat
  | .hbm => 226
  | .vmem => 0
  | .smem => 0
  | _ => 0

abbrev hbmTy0_0 (i : Nat) : BufTy := match i % 128 with
  | 0 => ⟨S32x8x1024, .f32⟩
  | 1 => ⟨S4x1024, .f32⟩
  | 2 => ⟨S4x1024x3352, .f32⟩
  | 3 => ⟨S4x64, .f32⟩
  | 4 => ⟨S4x3x64, .f32⟩
  | 5 => ⟨S8, .i32⟩
  | 6 => ⟨S_, .i32⟩
  | 7 => ⟨S8, .i32⟩
  | 8 => ⟨S8, .i32⟩
  | 9 => ⟨S1x1024, .f32⟩
  | 10 => ⟨S1024, .f32⟩
  | 11 => ⟨S32x8x1024, .f32⟩
  | 12 => ⟨S_, .f32⟩
  | 13 => ⟨S32x8, .f32⟩
  | 14 => ⟨S32x8x1, .f32⟩
  | 15 => ⟨S_, .f32⟩
  | 16 => ⟨S32x8x1, .f32⟩
  | 17 => ⟨S32x8x1, .f32⟩
  | 18 => ⟨S_, .f32⟩
  | 19 => ⟨S32x8x1, .f32⟩
  | 20 => ⟨S32x8x1, .f32⟩
  | 21 => ⟨S32x8x1, .f32⟩
  | 22 => ⟨S32x8x1024, .f32⟩
  | 23 => ⟨S32x8x1024, .f32⟩
  | 24 => ⟨S1x1x1024, .f32⟩
  | 25 => ⟨S32x8x1024, .f32⟩
  | 26 => ⟨S32x8x1024, .f32⟩
  | 27 => ⟨S1x1024x3352, .f32⟩
  | 28 => ⟨S1024x3352, .f32⟩
  | 29 => ⟨S32x8x3352, .f32⟩
  | 30 => ⟨S32x8x512, .f32⟩
  | 31 => ⟨S32x8x128, .f32⟩
  | 32 => ⟨S32x8x128, .f32⟩
  | 33 => ⟨S32x8x128, .f32⟩
  | 34 => ⟨S32x8x128, .f32⟩
  | 35 => ⟨S32x8x128, .f32⟩
  | 36 => ⟨S32x8x128, .f32⟩
  | 37 => ⟨S32x8x24, .f32⟩
  | 38 => ⟨S32x8x2048, .f32⟩
  | 39 => ⟨S32x8x8x64, .f32⟩
  | 40 => ⟨S1x64, .f32⟩
  | 41 => ⟨S64, .f32⟩
  | 42 => ⟨S32x8x8x64, .f32⟩
  | 43 => ⟨S_, .f32⟩
  | 44 => ⟨S32x8x8, .f32⟩
  | 45 => ⟨S32x8x8x1, .f32⟩
  | 46 => ⟨S_, .f32⟩
  | 47 => ⟨S32x8x8x1, .f32⟩
  | 48 => ⟨S32x8x8x1, .f32⟩
  | 49 => ⟨S_, .f32⟩
  | 50 => ⟨S32x8x8x1, .f32⟩
  | 51 => ⟨S32x8x8x1, .f32⟩
  | 52 => ⟨S32x8x8x1, .f32⟩
  | 53 => ⟨S32x8x8x64, .f32⟩
  | 54 => ⟨S32x8x8x64, .f32⟩
  | 55 => ⟨S1x1x1x64, .f32⟩
  | 56 => ⟨S32x8x8x64, .f32⟩
  | 57 => ⟨S32x8x8x64, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S8, .f32⟩
  | 67 => ⟨S8x1, .f32⟩
  | 68 => ⟨S1x32, .f32⟩
  | 69 => ⟨S8x32, .f32⟩
  | 70 => ⟨S8x32, .f32⟩
  | 71 => ⟨S8x32, .f32⟩
  | 72 => ⟨S8x32, .f32⟩
  | 73 => ⟨S1x8x1x32, .f32⟩
  | 74 => ⟨S8x32, .f32⟩
  | 75 => ⟨S1x8x1x32, .f32⟩
  | 76 => ⟨S32x8x8x32, .f32⟩
  | 77 => ⟨S32x8x8x32, .f32⟩
  | 78 => ⟨S32x8x8x32, .f32⟩
  | 79 => ⟨S32x8x8x32, .f32⟩
  | 80 => ⟨S32x8x8x32, .f32⟩
  | 81 => ⟨S32x8x8x32, .f32⟩
  | 82 => ⟨S32x8x8x32, .f32⟩
  | 83 => ⟨S32x8x8x32, .f32⟩
  | 84 => ⟨S32x8x8x32, .f32⟩
  | 85 => ⟨S32x8x8x32, .f32⟩
  | 86 => ⟨S32x8x8x32, .f32⟩
  | 87 => ⟨S32x8x8x32, .f32⟩
  | 88 => ⟨S32x8x8x64, .f32⟩
  | 89 => ⟨S32x8x2x64, .f32⟩
  | 90 => ⟨S1x1x64, .f32⟩
  | 91 => ⟨S64, .f32⟩
  | 92 => ⟨S32x8x2x64, .f32⟩
  | 93 => ⟨S_, .f32⟩
  | 94 => ⟨S32x8x2, .f32⟩
  | 95 => ⟨S32x8x2x1, .f32⟩
  | 96 => ⟨S_, .f32⟩
  | 97 => ⟨S32x8x2x1, .f32⟩
  | 98 => ⟨S32x8x2x1, .f32⟩
  | 99 => ⟨S_, .f32⟩
  | 100 => ⟨S32x8x2x1, .f32⟩
  | 101 => ⟨S32x8x2x1, .f32⟩
  | 102 => ⟨S32x8x2x1, .f32⟩
  | 103 => ⟨S32x8x2x64, .f32⟩
  | 104 => ⟨S32x8x2x64, .f32⟩
  | 105 => ⟨S1x1x1x64, .f32⟩
  | 106 => ⟨S32x8x2x64, .f32⟩
  | 107 => ⟨S32x8x2x64, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S8, .f32⟩
  | 117 => ⟨S8x1, .f32⟩
  | 118 => ⟨S1x32, .f32⟩
  | 119 => ⟨S8x32, .f32⟩
  | 120 => ⟨S8x32, .f32⟩
  | 121 => ⟨S8x32, .f32⟩
  | 122 => ⟨S8x32, .f32⟩
  | 123 => ⟨S1x8x1x32, .f32⟩
  | 124 => ⟨S8x32, .f32⟩
  | 125 => ⟨S1x8x1x32, .f32⟩
  | 126 => ⟨S32x8x2x32, .f32⟩
  | 127 => ⟨S32x8x2x32, .f32⟩
  | _ => ⟨S32x8x1024, .f32⟩

abbrev hbmTy0_1 (i : Nat) : BufTy := match i % 128 with
  | 0 => ⟨S32x8x2x32, .f32⟩
  | 1 => ⟨S32x8x2x32, .f32⟩
  | 2 => ⟨S32x8x2x32, .f32⟩
  | 3 => ⟨S32x8x2x32, .f32⟩
  | 4 => ⟨S32x8x2x32, .f32⟩
  | 5 => ⟨S32x8x2x32, .f32⟩
  | 6 => ⟨S32x8x2x32, .f32⟩
  | 7 => ⟨S32x8x2x32, .f32⟩
  | 8 => ⟨S32x8x2x32, .f32⟩
  | 9 => ⟨S32x8x2x32, .f32⟩
  | 10 => ⟨S32x8x2x64, .f32⟩
  | 11 => ⟨S32x8x2x64, .f32⟩
  | 12 => ⟨S1x1x64, .f32⟩
  | 13 => ⟨S64, .f32⟩
  | 14 => ⟨S32x8x2x64, .f32⟩
  | 15 => ⟨S_, .f32⟩
  | 16 => ⟨S32x8x2, .f32⟩
  | 17 => ⟨S32x8x2x1, .f32⟩
  | 18 => ⟨S_, .f32⟩
  | 19 => ⟨S32x8x2x1, .f32⟩
  | 20 => ⟨S32x8x2x1, .f32⟩
  | 21 => ⟨S_, .f32⟩
  | 22 => ⟨S32x8x2x1, .f32⟩
  | 23 => ⟨S32x8x2x1, .f32⟩
  | 24 => ⟨S32x8x2x1, .f32⟩
  | 25 => ⟨S32x8x2x64, .f32⟩
  | 26 => ⟨S32x8x2x64, .f32⟩
  | 27 => ⟨S1x1x1x64, .f32⟩
  | 28 => ⟨S32x8x2x64, .f32⟩
  | 29 => ⟨S32x8x2x64, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S8, .f32⟩
  | 39 => ⟨S8x1, .f32⟩
  | 40 => ⟨S1x32, .f32⟩
  | 41 => ⟨S8x32, .f32⟩
  | 42 => ⟨S8x32, .f32⟩
  | 43 => ⟨S8x32, .f32⟩
  | 44 => ⟨S8x32, .f32⟩
  | 45 => ⟨S1x8x1x32, .f32⟩
  | 46 => ⟨S8x32, .f32⟩
  | 47 => ⟨S1x8x1x32, .f32⟩
  | 48 => ⟨S32x8x2x32, .f32⟩
  | 49 => ⟨S32x8x2x32, .f32⟩
  | 50 => ⟨S32x8x2x32, .f32⟩
  | 51 => ⟨S32x8x2x32, .f32⟩
  | 52 => ⟨S32x8x2x32, .f32⟩
  | 53 => ⟨S32x8x2x32, .f32⟩
  | 54 => ⟨S32x8x2x32, .f32⟩
  | 55 => ⟨S32x8x2x32, .f32⟩
  | 56 => ⟨S32x8x2x32, .f32⟩
  | 57 => ⟨S32x8x2x32, .f32⟩
  | 58 => ⟨S32x8x2x32, .f32⟩
  | 59 => ⟨S32x8x2x32, .f32⟩
  | 60 => ⟨S32x8x2x64, .f32⟩
  | 61 => ⟨S32x8x2x64, .f32⟩
  | 62 => ⟨S32x8x2x64, .f32⟩
  | 63 => ⟨S32x8x2x64, .f32⟩
  | 64 => ⟨S32x8x1x2x64, .f32⟩
  | 65 => ⟨S32x8x1x2x64, .f32⟩
  | 66 => ⟨S32x8x1x2x64, .f32⟩
  | 67 => ⟨S32x8x1x2x64, .f32⟩
  | 68 => ⟨S32x8x4x2x64, .f32⟩
  | 69 => ⟨S32x8x2x64, .f32⟩
  | 70 => ⟨S32x8x1x2x64, .f32⟩
  | 71 => ⟨S32x8x1x2x64, .f32⟩
  | 72 => ⟨S32x8x2x2x64, .f32⟩
  | 73 => ⟨S_, .i32⟩
  | 74 => ⟨S_, .f32⟩
  | 75 => ⟨S32x8x128, .f32⟩
  | 76 => ⟨S32x8x128, .f32⟩
  | 77 => ⟨S32x8x128, .f32⟩
  | 78 => ⟨S_, .f32⟩
  | 79 => ⟨S32x8x128, .f32⟩
  | 80 => ⟨S32x8x128, .f32⟩
  | 81 => ⟨S_, .f32⟩
  | 82 => ⟨S32x8x128, .f32⟩
  | 83 => ⟨S32x8x128, .f32⟩
  | 84 => ⟨S_, .f32⟩
  | 85 => ⟨S32x8x8x64, .f32⟩
  | 86 => ⟨S32x8x8x64, .f32⟩
  | 87 => ⟨S256x512, .f32⟩
  | 88 => ⟨S256x512, .bf16⟩
  | 89 => ⟨S_, .f32⟩
  | 90 => ⟨S32x8x8x64, .f32⟩
  | 91 => ⟨S32x8x8x64, .f32⟩
  | 92 => ⟨S256x512, .f32⟩
  | 93 => ⟨S256x512, .bf16⟩
  | 94 => ⟨S256x512, .f32⟩
  | 95 => ⟨S256x256, .f32⟩
  | 96 => ⟨S256x128, .f32⟩
  | 97 => ⟨S256x2048, .f32⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_7 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_cst_9 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_10 : Ref sig .tc := ⟨.hbm, 110, rfl⟩
abbrev main_v93 : Ref sig .tc := ⟨.hbm, 111, rfl⟩
abbrev main_v94 : Ref sig .tc := ⟨.hbm, 112, rfl⟩
abbrev main_cst_11 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_cst_12 : Ref sig .tc := ⟨.hbm, 143, rfl⟩
abbrev main_v124 : Ref sig .tc := ⟨.hbm, 144, rfl⟩
abbrev main_v125 : Ref sig .tc := ⟨.hbm, 145, rfl⟩
abbrev main_cst_13 : Ref sig .tc := ⟨.hbm, 146, rfl⟩
abbrev main_v126 : Ref sig .tc := ⟨.hbm, 147, rfl⟩
abbrev main_v127 : Ref sig .tc := ⟨.hbm, 148, rfl⟩
abbrev main_cst_14 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_cst_15 : Ref sig .tc := ⟨.hbm, 160, rfl⟩
abbrev main_v138 : Ref sig .tc := ⟨.hbm, 161, rfl⟩
abbrev main_v139 : Ref sig .tc := ⟨.hbm, 162, rfl⟩
abbrev main_cst_16 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_c_17 : Ref sig .tc := ⟨.hbm, 201, rfl⟩
abbrev main_call0_v0 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_cst_18 : Ref sig .tc := ⟨.hbm, 206, rfl⟩
abbrev main_v180 : Ref sig .tc := ⟨.hbm, 207, rfl⟩
abbrev main_v181 : Ref sig .tc := ⟨.hbm, 208, rfl⟩
abbrev main_cst_19 : Ref sig .tc := ⟨.hbm, 209, rfl⟩
abbrev main_v182 : Ref sig .tc := ⟨.hbm, 210, rfl⟩
abbrev main_v183 : Ref sig .tc := ⟨.hbm, 211, rfl⟩
abbrev main_cst_20 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_cst_21 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩

abbrev nD : Nat := 1
abbrev τ : Topo := Topo.v7x

variable {F : FTy → Type} [FloatOps F]
-- ==== Proof.HgTile.lean ====
module

public import proofs.«01_k».proof.Proof.Gen.KernelIdeal.Skeleton

/-! One tile of the recurrence for one (batch, head): 128 positions of queries `q`, gate inputs `f`, values `v` and
    output gates `g`, the head's row of lower bounds `lb`, the output gain `w` and the carried state `st` (stored
    transposed, value coordinate first). `tileState` is the state after the tile, `tileOut` the tile of results: the
    kernel's stored values for one copy of its unrolled body, as functions of what that copy reads. -/

@[expose] public section

set_option maxRecDepth 16384

noncomputable section

namespace Cert.KernelIdeal.HG

open Cert.KernelIdeal Cert.KernelIdeal.Gen Idealize.ShloMosaic Idealize.ShloMosaic.TcCoe

variable {F : FTy → Type} [FloatOps F]

/-- The row number, and the column number, at each place of a 128 by 128 tile. -/
def rowNo : IVec S128x128 32 := iota .tc S128x128 32 [0] iota_S128x128_d0_w32
def colNo : IVec S128x128 32 := iota .tc S128x128 32 [1] iota_S128x128_d1_w32
/-- The row number within its chunk of 32, and the causal mask within chunks. -/
def rowIn : IVec S128x128 32 := k0_pay38
def causal : IVec S128x128 1 := k0_pay41 colNo rowNo k0_pay39 k0_pay40

def tB (f : Vec F S128x128 .f32) (lb : Vec F S1x128 .f32) : FVec F S128x128 .f32 := k0_pay48 rowIn (k0_pay45 f lb)
def tQE (q f : Vec F S128x128 .f32) (lb : Vec F S1x128 .f32) : FVec F S128x128 .bf16 :=
  k0_pay49 rowIn (k0_pay45 f lb) (k0_pay47 q)
def tAV (q f v : Vec F S128x128 .f32) (lb : Vec F S1x128 .f32) : FVec F S128x128 .f32 :=
  k0_pay52 (k0_pay50 v) (k0_pay51 rowIn causal (k0_pay45 f lb) (k0_pay46 f lb) (k0_pay47 q))
def tKD (f : Vec F S128x128 .f32) (lb : Vec F S1x128 .f32) : FVec F S128x128 .bf16 :=
  k0_pay58 rowNo (k0_pay46 f lb) (tB f lb)
/-- The state after the first chunk. -/
def tS1 (f v : Vec F S128x128 .f32) (lb : Vec F S1x128 .f32) (st : Vec F S1x128x128 .f32) : FVec F S128x128 .f32 :=
  k0_pay63 colNo (k0_pay53 v) (k0_pay54 (tB f lb)) (tKD f lb) (k0_pay59 st) 32#32 (k0_pay61 colNo) (k0_pay62 colNo) 1#32
/-- The decayed state, and the update, of the third chunk. -/
def tS3a (f v : Vec F S128x128 .f32) (lb : Vec F S1x128 .f32) (st : Vec F S1x128x128 .f32) : FVec F S128x128 .f32 :=
  k0_pay68 (k0_pay53 v) (k0_pay55 (tB f lb)) (k0_pay56 (tB f lb)) (tKD f lb) (tS1 f v lb st) (k0_pay65 colNo)
def tS3b (f v : Vec F S128x128 .f32) (lb : Vec F S1x128 .f32) : FVec F S128x128 .f32 :=
  k0_pay69 colNo (k0_pay53 v) (tKD f lb)
/-- The state after the tile. -/
def tileState (f v : Vec F S128x128 .f32) (lb : Vec F S1x128 .f32) (st : Vec F S1x128x128 .f32) : FVec F S1x128x128 .f32 :=
  k0_pay71 colNo (k0_pay53 v) (k0_pay57 (tB f lb)) (tKD f lb) (tS3a f v lb st) (tS3b f v lb)
/-- The tile of unnormalised results. -/
def tO (q f v : Vec F S128x128 .f32) (lb : Vec F S1x128 .f32) (st : Vec F S1x128x128 .f32) : FVec F S128x128 .f32 :=
  k0_pay72 (tQE q f lb) (tAV q f v lb) (k0_pay60 (tQE q f lb) st)
    (k0_pay64 colNo (tQE q f lb) (k0_pay53 v) (k0_pay54 (tB f lb)) (tKD f lb) (k0_pay59 st) 32#32 (k0_pay61 colNo) (k0_pay62 colNo) 1#32)
    (k0_pay67 (tQE q f lb) (k0_pay53 v) (k0_pay55 (tB f lb)) (tKD f lb) (tS1 f v lb st) (k0_pay65 colNo))
    (tS3a f v lb st) (tS3b f v lb)
/-- The tile of results. -/
def tileOut (q f v g : Vec F S128x128 .f32) (lb w : Vec F S1x128 .f32) (st : Vec F S1x128x128 .f32) : Vec F S1x128x128 .bf16 :=
  k0_pay74 g (tO q f v lb st) (mulf (tO q f v lb st) (tO q f v lb st)) w

end Cert.KernelIdeal.HG

end
-- ==== Proof.HgBody.lean ====
module

public import proofs.«01_k».proof.Proof.Gen.KernelIdeal.Value
public import proofs.«01_k».proof.Proof.HgTile
public import Idealize.ShloMosaic.Lib.ValueIdxCore

/-! What one grid point of the recurrence kernel leaves in its buffers. The block holds four batches of 128 positions by
    2048 columns (queries, gate inputs, values, output gates, 512 each, four heads of 128); the scratch holds the sixteen
    transposed states. Each of the sixteen copies of the body is `tileOut` / `tileState` of its own strips. -/

@[expose] public section

set_option maxRecDepth 16384

noncomputable section

namespace Cert.KernelIdeal.HG

open Cert.KernelIdeal Cert.KernelIdeal.Gen Idealize.ShloMosaic Idealize.ShloMosaic.TcCoe Idealize.ShloMosaic.ValueIdx Idealize.SL.Sem

variable {F : FTy → Type} [FloatOps F]

/-- The 128 columns from `o` on of batch `b`'s rows. -/
def strip (x0 : Vec F S4x128x2048 .f32) (b o : ℕ) : Vec F S128x128 .f32 := fun y =>
  x0 (ix3 (⟨b % 4, Nat.mod_lt _ (by decide)⟩ : Fin 4) (y 0) (⟨(o + (y 1).val) % 2048, Nat.mod_lt _ (by decide)⟩ : Fin 2048))
/-- The 128 lower bounds from `o` on. -/
def lbRow (x1 : Vec F S1x512 .f32) (o : ℕ) : Vec F S1x128 .f32 := fun y =>
  x1 (ix2 (⟨0, by decide⟩ : Fin 1) (⟨(o + (y 1).val) % 512, Nat.mod_lt _ (by decide)⟩ : Fin 512))
/-- The `k`-th of the sixteen states. -/
def slab (xs : Vec F S16x128x128 .f32) (k : ℕ) : Vec F S1x128x128 .f32 := fun y =>
  xs (ix3 (⟨k % 16, Nat.mod_lt _ (by decide)⟩ : Fin 16) (y 1) (y 2))

/-- The block of results over the states `xs` carried in. -/
def outBlk (x0 : Vec F S4x128x2048 .f32) (x1 : Vec F S1x512 .f32) (x2 : Vec F S1x128 .f32) (xs : Vec F S16x128x128 .f32) :
    Vec F S4x128x512 .bf16 := fun y =>
  tileOut (strip x0 (y 0).val (128 * ((y 2).val / 128))) (strip x0 (y 0).val (512 + 128 * ((y 2).val / 128)))
    (strip x0 (y 0).val (1024 + 128 * ((y 2).val / 128))) (strip x0 (y 0).val (1536 + 128 * ((y 2).val / 128)))
    (lbRow x1 (128 * ((y 2).val / 128))) x2 (slab xs (4 * (y 0).val + (y 2).val / 128))
    (ix3 (⟨0, by decide⟩ : Fin 1) (y 1) (⟨(y 2).val % 128, Nat.mod_lt _ (by decide)⟩ : Fin 128))
/-- The sixteen states carried out. -/
def stBlk (x0 : Vec F S4x128x2048 .f32) (x1 : Vec F S1x512 .f32) (xs : Vec F S16x128x128 .f32) : Vec F S16x128x128 .f32 := fun y =>
  tileState (strip x0 ((y 0).val / 4) (512 + 128 * ((y 0).val % 4))) (strip x0 ((y 0).val / 4) (1024 + 128 * ((y 0).val % 4)))
    (lbRow x1 (128 * ((y 0).val % 4))) (slab xs (y 0).val)
    (ix3 (⟨0, by decide⟩ : Fin 1) (y 1) (y 2))
/-- The sixteen states as the first point lays them in the scratch: each transposed. -/
def initBlk (x3 : Vec F S4x4x128x128 .f32) : Vec F S16x128x128 .f32 := fun y =>
  x3 (ix4 (⟨(y 0).val / 4, by have h : (y 0).val < 16 := (y 0).isLt; omega⟩ : Fin 4) (⟨(y 0).val % 4, Nat.mod_lt _ (by decide)⟩ : Fin 4) (y 2) (y 1))
/-- The final states written out: each transposed back. -/
def finBlk (xs : Vec F S16x128x128 .f32) : Vec F S4x4x128x128 .f32 := fun y =>
  xs (ix3 (⟨4 * (y 0).val + (y 1).val, by have h : (y 0).val < 4 := (y 0).isLt; have h' : (y 1).val < 4 := (y 1).isLt; omega⟩ : Fin 16) (y 3) (y 2))

/-! ## The reads -/

theorem strip_read (a : Memref sig .tc .vmem S4x128x2048 .f32) (ha : a.IsWhole) (x0 : Vec F S4x128x2048 .f32) (b o : ℕ) (h1) (h2) (h3) (h4) (h5)
    (h6 : (Rect.unit (s := S128x2048) ![0, o] ![128, 128] h2).toLoadRect.shape.numel = _) :
    LoadRect.valAlong h6 (View.readAt (Elt F) a.view
      ((Rect.unit (s := S4x128x2048) ![b, 0, 0] ![1, 128, 2048] h1).withinL
        ((Rect.unit (s := S128x2048) ![0, o] ![128, 128] h2).toLoadRect.consLift ![1, 128, 2048] h3 h4) h5)
      (ha.unread x0)) = strip x0 b o := by
  have hb := h1 0
  have ho := h2 1
  have hb' : b + 1 ≤ 4 := hb
  have ho' : o + 128 ≤ 2048 := ho
  funext y
  have hy : (y 1).val < 128 := (y 1).isLt
  show View.read (Elt F) a.view (ha.unread x0) _ = _
  rw [ha.read_unread]
  show x0 _ = x0 _
  congr 1
  have e := Shape.reshapeEquiv_cons_one (d := ![128, 128]) h6 y
  refine (congrArg (fun z => LoadRect.idx _ z) e).trans ?_
  funext k
  apply Fin.ext
  match k with
  | ⟨0, _⟩ => show (b + 0) + 1 * 0 = b % 4; omega
  | ⟨1, _⟩ => show (0 + 0) + 1 * (y 0).val = (y 0).val; omega
  | ⟨2, _⟩ => show (0 + o) + 1 * (y 1).val = (o + (y 1).val) % 2048; omega

theorem lbRow_read (a : Memref sig .tc .vmem S1x512 .f32) (ha : a.IsWhole) (x1 : Vec F S1x512 .f32) (o : ℕ) (h) :
    View.readAt (Elt F) a.view (Rect.unit (s := S1x512) ![0, o] ![1, 128] h).toLoadRect (ha.unread x1) = lbRow x1 o := by
  have ho : o + 128 ≤ 512 := h 1
  funext y
  have hy : (y 1).val < 128 := (y 1).isLt
  have hy' : (y 0).val < 1 := (y 0).isLt
  show View.read (Elt F) a.view (ha.unread x1) _ = _
  rw [ha.read_unread]
  show x1 _ = x1 _
  congr 1
  funext k
  apply Fin.ext
  match k with
  | ⟨0, _⟩ => show 0 + 1 * (y 0).val = 0; omega
  | ⟨1, _⟩ => show o + 1 * (y 1).val = (o + (y 1).val) % 512; omega

theorem gain_read (a : Memref sig .tc .vmem S1x128 .f32) (ha : a.IsWhole) (x2 : Vec F S1x128 .f32) (h) :
    View.readAt (Elt F) a.view (Rect.unit (s := S1x128) ![0, 0] ![1, 128] h).toLoadRect (ha.unread x2) = x2 := by
  funext y
  show View.read (Elt F) a.view (ha.unread x2) _ = _
  rw [ha.read_unread]
  congr 1
  funext k
  apply Fin.ext
  match k with
  | ⟨0, _⟩ => show 0 + 1 * (y 0).val = (y 0).val; omega
  | ⟨1, _⟩ => show 0 + 1 * (y 1).val = (y 1).val; omega

theorem slab_read (a : Memref sig .tc .vmem S16x128x128 .f32) (ha : a.IsWhole) (xs : Vec F S16x128x128 .f32) (k : ℕ) (h) :
    View.readAt (Elt F) a.view (Rect.unit (s := S16x128x128) ![k, 0, 0] ![1, 128, 128] h).toLoadRect (ha.unread xs) = slab xs k := by
  have hk : k + 1 ≤ 16 := h 0
  funext y
  have hy' : (y 0).val < 1 := (y 0).isLt
  show View.read (Elt F) a.view (ha.unread xs) _ = _
  rw [ha.read_unread]
  show xs _ = xs _
  congr 1
  funext k'
  apply Fin.ext
  match k' with
  | ⟨0, _⟩ => show k + 1 * (y 0).val = k % 16; omega
  | ⟨1, _⟩ => show 0 + 1 * (y 1).val = (y 1).val; omega
  | ⟨2, _⟩ => show 0 + 1 * (y 2).val = (y 2).val; omega

/-! ## One copy's places -/

theorem outBlk_emb (x0 : Vec F S4x128x2048 .f32) (x1 : Vec F S1x512 .f32) (x2 : Vec F S1x128 .f32) (xs : Vec F S16x128x128 .f32)
    (b o o1 o2 o3 k : ℕ) (h) (j : (Rect.unit (s := S4x128x512) ![b, 0, o] ![1, 128, 128] h).shape.Idx)
    (ho : o % 128 = 0) (e1 : o1 = 512 + o) (e2 : o2 = 1024 + o) (e3 : o3 = 1536 + o) (ek : k = 4 * b + o / 128) :
    outBlk x0 x1 x2 xs ((Rect.unit (s := S4x128x512) ![b, 0, o] ![1, 128, 128] h).emb j)
      = tileOut (strip x0 b o) (strip x0 b o1) (strip x0 b o2) (strip x0 b o3) (lbRow x1 o) x2 (slab xs k) j := by
  subst e1 e2 e3 ek
  have hj0 : (j 0).val < 1 := (j 0).isLt
  have hj2 : (j 2).val < 128 := (j 2).isLt
  have c0 : ((Rect.unit (s := S4x128x512) ![b, 0, o] ![1, 128, 128] h).emb j 0).val = b := by
    show b + 1 * (j 0).val = b; omega
  have c1 : ((Rect.unit (s := S4x128x512) ![b, 0, o] ![1, 128, 128] h).emb j 1).val = (j 1).val := by
    show 0 + 1 * (j 1).val = (j 1).val; omega
  have c2 : ((Rect.unit (s := S4x128x512) ![b, 0, o] ![1, 128, 128] h).emb j 2).val = o + (j 2).val := by
    show o + 1 * (j 2).val = o + (j 2).val; omega
  unfold outBlk
  have d : ((Rect.unit (s := S4x128x512) ![b, 0, o] ![1, 128, 128] h).emb j 2).val / 128 = o / 128 := by rw [c2]; omega
  have d' : 128 * (o / 128) = o := by omega
  rw [c0, d, d']
  congr 1
  funext a
  apply Fin.ext
  match a with
  | ⟨0, _⟩ => show 0 = (j 0).val; omega
  | ⟨1, _⟩ => exact c1
  | ⟨2, _⟩ => show (_ % 128 : ℕ) = (j 2).val; rw [c2]; omega

theorem stBlk_emb (x0 : Vec F S4x128x2048 .f32) (x1 : Vec F S1x512 .f32) (xs : Vec F S16x128x128 .f32)
    (b o o1 o2 k : ℕ) (h) (j : (Rect.unit (s := S16x128x128) ![k, 0, 0] ![1, 128, 128] h).shape.Idx)
    (eo : o = 128 * (k % 4)) (e1 : o1 = 512 + o) (e2 : o2 = 1024 + o) (eb : b = k / 4) :
    stBlk x0 x1 xs ((Rect.unit (s := S16x128x128) ![k, 0, 0] ![1, 128, 128] h).emb j)
      = tileState (strip x0 b o1) (strip x0 b o2) (lbRow x1 o) (slab xs k) j := by
  subst eo e1 e2 eb
  have hj0 : (j 0).val < 1 := (j 0).isLt
  have c0 : ((Rect.unit (s := S16x128x128) ![k, 0, 0] ![1, 128, 128] h).emb j 0).val = k := by
    show k + 1 * (j 0).val = k; omega
  unfold stBlk
  rw [c0]
  congr 1
  funext a
  apply Fin.ext
  match a with
  | ⟨0, _⟩ => show 0 = (j 0).val; omega
  | ⟨1, _⟩ => show 0 + 1 * (j 1).val = (j 1).val; omega
  | ⟨2, _⟩ => show 0 + 1 * (j 2).val = (j 2).val; omega

theorem tileOut_eqs {q q' f f' v v' g g' : Vec F S128x128 .f32} {lb lb' w w' : Vec F S1x128 .f32} {st st' : Vec F S1x128x128 .f32}
    (hq : q = q') (hf : f = f') (hv : v = v') (hg : g = g') (hl : lb = lb') (hw : w = w') (hs : st = st') :
    tileOut q f v g lb w st = tileOut q' f' v' g' lb' w' st' := by
  subst hq hf hv hg hl hw hs; rfl
theorem tileState_eqs {f f' v v' : Vec F S128x128 .f32} {lb lb' : Vec F S1x128 .f32} {st st' : Vec F S1x128x128 .f32}
    (hf : f = f') (hv : v = v') (hl : lb = lb') (hs : st = st') :
    tileState f v lb st = tileState f' v' lb' st' := by
  subst hf hv hl hs; rfl

/-- The transposed state laid in the scratch, and its transpose written out. -/
theorem initPay (a : Memref sig .tc .vmem S4x4x128x128 .f32) (ha : a.IsWhole) (x3 : Vec F S4x4x128x128 .f32) (b h k : ℕ) (hh) (hk : k = 4 * b + h) :
    k0_pay6 (View.readAt (Elt F) a.view (Rect.unit (s := S4x4x128x128) ![b, h, 0, 0] ![1, 1, 128, 128] hh).toLoadRect (ha.unread x3))
      = slab (initBlk x3) k := by
  have hb : b + 1 ≤ 4 := hh 0
  have hh' : h + 1 ≤ 4 := hh 1
  subst hk
  funext y
  have hy : (y 0).val < 1 := (y 0).isLt
  unfold k0_pay6
  dsimp only
  rw [shapeCast_apply _ _ y (ix2 (y 1) (y 2) : S128x128.Idx) (by
    rw [Shape.rowMajor_val_two, Shape.rowMajor_val_three]
    show (y 1).val * 128 + (y 2).val = ((y 0).val * 128 + (y 1).val) * 128 + (y 2).val
    omega)]
  rw [show ∀ (w : FVec F S128x128 .f32), transpose S128x128 [1, 0] w transposes_S128x128_p1_0_S128x128 (ix2 (y 1) (y 2) : S128x128.Idx)
    = w (ix2 (y 2) (y 1)) from fun w => congrArg w (by funext a; match a with | ⟨0, _⟩ => rfl | ⟨1, _⟩ => rfl)]
  rw [shapeCast_apply _ _ _ (ix4 (⟨0, by decide⟩ : Fin 1) (⟨0, by decide⟩ : Fin 1) (y 2) (y 1) : S1x1x128x128.Idx) (by
    rw [Shape.rowMajor_val_four, Shape.rowMajor_val_two]
    show ((0 * 1 + 0) * 128 + (y 2).val) * 128 + (y 1).val = (y 2).val * 128 + (y 1).val
    omega)]
  show View.read (Elt F) a.view (ha.unread x3) _ = _
  rw [ha.read_unread]
  show x3 _ = x3 _
  congr 1
  funext q
  apply Fin.ext
  match q with
  | ⟨0, _⟩ => show b + 1 * 0 = (4 * b + h) % 16 / 4; omega
  | ⟨1, _⟩ => show h + 1 * 0 = (4 * b + h) % 16 % 4; omega
  | ⟨2, _⟩ => show 0 + 1 * (y 2).val = (y 2).val; omega
  | ⟨3, _⟩ => show 0 + 1 * (y 1).val = (y 1).val; omega

theorem finPay (xs : Vec F S16x128x128 .f32) (b h k : ℕ) (hh) (hk : k = 4 * b + h) (st : Vec F S1x128x128 .f32) (hst : st = slab xs k)
    (j : (Rect.unit (s := S4x4x128x128) ![b, h, 0, 0] ![1, 1, 128, 128] hh).shape.Idx) :
    k0_pay20 st j = finBlk xs ((Rect.unit (s := S4x4x128x128) ![b, h, 0, 0] ![1, 1, 128, 128] hh).emb j) := by
  have hb : b + 1 ≤ 4 := hh 0
  have hh' : h + 1 ≤ 4 := hh 1
  subst hk hst
  have hj0 : (j 0).val < 1 := (j 0).isLt
  have hj1 : (j 1).val < 1 := (j 1).isLt
  unfold k0_pay20
  dsimp only
  have e1 : ∀ (w : FVec F S128x128 .f32), shapeCast S1x1x128x128 w shapeCasts_S128x128_S1x1x128x128 (j : S1x1x128x128.Idx) = w (ix2 (j 2) (j 3)) := fun w =>
    shapeCast_apply _ _ _ (ix2 (j 2) (j 3) : S128x128.Idx) (by
    rw [Shape.rowMajor_val_four, Shape.rowMajor_val_two]
    show (j 2).val * 128 + (j 3).val = (((j 0).val * 1 + (j 1).val) * 128 + (j 2).val) * 128 + (j 3).val
    omega)
  refine (e1 _).trans ?_
  rw [show ∀ (w : FVec F S128x128 .f32), transpose S128x128 [1, 0] w transposes_S128x128_p1_0_S128x128 (ix2 (j 2) (j 3) : S128x128.Idx)
    = w (ix2 (j 3) (j 2)) from fun w => congrArg w (by funext a; match a with | ⟨0, _⟩ => rfl | ⟨1, _⟩ => rfl)]
  rw [shapeCast_apply _ _ _ (ix3 (⟨0, by decide⟩ : Fin 1) (j 3) (j 2) : S1x128x128.Idx) (by
    rw [Shape.rowMajor_val_three, Shape.rowMajor_val_two]
    show (0 * 128 + (j 3).val) * 128 + (j 2).val = (j 3).val * 128 + (j 2).val
    omega)]
  show xs _ = xs _
  congr 1
  funext q
  apply Fin.ext
  match q with
  | ⟨0, _⟩ => show (4 * b + h) % 16 = 4 * (b + 1 * (j 0).val) + (h + 1 * (j 1).val); omega
  | ⟨1, _⟩ => show (j 3).val = 0 + 1 * (j 3).val; omega
  | ⟨2, _⟩ => show (j 2).val = 0 + 1 * (j 2).val; omega

/-- A box of the scratch read back from pieces that leave `xs`. -/
theorem slab_canon [∀ e, Nonempty (Elt F e)] (a : Memref sig .tc .vmem S16x128x128 .f32) (L : List (View.Piece (Elt F) S16x128x128 .f32)) (xs : Vec F S16x128x128 .f32)
    (hL : View.canon L = xs) (k : ℕ) (h) :
    a.view.readCov L (Rect.unit (s := S16x128x128) ![k, 0, 0] ![1, 128, 128] h).toLoadRect = slab xs k := by
  have hk : k + 1 ≤ 16 := h 0
  subst hL
  rw [View.readCov_eq_canon']
  funext y
  have hy' : (y 0).val < 1 := (y 0).isLt
  show View.canon L _ = View.canon L _
  congr 1
  funext k'
  apply Fin.ext
  match k' with
  | ⟨0, _⟩ => show k + 1 * (y 0).val = k % 16; omega
  | ⟨1, _⟩ => show 0 + 1 * (y 1).val = (y 1).val; omega
  | ⟨2, _⟩ => show 0 + 1 * (y 2).val = (y 2).val; omega

/-! ## A middle point -/

section
variable [∀ e, Nonempty (Elt F e)] (c : Dev nD) (i : grid0.Coords) (arg2 : Memref sig .tc .vmem S4x128x2048 .f32) (harg2 : arg2.IsWhole) (arg3 : Memref sig .tc .vmem S1x512 .f32) (harg3 : arg3.IsWhole) (arg4 : Memref sig .tc .vmem S1x128 .f32) (harg4 : arg4.IsWhole) (arg5 : Memref sig .tc .vmem S4x4x128x128 .f32) (harg5 : arg5.IsWhole) (arg6 : Memref sig .tc .vmem S4x128x512 .bf16) (harg6 : arg6.IsWhole) (arg7 : Memref sig .tc .vmem S4x4x128x128 .f32) (harg7 : arg7.IsWhole) (arg8 : Memref sig .tc .vmem S16x128x128 .f32) (harg8 : arg8.IsWhole)
    (x0 : Vec F S4x128x2048 .f32) (x1 : Vec F S1x512 .f32) (x2 : Vec F S1x128 .f32) (x3 : Vec F S4x4x128x128 .f32) (xs0 : Vec F S16x128x128 .f32)

theorem outB (hc0) (hc1) :
    out0_B_4 c i arg2 harg2 arg3 harg3 arg4 harg4 arg5 harg5 arg6 harg6 arg7 harg7 arg8 harg8 hc0 hc1 x0 x1 x2 x3 xs0 = outBlk x0 x1 x2 xs0 := by
  funext y
  unfold out0_B_4
  rw [View.read_writes_eq_canon _ _ _ (cover0_B_4 c i arg2 harg2 arg3 harg3 arg4 harg4 arg5 harg5 arg6 harg6 arg7 harg7 arg8 harg8 hc0 hc1 x0 x1 x2 x3 xs0)]
  refine View.canon_apply_of_pieces (outBlk x0 x1 x2 xs0) _ (fun p hp j => ?_) y (cover0_B_4 c i arg2 harg2 arg3 harg3 arg4 harg4 arg5 harg5 arg6 harg6 arg7 harg7 arg8 harg8 hc0 hc1 x0 x1 x2 x3 xs0 y)
  revert p
  unfold kernelRun0_B
  dsimp only
  sl_unfold_run_names
  simp only [List.forall_mem_cons]
  refine ⟨?_, ?_, ?_, ?_, ?_, ?_, ?_, ?_, ?_, ?_, ?_, ?_, ?_, ?_, ?_, ?_, fun p hp => absurd hp List.not_mem_nil⟩
  all_goals
    intro j
    change tileOut _ _ _ _ _ _ _ j = _
    refine (congrFun (tileOut_eqs (strip_read arg2 harg2 x0 _ _ _ _ _ _ _ _) (strip_read arg2 harg2 x0 _ _ _ _ _ _ _ _)
      (strip_read arg2 harg2 x0 _ _ _ _ _ _ _ _) (strip_read arg2 harg2 x0 _ _ _ _ _ _ _ _) (lbRow_read arg3 harg3 x1 _ _)
      (gain_read arg4 harg4 x2 _) (slab_read arg8 harg8 xs0 _ _)) j).trans ?_
    exact (outBlk_emb x0 x1 x2 xs0 _ _ _ _ _ _ _ j rfl rfl rfl rfl rfl).symm

theorem stB (hc0) (hc1) :
    sout0_B_0 c i arg2 harg2 arg3 harg3 arg4 harg4 arg5 harg5 arg6 harg6 arg7 harg7 arg8 harg8 hc0 hc1 x0 x1 x2 x3 xs0 = stBlk x0 x1 xs0 := by
  funext y
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  refine View.canon_apply_of_pieces (stBlk x0 x1 xs0) _ (fun p hp j => ?_) y (scover0_B_0 c i arg2 harg2 arg3 harg3 arg4 harg4 arg5 harg5 arg6 harg6 arg7 harg7 arg8 harg8 hc0 hc1 x0 x1 x2 x3 xs0 y)
  revert p
  unfold kernelRun0_B
  dsimp only
  sl_unfold_run_names
  simp only [List.forall_mem_cons]
  refine ⟨?_, ?_, ?_, ?_, ?_, ?_, ?_, ?_, ?_, ?_, ?_, ?_, ?_, ?_, ?_, ?_, fun p hp => absurd hp List.not_mem_nil⟩
  all_goals
    intro j
    change tileState _ _ _ _ j = _
    refine (congrFun (tileState_eqs (strip_read arg2 harg2 x0 _ _ _ _ _ _ _ _)
      (strip_read arg2 harg2 x0 _ _ _ _ _ _ _ _) (lbRow_read arg3 harg3 x1 _ _) (slab_read arg8 harg8 xs0 _ _)) j).trans ?_
    exact (stBlk_emb x0 x1 xs0 _ _ _ _ _ _ j rfl rfl rfl rfl).symm

/-! ## The last point -/

theorem outC (hc0) (hc1) :
    out0_C_4 c i arg2 harg2 arg3 harg3 arg4 harg4 arg5 harg5 arg6 harg6 arg7 harg7 arg8 harg8 hc0 hc1 x0 x1 x2 x3 xs0 = outBlk x0 x1 x2 xs0 := by
  funext y
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  refine View.canon_apply_of_pieces (outBlk x0 x1 x2 xs0) _ (fun p hp j => ?_) y (cover0_C_4 c i arg2 harg2 arg3 harg3 arg4 harg4 arg5 harg5 arg6 harg6 arg7 harg7 arg8 harg8 hc0 hc1 x0 x1 x2 x3 xs0 y)
  revert p
  unfold kernelRun0_C
  dsimp only
  sl_unfold_run_names
  simp only [List.forall_mem_cons]
  refine ⟨?_, ?_, ?_, ?_, ?_, ?_, ?_, ?_, ?_, ?_, ?_, ?_, ?_, ?_, ?_, ?_, fun p hp => absurd hp List.not_mem_nil⟩
  all_goals
    intro j
    change tileOut _ _ _ _ _ _ _ j = _
    refine (congrFun (tileOut_eqs (strip_read arg2 harg2 x0 _ _ _ _ _ _ _ _) (strip_read arg2 harg2 x0 _ _ _ _ _ _ _ _)
      (strip_read arg2 harg2 x0 _ _ _ _ _ _ _ _) (strip_read arg2 harg2 x0 _ _ _ _ _ _ _ _) (lbRow_read arg3 harg3 x1 _ _)
      (gain_read arg4 harg4 x2 _) (slab_read arg8 harg8 xs0 _ _)) j).trans ?_
    exact (outBlk_emb x0 x1 x2 xs0 _ _ _ _ _ _ _ j rfl rfl rfl rfl rfl).symm

theorem stC (hc0) (hc1) :
    sout0_C_0 c i arg2 harg2 arg3 harg3 arg4 harg4 arg5 harg5 arg6 harg6 arg7 harg7 arg8 harg8 hc0 hc1 x0 x1 x2 x3 xs0 = stBlk x0 x1 xs0 := by
  funext y
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  refine View.canon_apply_of_pieces (stBlk x0 x1 xs0) _ (fun p hp j => ?_) y (scover0_C_0 c i arg2 harg2 arg3 harg3 arg4 harg4 arg5 harg5 arg6 harg6 arg7 harg7 arg8 harg8 hc0 hc1 x0 x1 x2 x3 xs0 y)
  revert p
  unfold kernelRun0_C
  dsimp only
  sl_unfold_run_names
  simp only [List.forall_mem_cons]
  refine ⟨?_, ?_, ?_, ?_, ?_, ?_, ?_, ?_, ?_, ?_, ?_, ?_, ?_, ?_, ?_, ?_, fun p hp => absurd hp List.not_mem_nil⟩
  all_goals
    intro j
    change tileState _ _ _ _ j = _
    refine (congrFun (tileState_eqs (strip_read arg2 harg2 x0 _ _ _ _ _ _ _ _)
      (strip_read arg2 harg2 x0 _ _ _ _ _ _ _ _) (lbRow_read arg3 harg3 x1 _ _) (slab_read arg8 harg8 xs0 _ _)) j).trans ?_
    exact (stBlk_emb x0 x1 xs0 _ _ _ _ _ _ j rfl rfl rfl rfl).symm

end

end Cert.KernelIdeal.HG

end
-- ==== Proof.HgEnds.lean ====
module

public import proofs.«01_k».proof.Proof.HgBody
public import Idealize.ShloMosaic.Lib.Pipeline.ReadBack

/-! The first and the last grid point: at the first the states are laid transposed in the scratch before anything reads
    them; at the last the states the scratch ends with are transposed back into the second result. -/

@[expose] public section

set_option maxRecDepth 16384

noncomputable section

namespace Cert.KernelIdeal.HG

open Cert.KernelIdeal Cert.KernelIdeal.Gen Idealize.ShloMosaic Idealize.ShloMosaic.TcCoe Idealize.ShloMosaic.ValueIdx Idealize.SL.Sem

variable {F : FTy → Type} [FloatOps F]

theorem slab_emb (xs : Vec F S16x128x128 .f32) (k : ℕ) (h) (j : (Rect.unit (s := S16x128x128) ![k, 0, 0] ![1, 128, 128] h).shape.Idx) :
    slab xs k j = xs ((Rect.unit (s := S16x128x128) ![k, 0, 0] ![1, 128, 128] h).emb j) := by
  have hk : k + 1 ≤ 16 := h 0
  have hj0 : (j 0).val < 1 := (j 0).isLt
  show xs _ = xs _
  congr 1
  funext a
  apply Fin.ext
  match a with
  | ⟨0, _⟩ => show k % 16 = k + 1 * (j 0).val; omega
  | ⟨1, _⟩ => show (j 1).val = 0 + 1 * (j 1).val; omega
  | ⟨2, _⟩ => show (j 2).val = 0 + 1 * (j 2).val; omega

/-- Reads of the slabs from `k` on, out of pieces `L`, are the initial states. -/
def InitFrom [∀ e, Nonempty (Elt F e)] (a : Memref sig .tc .vmem S16x128x128 .f32) (x3 : Vec F S4x4x128x128 .f32)
    (L : List (View.Piece (Elt F) S16x128x128 .f32)) (k : ℕ) : Prop :=
  ∀ m, k ≤ m → ∀ h, a.view.readCov L (Rect.unit (s := S16x128x128) ![m, 0, 0] ![1, 128, 128] h).toLoadRect = slab (initBlk x3) m

theorem InitFrom.cons [∀ e, Nonempty (Elt F e)] {a : Memref sig .tc .vmem S16x128x128 .f32} {x3 : Vec F S4x4x128x128 .f32}
    {L : List (View.Piece (Elt F) S16x128x128 .f32)} {k : ℕ} {h} {w} (hL : InitFrom a x3 L k) :
    InitFrom a x3 (⟨Rect.unit (s := S16x128x128) ![k, 0, 0] ![1, 128, 128] h, w⟩ :: L) (k + 1) := fun m hm h' => by
  refine (View.readCov_skip _ _ _ _ _ ?_).trans (hL m (by omega) h')
  refine decide_eq_true ⟨(0 : Fin 3), Or.inr (Or.inr (Or.inl ?_))⟩
  show k + 1 * (1 - 1) < m
  omega

/-- The pieces `L` leave the new states in the slabs below `k`. -/
def NewBelow [∀ e, Nonempty (Elt F e)] (x0 : Vec F S4x128x2048 .f32) (x1 : Vec F S1x512 .f32) (xs : Vec F S16x128x128 .f32)
    (L : List (View.Piece (Elt F) S16x128x128 .f32)) (k : ℕ) : Prop :=
  ∀ y : S16x128x128.Idx, (y 0).val < k → View.canon L y = stBlk x0 x1 xs y

theorem NewBelow.cons [∀ e, Nonempty (Elt F e)] {x0 : Vec F S4x128x2048 .f32} {x1 : Vec F S1x512 .f32} {xs : Vec F S16x128x128 .f32}
    {L : List (View.Piece (Elt F) S16x128x128 .f32)} {k : ℕ} {h} {w}
    (hw : ∀ j, w j = stBlk x0 x1 xs ((Rect.unit (s := S16x128x128) ![k, 0, 0] ![1, 128, 128] h).emb j)) (hL : NewBelow x0 x1 xs L k) :
    NewBelow x0 x1 xs (⟨Rect.unit (s := S16x128x128) ![k, 0, 0] ![1, 128, 128] h, w⟩ :: L) (k + 1) := fun y hy => by
  by_cases hk : (y 0).val = k
  · have e : y = (Rect.unit (s := S16x128x128) ![k, 0, 0] ![1, 128, 128] h).emb (ix3 (⟨0, by decide⟩ : Fin 1) (y 1) (y 2)) := by
      funext a
      apply Fin.ext
      match a with
      | ⟨0, _⟩ => show (y 0).val = k + 1 * 0; omega
      | ⟨1, _⟩ => show (y 1).val = 0 + 1 * (y 1).val; omega
      | ⟨2, _⟩ => show (y 2).val = 0 + 1 * (y 2).val; omega
    rw [e]
    exact (View.canon_cons_emb _ _ _ _).trans (hw _)
  · refine (View.canon_cons_of_not_mem ⟨_, w⟩ L fun hm => hk ?_).trans (hL y (by omega))
    have hm0 := (Rect.mem_set_unit (inb := h)).1 hm 0
    have h1 : k ≤ (y 0).val := hm0.1
    omega

section
variable [∀ e, Nonempty (Elt F e)] (c : Dev nD) (i : grid0.Coords) (arg2 : Memref sig .tc .vmem S4x128x2048 .f32) (harg2 : arg2.IsWhole) (arg3 : Memref sig .tc .vmem S1x512 .f32) (harg3 : arg3.IsWhole) (arg4 : Memref sig .tc .vmem S1x128 .f32) (harg4 : arg4.IsWhole) (arg5 : Memref sig .tc .vmem S4x4x128x128 .f32) (harg5 : arg5.IsWhole) (arg6 : Memref sig .tc .vmem S4x128x512 .bf16) (harg6 : arg6.IsWhole) (arg7 : Memref sig .tc .vmem S4x4x128x128 .f32) (harg7 : arg7.IsWhole) (arg8 : Memref sig .tc .vmem S16x128x128 .f32) (harg8 : arg8.IsWhole)
    (x0 : Vec F S4x128x2048 .f32) (x1 : Vec F S1x512 .f32) (x2 : Vec F S1x128 .f32) (x3 : Vec F S4x4x128x128 .f32) (xs0 : Vec F S16x128x128 .f32)

/-! ## The last point -/

theorem canonC (hc0) (hc1) :
    View.canon (kernelRun0_C c i arg2 harg2 arg3 harg3 arg4 harg4 arg5 harg5 arg6 harg6 arg7 harg7 arg8 harg8 hc0 hc1 x0 x1 x2 x3 xs0).2.2.1 = stBlk x0 x1 xs0 := by
  rw [← stC c i arg2 harg2 arg3 harg3 arg4 harg4 arg5 harg5 arg6 harg6 arg7 harg7 arg8 harg8 x0 x1 x2 x3 xs0 hc0 hc1]
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]

theorem finC (hc0) (hc1) :
    out0_C_5 c i arg2 harg2 arg3 harg3 arg4 harg4 arg5 harg5 arg6 harg6 arg7 harg7 arg8 harg8 hc0 hc1 x0 x1 x2 x3 xs0 = finBlk (stBlk x0 x1 xs0) := by
  have hL : View.canon (kernelRun0_C.sl.HS0_16 c arg2 harg2 arg3 harg3 arg8 harg8 x0 x1 xs0) = stBlk x0 x1 xs0 :=
    canonC c i arg2 harg2 arg3 harg3 arg4 harg4 arg5 harg5 arg6 harg6 arg7 harg7 arg8 harg8 x0 x1 x2 x3 xs0 hc0 hc1
  funext y
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  refine View.canon_apply_of_pieces (finBlk (stBlk x0 x1 xs0)) _ (fun p hp j => ?_) y (cover0_C_5 c i arg2 harg2 arg3 harg3 arg4 harg4 arg5 harg5 arg6 harg6 arg7 harg7 arg8 harg8 hc0 hc1 x0 x1 x2 x3 xs0 y)
  revert p
  unfold kernelRun0_C
  dsimp only
  simp only [List.forall_mem_cons]
  refine ⟨?_, ?_, ?_, ?_, ?_, ?_, ?_, ?_, ?_, ?_, ?_, ?_, ?_, ?_, ?_, ?_, fun p hp => absurd hp List.not_mem_nil⟩
  all_goals
    intro j
    exact finPay (stBlk x0 x1 xs0) _ _ _ _ rfl _ (slab_canon arg8 _ _ hL _ _) j

/-! ## The first point -/

theorem initA : InitFrom arg8 x3 (kernelRun0_A.sl.HS0_16 c arg5 harg5 x3) 0 := by
  intro m _ h
  refine slab_canon arg8 _ _ ?_ m h
  funext y
  refine View.canon_apply_of_pieces (initBlk x3) _ (fun p hp j => ?_) y (View.cover_of_tiledL (kernelRun0_A.sl.HS0_16 c arg5 harg5 x3) S1x128x128.size (by sl_kernel_rfl) y)
  revert p
  sl_unfold_run_names
  simp only [List.forall_mem_cons]
  refine ⟨?_, ?_, ?_, ?_, ?_, ?_, ?_, ?_, ?_, ?_, ?_, ?_, ?_, ?_, ?_, ?_, fun p hp => absurd hp List.not_mem_nil⟩
  all_goals
    intro j
    exact (congrFun (initPay arg5 harg5 x3 _ _ _ _ rfl) j).trans (slab_emb _ _ _ j)

theorem outA (hc0) (hc1) :
    out0_A_4 c i arg2 harg2 arg3 harg3 arg4 harg4 arg5 harg5 arg6 harg6 arg7 harg7 arg8 harg8 hc0 hc1 x0 x1 x2 x3 = outBlk x0 x1 x2 (initBlk x3) := by
  have hI := initA c arg5 harg5 arg8 x3
  funext y
  unfold out0_A_4
  rw [View.read_writes_eq_canon _ _ _ (cover0_A_4 c i arg2 harg2 arg3 harg3 arg4 harg4 arg5 harg5 arg6 harg6 arg7 harg7 arg8 harg8 hc0 hc1 x0 x1 x2 x3)]
  refine View.canon_apply_of_pieces (outBlk x0 x1 x2 (initBlk x3)) _ (fun p hp j => ?_) y (cover0_A_4 c i arg2 harg2 arg3 harg3 arg4 harg4 arg5 harg5 arg6 harg6 arg7 harg7 arg8 harg8 hc0 hc1 x0 x1 x2 x3 y)
  revert p
  unfold kernelRun0_A
  dsimp only
  simp only [List.forall_mem_cons]
  refine ⟨?_, ?_, ?_, ?_, ?_, ?_, ?_, ?_, ?_, ?_, ?_, ?_, ?_, ?_, ?_, ?_, fun p hp => absurd hp List.not_mem_nil⟩
  all_goals
    intro j
    change tileOut _ _ _ _ _ _ _ j = _
    refine (congrFun (tileOut_eqs (strip_read arg2 harg2 x0 _ _ _ _ _ _ _ _) (strip_read arg2 harg2 x0 _ _ _ _ _ _ _ _)
      (strip_read arg2 harg2 x0 _ _ _ _ _ _ _ _) (strip_read arg2 harg2 x0 _ _ _ _ _ _ _ _) (lbRow_read arg3 harg3 x1 _ _)
      (gain_read arg4 harg4 x2 _) ((?_ : InitFrom arg8 x3 _ _) _ (le_refl _) _)) j).trans
      (outBlk_emb x0 x1 x2 (initBlk x3) _ _ _ _ _ _ _ j rfl rfl rfl rfl rfl).symm
    repeat refine InitFrom.cons ?_
    exact hI

theorem stA (hc0) (hc1) :
    sout0_A_0 c i arg2 harg2 arg3 harg3 arg4 harg4 arg5 harg5 arg6 harg6 arg7 harg7 arg8 harg8 hc0 hc1 x0 x1 x2 x3 = stBlk x0 x1 (initBlk x3) := by
  have hI := initA c arg5 harg5 arg8 x3
  funext y
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  refine (?_ : NewBelow x0 x1 (initBlk x3) _ 16) y (y 0).isLt
  refine NewBelow.cons ?_ (NewBelow.cons ?_ (NewBelow.cons ?_ (NewBelow.cons ?_ (NewBelow.cons ?_ (NewBelow.cons ?_ (NewBelow.cons ?_ (NewBelow.cons ?_
    (NewBelow.cons ?_ (NewBelow.cons ?_ (NewBelow.cons ?_ (NewBelow.cons ?_ (NewBelow.cons ?_ (NewBelow.cons ?_ (NewBelow.cons ?_ (NewBelow.cons ?_
      (fun y hy => absurd hy (Nat.not_lt_zero _)))))))))))))))))
  all_goals
    intro j
    change tileState _ _ _ _ j = _
    refine (congrFun (tileState_eqs (strip_read arg2 harg2 x0 _ _ _ _ _ _ _ _)
      (strip_read arg2 harg2 x0 _ _ _ _ _ _ _ _) (lbRow_read arg3 harg3 x1 _ _) ((?_ : InitFrom arg8 x3 _ _) _ (le_refl _) _)) j).trans
      (stBlk_emb x0 x1 (initBlk x3) _ _ _ _ _ _ j rfl rfl rfl rfl).symm
    repeat refine InitFrom.cons ?_
    exact hI

end

end Cert.KernelIdeal.HG

end
-- ==== Proof.HgScalar.lean ====
module

public import Idealize.ShloMosaic.Lib.IdealHost
public import Mathlib.Analysis.SpecialFunctions.Log.Basic

/-! The forget gate's two spellings agree on the extended reals: the reference's `logaddexp` of logarithms and the
    kernel's quotient of `1 + lb·e^{-|z|}` or `e^{-|z|} + lb` by `1 + e^{-|z|}`, for lower bounds between 0 and 1. -/

@[expose] public section

noncomputable section

namespace Cert.Hgrn

open Idealize.ShloMosaic

/-- `e^{-|z|}`. -/
def wz (z : EReal) : EReal := Ideal.exp (0 - max z (-z))
/-- The kernel's log forget gate and key. -/
def lfK (lb z : EReal) : EReal := Ideal.log (if 0 ≤ z then 1 + lb * wz z else wz z + lb) - Ideal.log (1 + wz z)
def keyK (lb z : EReal) : EReal := (1 - lb) * Ideal.div (if 0 ≤ z then wz z else 1) (1 + wz z)
/-- The log of the sum of two exponentials, the softplus and the gate of the reference. -/
def lse (a b : EReal) : EReal := max a b + Ideal.log1p (Ideal.exp (-(max (a - b) (-(a - b)))))
def lfR (lb z : EReal) : EReal := lse (Ideal.log lb) (Ideal.log1p (-lb) + -(lse (-z) 0))
def keyR (lb z : EReal) : EReal := (1 - lb) * Ideal.div 1 (1 + Ideal.exp (-(-z)))

theorem exp_coe (r : ℝ) : Ideal.exp (r : EReal) = ((Real.exp r : ℝ) : EReal) := rfl
theorem log_coe_pos {r : ℝ} (h : 0 < r) : Ideal.log (r : EReal) = ((Real.log r : ℝ) : EReal) := if_neg (not_le.2 h)
theorem log_zero : Ideal.log 0 = ⊥ := if_pos (le_refl (0:ℝ))
theorem log_one : Ideal.log 1 = 0 := by
  have h := log_coe_pos (r := 1) one_pos
  rw [Real.log_one] at h
  exact h
theorem exp_bot : Ideal.exp ⊥ = 0 := rfl
theorem exp_top : Ideal.exp ⊤ = ⊤ := rfl

theorem max_coe (a b : ℝ) : max (a : EReal) (b : EReal) = ((max a b : ℝ) : EReal) :=
  (EReal.coe_strictMono.monotone.map_max).symm

theorem div_coe {x y : ℝ} (h : y ≠ 0) : Ideal.div (x : EReal) (y : EReal) = ((x / y : ℝ) : EReal) := by
  unfold Ideal.div
  rw [if_neg (by exact_mod_cast h), div_eq_mul_inv, EReal.coe_mul, EReal.coe_inv]

/-- On reals `lse` is the logarithm of the sum. -/
theorem lse_coe (a b : ℝ) : lse (a : EReal) (b : EReal) = ((Real.log (Real.exp a + Real.exp b) : ℝ) : EReal) := by
  unfold lse Ideal.log1p
  rw [← EReal.coe_sub, ← EReal.coe_neg, max_coe, max_coe, ← EReal.coe_neg, exp_coe, ← EReal.coe_one, ← EReal.coe_add,
    log_coe_pos (by positivity), ← EReal.coe_add]
  congr 1
  rcases le_total a b with h | h
  · rw [max_eq_right h, max_eq_right (by linarith), ← Real.log_exp b, ← Real.log_mul (by positivity) (by positivity), Real.log_exp,
      mul_add, mul_one, ← Real.exp_add]
    congr 1
    rw [add_comm]; congr 2; ring
  · rw [max_eq_left h, max_eq_left (by linarith), ← Real.log_exp a, ← Real.log_mul (by positivity) (by positivity), Real.log_exp,
      mul_add, mul_one, ← Real.exp_add]
    congr 1
    congr 2; ring

theorem lse_bot_left (b : EReal) : lse ⊥ b = b := by
  unfold lse Ideal.log1p
  rw [max_eq_right bot_le]
  induction b with
  | bot => simp [exp_bot, log_one]
  | top => simp [exp_bot, log_one]
  | coe r => rw [EReal.bot_sub, EReal.neg_bot, max_eq_right le_top, EReal.neg_top, exp_bot, add_zero, log_one, add_zero]

theorem lse_coe_bot (a : ℝ) : lse (a : EReal) ⊥ = a := by
  unfold lse Ideal.log1p
  rw [max_eq_left bot_le, EReal.coe_sub_bot, max_eq_left (by simp), EReal.neg_top, exp_bot, add_zero, log_one, add_zero]

/-- The log of the logistic, at the three kinds of argument. -/
theorem logSig_coe (r : ℝ) : -(lse (-(r : EReal)) 0) = ((-Real.log (Real.exp (-r) + 1) : ℝ) : EReal) := by
  rw [← EReal.coe_neg, ← EReal.coe_zero, lse_coe, Real.exp_zero, EReal.coe_neg]
theorem logSig_top : -(lse (-(⊤ : EReal)) 0) = 0 := by
  rw [EReal.neg_top, lse_bot_left, neg_zero]
theorem logSig_bot : -(lse (-(⊥ : EReal)) 0) = ⊥ := by
  unfold lse Ideal.log1p
  simp [exp_bot, log_one]

theorem wz_coe (r : ℝ) : wz (r : EReal) = ((Real.exp (-|r|) : ℝ) : EReal) := by
  unfold wz
  rw [← EReal.coe_neg, max_coe, zero_sub, ← EReal.coe_neg, exp_coe]; rfl
theorem wz_top : wz ⊤ = 0 := by unfold wz; simp [exp_bot]
theorem wz_bot : wz ⊥ = 0 := by unfold wz; simp [exp_bot]

/-- The gates agree at a real lower bound strictly between 0 and 1 and a logistic value. -/
theorem lse_gate {l s : ℝ} (h0 : 0 < l) (h1 : l < 1) (hs : 0 < s) :
    lse (Ideal.log (l : EReal)) (Ideal.log1p (-(l : EReal)) + ((Real.log s : ℝ) : EReal)) = ((Real.log (l + (1 - l) * s) : ℝ) : EReal) := by
  unfold Ideal.log1p
  rw [← EReal.coe_neg, ← EReal.coe_one, ← EReal.coe_add, log_coe_pos h0, log_coe_pos (by linarith), ← EReal.coe_add, lse_coe,
    Real.exp_log h0, Real.exp_add, Real.exp_log (by linarith), Real.exp_log hs]
  rfl

theorem lf_eq {lb : EReal} (h0 : 0 ≤ lb) (h1 : lb ≤ 1) (z : EReal) : lfK lb z = lfR lb z := by
  induction lb with
  | bot => exact absurd h0 (by simp)
  | top => exact absurd h1 (by decide)
  | coe l =>
    have h0' : 0 ≤ l := by exact_mod_cast h0
    have h1' : l ≤ 1 := by exact_mod_cast h1
    unfold lfK lfR
    induction z with
    | top =>
      rw [wz_top, logSig_top, if_pos le_top, mul_zero, add_zero, log_one, add_zero, sub_zero]
      rcases h0'.eq_or_lt with e | e
      · subst e; rw [EReal.coe_zero, log_zero, lse_bot_left]; unfold Ideal.log1p; rw [neg_zero, add_zero, log_one]
      · rcases h1'.eq_or_lt with e' | e'
        · subst e'; rw [EReal.coe_one, log_one]; unfold Ideal.log1p
          rw [show (1 : EReal) + -1 = 0 from by rw [← EReal.coe_one, ← EReal.coe_neg, ← EReal.coe_add]; simp, log_zero]
          exact (lse_coe_bot 0).symm
        · have h := lse_gate e e' one_pos
          rw [Real.log_one, EReal.coe_zero, add_zero] at h
          rw [h]; simp
    | bot =>
      rw [wz_bot, logSig_bot, if_neg (by simp), zero_add, add_zero, log_one, sub_zero, EReal.add_bot]
      rcases h0'.eq_or_lt with e | e
      · subst e; rw [EReal.coe_zero, log_zero, lse_bot_left]
      · rw [log_coe_pos e, lse_coe_bot]
    | coe r =>
      rw [wz_coe, logSig_coe]
      have hw : 0 < Real.exp (-|r|) := Real.exp_pos _
      have hL : Ideal.log (1 + ((Real.exp (-|r|) : ℝ) : EReal)) = ((Real.log (1 + Real.exp (-|r|)) : ℝ) : EReal) := by
        rw [← EReal.coe_one, ← EReal.coe_add, log_coe_pos (by positivity)]
      have hs : (0 : ℝ) < 1 / (Real.exp (-r) + 1) := by positivity
      have hls : -Real.log (Real.exp (-r) + 1) = Real.log (1 / (Real.exp (-r) + 1)) := by rw [one_div, Real.log_inv]
      -- the common value of the gate's numerator, over `1 + w`
      have hnum : (if (0 : EReal) ≤ (r : EReal) then 1 + (l : EReal) * ((Real.exp (-|r|) : ℝ) : EReal) else ((Real.exp (-|r|) : ℝ) : EReal) + (l : EReal))
          = (((l + (1 - l) * (1 / (Real.exp (-r) + 1))) * (1 + Real.exp (-|r|)) : ℝ) : EReal) := by
        by_cases hr : 0 ≤ r
        · rw [if_pos (by exact_mod_cast hr), ← EReal.coe_mul, ← EReal.coe_one, ← EReal.coe_add, abs_of_nonneg hr]
          congr 1; field_simp; ring
        · rw [if_neg (by exact_mod_cast hr), ← EReal.coe_add, abs_of_neg (not_le.1 hr), neg_neg]
          congr 1
          have e : Real.exp (-r) = (Real.exp r)⁻¹ := Real.exp_neg r
          rw [e]
          have hp := Real.exp_pos r
          field_simp; ring
      rw [hnum, hL, hls]
      rcases h0'.eq_or_lt with e | e
      · subst e
        rw [EReal.coe_zero, log_zero, lse_bot_left]
        unfold Ideal.log1p
        rw [neg_zero, add_zero, log_one, zero_add, zero_add, sub_zero, one_mul, log_coe_pos (by positivity), ← EReal.coe_sub,
          Real.log_mul (by positivity) (by positivity), add_sub_cancel_right]
      · rcases h1'.eq_or_lt with e' | e'
        · subst e'
          rw [sub_self, zero_mul, add_zero, one_mul, log_coe_pos (by positivity), ← EReal.coe_sub, sub_self, EReal.coe_one, log_one]
          unfold Ideal.log1p
          rw [show (1 : EReal) + -1 = 0 from by rw [← EReal.coe_one, ← EReal.coe_neg, ← EReal.coe_add]; simp, log_zero, EReal.bot_add]
          exact (lse_coe_bot 0).symm
        · rw [lse_gate e e' hs]
          have hp : 0 < l + (1 - l) * (1 / (Real.exp (-r) + 1)) := by
            have : 0 < (1 - l) * (1 / (Real.exp (-r) + 1)) := mul_pos (by linarith) hs
            linarith
          rw [log_coe_pos (by positivity), ← EReal.coe_sub, Real.log_mul (by positivity) (by positivity), add_sub_cancel_right]

theorem key_eq (lb z : EReal) : keyK lb z = keyR lb z := by
  unfold keyK keyR
  congr 1
  rw [neg_neg]
  induction z with
  | top =>
    rw [wz_top, exp_top, if_pos le_top]
    unfold Ideal.div
    rw [EReal.add_top_of_ne_bot (by decide)]
    simp
  | bot => rw [wz_bot, exp_bot, if_neg (by simp)]
  | coe r =>
    rw [wz_coe, exp_coe, ← EReal.coe_one, ← EReal.coe_add, ← EReal.coe_add, div_coe (by positivity)]
    by_cases hr : 0 ≤ r
    · rw [if_pos (by exact_mod_cast hr), div_coe (by positivity), abs_of_nonneg hr, Real.exp_neg]
      have hp := Real.exp_pos r
      congr 1; field_simp; ring
    · rw [if_neg (by exact_mod_cast hr), div_coe (by positivity), abs_of_neg (not_le.1 hr), neg_neg]

end Cert.Hgrn

end
-- ==== Proof.HgSpec.lean ====
module

public import proofs.«01_k».proof.Proof.HgScalar

/-! The gated recurrence of one (batch, head) in chunks of 32 positions, over the extended reals, and the sum lemmas
    that bring a tile of four chunks to it: the doubling scan within chunks and the masked sum over a tile. -/

@[expose] public section

noncomputable section

namespace Cert.Hgrn

open Idealize.ShloMosaic

/-- What one head reads at each position: log forget gate, key, query (after its activation) and value. -/
structure Str where
  lf : ℕ → Fin 128 → EReal
  ky : ℕ → Fin 128 → EReal
  qs : ℕ → Fin 128 → EReal
  vv : ℕ → Fin 128 → EReal

namespace Str

variable (s : Str)

/-- The running sum of log gates in chunk `n` up to its position `r`. -/
def B (n r : ℕ) (k : Fin 128) : EReal := ∑ i ∈ Finset.range (r + 1), s.lf (32 * n + i) k
def QE (n r : ℕ) (k : Fin 128) : EReal := s.qs (32 * n + r) k * Ideal.exp (s.B n r k)
def KE (n r : ℕ) (k : Fin 128) : EReal := s.ky (32 * n + r) k * Ideal.exp (-(s.B n r k))
def KD (n r : ℕ) (k : Fin 128) : EReal := s.ky (32 * n + r) k * Ideal.exp (s.B n 31 k - s.B n r k)
/-- The state after chunk `n`, from the state before it. -/
def next (n : ℕ) (S : Fin 128 → Fin 128 → EReal) (k d : Fin 128) : EReal :=
  S k d * Ideal.exp (s.B n 31 k) + ∑ r : Fin 32, s.KD n r.val k * s.vv (32 * n + r.val) d
/-- The state before chunk `n`. -/
def st (S : Fin 128 → Fin 128 → EReal) : ℕ → Fin 128 → Fin 128 → EReal
  | 0 => S
  | n + 1 => s.next n (st S n)
/-- The part of the result at position `r` of chunk `n` that comes from the chunk itself, and from the state before it. -/
def AV (n r : ℕ) (d : Fin 128) : EReal :=
  ∑ r' : Fin 32, (if r'.val ≤ r then ∑ k : Fin 128, s.QE n r k * s.KE n r'.val k else 0) * s.vv (32 * n + r'.val) d
def OI (n r : ℕ) (S : Fin 128 → Fin 128 → EReal) (d : Fin 128) : EReal := ∑ k : Fin 128, s.QE n r k * S k d
def O (n r : ℕ) (S : Fin 128 → Fin 128 → EReal) (d : Fin 128) : EReal := s.AV n r d + s.OI n r S d

/-- The streams from position `128 T` on. -/
def shift (T : ℕ) : Str :=
  ⟨fun t => s.lf (128 * T + t), fun t => s.ky (128 * T + t), fun t => s.qs (128 * T + t), fun t => s.vv (128 * T + t)⟩

theorem pos_shift (T c i : ℕ) : 128 * T + (32 * c + i) = 32 * (4 * T + c) + i := by omega

theorem shift_B (T c r : ℕ) : (s.shift T).B c r = s.B (4 * T + c) r := by
  funext k
  exact Finset.sum_congr rfl fun i _ => congrArg (fun t => s.lf t k) (pos_shift T c i)
theorem shift_QE (T c r : ℕ) : (s.shift T).QE c r = s.QE (4 * T + c) r := by
  funext k; unfold QE; rw [shift_B]
  exact congrArg (fun t => s.qs t k * _) (pos_shift T c r)
theorem shift_KE (T c r : ℕ) : (s.shift T).KE c r = s.KE (4 * T + c) r := by
  funext k; unfold KE; rw [shift_B]
  exact congrArg (fun t => s.ky t k * _) (pos_shift T c r)
theorem shift_KD (T c r : ℕ) : (s.shift T).KD c r = s.KD (4 * T + c) r := by
  funext k; unfold KD; rw [shift_B, shift_B]
  exact congrArg (fun t => s.ky t k * _) (pos_shift T c r)
theorem shift_vv (T c r : ℕ) : (s.shift T).vv (32 * c + r) = s.vv (32 * (4 * T + c) + r) := by
  exact congrArg s.vv (pos_shift T c r)
theorem shift_next (T c : ℕ) : (s.shift T).next c = s.next (4 * T + c) := by
  funext S k d; unfold next; simp only [shift_B, shift_KD, shift_vv]
theorem shift_O (T c r : ℕ) : (s.shift T).O c r = s.O (4 * T + c) r := by
  funext S d; unfold O OI AV; simp only [shift_QE, shift_KE, shift_vv]

/-- Four chunks on, the state is the shifted streams' state after four chunks. -/
theorem shift_st (S : Fin 128 → Fin 128 → EReal) (T c : ℕ) : (s.shift T).st (s.st S (4 * T)) c = s.st S (4 * T + c) := by
  induction c with
  | zero => rfl
  | succ c ih =>
    show (s.shift T).next c ((s.shift T).st (s.st S (4 * T)) c) = s.next (4 * T + c) (s.st S (4 * T + c))
    rw [ih, shift_next]

/-- Two streams that agree on the first 128 positions agree on their first four chunks. -/
theorem congr_tile {s s' : Str} (h : ∀ t < 128, s.lf t = s'.lf t ∧ s.ky t = s'.ky t ∧ s.qs t = s'.qs t ∧ s.vv t = s'.vv t) :
    ∀ c < 4, s.next c = s'.next c ∧ ∀ r < 32, s.O c r = s'.O c r := by
  intro c hc
  have hB : ∀ r < 32, s.B c r = s'.B c r := fun r hr => funext fun k =>
    Finset.sum_congr rfl fun i hi => by
      have := Finset.mem_range.1 hi
      rw [(h (32 * c + i) (by omega)).1]
  have hQ : ∀ r < 32, s.QE c r = s'.QE c r := fun r hr => funext fun k => by
    unfold QE; rw [hB r hr, (h (32 * c + r) (by omega)).2.2.1]
  have hE : ∀ r < 32, s.KE c r = s'.KE c r := fun r hr => funext fun k => by
    unfold KE; rw [hB r hr, (h (32 * c + r) (by omega)).2.1]
  have hD : ∀ r < 32, s.KD c r = s'.KD c r := fun r hr => funext fun k => by
    unfold KD; rw [hB r hr, hB 31 (by omega), (h (32 * c + r) (by omega)).2.1]
  have hV : ∀ r < 32, s.vv (32 * c + r) = s'.vv (32 * c + r) := fun r hr => (h (32 * c + r) (by omega)).2.2.2
  refine ⟨?_, fun r hr => ?_⟩
  · funext S k d; unfold next
    rw [hB 31 (by omega)]
    congr 1
    exact Finset.sum_congr rfl fun r _ => by rw [hD _ r.isLt, hV _ r.isLt]
  · funext S d; unfold O OI AV
    rw [hQ r hr]
    congr 1
    exact Finset.sum_congr rfl fun r' _ => by rw [hE _ r'.isLt, hV _ r'.isLt]

theorem st_congr_tile {s s' : Str} (h : ∀ t < 128, s.lf t = s'.lf t ∧ s.ky t = s'.ky t ∧ s.qs t = s'.qs t ∧ s.vv t = s'.vv t)
    (S : Fin 128 → Fin 128 → EReal) : ∀ c ≤ 4, s.st S c = s'.st S c
  | 0, _ => rfl
  | c + 1, hc => by
    show s.next c (s.st S c) = s'.next c (s'.st S c)
    rw [st_congr_tile h S c (by omega), (congr_tile h c (by omega)).1]

end Str

/-- The result at one place: the head's 128 values normalised, times the gain and the output gate's logistic. -/
def finish (o w g : Fin 128 → EReal) (d : Fin 128) : EReal :=
  o d * Ideal.rsqrt (Ideal.div (∑ e : Fin 128, o e * o e) (FloatOps.ofBits (F := Ideal) .f32 0x43000000#32)
    + FloatOps.ofBits (F := Ideal) .f32 0x358637BD#32) * w d * Ideal.div 1 (1 + Ideal.exp (-(g d)))

/-- The streams of batch `b`, head `h`: the input's four column groups (queries, gates, values, output gates) of 512
    columns, 128 columns a head, and the lower bounds. -/
def headStr (X : Fin 4 → Fin 4096 → Fin 2048 → EReal) (L : Fin 512 → EReal) (b h : Fin 4) : Str where
  lf t k := lfK (L ⟨128 * h.val + k.val, by omega⟩) (X b ⟨t % 4096, Nat.mod_lt _ (by decide)⟩ ⟨512 + 128 * h.val + k.val, by omega⟩)
  ky t k := keyK (L ⟨128 * h.val + k.val, by omega⟩) (X b ⟨t % 4096, Nat.mod_lt _ (by decide)⟩ ⟨512 + 128 * h.val + k.val, by omega⟩)
  qs t k := X b ⟨t % 4096, Nat.mod_lt _ (by decide)⟩ ⟨128 * h.val + k.val, by omega⟩
    * Ideal.div 1 (1 + Ideal.exp (-(X b ⟨t % 4096, Nat.mod_lt _ (by decide)⟩ ⟨128 * h.val + k.val, by omega⟩)))
  vv t d := X b ⟨t % 4096, Nat.mod_lt _ (by decide)⟩ ⟨1024 + 128 * h.val + d.val, by omega⟩

/-- The final state, and the result at batch `b`, position `t`, head `h` and value coordinate `d`. -/
def finSpec (X : Fin 4 → Fin 4096 → Fin 2048 → EReal) (L : Fin 512 → EReal) (S : Fin 4 → Fin 4 → Fin 128 → Fin 128 → EReal)
    (b h : Fin 4) (k d : Fin 128) : EReal := (headStr X L b h).st (S b h) 128 k d
def outSpec (X : Fin 4 → Fin 4096 → Fin 2048 → EReal) (L : Fin 512 → EReal) (W : Fin 128 → EReal)
    (S : Fin 4 → Fin 4 → Fin 128 → Fin 128 → EReal) (b : Fin 4) (t : Fin 4096) (h : Fin 4) (d : Fin 128) : EReal :=
  finish ((headStr X L b h).O (t.val / 32) (t.val % 32) ((headStr X L b h).st (S b h) (t.val / 32))) W
    (fun e => X b t ⟨1536 + 128 * h.val + e.val, by omega⟩) d

/-- A window of `k` terms ending at `i`, within the chunk of `i`. -/
def win (g : ℕ → EReal) (k i : ℕ) : EReal := ∑ j ∈ Finset.range (min k (i % 32 + 1)), g (i - j)

/-- One step of the doubling scan. -/
theorem win_step (g : ℕ → EReal) (k i : ℕ) (hk : 32 % k = 0) :
    win g k i + (if k ≤ i % 32 then win g k (i - k) else 0) = win g (k + k) i := by
  have hi := Nat.mod_add_div i 32
  unfold win
  by_cases h : k ≤ i % 32
  · have e : (i - k) % 32 = i % 32 - k := by omega
    rw [if_pos h, e, show min k (i % 32 + 1) = k by omega, show min (k + k) (i % 32 + 1) = k + min k (i % 32 - k + 1) by omega,
      Finset.sum_range_add]
    congr 1
    exact Finset.sum_congr rfl fun j _ => congrArg g (by omega)
  · rw [if_neg h, add_zero, show min (k + k) (i % 32 + 1) = min k (i % 32 + 1) by omega]

theorem win_one (g : ℕ → EReal) (i : ℕ) : win g 1 i = g i := by
  unfold win
  rw [show min 1 (i % 32 + 1) = 1 by omega]
  simp

theorem win_full (g : ℕ → EReal) (i : ℕ) : win g 32 i = ∑ j ∈ Finset.range (i % 32 + 1), g (32 * (i / 32) + j) := by
  have hi := Nat.mod_add_div i 32
  unfold win
  rw [show min 32 (i % 32 + 1) = i % 32 + 1 by omega, ← Finset.sum_range_reflect]
  exact Finset.sum_congr rfl fun j hj => congrArg g (by have := Finset.mem_range.1 hj; omega)

/-- A sum over a tile's 128 rows that only chunk `c` contributes to. -/
theorem sum_chunk (c : ℕ) (hc : c < 4) (g : Fin 128 → EReal) (h : ∀ r : Fin 128, r.val / 32 ≠ c → g r = 0) :
    ∑ r : Fin 128, g r = ∑ r : Fin 32, g ⟨32 * c + r.val, by omega⟩ := by
  symm
  refine Finset.sum_of_injOn (fun r : Fin 32 => (⟨32 * c + r.val, by omega⟩ : Fin 128)) ?_ (fun _ _ => by simp) ?_ (fun _ _ => rfl)
  · intro a _ b _ hab
    have := congrArg Fin.val hab
    simp only at this
    exact Fin.ext (by omega)
  · intro r _ hr
    refine h r fun e => hr ?_
    refine ⟨⟨r.val % 32, Nat.mod_lt _ (by decide)⟩, by simp, Fin.ext ?_⟩
    show 32 * c + r.val % 32 = r.val
    omega

end Cert.Hgrn

end
-- ==== Proof.HgTileVal.lean ====
module

public import proofs.«01_k».proof.Proof.HgTile
public import proofs.«01_k».proof.Proof.HgSpec
public import Idealize.ShloMosaic.Lib.Pointwise

@[expose] public section

set_option maxRecDepth 16384

noncomputable section

namespace Cert.KernelIdeal.HG

open Cert.KernelIdeal Cert.KernelIdeal.Gen Idealize.ShloMosaic Idealize.ShloMosaic.TcCoe Cert.Hgrn

/-! Comparisons of small words. -/

theorem eq_word (a b : Fin 128) : IntOp.cmpi .eq (BitVec.ofNat 32 a.val) (BitVec.ofNat 32 b.val) = BitVec.ofBool (decide (a.val = b.val)) := by
  revert a b; decide +kernel
theorem sge_word (a b : Fin 128) : IntOp.cmpi .sge (BitVec.ofNat 32 a.val) (BitVec.ofNat 32 b.val) = BitVec.ofBool (decide (b.val ≤ a.val)) := by
  revert a b; decide +kernel
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]
theorem select_ofBool {α : Type} (p : Prop) [Decidable p] (x y : α) : Scalar.select (BitVec.ofBool (decide p)) x y = if p then x else y := by
  by_cases hp : p <;> simp [Scalar.select, hp]

/-- The row's place within its chunk, its chunk, and the causal mask within chunks. -/
theorem rowIn_at (i j : Fin 128) : rowIn (ix2 i j) = BitVec.ofNat 32 (i.val % 32) := by
  rw [show rowIn (ix2 i j) = rowIn (ix2 i 0) from rfl]
  revert i; decide +kernel
theorem colChunk_at (i j : Fin 128) : k0_pay65 colNo (ix2 i j) = BitVec.ofNat 32 (j.val / 32) := by
  rw [show k0_pay65 colNo (ix2 i j) = k0_pay65 colNo (ix2 0 j) from rfl]
  revert j; decide +kernel
theorem rowChunk_at (i j : Fin 128) : k0_pay65 rowNo (ix2 i j) = BitVec.ofNat 32 (i.val / 32) := by
  rw [show k0_pay65 rowNo (ix2 i j) = k0_pay65 rowNo (ix2 i 0) from rfl]
  revert i; decide +kernel
theorem causal_at (i j : Fin 128) : causal (ix2 i j) = BitVec.ofBool (decide (i.val / 32 = j.val / 32 ∧ j.val ≤ i.val)) := by
  have e1 : causal = andi (cmpi .eq (k0_pay65 rowNo) (k0_pay65 colNo)) (cmpi .sge rowNo colNo) := rfl
  have e2 : rowNo (ix2 i j) = BitVec.ofNat 32 i.val := by pointwise [rowNo]
  have e3 : colNo (ix2 i j) = BitVec.ofNat 32 j.val := by pointwise [colNo]
  rw [e1]
  pointwise
  rw [rowChunk_at, colChunk_at, e2, e3]
  rw [eq_word ⟨i.val / 32, by omega⟩ ⟨j.val / 32, by omega⟩, sge_word i j, andi_ofBool]

/-! The gates. -/

theorem gate_at (f : Vec Ideal S128x128 .f32) (lb : Vec Ideal S1x128 .f32) (i k : Fin 128) :
    k0_pay45 f lb (ix2 i k) = lfK (lb (ix2 0 k)) (f (ix2 i k)) := by
  pointwise [k0_pay45, k0_pay42, k0_pay43, k0_pay44]
  rfl
theorem key_at (f : Vec Ideal S128x128 .f32) (lb : Vec Ideal S1x128 .f32) (i k : Fin 128) :
    k0_pay46 f lb (ix2 i k) = keyK (lb (ix2 0 k)) (f (ix2 i k)) := by
  pointwise [k0_pay46, k0_pay42, k0_pay43, k0_pay44]
  rfl
theorem silu_at (q : Vec Ideal S128x128 .f32) (i k : Fin 128) :
    k0_pay47 q (ix2 i k) = q (ix2 i k) * Ideal.div 1 (1 + Ideal.exp (-(q (ix2 i k)))) := by
  pointwise [k0_pay47]
  rw [zero_sub]

/-! The doubling scan over the rows of a chunk. -/

def scanStep (m : BitVec 32) (x : FVec Ideal S128x128 .f32) : FVec Ideal S128x128 .f32 :=
  addf x (select (cmpi .sge rowIn (broadcast S128x128 m)) (dynamicRotate 0 m none x rotates_S128x128_d0)
    (broadcast S128x128 (Scalar.ofBits (F := Ideal) .f32 0x00000000#32)))
theorem scan_eq (x : FVec Ideal S128x128 .f32) :
    k0_pay48 rowIn x = scanStep 16#32 (scanStep 8#32 (scanStep 4#32 (scanStep 2#32 (scanStep 1#32 x)))) := rfl

theorem scanStep_at (m : ℕ) (hm : 32 % m = 0) (hm' : m < 32) (g : ℕ → EReal) (x : FVec Ideal S128x128 .f32) (k : Fin 128)
    (hx : ∀ i : Fin 128, x (ix2 i k) = win g m i.val) (i : Fin 128) : scanStep (BitVec.ofNat 32 m) x (ix2 i k) = win g (m + m) i.val := by
  unfold scanStep
  pointwise
  rw [rowIn_at, sge_word ⟨i.val % 32, by omega⟩ ⟨m, by omega⟩, select_ofBool, hx, hx, ← win_step g m i.val hm]
  congr 1
  by_cases h : m ≤ i.val % 32
  · rw [if_pos h, if_pos h]
    congr 1
    rw [BitVec.toNat_ofNat]
    show (i.val + 128 - m % 2 ^ 32 % 128) % 128 = _
    omega
  · rw [if_neg h, if_neg h]

/-- What a tile reads at each of its positions. -/
def tileStr (q f v : Vec Ideal S128x128 .f32) (lb : Vec Ideal S1x128 .f32) : Str where
  lf t k := lfK (lb (ix2 0 k)) (f (ix2 ⟨t % 128, Nat.mod_lt _ (by decide)⟩ k))
  ky t k := keyK (lb (ix2 0 k)) (f (ix2 ⟨t % 128, Nat.mod_lt _ (by decide)⟩ k))
  qs t k := q (ix2 ⟨t % 128, Nat.mod_lt _ (by decide)⟩ k) * Ideal.div 1 (1 + Ideal.exp (-(q (ix2 ⟨t % 128, Nat.mod_lt _ (by decide)⟩ k))))
  vv t d := v (ix2 ⟨t % 128, Nat.mod_lt _ (by decide)⟩ d)

variable (q f v g : Vec Ideal S128x128 .f32) (lb w : Vec Ideal S1x128 .f32) (st : Vec Ideal S1x128x128 .f32)

theorem row_self (i : Fin 128) (h : i.val % 128 < 128) : (⟨i.val % 128, h⟩ : Fin 128) = i := Fin.ext (Nat.mod_eq_of_lt i.isLt)
theorem row_chunk (i : Fin 128) : (⟨(32 * (i.val / 32) + i.val % 32) % 128, Nat.mod_lt _ (by decide)⟩ : Fin 128) = i :=
  Fin.ext (by show (32 * (i.val / 32) + i.val % 32) % 128 = i.val; omega)

theorem tB_at (i k : Fin 128) : tB f lb (ix2 i k) = (tileStr q f v lb).B (i.val / 32) (i.val % 32) k := by
  unfold tB
  rw [scan_eq]
  have h0 : ∀ i : Fin 128, k0_pay45 f lb (ix2 i k) = win (fun t => (tileStr q f v lb).lf t k) 1 i.val := fun i => by
    rw [win_one, gate_at]
    show _ = lfK (lb (ix2 0 k)) (f (ix2 ⟨i.val % 128, _⟩ k))
    rw [row_self]
  have h1 := scanStep_at 1 rfl (by decide) _ _ k h0
  have h2 := scanStep_at 2 rfl (by decide) _ _ k h1
  have h3 := scanStep_at 4 rfl (by decide) _ _ k h2
  have h4 := scanStep_at 8 rfl (by decide) _ _ k h3
  have h5 := scanStep_at 16 rfl (by decide) _ _ k h4
  exact (h5 i).trans (win_full _ _)

theorem tQE_at (i k : Fin 128) : tQE q f lb (ix2 i k) = (tileStr q f v lb).QE (i.val / 32) (i.val % 32) k := by
  have h := tB_at q f v lb i k
  unfold tB at h
  unfold tQE
  pointwise [k0_pay49]
  rw [h, silu_at]
  unfold Str.QE
  congr 1
  show _ = q (ix2 ⟨(32 * (i.val / 32) + i.val % 32) % 128, _⟩ k) * Ideal.div 1 (1 + Ideal.exp (-(q (ix2 ⟨(32 * (i.val / 32) + i.val % 32) % 128, _⟩ k))))
  rw [row_chunk]

theorem keyK_at (i k : Fin 128) : k0_pay46 f lb (ix2 i k) = (tileStr q f v lb).ky (32 * (i.val / 32) + i.val % 32) k := by
  rw [key_at]
  show _ = keyK (lb (ix2 0 k)) (f (ix2 ⟨(32 * (i.val / 32) + i.val % 32) % 128, _⟩ k))
  rw [row_chunk]

theorem tAV_at (i d : Fin 128) : tAV q f v lb (ix2 i d) = (tileStr q f v lb).AV (i.val / 32) (i.val % 32) d := by
  have hq := tQE_at q f v lb
  have hb := tB_at q f v lb
  unfold tB at hb
  unfold tQE at hq
  unfold tAV
  pointwise [k0_pay52, k0_pay51, k0_pay50]
  have hkey := keyK_at q f v lb
  have hc : i.val / 32 < 4 := by omega
  rw [sum_chunk (i.val / 32) hc]
  · unfold Str.AV
    refine Finset.sum_congr rfl fun r _ => ?_
    have e1 : (32 * (i.val / 32) + r.val) / 32 = i.val / 32 := by omega
    have e2 : (32 * (i.val / 32) + r.val) % 32 = r.val := by omega
    have e3 : (32 * (i.val / 32) + r.val) % 128 = 32 * (i.val / 32) + r.val := by omega
    rw [causal_at, select_ofBool]
    have hv : (tileStr q f v lb).vv (32 * (i.val / 32) + r.val) d = v (ix2 ⟨32 * (i.val / 32) + r.val, by omega⟩ d) := by
      show v (ix2 ⟨(32 * (i.val / 32) + r.val) % 128, _⟩ d) = _
      exact congrArg (fun x => v (ix2 x d)) (Fin.ext e3)
    rw [hv]
    by_cases h : r.val ≤ i.val % 32
    · rw [if_pos ⟨e1.symm, by show 32 * (i.val / 32) + r.val ≤ i.val; omega⟩, if_pos h]
      congr 1
      refine Finset.sum_congr rfl fun k _ => ?_
      rw [hq, hkey, hb]
      show _ * ((tileStr q f v lb).ky (32 * ((32 * (i.val / 32) + r.val) / 32) + (32 * (i.val / 32) + r.val) % 32) k
        * Ideal.exp (0 - (tileStr q f v lb).B ((32 * (i.val / 32) + r.val) / 32) ((32 * (i.val / 32) + r.val) % 32) k)) = _
      rw [e1, e2, zero_sub]
      rfl
    · rw [if_neg fun h' => h (by have h2 : 32 * (i.val / 32) + r.val ≤ i.val := h'.2; omega), if_neg h, zero_mul]
  · intro r hr
    rw [causal_at, select_ofBool, if_neg fun h => hr h.1.symm]

theorem tKD_at (i k : Fin 128) : tKD f lb (ix2 i k) = (tileStr q f v lb).KD (i.val / 32) (i.val % 32) k := by
  unfold tKD
  pointwise [k0_pay58, k0_pay54, k0_pay55, k0_pay56, k0_pay57]
  have hr : rowNo (ix2 i k) = BitVec.ofNat 32 i.val := by pointwise [rowNo]
  have hg (m : ℕ) (hm : m < 128) : IntOp.cmpi .sge (BitVec.ofNat 32 i.val) (BitVec.ofNat 32 m) = BitVec.ofBool (decide (m ≤ i.val)) :=
    sge_word i ⟨m, hm⟩
  have h1 := hg 32 (by decide)
  have h2 := hg 64 (by decide)
  have h3 := hg 96 (by decide)
  rw [hr, h1, h2, h3, select_ofBool, select_ofBool, select_ofBool, keyK_at q f v lb i k]
  unfold Str.KD
  rw [tB_at q f v lb, tB_at q f v lb, tB_at q f v lb, tB_at q f v lb, tB_at q f v lb]
  congr 3
  have hi := i.isLt
  by_cases c3 : 96 ≤ i.val
  · rw [if_pos c3, show i.val / 32 = 3 by omega]; rfl
  · rw [if_neg c3]
    by_cases c2 : 64 ≤ i.val
    · rw [if_pos c2, show i.val / 32 = 2 by omega]; rfl
    · rw [if_neg c2]
      by_cases c1 : 32 ≤ i.val
      · rw [if_pos c1, show i.val / 32 = 1 by omega]; rfl
      · rw [if_neg c1, show i.val / 32 = 0 by omega]; rfl

/-! The four updates of the state, and the results. -/

def chunkMask (c : BitVec 32) : IVec S128x128 1 := cmpi .eq (k0_pay65 colNo) (broadcast S128x128 c)
def upd (c : BitVec 32) (vT : FVec Ideal S128x128 .f32) (kd : FVec Ideal S128x128 .bf16) : FVec Ideal S128x128 .f32 :=
  matmul dot_S128x128_S128x128_S128x128_1_0_0_1_n_n none
    (truncf .bf16 (select (chunkMask c) vT (broadcast S128x128 (Scalar.ofBits (F := Ideal) .f32 0x00000000#32))) bitsLt_bf16_f32) kd
    (constant S128x128 .f32 0x00000000#32)
def dec (S : FVec Ideal S128x128 .f32) (b : FVec Ideal S1x128 .f32) : FVec Ideal S128x128 .f32 :=
  mulf S (broadcastTo S128x128 (exp b) broadcasts_S1x128_S128x128)

theorem pay63_eq (vT : FVec Ideal S128x128 .f32) (b : FVec Ideal S1x128 .f32) (kd : FVec Ideal S128x128 .bf16) (S : FVec Ideal S128x128 .f32) :
    k0_pay63 colNo vT b kd S 32#32 (k0_pay61 colNo) (k0_pay62 colNo) 1#32 = addf (dec S b) (upd 0#32 vT kd) := rfl
theorem pay66_eq (vT : FVec Ideal S128x128 .f32) (b : FVec Ideal S1x128 .f32) (kd : FVec Ideal S128x128 .bf16) (S : FVec Ideal S128x128 .f32) :
    k0_pay66 vT b kd S (k0_pay65 colNo) = addf (dec S b) (upd 1#32 vT kd) := rfl
theorem pay69_eq (vT : FVec Ideal S128x128 .f32) (kd : FVec Ideal S128x128 .bf16) : k0_pay69 colNo vT kd = upd 2#32 vT kd := rfl
theorem pay71_eq (vT : FVec Ideal S128x128 .f32) (b : FVec Ideal S1x128 .f32) (kd : FVec Ideal S128x128 .bf16) (S3a S3b : FVec Ideal S128x128 .f32) :
    k0_pay71 colNo vT b kd S3a S3b
      = shapeCast S1x128x128 (addf (dec (addf S3a S3b) b) (upd 3#32 vT kd)) shapeCasts_S128x128_S1x128x128 := rfl
theorem upd_at (c : Fin 128) (vT : FVec Ideal S128x128 .f32) (kd : FVec Ideal S128x128 .bf16) (d k : Fin 128) :
    upd (BitVec.ofNat 32 c.val) vT kd (ix2 d k) = ∑ r : Fin 128, (if r.val / 32 = c.val then vT (ix2 d r) else 0) * kd (ix2 r k) := by
  unfold upd chunkMask
  pointwise
  refine Finset.sum_congr rfl fun r _ => ?_
  rw [colChunk_at, eq_word ⟨r.val / 32, by omega⟩ c, select_ofBool, ite_mul, zero_mul]
theorem dec_at (S : FVec Ideal S128x128 .f32) (b : FVec Ideal S1x128 .f32) (d k : Fin 128) :
    dec S b (ix2 d k) = S (ix2 d k) * Ideal.exp (b (ix2 0 k)) := by
  unfold dec
  pointwise

theorem chunk_at (c : ℕ) (hc : c < 4) (S : FVec Ideal S128x128 .f32) (b : FVec Ideal S1x128 .f32) (Sm : Fin 128 → Fin 128 → EReal)
    (hS : ∀ d k, S (ix2 d k) = Sm k d) (hb : ∀ k, b (ix2 0 k) = (tileStr q f v lb).B c 31 k) (d k : Fin 128) :
    addf (dec S b) (upd (BitVec.ofNat 32 c) (k0_pay53 v) (tKD f lb)) (ix2 d k) = (tileStr q f v lb).next c Sm k d := by
  pointwise
  rw [dec_at, hS, hb, upd_at ⟨c, by omega⟩, sum_chunk c hc _ fun r hr => by rw [if_neg hr, zero_mul]]
  unfold Str.next
  congr 1
  refine Finset.sum_congr rfl fun r _ => ?_
  have e1 : (32 * c + r.val) / 32 = c := by omega
  have e2 : (32 * c + r.val) % 32 = r.val := by omega
  rw [if_pos e1, tKD_at q f v lb, mul_comm]
  congr 1
  · show (tileStr q f v lb).KD ((32 * c + r.val) / 32) ((32 * c + r.val) % 32) k = _
    rw [e1, e2]
  · pointwise [k0_pay53]
    show _ = v (ix2 ⟨(32 * c + r.val) % 128, _⟩ d)
    exact congrArg (fun x => v (ix2 x d)) (Fin.ext (by show 32 * c + r.val = (32 * c + r.val) % 128; omega))

/-- The state a tile starts from, key coordinate first. -/
def stIn (k d : Fin 128) : EReal := st (ix3 0 d k)

theorem bLast_at (c : ℕ) (hc : c < 4) (k : Fin 128) (i : Fin 128) (hi : i.val = 32 * c + 31) :
    tB f lb (ix2 i k) = (tileStr q f v lb).B c 31 k := by
  rw [tB_at q f v lb, hi, show (32 * c + 31) / 32 = c by omega, show (32 * c + 31) % 32 = 31 by omega]

theorem tS1_at (d k : Fin 128) : tS1 f v lb st (ix2 d k) = (tileStr q f v lb).st (stIn st) 1 k d := by
  unfold tS1
  rw [pay63_eq]
  refine chunk_at q f v lb 0 (by decide) _ _ (stIn st) (fun d k => ?_) (fun k => ?_) d k
  · pointwise [k0_pay59]; rfl
  · pointwise [k0_pay54]; exact bLast_at q f v lb 0 (by decide) k 31 rfl

theorem tS2_at (d k : Fin 128) : k0_pay66 (k0_pay53 v) (k0_pay55 (tB f lb)) (tKD f lb) (tS1 f v lb st) (k0_pay65 colNo) (ix2 d k)
    = (tileStr q f v lb).st (stIn st) 2 k d := by
  rw [pay66_eq]
  refine chunk_at q f v lb 1 (by decide) _ _ _ (tS1_at q f v lb st) (fun k => ?_) d k
  pointwise [k0_pay55]; exact bLast_at q f v lb 1 (by decide) k 63 rfl

theorem tS3_at (d k : Fin 128) : addf (tS3a f v lb st) (tS3b f v lb) (ix2 d k) = (tileStr q f v lb).st (stIn st) 3 k d := by
  unfold tS3a tS3b
  rw [pay69_eq]
  refine chunk_at q f v lb 2 (by decide) _ (k0_pay56 (tB f lb)) _ (tS2_at q f v lb st) (fun k => ?_) d k
  pointwise [k0_pay56]; exact bLast_at q f v lb 2 (by decide) k 95 rfl

/-- The state a tile leaves. -/
theorem tileState_at (d k : Fin 128) : tileState f v lb st (ix3 0 d k) = (tileStr q f v lb).st (stIn st) 4 k d := by
  unfold tileState
  rw [pay71_eq]
  have h := chunk_at q f v lb 3 (by decide) _ (k0_pay57 (tB f lb)) _ (tS3_at q f v lb st) (fun k => by
    pointwise [k0_pay57]; exact bLast_at q f v lb 3 (by decide) k 127 rfl) d k
  refine Eq.trans ?_ h
  generalize addf (dec (addf (tS3a f v lb st) (tS3b f v lb)) (k0_pay57 (tB f lb))) (upd (BitVec.ofNat 32 3) (k0_pay53 v) (tKD f lb)) = X
  pointwise

/-- The unnormalised results of a tile. -/
theorem tO_at (i d : Fin 128) :
    tO q f v lb st (ix2 i d) = (tileStr q f v lb).O (i.val / 32) (i.val % 32) ((tileStr q f v lb).st (stIn st) (i.val / 32)) d := by
  have h1 := tS1_at q f v lb st
  have h2 := tS2_at q f v lb st
  have h3 : ∀ d k, k0_pay70 (tS3a f v lb st) (tS3b f v lb) (ix2 d k) = (tileStr q f v lb).st (stIn st) 3 k d := tS3_at q f v lb st
  unfold tS1 at h1
  have hi := i.isLt
  have part (j : Fin 128) (c : ℕ) (S : Fin 128 → EReal) (hj : j = i) (hc : i.val / 32 = c)
      (hS : ∀ k, S k = (tileStr q f v lb).st (stIn st) c k d) :
      ∑ k : Fin 128, tQE q f lb (ix2 j k) * S k
        = (tileStr q f v lb).OI (i.val / 32) (i.val % 32) ((tileStr q f v lb).st (stIn st) (i.val / 32)) d := by
    subst hc; subst hj
    exact Finset.sum_congr rfl fun k _ => by rw [tQE_at q f v lb, hS]
  unfold tO
  pointwise [k0_pay72, k0_pay60, k0_pay64, k0_pay67]
  rw [tAV_at]
  unfold Str.O
  congr 1
  by_cases c0 : i.val < 32
  · rw [dif_pos c0]
    exact part i 0 _ rfl (by omega) fun k => by pointwise [k0_pay59]; rfl
  · rw [dif_neg c0]
    by_cases c1 : i.val - 32 < 32
    · rw [dif_pos c1]
      simp only [h1]
      exact part ⟨32 + (i.val - 32), by omega⟩ 1 (fun k => (tileStr q f v lb).st (stIn st) 1 k d)
          (Fin.ext (by show 32 + (i.val - 32) = i.val; omega)) (by omega) fun _ => rfl
    · rw [dif_neg c1]
      by_cases c2 : i.val - 32 - 32 < 32
      · rw [dif_pos c2]
        simp only [h2]
        exact part ⟨64 + (i.val - 32 - 32), by omega⟩ 2 (fun k => (tileStr q f v lb).st (stIn st) 2 k d)
          (Fin.ext (by show 64 + (i.val - 32 - 32) = i.val; omega)) (by omega) fun _ => rfl
      · rw [dif_neg c2]
        simp only [h3]
        exact part ⟨96 + (i.val - 32 - 32 - 32), by omega⟩ 3 (fun k => (tileStr q f v lb).st (stIn st) 3 k d)
          (Fin.ext (by show 96 + (i.val - 32 - 32 - 32) = i.val; omega)) (by omega) fun _ => rfl

/-- The results of a tile. -/
theorem tileOut_at (i d : Fin 128) : tileOut q f v g lb w st (ix3 0 i d)
    = finish ((tileStr q f v lb).O (i.val / 32) (i.val % 32) ((tileStr q f v lb).st (stIn st) (i.val / 32))) (fun e => w (ix2 0 e)) (fun e => g (ix2 i e)) d := by
  unfold tileOut
  have h := tO_at q f v lb st i
  generalize tO q f v lb st = o at h
  pointwise [k0_pay74]
  simp only [h]
  unfold finish
  rw [zero_sub]
  rfl

end Cert.KernelIdeal.HG

end
-- ==== Proof.HgFold.lean ====
module

public import proofs.«01_k».proof.Proof.HgEnds
public import proofs.«01_k».proof.Proof.HgTileVal
public import proofs.«01_k».proof.Proof.Gen.KernelIdeal.Value
public import Idealize.ShloMosaic.Lib.StableHlo.ReadAt

@[expose] public section

set_option maxRecDepth 16384

noncomputable section

namespace Cert.KernelIdeal.HG

open Cert.KernelIdeal Cert.KernelIdeal.Gen Cert.KernelIdeal.Value Idealize.ShloMosaic Idealize.ShloMosaic.TcCoe

section Blocks

variable {F : FTy → Type} [FloatOps F]
variable (m : (ℓ : Loc nD τ sig) → Buf (Elt F) ℓ) (c : Dev nD)

/-- The arguments as the run finds them, at the shapes the spec reads. -/
def A0 : Vec F S4x4096x2048 .f32 := m ((c : Thread nD τ).loc main_arg0)
def A1 : Vec F S512 .f32 := m ((c : Thread nD τ).loc main_arg1)
def A2 : Vec F S128 .f32 := m ((c : Thread nD τ).loc main_arg2)
def A3 : Vec F S4x4x128x128 .f32 := m ((c : Thread nD τ).loc main_arg3)

/-- The block of the input at grid point `t`: 128 positions. -/
def inBlk (t : ℕ) : Vec F S4x128x2048 .f32 := fun y => A0 m c (ix3 (y 0) ⟨(128 * t + (y 1).val) % 4096, Nat.mod_lt _ (by decide)⟩ (y 2))
def lbBlk : Vec F S1x512 .f32 := fun y => A1 m c (ix1 (y 1))
def gBlk : Vec F S1x128 .f32 := fun y => A2 m c (ix1 (y 1))

theorem iblk0 (t : Fin cfg0.N) : iblk m c 0 t = inBlk m c t.val := by
  have h : ∀ t : Fin grid0.N, win0_0.index t (0 : Fin 3) = 0 ∧ win0_0.index t (1 : Fin 3) = t.val ∧ win0_0.index t (2 : Fin 3) = 0 := by decide +kernel
  obtain ⟨e0, e1, e2⟩ := h t
  funext y
  show V m c main_arg0 (((cfg0.win 0).blk t).view.emb y) = _
  rw [V_main_arg0]
  refine congrArg (A0 m c) ?_
  have ht : t.val < 32 := lt_of_lt_of_eq t.isLt N_0
  have hy : (y 1).val < 128 := (y 1).isLt
  funext a; apply Fin.ext
  match a with
  | ⟨0, _⟩ => show win0_0.index t (0 : Fin 3) * 4 + 1 * (y 0).val = (y 0).val; omega
  | ⟨1, _⟩ => show win0_0.index t (1 : Fin 3) * 128 + 1 * (y 1).val = (128 * t.val + (y 1).val) % 4096; omega
  | ⟨2, _⟩ => show win0_0.index t (2 : Fin 3) * 2048 + 1 * (y 2).val = (y 2).val; omega

theorem iblk1 (t : Fin cfg0.N) : iblk m c 1 t = lbBlk m c := by
  have h : ∀ t : Fin grid0.N, win0_1.index t (0 : Fin 2) = 0 ∧ win0_1.index t (1 : Fin 2) = 0 := by decide +kernel
  obtain ⟨e0, e1⟩ := h t
  funext y
  have e : ((cfg0.win 1).blk t).view.emb y = y := by
    funext a; apply Fin.ext
    match a with
    | ⟨0, _⟩ => show win0_1.index t (0 : Fin 2) * 1 + 1 * (y 0).val = (y 0).val; omega
    | ⟨1, _⟩ => show win0_1.index t (1 : Fin 2) * 512 + 1 * (y 1).val = (y 1).val; omega
  show V m c main_v0 (((cfg0.win 1).blk t).view.emb y) = _
  rw [e]
  unfold lbBlk A1
  idx_vars y
  unfold V
  after_reads_at

theorem iblk2 (t : Fin cfg0.N) : iblk m c 2 t = gBlk m c := by
  have h : ∀ t : Fin grid0.N, win0_2.index t (0 : Fin 2) = 0 ∧ win0_2.index t (1 : Fin 2) = 0 := by decide +kernel
  obtain ⟨e0, e1⟩ := h t
  funext y
  have e : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  show V m c main_v1 (((cfg0.win 2).blk t).view.emb y) = _
  rw [e]
  unfold gBlk A2
  idx_vars y
  unfold V
  after_reads_at

theorem iblk3 (t : Fin cfg0.N) : iblk m c 3 t = A3 m c := by
  have h : ∀ t : Fin grid0.N, win0_3.index t (0 : Fin 4) = 0 ∧ win0_3.index t (1 : Fin 4) = 0 ∧ win0_3.index t (2 : Fin 4) = 0
    ∧ win0_3.index t (3 : Fin 4) = 0 := by decide +kernel
  obtain ⟨e0, e1, e2, e3⟩ := h t
  funext y
  show V m c main_arg3 (((cfg0.win 3).blk t).view.emb y) = _
  rw [V_main_arg3]
  refine congrArg (A3 m c) ?_
  funext a; apply Fin.ext
  match a with
  | ⟨0, _⟩ => show win0_3.index t (0 : Fin 4) * 4 + 1 * (y 0).val = (y 0).val; omega
  | ⟨1, _⟩ => show win0_3.index t (1 : Fin 4) * 4 + 1 * (y 1).val = (y 1).val; omega
  | ⟨2, _⟩ => show win0_3.index t (2 : Fin 4) * 128 + 1 * (y 2).val = (y 2).val; omega
  | ⟨3, _⟩ => show win0_3.index t (3 : Fin 4) * 128 + 1 * (y 3).val = (y 3).val; omega

/-! ## The grid's fold -/

/-- The 16 states before grid point `n`. -/
def stK : ℕ → Vec F S16x128x128 .f32
  | 0 => initBlk (A3 m c)
  | n + 1 => stBlk (inBlk m c n) (lbBlk m c) (stK n)

variable [∀ e, Nonempty (Elt F e)]

abbrev Acc (F : FTy → Type) [FloatOps F] : Type := Vec F S4x128x512 .bf16 × Vec F S4x4x128x128 .f32 × Vec F S16x128x128 .f32

theorem stepA (t : Fin cfg0.N) (acc : Acc F) (h0 : t.val % 32 = 0) (h1 : ¬t.val % 32 = 31) :
    (stAt0 m c t.val t.isLt acc).1 = outBlk (inBlk m c t.val) (lbBlk m c) (gBlk m c) (initBlk (A3 m c))
    ∧ (stAt0 m c t.val t.isLt acc).2.2 = stBlk (inBlk m c t.val) (lbBlk m c) (initBlk (A3 m c)) := by
  rw [← iblk0 m c t, ← iblk1 m c t, ← iblk2 m c t, ← iblk3 m c t]
  have e := stAt0_A m c t acc h0 h1
  refine ⟨(congrArg (fun p : Acc F => p.1) e).trans ?_, (congrArg (fun p : Acc F => p.2.2) e).trans ?_⟩
  · dsimp only
    exact outA ..
  · dsimp only
    exact stA ..

theorem stepB (t : Fin cfg0.N) (acc : Acc F) (h0 : ¬t.val % 32 = 0) (h1 : ¬t.val % 32 = 31) :
    (stAt0 m c t.val t.isLt acc).1 = outBlk (inBlk m c t.val) (lbBlk m c) (gBlk m c) acc.2.2
    ∧ (stAt0 m c t.val t.isLt acc).2.2 = stBlk (inBlk m c t.val) (lbBlk m c) acc.2.2 := by
  rw [← iblk0 m c t, ← iblk1 m c t, ← iblk2 m c t]
  have e := stAt0_B m c t acc h0 h1
  refine ⟨(congrArg (fun p : Acc F => p.1) e).trans ?_, (congrArg (fun p : Acc F => p.2.2) e).trans ?_⟩
  · dsimp only
    exact outB ..
  · dsimp only
    exact stB ..

theorem stepC (t : Fin cfg0.N) (acc : Acc F) (h0 : ¬t.val % 32 = 0) (h1 : t.val % 32 = 31) :
    (stAt0 m c t.val t.isLt acc).1 = outBlk (inBlk m c t.val) (lbBlk m c) (gBlk m c) acc.2.2
    ∧ (stAt0 m c t.val t.isLt acc).2.2 = stBlk (inBlk m c t.val) (lbBlk m c) acc.2.2
    ∧ (stAt0 m c t.val t.isLt acc).2.1 = finBlk (stBlk (inBlk m c t.val) (lbBlk m c) acc.2.2) := by
  rw [← iblk0 m c t, ← iblk1 m c t, ← iblk2 m c t]
  have e := stAt0_C m c t acc h0 h1
  refine ⟨(congrArg (fun p : Acc F => p.1) e).trans ?_, (congrArg (fun p : Acc F => p.2.2) e).trans ?_, (congrArg (fun p : Acc F => p.2.1) e).trans ?_⟩
  · dsimp only
    exact outC ..
  · dsimp only
    exact stC ..
  · dsimp only
    exact finC ..

/-- What the fold holds after point `n`: the block of results, the states, and at the last point the final states. -/
theorem acc_at : ∀ (n : ℕ) (h : 0 + n < cfg0.N),
    (Pipeline.accAt (fun n h => stAt0 m c n h junk0) (stAt0 m c) 0 n h).1 = outBlk (inBlk m c n) (lbBlk m c) (gBlk m c) (stK m c n)
    ∧ (Pipeline.accAt (fun n h => stAt0 m c n h junk0) (stAt0 m c) 0 n h).2.2 = stK m c (n + 1)
    ∧ (n = 31 → (Pipeline.accAt (fun n h => stAt0 m c n h junk0) (stAt0 m c) 0 n h).2.1 = finBlk (stK m c 32))
  | 0, h => by
    have hlt : 0 < cfg0.N := lt_of_lt_of_eq (by decide) N_0.symm
    obtain ⟨e1, e2⟩ := stepA m c ⟨0, hlt⟩ junk0 rfl (by show ¬(0 % 32 = 31); decide)
    exact ⟨e1, e2, fun h => absurd h (by decide)⟩
  | n + 1, h => by
    obtain ⟨-, ih, -⟩ := acc_at n (Nat.lt_of_succ_lt h)
    have hN : n + 1 < 32 := by have := lt_of_lt_of_eq h N_0; omega
    have hlt : n + 1 < cfg0.N := lt_of_lt_of_eq hN N_0.symm
    rw [Pipeline.accAt_succ]
    generalize Pipeline.accAt (fun n h => stAt0 m c n h junk0) (stAt0 m c) 0 n _ = acc at ih ⊢
    have ht : ∀ k (hk : k < cfg0.N), k = n + 1 → stAt0 m c k hk acc = stAt0 m c (n + 1) hlt acc := fun k hk e => by subst e; rfl
    rw [ht _ _ (by omega)]
    by_cases h31 : n + 1 = 31
    · obtain ⟨e1, e2, e3⟩ := stepC m c ⟨n + 1, hlt⟩ acc (by show ¬(n + 1) % 32 = 0; omega) (by show (n + 1) % 32 = 31; omega)
      rw [ih] at e1 e2 e3
      refine ⟨e1, e2, fun _ => e3.trans ?_⟩
      show finBlk (stK m c (n + 1 + 1)) = finBlk (stK m c 32)
      rw [h31]
    · obtain ⟨e1, e2⟩ := stepB m c ⟨n + 1, hlt⟩ acc (by show ¬(n + 1) % 32 = 0; omega) (by show ¬(n + 1) % 32 = 31; omega)
      rw [ih] at e1 e2
      exact ⟨e1, e2, fun h => absurd h h31⟩

/-- The result arrays, through the fold. -/
theorem G4_at (b : Fin 4) (t : Fin 4096) (e : Fin 512) : G4 m c (ix3 b t e)
    = outBlk (inBlk m c (t.val / 128)) (lbBlk m c) (gBlk m c) (stK m c (t.val / 128)) (ix3 b ⟨t.val % 128, Nat.mod_lt _ (by decide)⟩ e) := by
  have hp : pt4Of (ix3 b t e) = t.val / 128 := by
    show 32 * (b.val / 4 - 0) + 1 * (t.val / 128 - 0) + 1 * (e.val / 512 - 0) = _
    omega
  have hl : loc4Of (ix3 b t e) = ix3 b ⟨t.val % 128, Nat.mod_lt _ (by decide)⟩ e := by
    funext a; apply Fin.ext
    match a with
    | ⟨0, _⟩ => show b.val % 4 = b.val; omega
    | ⟨1, _⟩ => rfl
    | ⟨2, _⟩ => show e.val % 512 = e.val; omega
  have hlt : 0 + t.val / 128 < cfg0.N := lt_of_lt_of_eq (by omega) N_0.symm
  unfold G4
  rw [dif_pos (by rw [hp]; omega), hl, fold0_congr m c _ _ _ hlt hp, (acc_at m c _ hlt).1]

theorem G5_eq : G5 m c = finBlk (stK m c 32) := by
  rw [G5_last]
  exact (acc_at m c 31 _).2.2 rfl

end Blocks

end Cert.KernelIdeal.HG

end
-- ==== Proof.HgKernel.lean ====
module

public import proofs.«01_k».proof.Proof.HgFold

/-! The kernel's two result arrays in the recurrence's terms. -/

@[expose] public section

set_option maxRecDepth 16384

noncomputable section

namespace Cert.KernelIdeal.HG

open Cert.KernelIdeal Cert.KernelIdeal.Gen Cert.KernelIdeal.Value Idealize.ShloMosaic Idealize.ShloMosaic.TcCoe Cert.Hgrn

variable (m : (ℓ : Loc nD τ sig) → Buf (Elt Ideal) ℓ) (c : Dev nD)

/-- The arguments as plain functions. -/
def fX (b : Fin 4) (t : Fin 4096) (e : Fin 2048) : EReal := A0 m c (ix3 b t e)
def fL (e : Fin 512) : EReal := A1 m c (ix1 e)
def fW (e : Fin 128) : EReal := A2 m c (ix1 e)
def fS (b h : Fin 4) (k d : Fin 128) : EReal := A3 m c (ix4 b h k d)

theorem strip_at (n : ℕ) (hn : n < 32) (b : Fin 4) (b' o : ℕ) (hb : b' = b.val) (ho : o + 127 < 2048) (t : ℕ) (ht : t < 128) (k : Fin 128) :
    strip (inBlk m c n) b' o (ix2 ⟨t % 128, Nat.mod_lt _ (by decide)⟩ k)
      = fX m c b ⟨(128 * n + t) % 4096, Nat.mod_lt _ (by decide)⟩ ⟨o + k.val, by omega⟩ := by
  subst hb
  unfold strip inBlk fX
  simp only [← ix3_eq_valueIdx]
  refine congrArg (A0 m c) ?_
  funext a; apply Fin.ext
  match a with
  | ⟨0, _⟩ => show b.val % 4 = b.val; omega
  | ⟨1, _⟩ => show (128 * n + t % 128) % 4096 = (128 * n + t) % 4096; omega
  | ⟨2, _⟩ => show (o + k.val) % 2048 = o + k.val; omega

theorem lbRow_at (h : Fin 4) (o : ℕ) (ho : o = 128 * h.val) (k : Fin 128) :
    lbRow (lbBlk m c) o (ix2 0 k) = fL m c ⟨128 * h.val + k.val, by omega⟩ := by
  subst ho
  unfold lbRow lbBlk fL
  simp only [← ix2_eq_valueIdx]
  refine congrArg (A1 m c) ?_
  funext a; apply Fin.ext
  match a with
  | ⟨0, _⟩ => show (128 * h.val + k.val) % 512 = 128 * h.val + k.val; omega

/-- A tile's streams are the head's, from the tile's first position. -/
theorem tile_agrees (n : ℕ) (hn : n < 32) (b h : Fin 4) (b' o0 o1 o2 ol : ℕ) (hb : b' = b.val) (h0 : o0 = 128 * h.val)
    (h1 : o1 = 512 + 128 * h.val) (h2 : o2 = 1024 + 128 * h.val) (hl : ol = 128 * h.val) :
    ∀ t < 128, (tileStr (strip (inBlk m c n) b' o0) (strip (inBlk m c n) b' o1) (strip (inBlk m c n) b' o2) (lbRow (lbBlk m c) ol)).lf t
        = ((headStr (fX m c) (fL m c) b h).shift n).lf t
      ∧ (tileStr (strip (inBlk m c n) b' o0) (strip (inBlk m c n) b' o1) (strip (inBlk m c n) b' o2) (lbRow (lbBlk m c) ol)).ky t
        = ((headStr (fX m c) (fL m c) b h).shift n).ky t
      ∧ (tileStr (strip (inBlk m c n) b' o0) (strip (inBlk m c n) b' o1) (strip (inBlk m c n) b' o2) (lbRow (lbBlk m c) ol)).qs t
        = ((headStr (fX m c) (fL m c) b h).shift n).qs t
      ∧ (tileStr (strip (inBlk m c n) b' o0) (strip (inBlk m c n) b' o1) (strip (inBlk m c n) b' o2) (lbRow (lbBlk m c) ol)).vv t
        = ((headStr (fX m c) (fL m c) b h).shift n).vv t := by
  intro t ht
  subst h0; subst h1; subst h2
  refine ⟨funext fun k => ?_, funext fun k => ?_, funext fun k => ?_, funext fun k => ?_⟩
  · show lfK (lbRow (lbBlk m c) ol (ix2 0 k)) (strip (inBlk m c n) b' _ (ix2 ⟨t % 128, _⟩ k)) = _
    rw [lbRow_at m c h ol hl, strip_at m c n hn b b' _ hb (by omega) t ht]; rfl
  · show keyK (lbRow (lbBlk m c) ol (ix2 0 k)) (strip (inBlk m c n) b' _ (ix2 ⟨t % 128, _⟩ k)) = _
    rw [lbRow_at m c h ol hl, strip_at m c n hn b b' _ hb (by omega) t ht]; rfl
  · show strip (inBlk m c n) b' _ (ix2 ⟨t % 128, _⟩ k) * Ideal.div 1 (1 + Ideal.exp (-(strip (inBlk m c n) b' _ (ix2 ⟨t % 128, _⟩ k)))) = _
    rw [strip_at m c n hn b b' _ hb (by omega) t ht]; rfl
  · show strip (inBlk m c n) b' _ (ix2 ⟨t % 128, _⟩ k) = _
    rw [strip_at m c n hn b b' _ hb (by omega) t ht]; rfl

/-- The carried states, key coordinate first. -/
theorem stK_at (b h : Fin 4) : ∀ (n : ℕ), n ≤ 32 → ∀ d k : Fin 128, stK m c n (ix3 ⟨4 * b.val + h.val, by omega⟩ d k)
    = (headStr (fX m c) (fL m c) b h).st (fS m c b h) (4 * n) k d
  | 0, _, d, k => by
    show A3 m c _ = A3 m c _
    refine congrArg (A3 m c) ?_
    funext a; apply Fin.ext
    match a with
    | ⟨0, _⟩ => show (4 * b.val + h.val) / 4 = b.val; omega
    | ⟨1, _⟩ => show (4 * b.val + h.val) % 4 = h.val; omega
    | ⟨2, _⟩ => rfl
    | ⟨3, _⟩ => rfl
  | n + 1, hn, d, k => by
    have ih := stK_at b h n (by omega)
    show stBlk (inBlk m c n) (lbBlk m c) (stK m c n) (ix3 ⟨4 * b.val + h.val, by omega⟩ d k) = _
    have hst : stIn (slab (stK m c n) (4 * b.val + h.val)) = (headStr (fX m c) (fL m c) b h).st (fS m c b h) (4 * n) := by
      funext k d
      rw [← ih d k]
      unfold stIn slab
      refine congrArg (stK m c n) ?_
      funext a; apply Fin.ext
      match a with
      | ⟨0, _⟩ => show (4 * b.val + h.val) % 16 = 4 * b.val + h.val; omega
      | ⟨1, _⟩ => rfl
      | ⟨2, _⟩ => rfl
    unfold stBlk
    simp only [← ix3_eq_valueIdx]
    refine (tileState_at (strip (inBlk m c n) ((4 * b.val + h.val) / 4) (128 * h.val)) _ _ _ _ d k).trans ?_
    refine (congrArg (fun s : Str => s.st _ 4 k d) rfl).trans ?_
    show (tileStr (strip (inBlk m c n) ((4 * b.val + h.val) / 4) (128 * h.val)) (strip (inBlk m c n) ((4 * b.val + h.val) / 4) (512 + 128 * ((4 * b.val + h.val) % 4)))
      (strip (inBlk m c n) ((4 * b.val + h.val) / 4) (1024 + 128 * ((4 * b.val + h.val) % 4))) (lbRow (lbBlk m c) (128 * ((4 * b.val + h.val) % 4)))).st
      (stIn (slab (stK m c n) (4 * b.val + h.val))) 4 k d = _
    rw [Str.st_congr_tile (tile_agrees m c n (by omega) b h _ _ _ _ _ (by omega) rfl (by omega) (by omega) (by omega)) _ 4 (le_refl _), hst,
      Str.shift_st]
    rfl

theorem kernel_fin (b h : Fin 4) (k d : Fin 128) : G5 m c (ix4 b h k d) = finSpec (fX m c) (fL m c) (fS m c) b h k d := by
  rw [G5_eq]
  refine Eq.trans ?_ (stK_at m c b h 32 (le_refl _) d k)
  unfold finBlk
  simp only [← ix3_eq_valueIdx]
  rfl

theorem kernel_out (b : Fin 4) (t : Fin 4096) (h : Fin 4) (d : Fin 128) : G4 m c (ix3 b t ⟨128 * h.val + d.val, by omega⟩)
    = outSpec (fX m c) (fL m c) (fW m c) (fS m c) b t h d := by
  rw [G4_at]
  have hn : t.val / 128 < 32 := by omega
  have he : (128 * h.val + d.val) / 128 = h.val := by omega
  have hd : (128 * h.val + d.val) % 128 = d.val := by omega
  have hst : stIn (slab (stK m c (t.val / 128)) (4 * b.val + h.val)) = (headStr (fX m c) (fL m c) b h).st (fS m c b h) (4 * (t.val / 128)) := by
    funext k d
    rw [← stK_at m c b h _ (by omega) d k]
    unfold stIn slab
    refine congrArg (stK m c _) ?_
    funext a; apply Fin.ext
    match a with
    | ⟨0, _⟩ => show (4 * b.val + h.val) % 16 = 4 * b.val + h.val; omega
    | ⟨1, _⟩ => rfl
    | ⟨2, _⟩ => rfl
  show tileOut (strip (inBlk m c (t.val / 128)) b.val (128 * ((128 * h.val + d.val) / 128))) (strip (inBlk m c (t.val / 128)) b.val (512 + 128 * ((128 * h.val + d.val) / 128)))
    (strip (inBlk m c (t.val / 128)) b.val (1024 + 128 * ((128 * h.val + d.val) / 128))) (strip (inBlk m c (t.val / 128)) b.val (1536 + 128 * ((128 * h.val + d.val) / 128)))
    (lbRow (lbBlk m c) (128 * ((128 * h.val + d.val) / 128))) (gBlk m c) (slab (stK m c (t.val / 128)) (4 * b.val + (128 * h.val + d.val) / 128))
    (ValueIdx.ix3 ⟨0, _⟩ ⟨t.val % 128, _⟩ ⟨(128 * h.val + d.val) % 128, _⟩) = _
  rw [← ix3_eq_valueIdx]
  simp only [he, hd]
  refine (tileOut_at _ _ _ _ _ _ _ ⟨t.val % 128, by omega⟩ d).trans ?_
  have hag := tile_agrees m c (t.val / 128) hn b h b.val _ _ _ _ rfl rfl rfl rfl rfl
  rw [hst, Str.st_congr_tile hag _ _ (by show t.val % 128 / 32 ≤ 4; omega), Str.shift_st,
    (Str.congr_tile hag (t.val % 128 / 32) (by omega)).2 _ (by omega), Str.shift_O]
  unfold outSpec
  have e1 : 4 * (t.val / 128) + t.val % 128 / 32 = t.val / 32 := by omega
  have e2 : t.val % 128 % 32 = t.val % 32 := by omega
  show finish (Str.O _ (4 * (t.val / 128) + t.val % 128 / 32) (t.val % 128 % 32) _) _ _ d = _
  rw [e1, e2]
  congr 1
  funext e
  have h := strip_at m c (t.val / 128) hn b b.val (1536 + 128 * h.val) rfl (by omega) (t.val % 128) (by omega) e
  simp only [Nat.mod_mod] at h
  rw [h]
  exact congrArg (fun x => fX m c b x _) (Fin.ext (by show (128 * (t.val / 128) + t.val % 128) % 4096 = t.val; omega))

end Cert.KernelIdeal.HG

end
-- ==== Proof.HgRefA.lean ====
module

public import Idealize.ShloMosaic.Lib.StableHlo.ReadAt
public import proofs.«01_k».proof.Proof.HgSpec
public import proofs.«01_k».proof.Proof.Gen.ReferenceIdeal.Run

/-! The reference's streams before the loop: log forget gate, key, query and value at a position. -/

@[expose] public section

set_option maxRecDepth 16384

noncomputable section

namespace Cert.ReferenceIdeal.HR

open Cert.ReferenceIdeal Cert.ReferenceIdeal.Gen Cert.ReferenceIdeal.Value Idealize.ShloMosaic Idealize.ShloMosaic.TcCoe Idealize.ShloMosaic.StableHlo Cert.Hgrn

variable (V : Valuation τ sig (Elt Ideal))

abbrev V0 := after hostOps0 V
abbrev V1 := after hostOps0_1 (V0 V)
abbrev V2 := after hostOps0_2 (V1 V)
abbrev V3 := after hostOps0_3 (V2 V)
abbrev V4 := after hostOps0_4 (V3 V)

/-- The first two arguments as plain functions. -/
def rX (b : Fin 4) (t : Fin 4096) (e : Fin 2048) : EReal := V (Proc.devRef .tc main_arg0) (ix3 b t e)
def rL (e : Fin 512) : EReal := V (Proc.devRef .tc main_arg1) (ix1 e)

/-- A comparison of a value with itself never selects. -/
theorem sel_une (d a b : EReal) : Scalar.select (FloatOps.cmpf (F := Ideal) (φ := .f32) .une d d) a b = b := by
  unfold Scalar.select
  rw [if_neg]
  show ¬ (Ideal.cmp .une d d = 1#1)
  simp [Ideal.cmp]

theorem pos_eq (b : Fin 4) (n : Fin 128) (h : Fin 4) (r : Fin 32) (k : Fin 128) :
    (ix3 b ⟨n.val * 32 + r.val, by omega⟩ ⟨h.val * 128 + k.val, by omega⟩ : S4x4096x512.Idx)
      = ix3 b ⟨32 * n.val + r.val, by omega⟩ ⟨128 * h.val + k.val, by omega⟩ := by
  congr 2 <;> omega
/-- A query's activation. -/
def silu (x : EReal) : EReal := x * Ideal.div 1 (1 + Ideal.exp (-x))

theorem bits_zero : FloatOps.ofBits (F := Ideal) .f32 0#32 = (0 : EReal) := Ideal.ofBits_zero_f32
theorem bits_one : FloatOps.ofBits (F := Ideal) .f32 1065353216#32 = (1 : EReal) := Ideal.ofBits_one_f32

theorem v24_at (b : Fin 4) (t : Fin 4096) (e : Fin 512) :
    V2 V (Proc.devRef .tc main_v24) (ix3 b t e) = lfR (rL V e) (rX V b t ⟨512 + e.val, by omega⟩) := by
  after_reads_at
  simp only [sel_une, bits_zero]
  rfl
theorem v36_at (b : Fin 4) (t : Fin 4096) (e : Fin 512) :
    V2 V (Proc.devRef .tc main_v36) (ix3 b t e) = keyR (rL V e) (rX V b t ⟨512 + e.val, by omega⟩) := by
  after_reads_at
  simp only [bits_one]
  rfl
theorem v0_at (b : Fin 4) (t : Fin 4096) (e : Fin 512) :
    V2 V (Proc.devRef .tc main_v0) (ix3 b t e) = rX V b t ⟨e.val, by omega⟩ := by
  after_reads_at
  rfl
theorem v2_at (b : Fin 4) (t : Fin 4096) (e : Fin 512) :
    V2 V (Proc.devRef .tc main_v2) (ix3 b t e) = rX V b t ⟨1024 + e.val, by omega⟩ := by
  after_reads_at
  rfl
theorem v3_at (b : Fin 4) (t : Fin 4096) (e : Fin 512) :
    V2 V (Proc.devRef .tc main_v3) (ix3 b t e) = rX V b t ⟨1536 + e.val, by omega⟩ := by
  after_reads_at
  rfl

theorem v45_of (b : Fin 4) (n : Fin 128) (h : Fin 4) (r : Fin 32) (k : Fin 128) :
    after hostOps0_4 (after hostOps0_3 V) (Proc.devRef .tc main_v45) (ix5 b n h r k) = V (Proc.devRef .tc main_v24) (ix3 b ⟨32 * n.val + r.val, by omega⟩ ⟨128 * h.val + k.val, by omega⟩) := by
  after_reads_at
  exact congrArg _ (pos_eq b n h r k)
theorem v41_of (b : Fin 4) (n : Fin 128) (h : Fin 4) (r : Fin 32) (k : Fin 128) :
    after hostOps0_4 (after hostOps0_3 V) (Proc.devRef .tc main_v41) (ix5 b n h r k) = V (Proc.devRef .tc main_v36) (ix3 b ⟨32 * n.val + r.val, by omega⟩ ⟨128 * h.val + k.val, by omega⟩) := by
  after_reads_at
  exact congrArg _ (pos_eq b n h r k)
theorem v43_of (b : Fin 4) (n : Fin 128) (h : Fin 4) (r : Fin 32) (k : Fin 128) :
    after hostOps0_4 (after hostOps0_3 V) (Proc.devRef .tc main_v43) (ix5 b n h r k) = V (Proc.devRef .tc main_v2) (ix3 b ⟨32 * n.val + r.val, by omega⟩ ⟨128 * h.val + k.val, by omega⟩) := by
  after_reads_at
  exact congrArg _ (pos_eq b n h r k)
theorem v39_of (b : Fin 4) (n : Fin 128) (h : Fin 4) (r : Fin 32) (k : Fin 128) :
    after hostOps0_4 (after hostOps0_3 V) (Proc.devRef .tc main_v39) (ix5 b n h r k)
      = silu (V (Proc.devRef .tc main_v0) (ix3 b ⟨32 * n.val + r.val, by omega⟩ ⟨128 * h.val + k.val, by omega⟩)) := by
  after_reads_at
  simp only [bits_one]
  exact congrArg (fun i => silu (V (Proc.devRef .tc main_v0) i)) (pos_eq b n h r k)
theorem v3_of (b : Fin 4) (t : Fin 4096) (e : Fin 512) :
    after hostOps0_4 (after hostOps0_3 V) (Proc.devRef .tc main_v3) (ix3 b t e) = V (Proc.devRef .tc main_v3) (ix3 b t e) := by
  after_reads_at

end Cert.ReferenceIdeal.HR
-- ==== Proof.HgRefCum.lean ====
module

public import Idealize.ShloMosaic.Lib.Pointwise
public import proofs.«01_k».proof.Proof.Gen.ReferenceIdeal.Run

/-! The running sum within chunks, read at an index. -/

@[expose] public section

set_option maxRecDepth 16384

noncomputable section

namespace Cert.ReferenceIdeal.HR

open Cert.ReferenceIdeal Cert.ReferenceIdeal.Gen Idealize.ShloMosaic

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- Adding the entries that a window of 32 ending at `r` meets is adding the entries up to `r`. -/
theorem window_range (y : ℕ → EReal) (r : ℕ) (hr : r < 32) :
    (∑ i : Fin 32, if 31 ≤ r + i.val then y (r + i.val - 31) else 0) = ∑ i ∈ Finset.range (r + 1), y i := by
  rw [Fin.sum_univ_eq_sum_range (fun i => if 31 ≤ r + i then y (r + i - 31) else 0) 32]
  have e : (32 : ℕ) = (31 - r) + (r + 1) := by omega
  rw [e, Finset.sum_range_add, Finset.sum_eq_zero, zero_add]
  · refine Finset.sum_congr rfl fun i _ => ?_
    rw [if_pos (by omega)]; exact congrArg y (by omega)
  · intro i hi
    have := Finset.mem_range.mp hi
    exact if_neg (by omega)

abbrev Win : Shape := ⟨5, ![1, 1, 1, 32, 1]⟩

/-- A position of the window is its place along the chunk. -/
def winEquiv : Fin 32 ≃ Win.Idx where
  toFun i := ix5 0 0 0 i 0
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

theorem cumsum_at (x : S4x128x4x32x128.Idx → EReal) (v : S_.Idx → EReal) (hv : v (Shape.Idx.first h_S_) = 0)
    (h : S4x128x4x32x128.ReduceWindows ![1, 1, 1, 32, 1] ![1, 1, 1, 1, 1] ![0, 0, 0, 31, 0] ![0, 0, 0, 0, 0] S4x128x4x32x128)
    (b : Fin 4) (n : Fin 128) (g : Fin 4) (r : Fin 32) (k : Fin 128) :
    Host.reduceWindowAdd (F := Ideal) (φ := .f32) ![1, 1, 1, 32, 1] ![1, 1, 1, 1, 1] ![0, 0, 0, 31, 0] ![0, 0, 0, 0, 0] x v h h_S_ (ix5 b n g r k)
      = ∑ i ∈ Finset.range (r.val + 1), x (ix5 b n g ⟨i % 32, Nat.mod_lt _ (by decide)⟩ k) := by
  unfold Host.reduceWindowAdd
  rw [Ideal.hostReduceWindowAdd_def]
  unfold Ideal.hostReduceWindowAdd Host.reduceWindow
  dsimp only
  rw [foldl_add, hv, zero_add, ← Fin.sum_univ_def]
  refine (Equiv.sum_comp (winEquiv.trans Win.rowMajor) _).symm.trans ?_
  simp only [Equiv.trans_apply, Equiv.symm_apply_apply]
  rw [← window_range (fun i => x (ix5 b n g ⟨i % 32, Nat.mod_lt _ (by decide)⟩ k)) r.val r.isLt]
  refine Finset.sum_congr rfl fun i _ => ?_
  by_cases hi : 31 ≤ r.val + i.val
  · rw [if_pos hi, dif_pos]
    · refine congrArg x ?_
      funext a; apply Fin.ext
      match a with
      | ⟨0, _⟩ => show b.val * 1 + 0 - 0 = b.val; omega
      | ⟨1, _⟩ => show n.val * 1 + 0 - 0 = n.val; omega
      | ⟨2, _⟩ => show g.val * 1 + 0 - 0 = g.val; omega
      | ⟨3, _⟩ => show r.val * 1 + i.val - 31 = (r.val + i.val - 31) % 32; omega
      | ⟨4, _⟩ => show k.val * 1 + 0 - 0 = k.val; omega
    · intro a
      match a with
      | ⟨0, _⟩ => show 0 ≤ b.val * 1 + 0 ∧ b.val * 1 + 0 - 0 < 4; omega
      | ⟨1, _⟩ => show 0 ≤ n.val * 1 + 0 ∧ n.val * 1 + 0 - 0 < 128; omega
      | ⟨2, _⟩ => show 0 ≤ g.val * 1 + 0 ∧ g.val * 1 + 0 - 0 < 4; omega
      | ⟨3, _⟩ => show 31 ≤ r.val * 1 + i.val ∧ r.val * 1 + i.val - 31 < 32; omega
      | ⟨4, _⟩ => show 0 ≤ k.val * 1 + 0 ∧ k.val * 1 + 0 - 0 < 128; omega
  · rw [if_neg hi, dif_neg]
    intro hin
    have h3 : 31 ≤ r.val * 1 + i.val := (hin 3).1
    omega

end Cert.ReferenceIdeal.HR
-- ==== Proof.HgRefB.lean ====
module

public import proofs.«01_k».proof.Proof.HgRefA
public import proofs.«01_k».proof.Proof.HgRefCum

/-! What the loop is given, of the streams and the running sums within chunks. -/

@[expose] public section

set_option maxRecDepth 16384

noncomputable section

namespace Cert.ReferenceIdeal.HR

open Cert.ReferenceIdeal Cert.ReferenceIdeal.Gen Cert.ReferenceIdeal.Value Idealize.ShloMosaic Idealize.ShloMosaic.TcCoe Idealize.ShloMosaic.StableHlo Cert.Hgrn

variable (X : Valuation τ sig (Elt Ideal))

abbrev P10 := after hostOps0_10 (after hostOps0_9 (after hostOps0_8 (after hostOps0_7 (after hostOps0_6 X))))

/-- The chunked streams at a chunk's position: query, key, value, log gate, and the running sum of log gates. -/
def xq (b : Fin 4) (n : Fin 128) (h : Fin 4) (r : Fin 32) (k : Fin 128) : EReal := X (Proc.devRef .tc main_v39) (ix5 b n h r k)
def xk (b : Fin 4) (n : Fin 128) (h : Fin 4) (r : Fin 32) (k : Fin 128) : EReal := X (Proc.devRef .tc main_v41) (ix5 b n h r k)
def xv (b : Fin 4) (n : Fin 128) (h : Fin 4) (r : Fin 32) (k : Fin 128) : EReal := X (Proc.devRef .tc main_v43) (ix5 b n h r k)
def xg (b : Fin 4) (n : Fin 128) (h : Fin 4) (r : Fin 32) (k : Fin 128) : EReal := X (Proc.devRef .tc main_v45) (ix5 b n h r k)
def xB (b : Fin 4) (n : Fin 128) (h : Fin 4) (r : Fin 32) (k : Fin 128) : EReal := X (Proc.devRef .tc main_v46) (ix5 b n h r k)

/-- A chunk's own part of the result. -/
def y56 (Y : Valuation τ sig (Elt Ideal)) (b : Fin 4) (n : Fin 128) (h : Fin 4) (r : Fin 32) (d : Fin 128) : EReal := Y (Proc.devRef .tc main_v56) (ix5 b n h r d)

theorem v46_of (b : Fin 4) (n : Fin 128) (h : Fin 4) (r : Fin 32) (k : Fin 128) :
    xB (after hostOps0_5 X) b n h r k = ∑ i ∈ Finset.range (r.val + 1), xg X b n h ⟨i % 32, Nat.mod_lt _ (by decide)⟩ k := by
  unfold xB
  after_results
  exact cumsum_at (X (Proc.devRef .tc main_v45)) _ bits_zero _ b n h r k

theorem c0_of (b : Fin 4) (n : Fin 128) (h : Fin 4) (r : Fin 32) (k : Fin 128) :
    P10 X (Proc.devRef .tc main_v69_0) (ix5 n b h r k) = xq X b n h r k * Ideal.exp (xB X b n h r k) := by
  after_reads_at
  simp only [id_eq]
  pointwise []
  rfl
theorem c1_of (b : Fin 4) (n : Fin 128) (h : Fin 4) (r : Fin 32) (k : Fin 128) :
    P10 X (Proc.devRef .tc main_v69_1) (ix5 n b h r k) = xk X b n h r k * Ideal.exp (xB X b n h 31 k - xB X b n h r k) := by
  after_reads_at
  simp only [id_eq]
  pointwise []
  rfl
theorem c2_of (b : Fin 4) (n : Fin 128) (h : Fin 4) (r : Fin 32) (k : Fin 128) :
    P10 X (Proc.devRef .tc main_v69_2) (ix5 n b h r k) = xv X b n h r k := by
  after_reads_at
  simp only [id_eq]
  pointwise []
  rfl
theorem c3_of (b : Fin 4) (n : Fin 128) (h : Fin 4) (k : Fin 128) :
    P10 X (Proc.devRef .tc main_v69_3) (ix4 n b h k) = Ideal.exp (xB X b n h 31 k) := by
  after_reads_at
  simp only [id_eq]
  pointwise []
  rfl
theorem c5_of :
    P10 X (Proc.devRef .tc main_v69_5) = X (Proc.devRef .tc main_arg3) := by
  after_reads_simp
  rfl
theorem v3_of10 :
    P10 (after hostOps0_5 X) (Proc.devRef .tc main_v3) = X (Proc.devRef .tc main_v3) := by
  after_reads_simp
theorem arg2_of10 :
    P10 (after hostOps0_5 X) (Proc.devRef .tc main_arg2) = X (Proc.devRef .tc main_arg2) := by
  after_reads_simp
/-- The mask of the lower triangle. -/
theorem tril_word : ∀ r x : Fin 32, Scalar.select (IntOp.cmpi .sge (IntOp.addi (BitVec.ofNat 32 r.val) 0#32) (BitVec.ofNat 32 x.val)) 1#1 0#1
    = if x.val ≤ r.val then 1#1 else 0#1 := by decide +kernel
theorem v56_of (b : Fin 4) (n : Fin 128) (h : Fin 4) (r : Fin 32) (d : Fin 128) :
    y56 (P10 X) b n h r d = ∑ r' : Fin 32, (if r'.val ≤ r.val then ∑ k : Fin 128, (xq X b n h r k * Ideal.exp (xB X b n h r k)) * (xk X b n h r' k * Ideal.exp (-(xB X b n h r' k))) else 0) * xv X b n h r' d := by
  unfold y56
  after_reads_at
  simp only [tril_word, id_eq]
  refine Finset.sum_congr rfl fun r' _ => ?_
  refine congrArg (fun a : EReal => a * xv X b n h r' d) ?_
  by_cases hr : r'.val ≤ r.val
  · rw [if_pos hr, if_pos hr]; exact if_pos rfl
  · rw [if_neg hr, if_neg hr]; exact (if_neg (by decide)).trans bits_zero
theorem ctr_of :
    P10 X (Proc.devRef .tc main_v69_4) = fun _ => (0#32 : BitVec 32) := by
  after_reads_simp
  rfl
theorem v43_of5 (b : Fin 4) (n : Fin 128) (h : Fin 4) (r : Fin 32) (k : Fin 128) :
    xv (after hostOps0_5 X) b n h r k = xv X b n h r k := by
  unfold xv
  after_reads_at
theorem v41_of5 (b : Fin 4) (n : Fin 128) (h : Fin 4) (r : Fin 32) (k : Fin 128) :
    xk (after hostOps0_5 X) b n h r k = xk X b n h r k := by
  unfold xk
  after_reads_at
theorem v39_of5 (b : Fin 4) (n : Fin 128) (h : Fin 4) (r : Fin 32) (k : Fin 128) :
    xq (after hostOps0_5 X) b n h r k = xq X b n h r k := by
  unfold xq
  after_reads_at
end Cert.ReferenceIdeal.HR
-- ==== Proof.HgRefLoop.lean ====
module

public import proofs.«01_k».proof.Proof.HgRefB

/-! One trip of the reference's loop over chunks, and all of them. -/

@[expose] public section

set_option maxRecDepth 16384

noncomputable section

namespace Cert.ReferenceIdeal.HR

open Cert.ReferenceIdeal Cert.ReferenceIdeal.Gen Cert.ReferenceIdeal.Value Idealize.ShloMosaic Idealize.ShloMosaic.TcCoe Idealize.ShloMosaic.StableHlo Cert.Hgrn

variable (X : Valuation τ sig (Elt Ideal))

/-- The start of chunk `n` in an array kept chunk first. -/
abbrev start5 (n : ℕ) : Fin 5 → Int := fun k =>
  (((![fun _ => BitVec.ofNat 32 n, constantI S_ 32 0#32, constantI S_ 32 0#32, constantI S_ 32 0#32, constantI S_ 32 0#32] : Fin 5 → (⟨S_, .i32⟩ : BufTy).Contents (Elt Ideal))) k (Shape.Idx.first h_S_)).toInt
abbrev start4 (n : ℕ) : Fin 4 → Int := fun k =>
  (((![fun _ => BitVec.ofNat 32 n, constantI S_ 32 0#32, constantI S_ 32 0#32, constantI S_ 32 0#32] : Fin 4 → (⟨S_, .i32⟩ : BufTy).Contents (Elt Ideal))) k (Shape.Idx.first h_S_)).toInt

theorem word_toInt : ∀ n : Fin 128, (BitVec.ofNat 32 n.val).toInt = (n.val : Int) := by decide +kernel

theorem clamp5 (n : Fin 128) (ht : S1x4x4x32x128.rank = S128x4x4x32x128.rank) (a : Fin 5) :
    Host.clampedStart S128x4x4x32x128 S1x4x4x32x128 ht (start5 n.val) a = (![n.val, 0, 0, 0, 0] : Fin 5 → ℕ) a := by
  refine Host.clampedStart_of_le ht _ a _ ?_ ?_
  · match a with
    | ⟨0, _⟩ => exact word_toInt n
    | ⟨1, _⟩ => rfl
    | ⟨2, _⟩ => rfl
    | ⟨3, _⟩ => rfl
    | ⟨4, _⟩ => rfl
  · match a with
    | ⟨0, _⟩ => show n.val + 1 ≤ 128; omega
    | ⟨1, _⟩ => show 0 + 4 ≤ 4; omega
    | ⟨2, _⟩ => show 0 + 4 ≤ 4; omega
    | ⟨3, _⟩ => show 0 + 32 ≤ 32; omega
    | ⟨4, _⟩ => show 0 + 128 ≤ 128; omega

theorem clamp4 (n : Fin 128) (ht : S1x4x4x128.rank = S128x4x4x128.rank) (a : Fin 4) :
    Host.clampedStart S128x4x4x128 S1x4x4x128 ht (start4 n.val) a = (![n.val, 0, 0, 0] : Fin 4 → ℕ) a := by
  refine Host.clampedStart_of_le ht _ a _ ?_ ?_
  · match a with
    | ⟨0, _⟩ => exact word_toInt n
    | ⟨1, _⟩ => rfl
    | ⟨2, _⟩ => rfl
    | ⟨3, _⟩ => rfl
  · match a with
    | ⟨0, _⟩ => show n.val + 1 ≤ 128; omega
    | ⟨1, _⟩ => show 0 + 4 ≤ 4; omega
    | ⟨2, _⟩ => show 0 + 4 ≤ 4; omega
    | ⟨3, _⟩ => show 0 + 128 ≤ 128; omega

theorem slice5 (n : Fin 128) (x : S128x4x4x32x128.Idx → EReal) (h : S128x4x4x32x128.Slices (fun _ => 0) S1x4x4x32x128) :
    Host.dynamicSlice S1x4x4x32x128 x (start5 n.val) h = fun j => x (ix5 n (j 1) (j 2) (j 3) (j 4)) := by
  funext j
  rw [Host.dynamicSlice_apply]
  refine congrArg x ?_
  funext a; apply Fin.ext
  have hc := clamp5 n h.1 a
  have h0 : (j 0).val = 0 := by have : (j 0).val < 1 := (j 0).isLt; omega
  match a, hc with
  | ⟨0, _⟩, hc => exact (congrArg₂ (· + ·) hc h0).trans (Nat.add_zero _)
  | ⟨1, _⟩, hc => exact (congrArg (· + (j 1).val) hc).trans (Nat.zero_add _)
  | ⟨2, _⟩, hc => exact (congrArg (· + (j 2).val) hc).trans (Nat.zero_add _)
  | ⟨3, _⟩, hc => exact (congrArg (· + (j 3).val) hc).trans (Nat.zero_add _)
  | ⟨4, _⟩, hc => exact (congrArg (· + (j 4).val) hc).trans (Nat.zero_add _)

theorem slice4 (n : Fin 128) (x : S128x4x4x128.Idx → EReal) (h : S128x4x4x128.Slices (fun _ => 0) S1x4x4x128) :
    Host.dynamicSlice S1x4x4x128 x (start4 n.val) h = fun j => x (ix4 n (j 1) (j 2) (j 3)) := by
  funext j
  rw [Host.dynamicSlice_apply]
  refine congrArg x ?_
  funext a; apply Fin.ext
  have hc := clamp4 n h.1 a
  have h0 : (j 0).val = 0 := by have : (j 0).val < 1 := (j 0).isLt; omega
  match a, hc with
  | ⟨0, _⟩, hc => exact (congrArg₂ (· + ·) hc h0).trans (Nat.add_zero _)
  | ⟨1, _⟩, hc => exact (congrArg (· + (j 1).val) hc).trans (Nat.zero_add _)
  | ⟨2, _⟩, hc => exact (congrArg (· + (j 2).val) hc).trans (Nat.zero_add _)
  | ⟨3, _⟩, hc => exact (congrArg (· + (j 3).val) hc).trans (Nat.zero_add _)

theorem update5 (n : Fin 128) (x : S128x4x4x32x128.Idx → EReal) (u : S1x4x4x32x128.Idx → EReal) (hs : S128x4x4x32x128.Slices (fun _ => 0) S1x4x4x32x128)
    (n' : Fin 128) (b h : Fin 4) (r : Fin 32) (d : Fin 128) :
    Host.dynamicUpdateSlice x u (start5 n.val) hs (ix5 n' b h r d) = if n' = n then u (ix5 0 b h r d) else x (ix5 n' b h r d) := by
  rw [Host.dynamicUpdateSlice_apply]
  by_cases hn : n' = n
  · subst hn
    rw [if_pos rfl, dif_pos]
    · refine congrArg u ?_
      funext a; apply Fin.ext
      have hc := clamp5 n' hs.1 (a.cast hs.1)
      match a, hc with
      | ⟨0, _⟩, hc => exact (congrArg (n'.val - ·) hc).trans (Nat.sub_self _)
      | ⟨1, _⟩, hc => exact congrArg (b.val - ·) hc
      | ⟨2, _⟩, hc => exact congrArg (h.val - ·) hc
      | ⟨3, _⟩, hc => exact congrArg (r.val - ·) hc
      | ⟨4, _⟩, hc => exact congrArg (d.val - ·) hc
    · intro a
      rw [clamp5 n' hs.1 a]
      match a with
      | ⟨0, _⟩ => show n'.val ≤ n'.val ∧ n'.val < n'.val + 1; omega
      | ⟨1, _⟩ => show 0 ≤ b.val ∧ b.val < 0 + 4; omega
      | ⟨2, _⟩ => show 0 ≤ h.val ∧ h.val < 0 + 4; omega
      | ⟨3, _⟩ => show 0 ≤ r.val ∧ r.val < 0 + 32; omega
      | ⟨4, _⟩ => show 0 ≤ d.val ∧ d.val < 0 + 128; omega
  · rw [if_neg hn, dif_neg]
    intro hin
    have h0 := hin (0 : Fin 5)
    rw [clamp5 n hs.1 (0 : Fin 5)] at h0
    have h1 : n.val ≤ n'.val ∧ n'.val < n.val + 1 := h0
    exact hn (Fin.ext (by omega))

/-- One trip's state and its row of results, over plain arrays. -/
theorem step5_arr (n : Fin 128) (x1 x2 : S128x4x4x32x128.Idx → EReal) (x3 : S128x4x4x128.Idx → EReal) (x5 : S4x4x128x128.Idx → EReal)
    (b h : Fin 4) (k d : Fin 128) :
    id (addf (F := Ideal) (φ := .f32) (mulf (broadcastInDim S4x4x128x128 ![0, 1, 2, 3] bcast_S4x4x128x1_S4x4x128x128_0_1_2_3 (broadcastInDim S4x4x128x1 ![0, 1, 2] bcast_S4x4x128_S4x4x128x1_0_1_2
        (shapeCast S4x4x128 (Host.dynamicSlice S1x4x4x128 x3 (start4 n.val) sliceFits_S128x4x4x128_S1x4x4x128) shapeCasts_S1x4x4x128_S4x4x128))) x5)
      (Host.dotGeneral (F := Ideal) (φ₁ := .f32) (φ₂ := .f32) dot_S4x4x32x128_S4x4x32x128_S4x4x128x128_2_2_3_3_01_01 none
        (shapeCast S4x4x32x128 (Host.dynamicSlice S1x4x4x32x128 x1 (start5 n.val) sliceFits_S128x4x4x32x128_S1x4x4x32x128) shapeCasts_S1x4x4x32x128_S4x4x32x128)
        (shapeCast S4x4x32x128 (Host.dynamicSlice S1x4x4x32x128 x2 (start5 n.val) sliceFits_S128x4x4x32x128_S1x4x4x32x128) shapeCasts_S1x4x4x32x128_S4x4x32x128))) (ix4 b h k d)
      = x3 (ix4 n b h k) * x5 (ix4 b h k d) + ∑ r : Fin 32, x1 (ix5 n b h r k) * x2 (ix5 n b h r d) := by
  rw [slice5 n x1, slice5 n x2, slice4 n x3]
  simp only [id_eq]
  pointwise []
theorem step6_arr (n : Fin 128) (x0 : S128x4x4x32x128.Idx → EReal) (x5 : S4x4x128x128.Idx → EReal) (x6 : S128x4x4x32x128.Idx → EReal)
    (n' : Fin 128) (b h : Fin 4) (r : Fin 32) (d : Fin 128) :
    id (Host.dynamicUpdateSlice x6 (broadcastInDim S1x4x4x32x128 ![1, 2, 3, 4] bcast_S4x4x32x128_S1x4x4x32x128_1_2_3_4
      (Host.dotGeneral (F := Ideal) (φ₁ := .f32) (φ₂ := .f32) dot_S4x4x32x128_S4x4x128x128_S4x4x32x128_3_2_2_3_01_01 none
        (shapeCast S4x4x32x128 (Host.dynamicSlice S1x4x4x32x128 x0 (start5 n.val) sliceFits_S128x4x4x32x128_S1x4x4x32x128) shapeCasts_S1x4x4x32x128_S4x4x32x128) x5))
      (start5 n.val) updateFits_S128x4x4x32x128_S1x4x4x32x128) (ix5 n' b h r d)
      = if n' = n then ∑ k : Fin 128, x0 (ix5 n b h r k) * x5 (ix4 b h k d) else x6 (ix5 n' b h r d) := by
  rw [id_eq, update5, slice5 n x0]
  pointwise []

/-- What the loop carries, as plain functions. -/
def c0 (n : Fin 128) (b h : Fin 4) (r : Fin 32) (k : Fin 128) : EReal := X (Proc.devRef .tc main_v69_0) (ix5 n b h r k)
def c1 (n : Fin 128) (b h : Fin 4) (r : Fin 32) (k : Fin 128) : EReal := X (Proc.devRef .tc main_v69_1) (ix5 n b h r k)
def c2 (n : Fin 128) (b h : Fin 4) (r : Fin 32) (k : Fin 128) : EReal := X (Proc.devRef .tc main_v69_2) (ix5 n b h r k)
def c3 (n : Fin 128) (b h : Fin 4) (k : Fin 128) : EReal := X (Proc.devRef .tc main_v69_3) (ix4 n b h k)
def c5 (b h : Fin 4) (k d : Fin 128) : EReal := X (Proc.devRef .tc main_v69_5) (ix4 b h k d)
def c6 (n : Fin 128) (b h : Fin 4) (r : Fin 32) (k : Fin 128) : EReal := X (Proc.devRef .tc main_v69_6) (ix5 n b h r k)

theorem step5_of (n : Fin 128) (hn : X (Proc.devRef .tc main_v69_4) = fun _ => BitVec.ofNat 32 n.val) (b h : Fin 4) (k d : Fin 128) :
    c5 (STEP X) b h k d = c3 X n b h k * c5 X b h k d + ∑ r : Fin 32, c1 X n b h r k * c2 X n b h r d := by
  unfold c5
  rw [STEP_main_v69_5]
  unfold step_main_v69_5
  rw [hn]
  exact step5_arr n (X (Proc.devRef .tc main_v69_1)) (X (Proc.devRef .tc main_v69_2)) (X (Proc.devRef .tc main_v69_3)) (X (Proc.devRef .tc main_v69_5)) b h k d
theorem step6_of (n : Fin 128) (hn : X (Proc.devRef .tc main_v69_4) = fun _ => BitVec.ofNat 32 n.val) (n' : Fin 128) (b h : Fin 4) (r : Fin 32) (d : Fin 128) :
    c6 (STEP X) n' b h r d = if n' = n then ∑ k : Fin 128, c0 X n b h r k * c5 X b h k d else c6 X n' b h r d := by
  unfold c6
  rw [STEP_main_v69_6]
  unfold step_main_v69_6
  rw [hn]
  exact step6_arr n (X (Proc.devRef .tc main_v69_0)) (X (Proc.devRef .tc main_v69_5)) (X (Proc.devRef .tc main_v69_6)) n' b h r d

/-- The contents before trip `k`. -/
abbrev E (k : ℕ) : Valuation τ sig (Elt Ideal) := STEP^[k] X

theorem E_succ (k : ℕ) : E X (k + 1) = STEP (E X k) := Function.iterate_succ_apply' STEP k X
theorem E_c0 (k : ℕ) : c0 (E X k) = c0 X := by
  induction k with
  | zero => rfl
  | succ k ih => rw [E_succ, ← ih]; funext n b h r d; exact congrFun (STEP_main_v69_0 _) _
theorem E_c1 (k : ℕ) : c1 (E X k) = c1 X := by
  induction k with
  | zero => rfl
  | succ k ih => rw [E_succ, ← ih]; funext n b h r d; exact congrFun (STEP_main_v69_1 _) _
theorem E_c2 (k : ℕ) : c2 (E X k) = c2 X := by
  induction k with
  | zero => rfl
  | succ k ih => rw [E_succ, ← ih]; funext n b h r d; exact congrFun (STEP_main_v69_2 _) _
theorem E_c3 (k : ℕ) : c3 (E X k) = c3 X := by
  induction k with
  | zero => rfl
  | succ k ih => rw [E_succ, ← ih]; funext n b h d; exact congrFun (STEP_main_v69_3 _) _

theorem E_ctr (h0 : X (Proc.devRef .tc main_v69_4) = fun _ => (0#32 : BitVec 32)) (k : ℕ) :
    E X k (Proc.devRef .tc main_v69_4) = fun _ => BitVec.ofNat 32 k := by
  induction k with
  | zero => exact h0
  | succ k ih =>
    rw [E_succ, STEP_main_v69_4]; unfold step_main_v69_4; rw [ih]
    funext i
    exact (BitVec.ofNat_add k 1).symm

/-- All trips: the carried state is the recurrence's, and row `n` of the results reads the state before chunk `n`. -/
theorem E_state (s : Fin 4 → Fin 4 → Str) (S : Fin 4 → Fin 4 → Fin 128 → Fin 128 → EReal)
    (h0 : X (Proc.devRef .tc main_v69_4) = fun _ => (0#32 : BitVec 32))
    (hq : ∀ n b h r k, c0 X n b h r k = (s b h).QE n.val r.val k)
    (hk : ∀ n b h r k, c1 X n b h r k = (s b h).KD n.val r.val k)
    (hv : ∀ n b h r k, c2 X n b h r k = (s b h).vv (32 * n.val + r.val) k)
    (hd : ∀ n b h k, c3 X n b h k = Ideal.exp ((s b h).B n.val 31 k))
    (hs : ∀ b h k d, c5 X b h k d = S b h k d) (N : ℕ) (hN : N ≤ 128) :
    (∀ b h k d, c5 (E X N) b h k d = (s b h).st (S b h) N k d)
      ∧ ∀ n : Fin 128, n.val < N → ∀ b h r d, c6 (E X N) n b h r d = (s b h).OI n.val r.val ((s b h).st (S b h) n.val) d := by
  induction N with
  | zero => exact ⟨hs, fun n hn => absurd hn (Nat.not_lt_zero _)⟩
  | succ N ih =>
    obtain ⟨i5, i6⟩ := ih (by omega)
    have hc := E_ctr X h0 N
    refine ⟨fun b h k d => ?_, fun n hn b h r d => ?_⟩
    · rw [E_succ, step5_of (E X N) ⟨N, by omega⟩ hc, E_c1, E_c2, E_c3, i5, hd]
      refine congrArg₂ (· + ·) (mul_comm _ _) (Finset.sum_congr rfl fun r _ => ?_)
      rw [hk, hv]
    · rw [E_succ, step6_of (E X N) ⟨N, by omega⟩ hc, E_c0]
      by_cases e : n = ⟨N, by omega⟩
      · rw [if_pos e, e]
        exact Finset.sum_congr rfl fun k _ => congrArg₂ (· * ·) (hq _ b h r k) (i5 b h k d)
      · rw [if_neg e]
        exact i6 n (by have : n.val ≠ N := fun h => e (Fin.ext h); omega) b h r d
end Cert.ReferenceIdeal.HR
-- ==== Proof.HgRefEntry.lean ====
module

public import proofs.«01_k».proof.Proof.HgRefLoop

/-! What the loop is given, in the recurrence's terms. -/

@[expose] public section

set_option maxRecDepth 16384

noncomputable section

namespace Cert.ReferenceIdeal.HR

open Cert.ReferenceIdeal Cert.ReferenceIdeal.Gen Cert.ReferenceIdeal.Value Idealize.ShloMosaic Idealize.ShloMosaic.TcCoe Idealize.ShloMosaic.StableHlo Cert.Hgrn

variable (V : Valuation τ sig (Elt Ideal)) (hL : ∀ e, 0 ≤ rL V e ∧ rL V e ≤ 1)

abbrev S5 := after hostOps0_5 (V4 V)
abbrev hd (b h : Fin 4) : Str := headStr (rX V) (rL V) b h

theorem idx_t (n : Fin 128) (r : Fin 32) : (⟨(32 * n.val + r.val) % 4096, Nat.mod_lt _ (by decide)⟩ : Fin 4096) = ⟨32 * n.val + r.val, by omega⟩ :=
  Fin.ext (Nat.mod_eq_of_lt (by omega))
theorem idx_e (o : ℕ) (ho : o + 512 ≤ 2048) (h : Fin 4) (k : Fin 128) :
    (⟨o + (128 * h.val + k.val), by omega⟩ : Fin 2048) = ⟨o + 128 * h.val + k.val, by omega⟩ := Fin.ext (Nat.add_assoc _ _ _).symm

theorem xq_eq (b : Fin 4) (n : Fin 128) (h : Fin 4) (r : Fin 32) (k : Fin 128) : xq (S5 V) b n h r k = (hd V b h).qs (32 * n.val + r.val) k := by
  rw [v39_of5]
  unfold xq
  refine (v39_of (V2 V) b n h r k).trans ?_
  refine (congrArg silu (v0_at V b _ _)).trans ?_
  show _ = rX V b _ _ * Ideal.div 1 (1 + Ideal.exp (-(rX V b _ _)))
  rw [idx_t]
  rfl
theorem xk_eq (b : Fin 4) (n : Fin 128) (h : Fin 4) (r : Fin 32) (k : Fin 128) : xk (S5 V) b n h r k = (hd V b h).ky (32 * n.val + r.val) k := by
  rw [v41_of5]
  unfold xk
  refine (v41_of (V2 V) b n h r k).trans ?_
  refine (v36_at V b _ _).trans ?_
  rw [← key_eq]
  show _ = keyK (rL V _) (rX V b _ _)
  rw [idx_t, ← idx_e 512 (by decide)]
theorem xv_eq (b : Fin 4) (n : Fin 128) (h : Fin 4) (r : Fin 32) (k : Fin 128) : xv (S5 V) b n h r k = (hd V b h).vv (32 * n.val + r.val) k := by
  rw [v43_of5]
  unfold xv
  refine (v43_of (V2 V) b n h r k).trans ?_
  refine (v2_at V b _ _).trans ?_
  show _ = rX V b _ _
  rw [idx_t, ← idx_e 1024 (by decide)]
include hL
theorem xg_eq (b : Fin 4) (n : Fin 128) (h : Fin 4) (r : Fin 32) (k : Fin 128) : xg (V4 V) b n h r k = (hd V b h).lf (32 * n.val + r.val) k := by
  unfold xg
  refine (v45_of (V2 V) b n h r k).trans ?_
  refine (v24_at V b _ _).trans ?_
  rw [← lf_eq (hL _).1 (hL _).2]
  show _ = lfK (rL V _) (rX V b _ _)
  rw [idx_t, ← idx_e 512 (by decide)]
theorem xB_eq (b : Fin 4) (n : Fin 128) (h : Fin 4) (r : Fin 32) (k : Fin 128) : xB (S5 V) b n h r k = (hd V b h).B n.val r.val k := by
  rw [v46_of]
  refine Finset.sum_congr rfl fun i hi => ?_
  have := Finset.mem_range.mp hi
  rw [xg_eq V hL]
  exact congrArg (fun j => (hd V b h).lf (32 * n.val + j) k) (Nat.mod_eq_of_lt (by omega))

theorem e0_eq (n : Fin 128) (b h : Fin 4) (r : Fin 32) (k : Fin 128) : c0 (P10 (S5 V)) n b h r k = (hd V b h).QE n.val r.val k := by
  unfold c0
  refine (c0_of (S5 V) b n h r k).trans ?_
  rw [xq_eq, xB_eq V hL]; rfl
theorem e1_eq (n : Fin 128) (b h : Fin 4) (r : Fin 32) (k : Fin 128) : c1 (P10 (S5 V)) n b h r k = (hd V b h).KD n.val r.val k := by
  unfold c1
  refine (c1_of (S5 V) b n h r k).trans ?_
  rw [xk_eq, xB_eq V hL, xB_eq V hL]; rfl
omit hL in
theorem e2_eq (n : Fin 128) (b h : Fin 4) (r : Fin 32) (k : Fin 128) : c2 (P10 (S5 V)) n b h r k = (hd V b h).vv (32 * n.val + r.val) k := by
  unfold c2
  exact (c2_of (S5 V) b n h r k).trans (xv_eq V b n h r k)
theorem e3_eq (n : Fin 128) (b h : Fin 4) (k : Fin 128) : c3 (P10 (S5 V)) n b h k = Ideal.exp ((hd V b h).B n.val 31 k) := by
  unfold c3
  refine (c3_of (S5 V) b n h k).trans ?_
  rw [xB_eq V hL]; rfl
theorem e56_eq (b : Fin 4) (n : Fin 128) (h : Fin 4) (r : Fin 32) (d : Fin 128) :
    y56 (P10 (S5 V)) b n h r d = (hd V b h).AV n.val r.val d := by
  refine (v56_of (S5 V) b n h r d).trans ?_
  unfold Str.AV
  refine Finset.sum_congr rfl fun r' _ => ?_
  rw [xv_eq]
  refine congrArg (fun a : EReal => a * _) ?_
  by_cases hr : r'.val ≤ r.val
  · rw [if_pos hr, if_pos hr]
    refine Finset.sum_congr rfl fun k _ => ?_
    rw [xq_eq, xk_eq, xB_eq V hL, xB_eq V hL]; rfl
  · rw [if_neg hr, if_neg hr]
end Cert.ReferenceIdeal.HR
-- ==== Proof.HgRefOut.lean ====
module

public import proofs.«01_k».proof.Proof.HgRefEntry

/-! The reference's result after the loop, read at an index. -/

@[expose] public section

set_option maxRecDepth 16384

noncomputable section

namespace Cert.ReferenceIdeal.HR

open Cert.ReferenceIdeal Cert.ReferenceIdeal.Gen Cert.ReferenceIdeal.Value Idealize.ShloMosaic Idealize.ShloMosaic.TcCoe Idealize.ShloMosaic.StableHlo Cert.Hgrn

variable (Y : Valuation τ sig (Elt Ideal))

def y3 (b : Fin 4) (t : Fin 4096) (e : Fin 512) : EReal := Y (Proc.devRef .tc main_v3) (ix3 b t e)
def yW (e : Fin 128) : EReal := Y (Proc.devRef .tc main_arg2) (ix1 e)

theorem out_of (b : Fin 4) (t : Fin 4096) (h : Fin 4) (d : Fin 128) :
    after hostOps0_11 Y (Proc.devRef .tc main_v96) (ix3 b t ⟨128 * h.val + d.val, by omega⟩)
      = finish (fun e => y56 Y b ⟨t.val / 32, by omega⟩ h ⟨t.val % 32, Nat.mod_lt _ (by decide)⟩ e + c6 Y ⟨t.val / 32, by omega⟩ b h ⟨t.val % 32, Nat.mod_lt _ (by decide)⟩ e)
        (yW Y) (fun e => y3 Y b t ⟨128 * h.val + e.val, by omega⟩) d := by
  after_reads_at
  have e1 : (⟨(128 * h.val + d.val) / 128, by omega⟩ : Fin 4) = h := Fin.ext (by show (128 * h.val + d.val) / 128 = h.val; omega)
  have e2 : (⟨(128 * h.val + d.val) % 128, by omega⟩ : Fin 128) = d := Fin.ext (by show (128 * h.val + d.val) % 128 = d.val; omega)
  have e3 : (⟨(128 * h.val + d.val) / 128 * 128 + (128 * h.val + d.val) % 128, by omega⟩ : Fin 512) = ⟨128 * h.val + d.val, by omega⟩ :=
    Fin.ext (by show (128 * h.val + d.val) / 128 * 128 + (128 * h.val + d.val) % 128 = 128 * h.val + d.val; omega)
  simp only [e1, e2, e3]
  rfl
/-- The state is not written after the loop. -/
theorem fin_of : after hostOps0_11 Y (Proc.devRef .tc main_v69_5) = Y (Proc.devRef .tc main_v69_5) := by
  after_reads_simp

variable (m : (ℓ : Loc nD τ sig) → Buf (Elt Ideal) ℓ) (c : Dev nD)
/-- What the loop leaves alone. -/
theorem keep (r : Ref sig .tc) (h : r ∈ [main_v56, main_v3, main_arg2]) (k : ℕ) : atK m k c (Proc.devRef .tc r) = entryContents preI m c (Proc.devRef .tc r) := by
  induction k with
  | zero => rfl
  | succ k ih =>
    rw [← ih]
    show afterL bodyI (after condOps (atK m k c)) _ = _
    simp only [bodyI, afterL_cons, afterL_nil]
    fin_cases h <;>
      exact (after_of_writes_sub while0Ops0_6 _ while0Ops0_6_writes (by decide +kernel)).trans <|
        (after_of_writes_sub while0Ops0_5 _ while0Ops0_5_writes (by decide +kernel)).trans <|
        (after_of_writes_sub while0Ops0_4 _ while0Ops0_4_writes (by decide +kernel)).trans <|
        (after_of_writes_sub while0Ops0_3 _ while0Ops0_3_writes (by decide +kernel)).trans <|
        (after_of_writes_sub while0Ops0_2 _ while0Ops0_2_writes (by decide +kernel)).trans <|
        (after_of_writes_sub while0Ops0_1 _ while0Ops0_1_writes (by decide +kernel)).trans <|
        (after_of_writes_sub while0Ops0 _ while0Ops0_writes (by decide +kernel)).trans <|
        after_of_writes_sub condOps _ condOps_writes (by decide +kernel)

/-- The arguments at launch. -/
abbrev V := launchContents m c
def rW (e : Fin 128) : EReal := V m c (Proc.devRef .tc main_arg2) (ix1 e)
def rS (b h : Fin 4) (k d : Fin 128) : EReal := V m c (Proc.devRef .tc main_arg3) (ix4 b h k d)

theorem entry_eq : entryContents preI m c = P10 (S5 (V m c)) := rfl

theorem arg3_pre : P10 (S5 (V m c)) (Proc.devRef .tc main_v69_5) = V m c (Proc.devRef .tc main_arg3) := by
  after_reads_simp
  rfl
theorem arg2_pre : P10 (S5 (V m c)) (Proc.devRef .tc main_arg2) = V m c (Proc.devRef .tc main_arg2) := by
  after_reads_simp
theorem v3_pre (b : Fin 4) (t : Fin 4096) (e : Fin 512) :
    P10 (S5 (V m c)) (Proc.devRef .tc main_v3) (ix3 b t e) = rX (V m c) b t ⟨1536 + e.val, by omega⟩ :=
  (congrFun (v3_of10 (V4 (V m c))) _).trans ((v3_of (V2 (V m c)) b t e).trans (v3_at (V m c) b t e))

variable (hL : ∀ e, 0 ≤ rL (V m c) e ∧ rL (V m c) e ≤ 1)
include hL

theorem loop_end :
    (∀ b h k d, c5 (E (entryContents preI m c) 128) b h k d = (hd (V m c) b h).st (rS m c b h) 128 k d)
      ∧ ∀ n : Fin 128, n.val < 128 → ∀ b h r d, c6 (E (entryContents preI m c) 128) n b h r d = (hd (V m c) b h).OI n.val r.val ((hd (V m c) b h).st (rS m c b h) n.val) d :=
  E_state _ (hd (V m c)) (rS m c) (ctr_of (S5 (V m c))) (e0_eq (V m c) hL) (e1_eq (V m c) hL) (e2_eq (V m c)) (e3_eq (V m c) hL)
    (fun b h k d => congrFun (arg3_pre m c) (ix4 b h k d)) 128 le_rfl

theorem ref_fin (b h : Fin 4) (k d : Fin 128) :
    finalContents condOps preI bodyI postI 128 m c (Proc.devRef .tc main_v69_5) (ix4 b h k d) = finSpec (rX (V m c)) (rL (V m c)) (rS m c) b h k d := by
  refine (congrFun (fin_of (after condOps (atK m 128 c))) _).trans ?_
  refine (congrFun (cond_keeps (atK m 128 c) main_v69_5 (by decide)) _).trans ?_
  refine (congrFun (atK_agree m c 128 main_v69_5 (by decide)) _).trans ?_
  exact (loop_end m c hL).1 b h k d

theorem ref_out (b : Fin 4) (t : Fin 4096) (h : Fin 4) (d : Fin 128) :
    finalContents condOps preI bodyI postI 128 m c (Proc.devRef .tc main_v96) (ix3 b t ⟨128 * h.val + d.val, by omega⟩)
      = outSpec (rX (V m c)) (rL (V m c)) (rW m c) (rS m c) b t h d := by
  have hc : ∀ r ∈ [main_v56, main_v3, main_arg2], after condOps (atK m 128 c) (Proc.devRef .tc r) = P10 (S5 (V m c)) (Proc.devRef .tc r) := fun r hr => by
    rw [← entry_eq, ← keep m c r hr 128]
    fin_cases hr <;> exact after_of_writes_sub condOps _ condOps_writes (by decide +kernel)
  refine (out_of (after condOps (atK m 128 c)) b t h d).trans ?_
  have h1 : y56 (after condOps (atK m 128 c)) b ⟨t.val / 32, by omega⟩ h ⟨t.val % 32, Nat.mod_lt _ (by decide)⟩ = (hd (V m c) b h).AV (t.val / 32) (t.val % 32) := by
    funext e
    exact (congrFun (hc main_v56 (by decide)) _).trans (e56_eq (V m c) hL b _ h _ e)
  have h2 : c6 (after condOps (atK m 128 c)) ⟨t.val / 32, by omega⟩ b h ⟨t.val % 32, Nat.mod_lt _ (by decide)⟩
      = (hd (V m c) b h).OI (t.val / 32) (t.val % 32) ((hd (V m c) b h).st (rS m c b h) (t.val / 32)) := by
    funext e
    refine (congrFun (cond_keeps (atK m 128 c) main_v69_6 (by decide)) _).trans ?_
    refine (congrFun (atK_agree m c 128 main_v69_6 (by decide)) _).trans ?_
    exact (loop_end m c hL).2 ⟨t.val / 32, by omega⟩ (by show t.val / 32 < 128; omega) b h _ e
  have h3 : yW (after condOps (atK m 128 c)) = rW m c := by
    funext e
    exact congrFun ((hc main_arg2 (by decide)).trans (arg2_pre m c)) _
  have h4 : (fun e : Fin 128 => y3 (after condOps (atK m 128 c)) b t ⟨128 * h.val + e.val, by omega⟩)
      = fun e => rX (V m c) b t ⟨1536 + 128 * h.val + e.val, by omega⟩ := by
    funext e
    refine (congrFun (hc main_v3 (by decide)) _).trans ((v3_pre m c b t _).trans ?_)
    rw [← idx_e 1536 (by decide)]
  rw [h1, h2, h3, h4]
  rfl

end Cert.ReferenceIdeal.HR
-- ==== Proof.HgRefFrame.lean ====
module

public import proofs.«01_k».proof.Proof.HgRefOut
public import Idealize.ShloMosaic.Lib.Quiescent

/-! The reference's run: its results at the fold, its arguments unchanged, every counter zero. -/

@[expose] public section

set_option maxRecDepth 16384

noncomputable section

namespace Cert.ReferenceIdeal.HR

open Cert.ReferenceIdeal Cert.ReferenceIdeal.Gen Cert.ReferenceIdeal.Value Idealize.ShloMosaic Idealize.ShloMosaic.TcCoe Idealize.ShloMosaic.StableHlo Idealize.SL.Sem

variable (m : (ℓ : Loc nD τ sig) → Buf (Elt Ideal) ℓ) (c : Dev nD)

/-- No trip of the loop writes an argument. -/
theorem args_trip (r : Ref sig .tc) (h : r ∈ [main_arg0, main_arg1, main_arg2, main_arg3]) (k : ℕ) :
    after condOps (atK m k c) (Proc.devRef .tc r) = entryContents preI m c (Proc.devRef .tc r) := by
  have hc : after condOps (atK m k c) (Proc.devRef .tc r) = atK m k c (Proc.devRef .tc r) := by
    fin_cases h <;> exact after_of_writes_sub condOps _ condOps_writes (by decide +kernel)
  rw [hc]
  clear hc
  induction k with
  | zero => rfl
  | succ k ih =>
    rw [← ih]
    show afterL bodyI (after condOps (atK m k c)) _ = _
    simp only [bodyI, afterL_cons, afterL_nil]
    fin_cases h <;>
      exact (after_of_writes_sub while0Ops0_6 _ while0Ops0_6_writes (by decide +kernel)).trans <|
        (after_of_writes_sub while0Ops0_5 _ while0Ops0_5_writes (by decide +kernel)).trans <|
        (after_of_writes_sub while0Ops0_4 _ while0Ops0_4_writes (by decide +kernel)).trans <|
        (after_of_writes_sub while0Ops0_3 _ while0Ops0_3_writes (by decide +kernel)).trans <|
        (after_of_writes_sub while0Ops0_2 _ while0Ops0_2_writes (by decide +kernel)).trans <|
        (after_of_writes_sub while0Ops0_1 _ while0Ops0_1_writes (by decide +kernel)).trans <|
        (after_of_writes_sub while0Ops0 _ while0Ops0_writes (by decide +kernel)).trans <|
        after_of_writes_sub condOps _ condOps_writes (by decide +kernel)

theorem args_post (Y : Valuation τ sig (Elt Ideal)) (r : Ref sig .tc) (h : r ∈ [main_arg0, main_arg1, main_arg2, main_arg3]) :
    after hostOps0_11 Y (Proc.devRef .tc r) = Y (Proc.devRef .tc r) := by
  fin_cases h <;> after_reads_simp

theorem args_pre (r : Ref sig .tc) (h : r ∈ [main_arg0, main_arg1, main_arg2, main_arg3]) :
    P10 (S5 (V m c)) (Proc.devRef .tc r) = V m c (Proc.devRef .tc r) := by
  fin_cases h <;> after_reads_simp

theorem args_end (r : Ref sig .tc) (h : r ∈ [main_arg0, main_arg1, main_arg2, main_arg3]) :
    finalContents condOps preI bodyI postI 128 m c (Proc.devRef .tc r) = m ((c.tc : Thread nD τ).loc r) :=
  (args_post (after condOps (atK m 128 c)) r h).trans ((args_trip m c r h 128).trans (args_pre m c r h))

/-- What the claims about the reference say of a final state. -/
theorem ref_run (ρ : Dev nD → PrngReg) : θ_run (defs (F := Ideal)) (onTc (τ := τ) (main (F := Ideal))) ⟨m, fun _ => 0, ρ⟩
    (fun r => (∀ c : Dev nD,
        r.2.mem ((c.tc : Thread nD τ).loc main_v96) = finalContents condOps preI bodyI postI 128 m c (Proc.devRef .tc main_v96)
        ∧ r.2.mem ((c.tc : Thread nD τ).loc main_v69_5) = finalContents condOps preI bodyI postI 128 m c (Proc.devRef .tc main_v69_5)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run _ _ _).mono (fun r hr => ⟨fun c =>
    ⟨hr c main_v96 rfl, hr c main_v69_5 rfl,
      (hr c main_arg0 rfl).trans (args_end m c main_arg0 (by decide)),
      (hr c main_arg1 rfl).trans (args_end m c main_arg1 (by decide)),
      (hr c main_arg2 rfl).trans (args_end m c main_arg2 (by decide)),
      (hr c main_arg3 rfl).trans (args_end m c main_arg3 (by decide))⟩,
    sem_eq_zero_of_no_sems rfl r.2⟩) (run_fold m ρ)

end Cert.ReferenceIdeal.HR

end
-- ==== Proof.HgEqual.lean ====
module

public import proofs.«01_k».proof.Defs
public import proofs.«01_k».proof.Proof.HgKernel
public import proofs.«01_k».proof.Proof.HgRefFrame
public import proofs.«01_k».proof.Proof.Gen.Pre_lb_range
public import Idealize.ShloMosaic.Lib.ReduceAll

/-! Both programs' results are the recurrence's: equal from memories that agree on the arguments. -/

@[expose] public section

set_option maxRecDepth 16384

noncomputable section

namespace Cert.Hgrn

open Idealize.ShloMosaic Idealize.ShloMosaic.TcCoe Idealize.ShloMosaic.StableHlo Idealize.SL.Sem

/-- The precondition read back: every lower bound lies in the unit interval. -/
theorem range_of (a0 : (Cert.Pre_lb_range.S4x4096x2048).Idx → EReal) (a1 : (Cert.Pre_lb_range.S512).Idx → EReal)
    (a2 : (Cert.Pre_lb_range.S128).Idx → EReal) (a3 : (Cert.Pre_lb_range.S4x4x128x128).Idx → EReal)
    (h : Cert.Pre_lb_range.fn (F := Ideal) a0 a1 a2 a3 = fun _ => 1#1) (e : Fin 512) : 0 ≤ a1 (ix1 e) ∧ a1 (ix1 e) ≤ 1 := by
  have hs : Subsingleton (Cert.Pre_lb_range.S_).Idx := ⟨fun x y => funext fun a => a.elim0⟩
  have hall := Host.reduce_andi_all _ _ _ _ (Shape.Idx.first Cert.Pre_lb_range.Facts.h_S_) (congrFun h _) (ix1 e)
  have h2 : IntOp.andi (Ideal.cmp .oge (a1 (ix1 e)) (FloatOps.ofBits (F := Ideal) .f32 0x00000000#32)) (Ideal.cmp .ole (a1 (ix1 e)) (FloatOps.ofBits (F := Ideal) .f32 0x3F800000#32)) = 1#1 := hall
  rw [Cert.ReferenceIdeal.HR.bits_zero, Cert.ReferenceIdeal.HR.bits_one] at h2
  by_cases h0 : 0 ≤ a1 (ix1 e) <;> by_cases h1 : a1 (ix1 e) ≤ 1 <;> simp_all [Ideal.cmp, IntOp.andi]

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two memories hold the same four arguments on core `c`. -/
structure Agree : Prop where
  x : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  l : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  w : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  s : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable {m m' c} (hag : Agree m m' c)
include hag

theorem x_eq : ReferenceIdeal.HR.rX (ReferenceIdeal.HR.V m' c) = KernelIdeal.HG.fX m c := by
  funext b t e
  exact congrFun hag.x (ix3 b t e)
theorem l_eq : ReferenceIdeal.HR.rL (ReferenceIdeal.HR.V m' c) = KernelIdeal.HG.fL m c := by
  funext e
  exact congrFun hag.l (ix1 e)
theorem w_eq : ReferenceIdeal.HR.rW m' c = KernelIdeal.HG.fW m c := by
  funext e
  exact congrFun hag.w (ix1 e)
theorem s_eq : ReferenceIdeal.HR.rS m' c = KernelIdeal.HG.fS m c := by
  funext b h k d
  exact congrFun hag.s (ix4 b h k d)

variable (hpre : Cert.Pre_KernelIdeal_lb_range m)
include hpre

theorem low (e : Fin 512) : 0 ≤ ReferenceIdeal.HR.rL (ReferenceIdeal.HR.V m' c) e ∧ ReferenceIdeal.HR.rL (ReferenceIdeal.HR.V m' c) e ≤ 1 := by
  rw [l_eq hag]
  exact range_of _ _ _ _ (hpre c) e

/-- The output rows agree. -/
theorem out_agree : finalContents ReferenceIdeal.Value.condOps ReferenceIdeal.Value.preI ReferenceIdeal.Value.bodyI ReferenceIdeal.Value.postI 128 m' c
    (Proc.devRef .tc ReferenceIdeal.main_v96) = KernelIdeal.Value.G4 m c := by
  have key : ∀ (b : Fin 4) (t : Fin 4096) (e : Fin 512), finalContents ReferenceIdeal.Value.condOps ReferenceIdeal.Value.preI ReferenceIdeal.Value.bodyI ReferenceIdeal.Value.postI 128 m' c
      (Proc.devRef .tc ReferenceIdeal.main_v96) (ix3 b t e) = KernelIdeal.Value.G4 m c (ix3 b t e) := fun b t e => by
    have he : e = ⟨128 * (⟨e.val / 128, by omega⟩ : Fin 4).val + (⟨e.val % 128, Nat.mod_lt _ (by decide)⟩ : Fin 128).val, by
        show 128 * (e.val / 128) + e.val % 128 < 512; omega⟩ := Fin.ext (Nat.div_add_mod _ _).symm
    rw [he]
    refine (ReferenceIdeal.HR.ref_out m' c (low hag hpre) b t ⟨e.val / 128, by omega⟩ ⟨e.val % 128, Nat.mod_lt _ (by decide)⟩).trans ?_
    rw [x_eq hag, l_eq hag, w_eq hag, s_eq hag]
    exact (KernelIdeal.HG.kernel_out m c b t ⟨e.val / 128, by omega⟩ ⟨e.val % 128, Nat.mod_lt _ (by decide)⟩).symm
  funext i
  have hi : i = (ix3 (i 0) (i 1) (i 2) : (Cert.KernelIdeal.S4x4096x512).Idx) := by
    funext a
    match a with
    | ⟨0, _⟩ => rfl
    | ⟨1, _⟩ => rfl
    | ⟨2, _⟩ => rfl
  exact hi ▸ key (i 0) (i 1) (i 2)

/-- The last states agree. -/
theorem fin_agree : finalContents ReferenceIdeal.Value.condOps ReferenceIdeal.Value.preI ReferenceIdeal.Value.bodyI ReferenceIdeal.Value.postI 128 m' c
    (Proc.devRef .tc ReferenceIdeal.main_v69_5) = KernelIdeal.Value.G5 m c := by
  have key : ∀ (b h : Fin 4) (k d : Fin 128), finalContents ReferenceIdeal.Value.condOps ReferenceIdeal.Value.preI ReferenceIdeal.Value.bodyI ReferenceIdeal.Value.postI 128 m' c
      (Proc.devRef .tc ReferenceIdeal.main_v69_5) (ix4 b h k d) = KernelIdeal.Value.G5 m c (ix4 b h k d) := fun b h k d => by
    refine (ReferenceIdeal.HR.ref_fin m' c (low hag hpre) b h k d).trans ?_
    rw [x_eq hag, l_eq hag, s_eq hag]
    exact (KernelIdeal.HG.kernel_fin m c b h k d).symm
  funext i
  have hi : i = (ix4 (i 0) (i 1) (i 2) (i 3) : (Cert.KernelIdeal.S4x4x128x128).Idx) := by
    funext a
    match a with
    | ⟨0, _⟩ => rfl
    | ⟨1, _⟩ => rfl
    | ⟨2, _⟩ => rfl
    | ⟨3, _⟩ => rfl
  exact hi ▸ key (i 0) (i 1) (i 2) (i 3)

end Cert.Hgrn

end
-- ==== Proof.MlpSpec.lean ====
module

public import Idealize.ShloMosaic.Lib.Pointwise

/-! One row of the layer's end: the output projection, the norm and the multilayer perceptron, over the extended reals. -/

@[expose] public section

noncomputable section

namespace Cert.MlpRow

open Idealize.ShloMosaic

/-- The weights the row meets: output projection, norm gain, up and down projections. -/
structure W where
  wo : Fin 1024 → Fin 1024 → EReal
  g : Fin 1024 → EReal
  wu : Fin 1024 → Fin 4096 → EReal
  wd : Fin 4096 → Fin 1024 → EReal

variable (w : W)

/-- The row after the output projection of the two mixers' halves. -/
def mix (x : Fin 1024 → EReal) (a b : Fin 512 → EReal) (e : Fin 1024) : EReal :=
  x e + (∑ k : Fin 512, a k * w.wo ⟨k.val, by omega⟩ e + ∑ k : Fin 512, b k * w.wo ⟨512 + k.val, by omega⟩ e)
/-- The row scaled by its root mean square and the gain. -/
def normed (v : Fin 1024 → EReal) (e : Fin 1024) : EReal :=
  v e * Ideal.rsqrt (Ideal.div (∑ k, v k * v k) (Ideal.ofBits .f32 0x44800000#32) + Ideal.ofBits .f32 0x358637BD#32) * w.g e
/-- A hidden unit: the positive part, squared. -/
def hid (h : Fin 1024 → EReal) (j : Fin 4096) : EReal := max (∑ k, h k * w.wu k j) 0 * max (∑ k, h k * w.wu k j) 0
/-- The contribution of 1024 hidden units. -/
def part (h : Fin 1024 → EReal) (c : Fin 4) (e : Fin 1024) : EReal :=
  ∑ j : Fin 1024, hid w h ⟨1024 * c.val + j.val, by omega⟩ * w.wd ⟨1024 * c.val + j.val, by omega⟩ e
/-- The layer's row. -/
def row (x : Fin 1024 → EReal) (a b : Fin 512 → EReal) (e : Fin 1024) : EReal :=
  mix w x a b e + ∑ j : Fin 4096, hid w (normed w (mix w x a b)) j * w.wd j e

/-- A sum over 4096 in four runs of 1024. -/
theorem sum_runs (f : Fin 4096 → EReal) : ∑ j, f j = ∑ c : Fin 4, ∑ j : Fin 1024, f ⟨1024 * c.val + j.val, by omega⟩ := by
  rw [← Fintype.sum_prod_type']
  refine (Equiv.sum_comp (finProdFinEquiv (m := 4) (n := 1024)) f).symm.trans ?_
  refine Finset.sum_congr rfl fun p _ => congrArg f (Fin.ext ?_)
  show p.2.val + 1024 * p.1.val = 1024 * p.1.val + p.2.val
  exact Nat.add_comm _ _

/-- Adding the four contributions one after another gives the row. -/
theorem row_parts (x : Fin 1024 → EReal) (a b : Fin 512 → EReal) (e : Fin 1024) :
    mix w x a b e + part w (normed w (mix w x a b)) 0 e + part w (normed w (mix w x a b)) 1 e + part w (normed w (mix w x a b)) 2 e
      + part w (normed w (mix w x a b)) 3 e = row w x a b e := by
  unfold row
  rw [sum_runs, Fin.sum_univ_four]
  simp only [add_assoc]
  rfl

end Cert.MlpRow

end
-- ==== Proof.MlpTile.lean ====
module

public import proofs.«01_k».proof.Proof.MlpSpec
public import proofs.«01_k».proof.Proof.Gen.MlpIdeal.Value
public import Idealize.ShloMosaic.Lib.StableHlo.ReadAt

/-! What one grid point of the prompt's kernel stores, row by row. -/

@[expose] public section

set_option maxRecDepth 16384

noncomputable section

namespace Cert.MlpIdeal.MK

open Cert.MlpIdeal Cert.MlpIdeal.Gen Cert.MlpIdeal.Value Idealize.ShloMosaic Idealize.ShloMosaic.TcCoe Cert.MlpRow

variable (x0 : Vec Ideal S512x1024 .f32) (x1 x2 : Vec Ideal S512x512 .bf16) (x3 : Vec Ideal S1x1024x1024 .bf16) (x4 : Vec Ideal S1x1024 .f32)
  (x5 : Vec Ideal S1x1024x4096 .bf16) (x6 : Vec Ideal S1x4096x1024 .bf16)

/-- The blocks as plain functions. -/
def bW : W where
  wo k e := x3 (ix3 0 k e)
  g e := x4 (ix2 0 e)
  wu k j := x5 (ix3 0 k j)
  wd j e := x6 (ix3 0 j e)
def bX (i : Fin 512) (e : Fin 1024) : EReal := x0 (ix2 i e)
def bO (i : Fin 512) (k : Fin 512) : EReal := x1 (ix2 i k)

/-- Loading a whole block is the block. -/
theorem ld0 : View.ld x0 r0_0 = x0 := by funext y; idx_vars y; pointwise
theorem ld1 : View.ld x1 r0_1 = x1 := by funext y; idx_vars y; pointwise
theorem ld3 : View.ld x3 r0_2 = x3 := by funext y; idx_vars y; pointwise; rw [Subsingleton.elim y0 0]
theorem ld4 : View.ld x4 r0_3 = x4 := by funext y; idx_vars y; pointwise; rw [Subsingleton.elim y0 0]

theorem pay2_at (i : Fin 512) (e : Fin 1024) : k0_pay2 x0 x1 x2 x3 (ix2 i e) = mix (bW x3 x4 x5 x6) (bX x0 i) (bO x1 i) (bO x2 i) e := by
  pointwise [k0_pay2]
  rfl
theorem pay9_at (i : Fin 512) (e : Fin 1024) : k0_pay9 x0 x1 x2 x3 x4 x5 x6 (ix2 i e)
    = normed (bW x3 x4 x5 x6) (mix (bW x3 x4 x5 x6) (bX x0 i) (bO x1 i) (bO x2 i)) e := by
  unfold k0_pay9
  rw [ld0, ld1, ld1, ld3, ld4]
  pointwise [k0_pay3]
  simp only [pay2_at x0 x1 x2 x3 x4 x5 x6]
  rfl
theorem pay4_eq : k0_pay4 (View.ld x0 r0_0) (View.ld x1 r0_1) (View.ld x2 r0_1) (View.ld x3 r0_2) (View.ld x4 r0_3) (View.ld x5 r0_4)
    = k0_pay7 (k0_pay9 x0 x1 x2 x3 x4 x5 x6) (View.ld x5 r0_4) := rfl

/-- The stored block's row is the layer's row. -/
theorem out_at (i : Fin 512) (e : Fin 1024) : out0_7 x0 x1 x2 x3 x4 x5 x6 (ix2 i e) = row (bW x3 x4 x5 x6) (bX x0 i) (bO x1 i) (bO x2 i) e := by
  have hy : (ix2 i e : S512x1024.Idx) = r0_0.emb (ix2 i e) := by
    funext a; apply Fin.ext
    match a with
    | ⟨0, _⟩ => show i.val = 0 + 1 * i.val; omega
    | ⟨1, _⟩ => show e.val = 0 + 1 * e.val; omega
  rw [hy]
  unfold out0_7
  refine (View.canon_cons_emb r0_0 _ _ _).trans ?_
  rw [pay4_eq]
  rw [← row_parts]
  unfold part hid
  have h9 : (fun k => k0_pay9 x0 x1 x2 x3 x4 x5 x6 (ix2 i k)) = normed (bW x3 x4 x5 x6) (mix (bW x3 x4 x5 x6) (bX x0 i) (bO x1 i) (bO x2 i)) :=
    funext fun k => pay9_at x0 x1 x2 x3 x4 x5 x6 i k
  rw [← h9, ← pay2_at x0 x1 x2 x3 x4 x5 x6, ld0, ld1, ld1, ld3]
  generalize k0_pay9 x0 x1 x2 x3 x4 x5 x6 = h
  generalize k0_pay2 x0 x1 x2 x3 = v
  pointwise [k0_pay1, k0_pay6, k0_pay7, k0_pay5, k0_pay8]
  rfl

end Cert.MlpIdeal.MK

end
-- ==== Proof.MlpKernel.lean ====
module

public import proofs.«01_k».proof.Proof.MlpTile

/-! The prompt kernel's result array, row by row. -/

@[expose] public section

set_option maxRecDepth 16384

noncomputable section

namespace Cert.MlpIdeal.MK

open Cert.MlpIdeal Cert.MlpIdeal.Gen Cert.MlpIdeal.Value Idealize.ShloMosaic Idealize.ShloMosaic.TcCoe Cert.MlpRow

variable (m : (ℓ : Loc nD τ sig) → Buf (Elt Ideal) ℓ) (c : Dev nD)

/-- The arguments as the run finds them. -/
def A0 : Vec Ideal S4x4096x1024 .f32 := m ((c : Thread nD τ).loc main_arg0)
def A1 : Vec Ideal S4x4096x512 .bf16 := m ((c : Thread nD τ).loc main_arg1)
def A2 : Vec Ideal S4x4096x512 .bf16 := m ((c : Thread nD τ).loc main_arg2)
def A3 : Vec Ideal S4x1024x1024 .f32 := m ((c : Thread nD τ).loc main_arg3)
def A4 : Vec Ideal S4x1024 .f32 := m ((c : Thread nD τ).loc main_arg4)
def A5 : Vec Ideal S4x1024x4096 .f32 := m ((c : Thread nD τ).loc main_arg5)
def A6 : Vec Ideal S4x4096x1024 .f32 := m ((c : Thread nD τ).loc main_arg6)

/-- The weights of layer 3, and the input rows. -/
def kW : W where
  wo k e := A3 m c (ix3 3 k e)
  g e := A4 m c (ix2 3 e)
  wu k j := A5 m c (ix3 3 k j)
  wd j e := A6 m c (ix3 3 j e)
def kX (b : Fin 4) (t : Fin 4096) (e : Fin 1024) : EReal := A0 m c (ix3 b t e)
def kA (b : Fin 4) (t : Fin 4096) (k : Fin 512) : EReal := A1 m c (ix3 b t k)
def kB (b : Fin 4) (t : Fin 4096) (k : Fin 512) : EReal := A2 m c (ix3 b t k)

/-- The row of the flattened input that grid point `t` reads at `i`: its sequence and position. -/
def seqOf (r : Fin 16384) : Fin 4 := ⟨r.val / 4096, by omega⟩
def posOf (r : Fin 16384) : Fin 4096 := ⟨r.val % 4096, Nat.mod_lt _ (by decide)⟩
def rowOf (t : Fin cfg0.N) (i : Fin 512) : Fin 16384 := ⟨512 * t.val + i.val, by have : t.val < 32 := lt_of_lt_of_eq t.isLt N_0; omega⟩

theorem iblk0 (t : Fin cfg0.N) (i : Fin 512) (e : Fin 1024) : iblk m c 0 t (ix2 i e) = kX m c (seqOf (rowOf t i)) (posOf (rowOf t i)) e := by
  have h : ∀ t : Fin grid0.N, win0_0.index t (0 : Fin 2) = t.val ∧ win0_0.index t (1 : Fin 2) = 0 := by decide +kernel
  obtain ⟨e0, e1⟩ := h t
  have he : ((cfg0.win 0).blk t).view.emb (ix2 i e) = (ix2 (rowOf t i) e : S16384x1024.Idx) := by
    funext a; apply Fin.ext
    match a with
    | ⟨0, _⟩ => show win0_0.index t (0 : Fin 2) * 512 + 1 * i.val = 512 * t.val + i.val; omega
    | ⟨1, _⟩ => show win0_0.index t (1 : Fin 2) * 1024 + 1 * e.val = e.val; omega
  show V m c main_v0 (((cfg0.win 0).blk t).view.emb (ix2 i e)) = _
  rw [he]
  unfold kX A0 V
  after_reads_at
  rfl
theorem iblk1 (t : Fin cfg0.N) (i k : Fin 512) : iblk m c 1 t (ix2 i k) = kA m c (seqOf (rowOf t i)) (posOf (rowOf t i)) k := by
  have h : ∀ t : Fin grid0.N, win0_1.index t (0 : Fin 2) = t.val ∧ win0_1.index t (1 : Fin 2) = 0 := by decide +kernel
  obtain ⟨e0, e1⟩ := h t
  have he : ((cfg0.win 1).blk t).view.emb (ix2 i k) = (ix2 (rowOf t i) k : S16384x512.Idx) := by
    funext a; apply Fin.ext
    match a with
    | ⟨0, _⟩ => show win0_1.index t (0 : Fin 2) * 512 + 1 * i.val = 512 * t.val + i.val; omega
    | ⟨1, _⟩ => show win0_1.index t (1 : Fin 2) * 512 + 1 * k.val = k.val; omega
  show V m c main_v1 (((cfg0.win 1).blk t).view.emb (ix2 i k)) = _
  rw [he]
  unfold kA A1 V
  after_reads_at
  rfl
theorem iblk2 (t : Fin cfg0.N) (i k : Fin 512) : iblk m c 2 t (ix2 i k) = kB m c (seqOf (rowOf t i)) (posOf (rowOf t i)) k := by
  have h : ∀ t : Fin grid0.N, win0_2.index t (0 : Fin 2) = t.val ∧ win0_2.index t (1 : Fin 2) = 0 := by decide +kernel
  obtain ⟨e0, e1⟩ := h t
  have he : ((cfg0.win 2).blk t).view.emb (ix2 i k) = (ix2 (rowOf t i) k : S16384x512.Idx) := by
    funext a; apply Fin.ext
    match a with
    | ⟨0, _⟩ => show win0_2.index t (0 : Fin 2) * 512 + 1 * i.val = 512 * t.val + i.val; omega
    | ⟨1, _⟩ => show win0_2.index t (1 : Fin 2) * 512 + 1 * k.val = k.val; omega
  show V m c main_v2 (((cfg0.win 2).blk t).view.emb (ix2 i k)) = _
  rw [he]
  unfold kB A2 V
  after_reads_at
  rfl
theorem iblk3 (t : Fin cfg0.N) (k e : Fin 1024) : iblk m c 3 t (ix3 0 k e) = (kW m c).wo k e := by
  have h : ∀ t : Fin grid0.N, win0_3.index t (0 : Fin 3) = 3 ∧ win0_3.index t (1 : Fin 3) = 0 ∧ win0_3.index t (2 : Fin 3) = 0 := by decide +kernel
  obtain ⟨e0, e1, e2⟩ := h t
  have he : ((cfg0.win 3).blk t).view.emb (ix3 0 k e) = (ix3 3 k e : S4x1024x1024.Idx) := by
    funext a; apply Fin.ext
    match a with
    | ⟨0, _⟩ => show win0_3.index t (0 : Fin 3) * 1 + 1 * 0 = 3; omega
    | ⟨1, _⟩ => show win0_3.index t (1 : Fin 3) * 1024 + 1 * k.val = k.val; omega
    | ⟨2, _⟩ => show win0_3.index t (2 : Fin 3) * 1024 + 1 * e.val = e.val; omega
  show V m c main_v3 (((cfg0.win 3).blk t).view.emb (ix3 0 k e)) = _
  rw [he]
  show _ = A3 m c _
  unfold A3 V
  after_reads_at
theorem iblk4 (t : Fin cfg0.N) (e : Fin 1024) : iblk m c 4 t (ix2 0 e) = (kW m c).g e := by
  have h : ∀ t : Fin grid0.N, win0_4.index t (0 : Fin 2) = 0 ∧ win0_4.index t (1 : Fin 2) = 0 := by decide +kernel
  obtain ⟨e0, e1⟩ := h t
  have he : ((cfg0.win 4).blk t).view.emb (ix2 0 e) = (ix2 0 e : S1x1024.Idx) := by
    funext a; apply Fin.ext
    match a with
    | ⟨0, _⟩ => show win0_4.index t (0 : Fin 2) * 1 + 1 * 0 = 0; omega
    | ⟨1, _⟩ => show win0_4.index t (1 : Fin 2) * 1024 + 1 * e.val = e.val; omega
  show V m c main_v6 (((cfg0.win 4).blk t).view.emb (ix2 0 e)) = _
  rw [he]
  show _ = A4 m c _
  unfold A4 V
  after_reads_at
theorem iblk5 (t : Fin cfg0.N) (k : Fin 1024) (j : Fin 4096) : iblk m c 5 t (ix3 0 k j) = (kW m c).wu k j := by
  have h : ∀ t : Fin grid0.N, win0_5.index t (0 : Fin 3) = 3 ∧ win0_5.index t (1 : Fin 3) = 0 ∧ win0_5.index t (2 : Fin 3) = 0 := by decide +kernel
  obtain ⟨e0, e1, e2⟩ := h t
  have he : ((cfg0.win 5).blk t).view.emb (ix3 0 k j) = (ix3 3 k j : S4x1024x4096.Idx) := by
    funext a; apply Fin.ext
    match a with
    | ⟨0, _⟩ => show win0_5.index t (0 : Fin 3) * 1 + 1 * 0 = 3; omega
    | ⟨1, _⟩ => show win0_5.index t (1 : Fin 3) * 1024 + 1 * k.val = k.val; omega
    | ⟨2, _⟩ => show win0_5.index t (2 : Fin 3) * 4096 + 1 * j.val = j.val; omega
  show V m c main_v7 (((cfg0.win 5).blk t).view.emb (ix3 0 k j)) = _
  rw [he]
  show _ = A5 m c _
  unfold A5 V
  after_reads_at
theorem iblk6 (t : Fin cfg0.N) (j : Fin 4096) (e : Fin 1024) : iblk m c 6 t (ix3 0 j e) = (kW m c).wd j e := by
  have h : ∀ t : Fin grid0.N, win0_6.index t (0 : Fin 3) = 3 ∧ win0_6.index t (1 : Fin 3) = 0 ∧ win0_6.index t (2 : Fin 3) = 0 := by decide +kernel
  obtain ⟨e0, e1, e2⟩ := h t
  have he : ((cfg0.win 6).blk t).view.emb (ix3 0 j e) = (ix3 3 j e : S4x4096x1024.Idx) := by
    funext a; apply Fin.ext
    match a with
    | ⟨0, _⟩ => show win0_6.index t (0 : Fin 3) * 1 + 1 * 0 = 3; omega
    | ⟨1, _⟩ => show win0_6.index t (1 : Fin 3) * 4096 + 1 * j.val = j.val; omega
    | ⟨2, _⟩ => show win0_6.index t (2 : Fin 3) * 1024 + 1 * e.val = e.val; omega
  show V m c main_v8 (((cfg0.win 6).blk t).view.emb (ix3 0 j e)) = _
  rw [he]
  show _ = A6 m c _
  unfold A6 V
  after_reads_at

/-- What grid point `t` stores at its row `i`. -/
theorem block_at (t : Fin cfg0.N) (i : Fin 512) (e : Fin 1024) :
    out0_7 (iblk m c 0 t) (iblk m c 1 t) (iblk m c 2 t) (iblk m c 3 t) (iblk m c 4 t) (iblk m c 5 t) (iblk m c 6 t) (ix2 i e)
      = row (kW m c) (kX m c (seqOf (rowOf t i)) (posOf (rowOf t i))) (kA m c (seqOf (rowOf t i)) (posOf (rowOf t i)))
        (kB m c (seqOf (rowOf t i)) (posOf (rowOf t i))) e := by
  rw [out_at]
  have hw : bW (iblk m c 3 t) (iblk m c 4 t) (iblk m c 5 t) (iblk m c 6 t) = kW m c := by
    unfold bW
    simp only [iblk3, iblk4, iblk5, iblk6]
  rw [hw, show bX (iblk m c 0 t) i = _ from funext fun e => iblk0 m c t i e, show bO (iblk m c 1 t) i = _ from funext fun e => iblk1 m c t i e,
    show bO (iblk m c 2 t) i = _ from funext fun e => iblk2 m c t i e]

/-- The result array's row `r`. -/
theorem kernel_at (r : Fin 16384) (e : Fin 1024) : (dats m 0 c).arrAt 7 cfg0.N (ix2 r e)
    = row (kW m c) (kX m c (seqOf r) (posOf r)) (kA m c (seqOf r) (posOf r)) (kB m c (seqOf r) (posOf r)) e := by
  have hf : ∀ t : Fin grid0.N, (cfg0.win 7).flush t = true := by decide +kernel
  have h : ∀ t : Fin grid0.N, win0_7.index t (0 : Fin 2) = t.val ∧ win0_7.index t (1 : Fin 2) = 0 := by decide +kernel
  let t : Fin cfg0.N := ⟨r.val / 512, lt_of_lt_of_eq (by omega) N_0.symm⟩
  let i : Fin 512 := ⟨r.val % 512, Nat.mod_lt _ (by decide)⟩
  obtain ⟨e0, e1⟩ := h t
  have hr : rowOf t i = r := Fin.ext (by show 512 * (r.val / 512) + r.val % 512 = r.val; omega)
  have he : ((cfg0.win 7).blk t).view.emb (ix2 i e) = (ix2 r e : S16384x1024.Idx) := by
    funext a; apply Fin.ext
    match a with
    | ⟨0, _⟩ => show win0_7.index t (0 : Fin 2) * 512 + 1 * (r.val % 512) = r.val; rw [e0]; show r.val / 512 * 512 + _ = _; omega
    | ⟨1, _⟩ => show win0_7.index t (1 : Fin 2) * 1024 + 1 * e.val = e.val; omega
  have hb := congrFun ((blocks7 m c t (hf t)).trans (flushed7 m c t)) (ix2 i e)
  have hk := block_at m c t i e
  rw [hr] at hk
  refine Eq.trans ?_ (hb.trans hk)
  show _ = (dats m 0 c).arrAt 7 cfg0.N (((cfg0.win 7).blk t).view.emb (ix2 i e))
  rw [he]

end Cert.MlpIdeal.MK

end
-- ==== Proof.MlpRef.lean ====
module

public import proofs.«01_k».proof.Proof.MlpSpec
public import proofs.«01_k».proof.Proof.Gen.MlpReferenceIdeal.Run
public import Idealize.ShloMosaic.Lib.Quiescent

/-! The prompt reference's result, row by row. -/

@[expose] public section

set_option maxRecDepth 16384

noncomputable section

namespace Cert.MlpReferenceIdeal.MR

open Cert.MlpReferenceIdeal Cert.MlpReferenceIdeal.Gen Cert.MlpReferenceIdeal.Value Idealize.ShloMosaic Idealize.ShloMosaic.TcCoe Cert.MlpRow Idealize.SL.Sem

section Stages

variable (a0 v h : FVec Ideal S4x4096x1024 .f32) (a1 a2 : FVec Ideal S4x4096x512 .bf16) (a3 : FVec Ideal S4x1024x1024 .f32)
  (a4 : FVec Ideal S4x1024 .f32) (a5 : FVec Ideal S4x1024x4096 .f32) (a6 : FVec Ideal S4x4096x1024 .f32) (u : FVec Ideal S4x4096x4096 .f32)

/-- The reference's stages: output projection, norm, hidden units, result. -/
def proj : FVec Ideal S4x4096x1024 .f32 :=
  addf a0 (Host.dotGeneral dot_S4x4096x1024_S1024x1024_S4x4096x1024_2_0_01_1_n_n none
    (concatenate S4x4096x1024 2 [⟨S4x4096x512, extf .f32 a1 bitsLt_bf16_f32⟩, ⟨S4x4096x512, extf .f32 a2 bitsLt_bf16_f32⟩] concatenates_S4x4096x512_S4x4096x512_S4x4096x1024_d2)
    (shapeCast S1024x1024 (extractStridedSlice S1x1024x1024 ![3, 0, 0] a3 slices_S4x1024x1024_S1x1024x1024_3_0_0) shapeCasts_S1x1024x1024_S1024x1024))
def norm : FVec Ideal S4x4096x1024 .f32 :=
  mulf (mulf v (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf v v) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2
      (shapeCast S1024 (extractStridedSlice S1x1024 ![3, 0] a4 slices_S4x1024_S1x1024_3_0) shapeCasts_S1x1024_S1024)))
def units : FVec Ideal S4x4096x4096 .f32 :=
  maximumf (Host.dotGeneral dot_S4x4096x1024_S1024x4096_S4x4096x4096_2_0_01_1_n_n none h
    (shapeCast S1024x4096 (extractStridedSlice S1x1024x4096 ![3, 0, 0] a5 slices_S4x1024x4096_S1x1024x4096_3_0_0) shapeCasts_S1x1024x4096_S1024x4096))
    (broadcastInDim S4x4096x4096 ![] bcast_S_S4x4096x4096 (constant S_ .f32 0x00000000#32))
def last : FVec Ideal S16384x1024 .f32 :=
  shapeCast S16384x1024 (addf v (Host.dotGeneral dot_S4x4096x4096_S4096x1024_S4x4096x1024_2_0_01_1_n_n none (mulf u u)
    (shapeCast S4096x1024 (extractStridedSlice S1x4096x1024 ![3, 0, 0] a6 slices_S4x4096x1024_S1x4096x1024_3_0_0) shapeCasts_S1x4096x1024_S4096x1024)))
    shapeCasts_S4x4096x1024_S16384x1024

/-- The weights of layer 3. -/
def rW : W where
  wo k e := a3 (ix3 3 k e)
  g e := a4 (ix2 3 e)
  wu k j := a5 (ix3 3 k j)
  wd j e := a6 (ix3 3 j e)

theorem proj_at (b : Fin 4) (t : Fin 4096) (e : Fin 1024) : proj a0 a1 a2 a3 (ix3 b t e)
    = mix (rW a3 a4 a5 a6) (fun e => a0 (ix3 b t e)) (fun k => a1 (ix3 b t k)) (fun k => a2 (ix3 b t k)) e := by
  pointwise [proj]
  rfl
theorem norm_at (b : Fin 4) (t : Fin 4096) (e : Fin 1024) : norm v a4 (ix3 b t e) = normed (rW a3 a4 a5 a6) (fun e => v (ix3 b t e)) e := by
  pointwise [norm]
  rfl
theorem units_at (b : Fin 4) (t : Fin 4096) (j : Fin 4096) : units h a5 (ix3 b t j) * units h a5 (ix3 b t j) = hid (rW a3 a4 a5 a6) (fun k => h (ix3 b t k)) j := by
  pointwise [units]
  rfl
theorem last_at (b : Fin 4) (t : Fin 4096) (r : Fin 16384) (hr : r.val = 4096 * b.val + t.val) (e : Fin 1024) : last v a6 u (ix2 r e)
    = v (ix3 b t e) + ∑ j, u (ix3 b t j) * u (ix3 b t j) * a6 (ix3 3 j e) := by
  have e1 : r.val / 4096 = b.val := by omega
  have e2 : r.val % 4096 = t.val := by omega
  pointwise [last]
  simp only [e1, e2]

end Stages

variable (m : (ℓ : Loc nD τ sig) → Buf (Elt Ideal) ℓ) (c : Dev nD)

/-- The arguments as the run finds them. -/
def A0 : FVec Ideal S4x4096x1024 .f32 := m ((c : Thread nD τ).loc main_arg0)
def A1 : FVec Ideal S4x4096x512 .bf16 := m ((c : Thread nD τ).loc main_arg1)
def A2 : FVec Ideal S4x4096x512 .bf16 := m ((c : Thread nD τ).loc main_arg2)
def A3 : FVec Ideal S4x1024x1024 .f32 := m ((c : Thread nD τ).loc main_arg3)
def A4 : FVec Ideal S4x1024 .f32 := m ((c : Thread nD τ).loc main_arg4)
def A5 : FVec Ideal S4x1024x4096 .f32 := m ((c : Thread nD τ).loc main_arg5)
def A6 : FVec Ideal S4x4096x1024 .f32 := m ((c : Thread nD τ).loc main_arg6)

theorem res_eq : res_main_v31 m c = last (proj (A0 m c) (A1 m c) (A2 m c) (A3 m c)) (A6 m c)
    (units (norm (proj (A0 m c) (A1 m c) (A2 m c) (A3 m c)) (A4 m c)) (A5 m c)) := rfl

/-- The reference's row is the layer's row. -/
theorem ref_at (b : Fin 4) (t : Fin 4096) (r : Fin 16384) (hr : r.val = 4096 * b.val + t.val) (e : Fin 1024) : res_main_v31 m c (ix2 r e)
    = row (rW (A3 m c) (A4 m c) (A5 m c) (A6 m c)) (fun e => A0 m c (ix3 b t e)) (fun k => A1 m c (ix3 b t k)) (fun k => A2 m c (ix3 b t k)) e := by
  rw [res_eq]
  refine (last_at _ _ _ b t r hr e).trans ?_
  simp only [units_at _ (A3 m c) (A4 m c) (A5 m c) (A6 m c), norm_at _ (A3 m c) (A4 m c) (A5 m c) (A6 m c), proj_at _ _ _ (A3 m c) (A4 m c) (A5 m c) (A6 m c)]
  rfl

/-- What the claims about the reference say of a final state. -/
theorem ref_run (ρ : Dev nD → PrngReg) : θ_run (defs (F := Ideal)) (onTc (τ := τ) (main (F := Ideal))) ⟨m, fun _ => 0, ρ⟩
    (fun r => (∀ c : Dev nD,
        r.2.mem ((c.tc : Thread nD τ).loc main_v31) = res_main_v31 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) :=
  (θ_run _ _ _).mono (fun r hr => ⟨hr, sem_eq_zero_of_no_sems rfl r.2⟩) (run m ρ)

end Cert.MlpReferenceIdeal.MR

end
-- ==== Proof.MlpEqual.lean ====
module

public import proofs.«01_k».proof.Proof.MlpKernel
public import proofs.«01_k».proof.Proof.MlpRef

/-! The prompt's two programs compute the same rows from memories that agree on the arguments. -/

@[expose] public section

set_option maxRecDepth 16384

noncomputable section

namespace Cert.MlpRow

open Idealize.ShloMosaic Idealize.ShloMosaic.TcCoe Idealize.SL.Sem

variable (m : (ℓ : Loc Cert.MlpIdeal.nD Cert.MlpIdeal.τ Cert.MlpIdeal.sig) → Buf (Elt Ideal) ℓ)
variable (m' : (ℓ : Loc Cert.MlpReferenceIdeal.nD Cert.MlpReferenceIdeal.τ Cert.MlpReferenceIdeal.sig) → Buf (Elt Ideal) ℓ)
variable (c : Dev Cert.MlpIdeal.nD)

theorem out_agree
    (h0 : MlpReferenceIdeal.MR.A0 m' c = MlpIdeal.MK.A0 m c) (h1 : MlpReferenceIdeal.MR.A1 m' c = MlpIdeal.MK.A1 m c)
    (h2 : MlpReferenceIdeal.MR.A2 m' c = MlpIdeal.MK.A2 m c) (h3 : MlpReferenceIdeal.MR.A3 m' c = MlpIdeal.MK.A3 m c)
    (h4 : MlpReferenceIdeal.MR.A4 m' c = MlpIdeal.MK.A4 m c) (h5 : MlpReferenceIdeal.MR.A5 m' c = MlpIdeal.MK.A5 m c)
    (h6 : MlpReferenceIdeal.MR.A6 m' c = MlpIdeal.MK.A6 m c) :
    MlpReferenceIdeal.Value.res_main_v31 m' c = (MlpIdeal.Gen.dats m 0 c).arrAt 7 MlpIdeal.cfg0.N := by
  have key : ∀ (r : Fin 16384) (e : Fin 1024), MlpReferenceIdeal.Value.res_main_v31 m' c (ix2 r e) = (MlpIdeal.Gen.dats m 0 c).arrAt 7 MlpIdeal.cfg0.N (ix2 r e) := fun r e => by
    refine (MlpReferenceIdeal.MR.ref_at m' c (MlpIdeal.MK.seqOf r) (MlpIdeal.MK.posOf r) r (Nat.div_add_mod _ _).symm e).trans ?_
    rw [h0, h1, h2, h3, h4, h5, h6]
    exact (MlpIdeal.MK.kernel_at m c r e).symm
  funext i
  have hi : i = (ix2 (i 0) (i 1) : (Cert.MlpIdeal.S16384x1024).Idx) := by
    funext a
    match a with
    | ⟨0, _⟩ => rfl
    | ⟨1, _⟩ => rfl
  exact hi ▸ key (i 0) (i 1)

end Cert.MlpRow

end
-- ==== Proof.MlpSampleTile.lean ====
module

public import proofs.«01_k».proof.Proof.MlpSpec
public import proofs.«01_k».proof.Proof.Gen.MlpSampleIdeal.Value
public import Idealize.ShloMosaic.Lib.StableHlo.ReadAt

/-! What one grid point of the sample kernel stores, row by row. -/

@[expose] public section

set_option maxRecDepth 16384

noncomputable section

namespace Cert.MlpSampleIdeal.MK

open Cert.MlpSampleIdeal Cert.MlpSampleIdeal.Gen Cert.MlpSampleIdeal.Value Idealize.ShloMosaic Idealize.ShloMosaic.TcCoe Cert.MlpRow

variable (x0 : Vec Ideal S256x1024 .f32) (x1 x2 : Vec Ideal S256x512 .bf16) (x3 : Vec Ideal S1x1024x1024 .bf16) (x4 : Vec Ideal S1x1024 .f32)
  (x5 : Vec Ideal S1x1024x4096 .bf16) (x6 : Vec Ideal S1x4096x1024 .bf16)

/-- The blocks as plain functions. -/
def bW : W where
  wo k e := x3 (ix3 0 k e)
  g e := x4 (ix2 0 e)
  wu k j := x5 (ix3 0 k j)
  wd j e := x6 (ix3 0 j e)
def bX (i : Fin 256) (e : Fin 1024) : EReal := x0 (ix2 i e)
def bO (i : Fin 256) (k : Fin 512) : EReal := x1 (ix2 i k)

/-- Loading a whole block is the block. -/
theorem ld0 : View.ld x0 r0_0 = x0 := by funext y; idx_vars y; pointwise
theorem ld1 : View.ld x1 r0_1 = x1 := by funext y; idx_vars y; pointwise
theorem ld3 : View.ld x3 r0_2 = x3 := by funext y; idx_vars y; pointwise; rw [Subsingleton.elim y0 0]
theorem ld4 : View.ld x4 r0_3 = x4 := by funext y; idx_vars y; pointwise; rw [Subsingleton.elim y0 0]

theorem pay2_at (i : Fin 256) (e : Fin 1024) : k0_pay2 x0 x1 x2 x3 (ix2 i e) = mix (bW x3 x4 x5 x6) (bX x0 i) (bO x1 i) (bO x2 i) e := by
  pointwise [k0_pay2]
  rfl
theorem pay9_at (i : Fin 256) (e : Fin 1024) : k0_pay9 x0 x1 x2 x3 x4 x5 x6 (ix2 i e)
    = normed (bW x3 x4 x5 x6) (mix (bW x3 x4 x5 x6) (bX x0 i) (bO x1 i) (bO x2 i)) e := by
  unfold k0_pay9
  rw [ld0, ld1, ld1, ld3, ld4]
  pointwise [k0_pay3]
  simp only [pay2_at x0 x1 x2 x3 x4 x5 x6]
  rfl
theorem pay4_eq : k0_pay4 (View.ld x0 r0_0) (View.ld x1 r0_1) (View.ld x2 r0_1) (View.ld x3 r0_2) (View.ld x4 r0_3) (View.ld x5 r0_4)
    = k0_pay7 (k0_pay9 x0 x1 x2 x3 x4 x5 x6) (View.ld x5 r0_4) := rfl

/-- The stored block's row is the layer's row. -/
theorem out_at (i : Fin 256) (e : Fin 1024) : out0_7 x0 x1 x2 x3 x4 x5 x6 (ix2 i e) = row (bW x3 x4 x5 x6) (bX x0 i) (bO x1 i) (bO x2 i) e := by
  have hy : (ix2 i e : S256x1024.Idx) = r0_0.emb (ix2 i e) := by
    funext a; apply Fin.ext
    match a with
    | ⟨0, _⟩ => show i.val = 0 + 1 * i.val; omega
    | ⟨1, _⟩ => show e.val = 0 + 1 * e.val; omega
  rw [hy]
  unfold out0_7
  refine (View.canon_cons_emb r0_0 _ _ _).trans ?_
  rw [pay4_eq]
  rw [← row_parts]
  unfold part hid
  have h9 : (fun k => k0_pay9 x0 x1 x2 x3 x4 x5 x6 (ix2 i k)) = normed (bW x3 x4 x5 x6) (mix (bW x3 x4 x5 x6) (bX x0 i) (bO x1 i) (bO x2 i)) :=
    funext fun k => pay9_at x0 x1 x2 x3 x4 x5 x6 i k
  rw [← h9, ← pay2_at x0 x1 x2 x3 x4 x5 x6, ld0, ld1, ld1, ld3]
  generalize k0_pay9 x0 x1 x2 x3 x4 x5 x6 = h
  generalize k0_pay2 x0 x1 x2 x3 = v
  pointwise [k0_pay1, k0_pay6, k0_pay7, k0_pay5, k0_pay8]
  rfl

end Cert.MlpSampleIdeal.MK

end
-- ==== Proof.MlpSampleKernel.lean ====
module

public import proofs.«01_k».proof.Proof.MlpSampleTile

/-! The sample kernel's result array, row by row. -/

@[expose] public section

set_option maxRecDepth 16384

noncomputable section

namespace Cert.MlpSampleIdeal.MK

open Cert.MlpSampleIdeal Cert.MlpSampleIdeal.Gen Cert.MlpSampleIdeal.Value Idealize.ShloMosaic Idealize.ShloMosaic.TcCoe Cert.MlpRow

variable (m : (ℓ : Loc nD τ sig) → Buf (Elt Ideal) ℓ) (c : Dev nD)

/-- The arguments as the run finds them. -/
def A0 : Vec Ideal S32x8x1024 .f32 := m ((c : Thread nD τ).loc main_arg0)
def A1 : Vec Ideal S32x8x512 .f32 := m ((c : Thread nD τ).loc main_arg1)
def A2 : Vec Ideal S32x8x512 .f32 := m ((c : Thread nD τ).loc main_arg2)
def A3 : Vec Ideal S4x1024x1024 .f32 := m ((c : Thread nD τ).loc main_arg3)
def A4 : Vec Ideal S4x1024 .f32 := m ((c : Thread nD τ).loc main_arg4)
def A5 : Vec Ideal S4x1024x4096 .f32 := m ((c : Thread nD τ).loc main_arg5)
def A6 : Vec Ideal S4x4096x1024 .f32 := m ((c : Thread nD τ).loc main_arg6)

/-- The weights of layer 3, and the input rows. -/
def kW : W where
  wo k e := A3 m c (ix3 3 k e)
  g e := A4 m c (ix2 3 e)
  wu k j := A5 m c (ix3 3 k j)
  wd j e := A6 m c (ix3 3 j e)
def kX (b : Fin 32) (t : Fin 8) (e : Fin 1024) : EReal := A0 m c (ix3 b t e)
def kA (b : Fin 32) (t : Fin 8) (k : Fin 512) : EReal := A1 m c (ix3 b t k)
def kB (b : Fin 32) (t : Fin 8) (k : Fin 512) : EReal := A2 m c (ix3 b t k)

/-- The row of the flattened input that grid point `t` reads at `i`: its sequence and position. -/
def seqOf (r : Fin 256) : Fin 32 := ⟨r.val / 8, by omega⟩
def posOf (r : Fin 256) : Fin 8 := ⟨r.val % 8, Nat.mod_lt _ (by decide)⟩
def rowOf (t : Fin cfg0.N) (i : Fin 256) : Fin 256 := ⟨256 * t.val + i.val, by have : t.val < 1 := lt_of_lt_of_eq t.isLt N_0; omega⟩

theorem iblk0 (t : Fin cfg0.N) (i : Fin 256) (e : Fin 1024) : iblk m c 0 t (ix2 i e) = kX m c (seqOf (rowOf t i)) (posOf (rowOf t i)) e := by
  have h : ∀ t : Fin grid0.N, win0_0.index t (0 : Fin 2) = t.val ∧ win0_0.index t (1 : Fin 2) = 0 := by decide +kernel
  obtain ⟨e0, e1⟩ := h t
  have he : ((cfg0.win 0).blk t).view.emb (ix2 i e) = (ix2 (rowOf t i) e : S256x1024.Idx) := by
    funext a; apply Fin.ext
    match a with
    | ⟨0, _⟩ => show win0_0.index t (0 : Fin 2) * 256 + 1 * i.val = 256 * t.val + i.val; omega
    | ⟨1, _⟩ => show win0_0.index t (1 : Fin 2) * 1024 + 1 * e.val = e.val; omega
  show V m c main_v0 (((cfg0.win 0).blk t).view.emb (ix2 i e)) = _
  rw [he]
  unfold kX A0 V
  after_reads_at
  rfl
theorem iblk1 (t : Fin cfg0.N) (i : Fin 256) (k : Fin 512) : iblk m c 1 t (ix2 i k) = kA m c (seqOf (rowOf t i)) (posOf (rowOf t i)) k := by
  have h : ∀ t : Fin grid0.N, win0_1.index t (0 : Fin 2) = t.val ∧ win0_1.index t (1 : Fin 2) = 0 := by decide +kernel
  obtain ⟨e0, e1⟩ := h t
  have he : ((cfg0.win 1).blk t).view.emb (ix2 i k) = (ix2 (rowOf t i) k : S256x512.Idx) := by
    funext a; apply Fin.ext
    match a with
    | ⟨0, _⟩ => show win0_1.index t (0 : Fin 2) * 256 + 1 * i.val = 256 * t.val + i.val; omega
    | ⟨1, _⟩ => show win0_1.index t (1 : Fin 2) * 512 + 1 * k.val = k.val; omega
  show V m c main_v2 (((cfg0.win 1).blk t).view.emb (ix2 i k)) = _
  rw [he]
  unfold kA A1 V
  after_reads_at
  rfl
theorem iblk2 (t : Fin cfg0.N) (i : Fin 256) (k : Fin 512) : iblk m c 2 t (ix2 i k) = kB m c (seqOf (rowOf t i)) (posOf (rowOf t i)) k := by
  have h : ∀ t : Fin grid0.N, win0_2.index t (0 : Fin 2) = t.val ∧ win0_2.index t (1 : Fin 2) = 0 := by decide +kernel
  obtain ⟨e0, e1⟩ := h t
  have he : ((cfg0.win 2).blk t).view.emb (ix2 i k) = (ix2 (rowOf t i) k : S256x512.Idx) := by
    funext a; apply Fin.ext
    match a with
    | ⟨0, _⟩ => show win0_2.index t (0 : Fin 2) * 256 + 1 * i.val = 256 * t.val + i.val; omega
    | ⟨1, _⟩ => show win0_2.index t (1 : Fin 2) * 512 + 1 * k.val = k.val; omega
  show V m c main_v4 (((cfg0.win 2).blk t).view.emb (ix2 i k)) = _
  rw [he]
  unfold kB A2 V
  after_reads_at
  rfl
theorem iblk3 (t : Fin cfg0.N) (k e : Fin 1024) : iblk m c 3 t (ix3 0 k e) = (kW m c).wo k e := by
  have h : ∀ t : Fin grid0.N, win0_3.index t (0 : Fin 3) = 3 ∧ win0_3.index t (1 : Fin 3) = 0 ∧ win0_3.index t (2 : Fin 3) = 0 := by decide +kernel
  obtain ⟨e0, e1, e2⟩ := h t
  have he : ((cfg0.win 3).blk t).view.emb (ix3 0 k e) = (ix3 3 k e : S4x1024x1024.Idx) := by
    funext a; apply Fin.ext
    match a with
    | ⟨0, _⟩ => show win0_3.index t (0 : Fin 3) * 1 + 1 * 0 = 3; omega
    | ⟨1, _⟩ => show win0_3.index t (1 : Fin 3) * 1024 + 1 * k.val = k.val; omega
    | ⟨2, _⟩ => show win0_3.index t (2 : Fin 3) * 1024 + 1 * e.val = e.val; omega
  show V m c main_v5 (((cfg0.win 3).blk t).view.emb (ix3 0 k e)) = _
  rw [he]
  show _ = A3 m c _
  unfold A3 V
  after_reads_at
theorem iblk4 (t : Fin cfg0.N) (e : Fin 1024) : iblk m c 4 t (ix2 0 e) = (kW m c).g e := by
  have h : ∀ t : Fin grid0.N, win0_4.index t (0 : Fin 2) = 0 ∧ win0_4.index t (1 : Fin 2) = 0 := by decide +kernel
  obtain ⟨e0, e1⟩ := h t
  have he : ((cfg0.win 4).blk t).view.emb (ix2 0 e) = (ix2 0 e : S1x1024.Idx) := by
    funext a; apply Fin.ext
    match a with
    | ⟨0, _⟩ => show win0_4.index t (0 : Fin 2) * 1 + 1 * 0 = 0; omega
    | ⟨1, _⟩ => show win0_4.index t (1 : Fin 2) * 1024 + 1 * e.val = e.val; omega
  show V m c main_v8 (((cfg0.win 4).blk t).view.emb (ix2 0 e)) = _
  rw [he]
  show _ = A4 m c _
  unfold A4 V
  after_reads_at
theorem iblk5 (t : Fin cfg0.N) (k : Fin 1024) (j : Fin 4096) : iblk m c 5 t (ix3 0 k j) = (kW m c).wu k j := by
  have h : ∀ t : Fin grid0.N, win0_5.index t (0 : Fin 3) = 3 ∧ win0_5.index t (1 : Fin 3) = 0 ∧ win0_5.index t (2 : Fin 3) = 0 := by decide +kernel
  obtain ⟨e0, e1, e2⟩ := h t
  have he : ((cfg0.win 5).blk t).view.emb (ix3 0 k j) = (ix3 3 k j : S4x1024x4096.Idx) := by
    funext a; apply Fin.ext
    match a with
    | ⟨0, _⟩ => show win0_5.index t (0 : Fin 3) * 1 + 1 * 0 = 3; omega
    | ⟨1, _⟩ => show win0_5.index t (1 : Fin 3) * 1024 + 1 * k.val = k.val; omega
    | ⟨2, _⟩ => show win0_5.index t (2 : Fin 3) * 4096 + 1 * j.val = j.val; omega
  show V m c main_v9 (((cfg0.win 5).blk t).view.emb (ix3 0 k j)) = _
  rw [he]
  show _ = A5 m c _
  unfold A5 V
  after_reads_at
theorem iblk6 (t : Fin cfg0.N) (j : Fin 4096) (e : Fin 1024) : iblk m c 6 t (ix3 0 j e) = (kW m c).wd j e := by
  have h : ∀ t : Fin grid0.N, win0_6.index t (0 : Fin 3) = 3 ∧ win0_6.index t (1 : Fin 3) = 0 ∧ win0_6.index t (2 : Fin 3) = 0 := by decide +kernel
  obtain ⟨e0, e1, e2⟩ := h t
  have he : ((cfg0.win 6).blk t).view.emb (ix3 0 j e) = (ix3 3 j e : S4x4096x1024.Idx) := by
    funext a; apply Fin.ext
    match a with
    | ⟨0, _⟩ => show win0_6.index t (0 : Fin 3) * 1 + 1 * 0 = 3; omega
    | ⟨1, _⟩ => show win0_6.index t (1 : Fin 3) * 4096 + 1 * j.val = j.val; omega
    | ⟨2, _⟩ => show win0_6.index t (2 : Fin 3) * 1024 + 1 * e.val = e.val; omega
  show V m c main_v10 (((cfg0.win 6).blk t).view.emb (ix3 0 j e)) = _
  rw [he]
  show _ = A6 m c _
  unfold A6 V
  after_reads_at

/-- What grid point `t` stores at its row `i`. -/
theorem block_at (t : Fin cfg0.N) (i : Fin 256) (e : Fin 1024) :
    out0_7 (iblk m c 0 t) (iblk m c 1 t) (iblk m c 2 t) (iblk m c 3 t) (iblk m c 4 t) (iblk m c 5 t) (iblk m c 6 t) (ix2 i e)
      = row (kW m c) (kX m c (seqOf (rowOf t i)) (posOf (rowOf t i))) (kA m c (seqOf (rowOf t i)) (posOf (rowOf t i)))
        (kB m c (seqOf (rowOf t i)) (posOf (rowOf t i))) e := by
  rw [out_at]
  have hw : bW (iblk m c 3 t) (iblk m c 4 t) (iblk m c 5 t) (iblk m c 6 t) = kW m c := by
    unfold bW
    simp only [iblk3, iblk4, iblk5, iblk6]
  rw [hw, show bX (iblk m c 0 t) i = _ from funext fun e => iblk0 m c t i e, show bO (iblk m c 1 t) i = _ from funext fun e => iblk1 m c t i e,
    show bO (iblk m c 2 t) i = _ from funext fun e => iblk2 m c t i e]

/-- The result array's row `r`. -/
theorem kernel_at (r : Fin 256) (e : Fin 1024) : (dats m 0 c).arrAt 7 cfg0.N (ix2 r e)
    = row (kW m c) (kX m c (seqOf r) (posOf r)) (kA m c (seqOf r) (posOf r)) (kB m c (seqOf r) (posOf r)) e := by
  have hf : ∀ t : Fin grid0.N, (cfg0.win 7).flush t = true := by decide +kernel
  have h : ∀ t : Fin grid0.N, win0_7.index t (0 : Fin 2) = t.val ∧ win0_7.index t (1 : Fin 2) = 0 := by decide +kernel
  let t : Fin cfg0.N := ⟨r.val / 256, lt_of_lt_of_eq (by omega) N_0.symm⟩
  let i : Fin 256 := ⟨r.val % 256, Nat.mod_lt _ (by decide)⟩
  obtain ⟨e0, e1⟩ := h t
  have hr : rowOf t i = r := Fin.ext (by show 256 * (r.val / 256) + r.val % 256 = r.val; omega)
  have he : ((cfg0.win 7).blk t).view.emb (ix2 i e) = (ix2 r e : S256x1024.Idx) := by
    funext a; apply Fin.ext
    match a with
    | ⟨0, _⟩ => show win0_7.index t (0 : Fin 2) * 256 + 1 * (r.val % 256) = r.val; rw [e0]; show r.val / 256 * 256 + _ = _; omega
    | ⟨1, _⟩ => show win0_7.index t (1 : Fin 2) * 1024 + 1 * e.val = e.val; omega
  have hb := congrFun ((blocks7 m c t (hf t)).trans (flushed7 m c t)) (ix2 i e)
  have hk := block_at m c t i e
  rw [hr] at hk
  refine Eq.trans ?_ (hb.trans hk)
  show _ = (dats m 0 c).arrAt 7 cfg0.N (((cfg0.win 7).blk t).view.emb (ix2 i e))
  rw [he]

end Cert.MlpSampleIdeal.MK

end
-- ==== Proof.MlpSampleRef.lean ====
module

public import proofs.«01_k».proof.Proof.MlpSpec
public import proofs.«01_k».proof.Proof.Gen.MlpSampleReferenceIdeal.Run
public import Idealize.ShloMosaic.Lib.Quiescent

/-! The sample reference's result, row by row. -/

@[expose] public section

set_option maxRecDepth 16384

noncomputable section

namespace Cert.MlpSampleReferenceIdeal.MR

open Cert.MlpSampleReferenceIdeal Cert.MlpSampleReferenceIdeal.Gen Cert.MlpSampleReferenceIdeal.Value Idealize.ShloMosaic Idealize.ShloMosaic.TcCoe Cert.MlpRow Idealize.SL.Sem

section Stages

variable (a0 v h : FVec Ideal S32x8x1024 .f32) (a1 a2 : FVec Ideal S32x8x512 .f32) (a3 : FVec Ideal S4x1024x1024 .f32)
  (a4 : FVec Ideal S4x1024 .f32) (a5 : FVec Ideal S4x1024x4096 .f32) (a6 : FVec Ideal S4x4096x1024 .f32) (u : FVec Ideal S32x8x4096 .f32)

/-- The reference's stages: output projection, norm, hidden units, result. -/
def proj : FVec Ideal S32x8x1024 .f32 :=
  addf a0 (Host.dotGeneral dot_S32x8x1024_S1024x1024_S32x8x1024_2_0_01_1_n_n none
    (concatenate S32x8x1024 2 [⟨S32x8x512, a1⟩, ⟨S32x8x512, a2⟩] concatenates_S32x8x512_S32x8x512_S32x8x1024_d2)
    (shapeCast S1024x1024 (extractStridedSlice S1x1024x1024 ![3, 0, 0] a3 slices_S4x1024x1024_S1x1024x1024_3_0_0) shapeCasts_S1x1024x1024_S1024x1024))
def norm : FVec Ideal S32x8x1024 .f32 :=
  mulf (mulf v (broadcastInDim S32x8x1024 ![0, 1, 2] bcast_S32x8x1_S32x8x1024_0_1_2
      (Host.rsqrt (addf (Host.divf (broadcastInDim S32x8x1 ![0, 1] bcast_S32x8_S32x8x1_0_1
          (Host.reduceAdd (mulf v v) (constant S_ .f32 0x00000000#32) reducesTo_S32x8x1024_S32x8_d2 h_S_))
        (broadcastInDim S32x8x1 ![] bcast_S_S32x8x1 (constant S_ .f32 0x44800000#32)))
        (broadcastInDim S32x8x1 ![] bcast_S_S32x8x1 (constant S_ .f32 0x358637BD#32))))))
    (broadcastInDim S32x8x1024 ![0, 1, 2] bcast_S1x1x1024_S32x8x1024_0_1_2 (broadcastInDim S1x1x1024 ![2] bcast_S1024_S1x1x1024_2
      (shapeCast S1024 (extractStridedSlice S1x1024 ![3, 0] a4 slices_S4x1024_S1x1024_3_0) shapeCasts_S1x1024_S1024)))
def units : FVec Ideal S32x8x4096 .f32 :=
  maximumf (Host.dotGeneral dot_S32x8x1024_S1024x4096_S32x8x4096_2_0_01_1_n_n none h
    (shapeCast S1024x4096 (extractStridedSlice S1x1024x4096 ![3, 0, 0] a5 slices_S4x1024x4096_S1x1024x4096_3_0_0) shapeCasts_S1x1024x4096_S1024x4096))
    (broadcastInDim S32x8x4096 ![] bcast_S_S32x8x4096 (constant S_ .f32 0x00000000#32))
def last : FVec Ideal S256x1024 .f32 :=
  shapeCast S256x1024 (addf v (Host.dotGeneral dot_S32x8x4096_S4096x1024_S32x8x1024_2_0_01_1_n_n none (mulf u u)
    (shapeCast S4096x1024 (extractStridedSlice S1x4096x1024 ![3, 0, 0] a6 slices_S4x4096x1024_S1x4096x1024_3_0_0) shapeCasts_S1x4096x1024_S4096x1024)))
    shapeCasts_S32x8x1024_S256x1024

/-- The weights of layer 3. -/
def rW : W where
  wo k e := a3 (ix3 3 k e)
  g e := a4 (ix2 3 e)
  wu k j := a5 (ix3 3 k j)
  wd j e := a6 (ix3 3 j e)

theorem proj_at (b : Fin 32) (t : Fin 8) (e : Fin 1024) : proj a0 a1 a2 a3 (ix3 b t e)
    = mix (rW a3 a4 a5 a6) (fun e => a0 (ix3 b t e)) (fun k => a1 (ix3 b t k)) (fun k => a2 (ix3 b t k)) e := by
  pointwise [proj]
  rfl
theorem norm_at (b : Fin 32) (t : Fin 8) (e : Fin 1024) : norm v a4 (ix3 b t e) = normed (rW a3 a4 a5 a6) (fun e => v (ix3 b t e)) e := by
  pointwise [norm]
  rfl
theorem units_at (b : Fin 32) (t : Fin 8) (j : Fin 4096) : units h a5 (ix3 b t j) * units h a5 (ix3 b t j) = hid (rW a3 a4 a5 a6) (fun k => h (ix3 b t k)) j := by
  pointwise [units]
  rfl
theorem last_at (b : Fin 32) (t : Fin 8) (r : Fin 256) (hr : r.val = 8 * b.val + t.val) (e : Fin 1024) : last v a6 u (ix2 r e)
    = v (ix3 b t e) + ∑ j, u (ix3 b t j) * u (ix3 b t j) * a6 (ix3 3 j e) := by
  have e1 : r.val / 8 = b.val := by omega
  have e2 : r.val % 8 = t.val := by omega
  pointwise [last]
  simp only [e1, e2]

end Stages

variable (m : (ℓ : Loc nD τ sig) → Buf (Elt Ideal) ℓ) (c : Dev nD)

/-- The arguments as the run finds them. -/
def A0 : FVec Ideal S32x8x1024 .f32 := m ((c : Thread nD τ).loc main_arg0)
def A1 : FVec Ideal S32x8x512 .f32 := m ((c : Thread nD τ).loc main_arg1)
def A2 : FVec Ideal S32x8x512 .f32 := m ((c : Thread nD τ).loc main_arg2)
def A3 : FVec Ideal S4x1024x1024 .f32 := m ((c : Thread nD τ).loc main_arg3)
def A4 : FVec Ideal S4x1024 .f32 := m ((c : Thread nD τ).loc main_arg4)
def A5 : FVec Ideal S4x1024x4096 .f32 := m ((c : Thread nD τ).loc main_arg5)
def A6 : FVec Ideal S4x4096x1024 .f32 := m ((c : Thread nD τ).loc main_arg6)

theorem res_eq : res_main_v29 m c = last (proj (A0 m c) (A1 m c) (A2 m c) (A3 m c)) (A6 m c)
    (units (norm (proj (A0 m c) (A1 m c) (A2 m c) (A3 m c)) (A4 m c)) (A5 m c)) := rfl

/-- The reference's row is the layer's row. -/
theorem ref_at (b : Fin 32) (t : Fin 8) (r : Fin 256) (hr : r.val = 8 * b.val + t.val) (e : Fin 1024) : res_main_v29 m c (ix2 r e)
    = row (rW (A3 m c) (A4 m c) (A5 m c) (A6 m c)) (fun e => A0 m c (ix3 b t e)) (fun k => A1 m c (ix3 b t k)) (fun k => A2 m c (ix3 b t k)) e := by
  rw [res_eq]
  refine (last_at _ _ _ b t r hr e).trans ?_
  simp only [units_at _ (A3 m c) (A4 m c) (A5 m c) (A6 m c), norm_at _ (A3 m c) (A4 m c) (A5 m c) (A6 m c), proj_at _ _ _ (A3 m c) (A4 m c) (A5 m c) (A6 m c)]
  rfl

/-- What the claims about the reference say of a final state. -/
theorem ref_run (ρ : Dev nD → PrngReg) : θ_run (defs (F := Ideal)) (onTc (τ := τ) (main (F := Ideal))) ⟨m, fun _ => 0, ρ⟩
    (fun r => (∀ c : Dev nD,
        r.2.mem ((c.tc : Thread nD τ).loc main_v29) = res_main_v29 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) :=
  (θ_run _ _ _).mono (fun r hr => ⟨hr, sem_eq_zero_of_no_sems rfl r.2⟩) (run m ρ)

end Cert.MlpSampleReferenceIdeal.MR

end
-- ==== Proof.MlpSampleEqual.lean ====
module

public import proofs.«01_k».proof.Proof.MlpSampleKernel
public import proofs.«01_k».proof.Proof.MlpSampleRef

/-! The sample's two programs compute the same rows from memories that agree on the arguments. -/

@[expose] public section

set_option maxRecDepth 256

noncomputable section

namespace Cert.MlpRow

open Idealize.ShloMosaic Idealize.ShloMosaic.TcCoe Idealize.SL.Sem

variable (m : (ℓ : Loc Cert.MlpSampleIdeal.nD Cert.MlpSampleIdeal.τ Cert.MlpSampleIdeal.sig) → Buf (Elt Ideal) ℓ)
variable (m' : (ℓ : Loc Cert.MlpSampleReferenceIdeal.nD Cert.MlpSampleReferenceIdeal.τ Cert.MlpSampleReferenceIdeal.sig) → Buf (Elt Ideal) ℓ)
variable (c : Dev Cert.MlpSampleIdeal.nD)

theorem sample_agree
    (h0 : MlpSampleReferenceIdeal.MR.A0 m' c = MlpSampleIdeal.MK.A0 m c) (h1 : MlpSampleReferenceIdeal.MR.A1 m' c = MlpSampleIdeal.MK.A1 m c)
    (h2 : MlpSampleReferenceIdeal.MR.A2 m' c = MlpSampleIdeal.MK.A2 m c) (h3 : MlpSampleReferenceIdeal.MR.A3 m' c = MlpSampleIdeal.MK.A3 m c)
    (h4 : MlpSampleReferenceIdeal.MR.A4 m' c = MlpSampleIdeal.MK.A4 m c) (h5 : MlpSampleReferenceIdeal.MR.A5 m' c = MlpSampleIdeal.MK.A5 m c)
    (h6 : MlpSampleReferenceIdeal.MR.A6 m' c = MlpSampleIdeal.MK.A6 m c) :
    MlpSampleReferenceIdeal.Value.res_main_v29 m' c = (MlpSampleIdeal.Gen.dats m 0 c).arrAt 7 MlpSampleIdeal.cfg0.N := by
  have key : ∀ (r : Fin 256) (e : Fin 1024), MlpSampleReferenceIdeal.Value.res_main_v29 m' c (ix2 r e) = (MlpSampleIdeal.Gen.dats m 0 c).arrAt 7 MlpSampleIdeal.cfg0.N (ix2 r e) := fun r e => by
    refine (MlpSampleReferenceIdeal.MR.ref_at m' c (MlpSampleIdeal.MK.seqOf r) (MlpSampleIdeal.MK.posOf r) r (Nat.div_add_mod _ _).symm e).trans ?_
    rw [h0, h1, h2, h3, h4, h5, h6]
    exact (MlpSampleIdeal.MK.kernel_at m c r e).symm
  funext i
  have hi : i = (ix2 (i 0) (i 1) : (Cert.MlpSampleIdeal.S256x1024).Idx) := by
    funext a
    match a with
    | ⟨0, _⟩ => rfl
    | ⟨1, _⟩ => rfl
  exact hi ▸ key (i 0) (i 1)

end Cert.MlpRow

end
-- ==== Proof.ProjSpec.lean ====
module

public import Idealize.ShloMosaic.Lib.Pointwise

/-! One row of the input projection: the norm, the projection, the per-head norms and the rotation by position, over the extended reals. -/

@[expose] public section

noncomputable section

namespace Cert.ProjRow

open Idealize.ShloMosaic

/-! ## The constants -/

theorem word_64 : Ideal.ofBits .f32 0x42800000#32 = ((64 : ℝ) : EReal) := by
  simp [Ideal.ofBits, Ideal.ieee]
  rw [← EReal.coe_mul]
  norm_num
theorem word_64th : Ideal.ofBits .f32 0x3C800000#32 = ((1 / 64 : ℝ) : EReal) := by
  simp [Ideal.ofBits, Ideal.ieee]
  rw [← EReal.coe_mul]
  norm_num
theorem word_1024 : Ideal.ofBits .f32 0x44800000#32 = ((1024 : ℝ) : EReal) := by
  simp [Ideal.ofBits, Ideal.ieee]
  rw [← EReal.coe_mul]
  norm_num
theorem word_eps : ∃ r : ℝ, 0 < r ∧ Ideal.ofBits .f32 0x358637BD#32 = (r : EReal) := by
  refine ⟨8796093 / 2 ^ 43, by norm_num, ?_⟩
  simp [Ideal.ofBits, Ideal.ieee]
  rw [← EReal.coe_mul]
  norm_num
theorem word_scale : ∃ r : ℝ, 0 < r ∧ Ideal.ofBits .f32 0x3E38AA3B#32 = (r : EReal) := by
  refine ⟨12102203 / 2 ^ 26, by norm_num, ?_⟩
  simp [Ideal.ofBits, Ideal.ieee]
  rw [← EReal.coe_mul]
  norm_num
theorem word_top : Ideal.ofBits .f32 0x7F800000#32 = (⊤ : EReal) := by
  simp [Ideal.ofBits, Ideal.ieee]

/-! ## Finite values -/

/-- A value that is a real number. -/
def Finite (a : EReal) : Prop := ∃ r : ℝ, a = (r : EReal)

theorem Finite.mul {a b : EReal} (ha : Finite a) (hb : Finite b) : Finite (a * b) := by
  obtain ⟨r, rfl⟩ := ha
  obtain ⟨s, rfl⟩ := hb
  exact ⟨r * s, (EReal.coe_mul r s).symm⟩
theorem Finite.add {a b : EReal} (ha : Finite a) (hb : Finite b) : Finite (a + b) := by
  obtain ⟨r, rfl⟩ := ha
  obtain ⟨s, rfl⟩ := hb
  exact ⟨r + s, (EReal.coe_add r s).symm⟩
theorem Finite.sum {n : ℕ} {f : Fin n → EReal} (h : ∀ k, Finite (f k)) : Finite (∑ k, f k) :=
  Finset.sum_induction f Finite (fun _ _ => Finite.add) ⟨0, rfl⟩ (fun k _ => h k)
theorem Finite.sub_self {a : EReal} (ha : Finite a) : a - a = 0 := by
  obtain ⟨r, rfl⟩ := ha
  rw [← EReal.coe_sub, _root_.sub_self, EReal.coe_zero]
theorem finite_of_abs {a : EReal} (h : max a (-a) < ⊤) : Finite a := by
  induction a using EReal.rec with
  | bot => simp at h
  | coe r => exact ⟨r, rfl⟩
  | top => simp at h

/-- The mean of finitely many squares, with the small constant added, is a positive real. -/
theorem meanSq_pos {n : ℕ} (f : Fin n → EReal) (h : ∀ k, Finite (f k)) (N : ℝ) (hN : 0 < N) :
    ∃ r : ℝ, 0 < r ∧ Ideal.div (∑ k, f k * f k) (N : EReal) + Ideal.ofBits .f32 0x358637BD#32 = (r : EReal) := by
  have hs : ∃ r : ℝ, 0 ≤ r ∧ ∑ k, f k * f k = (r : EReal) := by
    refine Finset.sum_induction (fun k => f k * f k) (fun a => ∃ r : ℝ, 0 ≤ r ∧ a = (r : EReal)) ?_ ⟨0, le_refl _, rfl⟩ ?_
    · rintro _ _ ⟨r, hr, rfl⟩ ⟨s, hs, rfl⟩
      exact ⟨r + s, add_nonneg hr hs, (EReal.coe_add r s).symm⟩
    · intro k _
      obtain ⟨r, hr⟩ := h k
      exact ⟨r * r, mul_self_nonneg r, by rw [hr, EReal.coe_mul]⟩
  obtain ⟨r, hr, e⟩ := hs
  obtain ⟨p, hp, e'⟩ := word_eps
  refine ⟨r * N⁻¹ + p, by positivity, ?_⟩
  have hN0 : (N : EReal) ≠ 0 := by exact_mod_cast hN.ne'
  rw [e, e', Ideal.div, if_neg hN0, EReal.coe_add, EReal.coe_mul, EReal.coe_inv]

theorem finite_rsqrt {a : EReal} (h : ∃ r : ℝ, 0 < r ∧ a = (r : EReal)) : Finite (Ideal.rsqrt a) := by
  obtain ⟨r, hr, rfl⟩ := h
  refine ⟨(√r)⁻¹, ?_⟩
  show (if r < 0 then ⊥ else if r = 0 then ⊤ else ((√r)⁻¹ : EReal)) = _
  rw [if_neg hr.le.not_gt, if_neg hr.ne']
  rfl

/-! ## The row -/

/-- The gain of the norm and the columns of the projection (the gate's columns followed by zeros up to 128). -/
structure W where
  g : Fin 1024 → EReal
  w : Fin 1024 → ℕ → EReal

/-- The packed columns of the projection matrix: its first 1304 columns, 104 columns of zeros, its last 2048 columns. -/
def packed (a : Fin 3352 → EReal) (e : ℕ) : EReal :=
  if h : e < 1304 then a ⟨e, by omega⟩ else if e < 1408 then 0 else if h : e < 3456 then a ⟨e - 104, by omega⟩ else 0

theorem packed_lo (a : Fin 3352 → EReal) (e : ℕ) (h : e < 1304) : packed a e = a ⟨e, by omega⟩ := by
  unfold packed
  rw [dif_pos h]
theorem packed_mid (a : Fin 3352 → EReal) (e : ℕ) (h : 1304 ≤ e) (h' : e < 1408) : packed a e = 0 := by
  unfold packed
  rw [dif_neg (by omega), if_pos h']
theorem packed_hi (a : Fin 3352 → EReal) (e : ℕ) (h : 1408 ≤ e) (h' : e < 3456) : packed a e = a ⟨e - 104, by omega⟩ := by
  unfold packed
  rw [dif_neg (by omega), if_neg (by omega), dif_pos h']
theorem packed_out (a : Fin 3352 → EReal) (e : ℕ) (h : 3456 ≤ e) : packed a e = 0 := by
  unfold packed
  rw [dif_neg (by omega), if_neg (by omega), dif_neg (by omega)]

/-- A column of the projected row. -/
def W.proj (w : W) (x : Fin 1024 → EReal) (e : ℕ) : EReal :=
  ∑ k, x k * Ideal.rsqrt (Ideal.div (∑ j, x j * x j) (Ideal.ofBits .f32 0x44800000#32) + Ideal.ofBits .f32 0x358637BD#32) * w.g k * w.w k e

/-- An entry of the normed row is a real number, also where the row is infinite: then the mean of its squares is infinite and the row is normed to zeros. -/
theorem normed_finite (x : Fin 1024 → EReal) (k : Fin 1024) :
    Finite (x k * Ideal.rsqrt (Ideal.div (∑ j, x j * x j) ((1024 : ℝ) : EReal) + Ideal.ofBits .f32 0x358637BD#32)) := by
  by_cases hx : ∀ j, Finite (x j)
  · exact (hx k).mul (finite_rsqrt (meanSq_pos x hx 1024 (by norm_num)))
  obtain ⟨j, hj⟩ := not_forall.mp hx
  have sq_top : x j * x j = ⊤ := by
    induction hv : x j using EReal.rec with
    | bot => exact EReal.bot_mul_bot
    | coe r => exact absurd ⟨r, hv⟩ hj
    | top => exact EReal.top_mul_top
  have sq_nonneg : ∀ i, 0 ≤ x i * x i := fun i => by
    induction x i using EReal.rec with
    | bot => rw [EReal.bot_mul_bot]; exact le_top
    | coe r => exact_mod_cast mul_self_nonneg r
    | top => rw [EReal.top_mul_top]; exact le_top
  have hs : ∑ i, x i * x i = ⊤ :=
    top_le_iff.mp (sq_top ▸ Finset.single_le_sum (f := fun i => x i * x i) (fun i _ => sq_nonneg i) (Finset.mem_univ j))
  obtain ⟨p, _, e⟩ := word_eps
  have h0 : ((1024 : ℝ) : EReal) ≠ 0 := by exact_mod_cast (by norm_num : (1024 : ℝ) ≠ 0)
  rw [hs, e, Ideal.div, if_neg h0, ← EReal.coe_inv, EReal.top_mul_coe_of_pos (by norm_num), EReal.top_add_coe, Ideal.rsqrt_top, mul_zero]
  exact ⟨0, rfl⟩

theorem W.proj_finite (w : W) (x : Fin 1024 → EReal) (hg : ∀ k, Finite (w.g k)) (hw : ∀ k e, Finite (w.w k e)) (e : ℕ) :
    Finite (w.proj x e) := by
  unfold W.proj
  rw [word_1024]
  exact Finite.sum fun k => ((normed_finite x k).mul (hg k)).mul (hw k e)

/-- A head scaled by its root mean square and the gain. -/
def nrm (v g : Fin 64 → EReal) (d : Fin 64) : EReal :=
  v d * Ideal.rsqrt (Ideal.div (∑ j, v j * v j) (Ideal.ofBits .f32 0x42800000#32) + Ideal.ofBits .f32 0x358637BD#32) * g d

/-- The angle of lane `k` at position `t`. -/
def angle (t k : ℕ) : EReal := FloatOps.sitofp (F := Ideal) .f32 (BitVec.ofNat 32 t)
  * Ideal.pow (Ideal.ofBits .f32 0x461C4000#32) (Ideal.div (-(FloatOps.sitofp (F := Ideal) .f32 (BitVec.ofNat 32 k))) (Ideal.ofBits .f32 0x42000000#32))

/-- The position of the sample's token `n`. -/
theorem pos_word (n : ℕ) : IntOp.addi 8192#32 (BitVec.ofNat 32 n) = BitVec.ofNat 32 (8192 + n) := (BitVec.ofNat_add ..).symm

/-- The rotation of a head by its position's cosines and sines. -/
def rope (v : Fin 64 → EReal) (c s : Fin 32 → EReal) (d : Fin 64) : EReal :=
  if h : d.val < 32 then v d * c ⟨d.val, h⟩ - v ⟨d.val + 32, by omega⟩ * s ⟨d.val, h⟩
  else v d * c ⟨d.val - 32, by omega⟩ + v ⟨d.val - 32, by omega⟩ * s ⟨d.val - 32, by omega⟩

/-- What a row of results is made of: the projected row, its position's cosines and sines, the three gains of the heads. -/
structure Row where
  P : ℕ → EReal
  c : Fin 32 → EReal
  s : Fin 32 → EReal
  gq : Fin 64 → EReal
  gk1 : Fin 64 → EReal
  gk2 : Fin 64 → EReal

/-- The head that starts at column `b`. -/
def Row.hd (R : Row) (b : ℕ) (d : Fin 64) : EReal := R.P (b + d.val)
def m64 (e : ℕ) : Fin 64 := ⟨e % 64, Nat.mod_lt _ (by decide)⟩

def Row.qc (R : Row) (e : ℕ) : EReal := nrm (R.hd (64 * (e / 64))) R.gq (m64 e) * Ideal.ofBits .f32 0x3E38AA3B#32
def Row.qr (R : Row) (e : ℕ) : EReal := rope (nrm (R.hd (64 * (e / 64))) R.gq) R.c R.s (m64 e) * Ideal.ofBits .f32 0x3E38AA3B#32
def Row.nsa (R : Row) (e : ℕ) : EReal :=
  if e / 128 = 2 then rope (nrm (R.hd (512 + 64 * (e / 64))) R.gk1) R.c R.s (m64 e) else R.P (512 + e)
def Row.win (R : Row) (e : ℕ) : EReal :=
  if e / 128 = 0 then rope (nrm (R.hd (1024 + 64 * (e / 64))) R.gk2) R.c R.s (m64 e) else R.P (1024 + e)
def Row.gate (R : Row) (e : ℕ) : EReal := Ideal.div 1 (1 + Ideal.exp (-(R.P (1280 + e))))
def Row.hg (R : Row) (e : ℕ) : EReal := R.P (1408 + e)

/-! ## The head norms and the rotation on rows of two heads -/

/-- Lane `d` of head `h` of a row of two heads. -/
def lane (h : Fin 2) (d : Fin 64) : Fin 128 := ⟨64 * h.val + d.val, by omega⟩

theorem lane_surj (l : Fin 128) : ∃ h d, l = lane h d :=
  ⟨⟨l.val / 64, by omega⟩, ⟨l.val % 64, by omega⟩, Fin.ext (by show l.val = 64 * (l.val / 64) + l.val % 64; omega)⟩

/-- The results' columns, chunk by chunk of two heads. -/
theorem head_lane (k : ℕ) (h : Fin 2) (d : Fin 64) : 64 * ((128 * k + (lane h d).val) / 64) = 128 * k + 64 * h.val := by
  show 64 * ((128 * k + (64 * h.val + d.val)) / 64) = _
  omega
theorem m64_lane (k : ℕ) (h : Fin 2) (d : Fin 64) : m64 (128 * k + (lane h d).val) = d := Fin.ext (by
  show (128 * k + (64 * h.val + d.val)) % 64 = d.val
  omega)
theorem chunk_lane (k : ℕ) (l : Fin 128) : (128 * k + l.val) / 128 = k := by omega

/-- A sum over 128 lanes that keeps only one head's. -/
theorem sum_head (f b : Fin 128 → EReal) (h : Fin 2) (hb : ∀ j : Fin 128, b j = if j.val / 64 = h.val then 1 else 0) :
    ∑ j, f j * b j = ∑ d, f (lane h d) := by
  have hsum : ∀ f : Fin 128 → EReal, ∑ j, f j = ∑ h : Fin 2, ∑ d : Fin 64, f (lane h d) := fun f => by
    rw [← Fintype.sum_prod_type']
    refine (Equiv.sum_comp (finProdFinEquiv (m := 2) (n := 64)) f).symm.trans ?_
    refine Finset.sum_congr rfl fun p _ => congrArg f (Fin.ext ?_)
    show p.2.val + 64 * p.1.val = 64 * p.1.val + p.2.val
    exact Nat.add_comm _ _
  have hl : ∀ (h' : Fin 2) (d : Fin 64), (lane h' d).val / 64 = h'.val := fun h' d => by
    show (64 * h'.val + d.val) / 64 = _
    omega
  rw [hsum, Finset.sum_eq_single h]
  · refine Finset.sum_congr rfl fun d _ => ?_
    rw [hb, if_pos (hl h d), mul_one]
  · intro h' _ hne
    refine Finset.sum_eq_zero fun d _ => ?_
    rw [hb, hl, if_neg (fun e => hne (Fin.ext e)), mul_zero]
  · intro hn
    exact absurd (Finset.mem_univ h) hn

/-- The head norm as the sum of a row's squares against the two-head matrix, then against the matrix again for what rounding
    the squares left over, which is nothing. -/
theorem nrm_lane (v b : Fin 128 → EReal) (g : EReal) (gain : Fin 64 → EReal) (h : Fin 2) (d : Fin 64) (hv : ∀ j, Finite (v j))
    (hb : ∀ j : Fin 128, b j = if j.val / 64 = h.val then 1 else 0) (hg : g = gain d) :
    v (lane h d) * Ideal.rsqrt ((∑ j, v j * v j * b j + ∑ j, (v j * v j - v j * v j) * b j) * Ideal.ofBits .f32 0x3C800000#32
      + Ideal.ofBits .f32 0x358637BD#32) * g = nrm (fun d => v (lane h d)) gain d := by
  have hz : ∑ j, (v j * v j - v j * v j) * b j = 0 := Finset.sum_eq_zero fun j _ => by
    rw [((hv j).mul (hv j)).sub_self, zero_mul]
  have h64 : ((64 : ℝ) : EReal) ≠ 0 := by norm_num
  rw [hz, add_zero, sum_head (fun j => v j * v j) b h hb, hg, word_64th]
  unfold nrm
  rw [word_64, Ideal.div, if_neg h64, ← EReal.coe_inv, one_div]

/-- The rotation as a product with the cosines plus the rolled row times the signed sines. -/
theorem rope_lane (v : Fin 64 → EReal) (c s : Fin 32 → EReal) (C S : EReal) (a b : EReal) (d : Fin 64)
    (hC : C = c ⟨d.val % 32, Nat.mod_lt _ (by decide)⟩)
    (hS : S = if d.val < 32 then -(s ⟨d.val % 32, Nat.mod_lt _ (by decide)⟩) else s ⟨d.val % 32, Nat.mod_lt _ (by decide)⟩)
    (ha : ∀ h : d.val < 32, a = v ⟨d.val + 32, by omega⟩) (hb : ∀ h : 32 ≤ d.val, b = v ⟨d.val - 32, by omega⟩) :
    v d * C + (if d.val < 32 then a else b) * S = rope v c s d := by
  unfold rope
  subst hC hS
  by_cases h : d.val < 32
  · have e : (⟨d.val % 32, Nat.mod_lt _ (by decide)⟩ : Fin 32) = ⟨d.val, h⟩ := Fin.ext (Nat.mod_eq_of_lt h)
    rw [if_pos h, if_pos h, dif_pos h, e, ha h, mul_neg, sub_eq_add_neg]
  · have e : (⟨d.val % 32, Nat.mod_lt _ (by decide)⟩ : Fin 32) = ⟨d.val - 32, by omega⟩ := Fin.ext (by show d.val % 32 = d.val - 32; omega)
    rw [if_neg h, if_neg h, dif_neg h, e, hb (by omega)]

/-- Scaling before the rotation is scaling after it. -/
theorem rope_scale (v : Fin 64 → EReal) (c s : Fin 32 → EReal) (d : Fin 64) :
    rope (fun d => v d * Ideal.ofBits .f32 0x3E38AA3B#32) c s d = rope v c s d * Ideal.ofBits .f32 0x3E38AA3B#32 := by
  obtain ⟨r, hr, e⟩ := word_scale
  rw [e]
  have h0 : (0 : EReal) ≤ (r : EReal) := by exact_mod_cast hr.le
  have hd : ∀ a b : EReal, a * r + b * r = (a + b) * r := fun a b => by
    rw [mul_comm a, mul_comm b, mul_comm (a + b), EReal.left_distrib_of_nonneg_of_ne_top h0 (EReal.coe_ne_top r)]
  unfold rope
  by_cases h : d.val < 32
  · rw [dif_pos h, dif_pos h, sub_eq_add_neg, sub_eq_add_neg, ← hd, mul_right_comm, mul_right_comm (v _) (r : EReal), neg_mul]
  · rw [dif_neg h, dif_neg h, ← hd, mul_right_comm, mul_right_comm (v _) (r : EReal) (s _)]

end Cert.ProjRow

end
-- ==== Proof.ProjTile.lean ====
module

public import proofs.«01_k».proof.Proof.ProjSpec
public import proofs.«01_k».proof.Proof.Gen.ProjIdeal.Value

/-! The head norm and the rotation of the prompt's kernel on a chunk of two heads, row by row. -/

@[expose] public section

set_option maxRecDepth 16384

noncomputable section

namespace Cert.ProjIdeal.PK

open Cert.ProjIdeal Cert.ProjIdeal.Gen Cert.ProjIdeal.Value Idealize.ShloMosaic Idealize.ShloMosaic.TcCoe Cert.ProjRow

section Stages

variable (p : FVec Ideal S512x1408 .f32) (v c s : FVec Ideal S512x128 .f32) (bd : FVec Ideal S128x128 .bf16) (g : FVec Ideal S1x128 .f32)

/-- The head norm of a chunk: squares against the two-head matrix, and what rounding left of them against it again. -/
def hnK : FVec Ideal S512x128 .f32 :=
  mulf (mulf v (rsqrt (addf (mulf
      (addf (matmul dot_S512x128_S128x128_S512x128_1_0_0_1_n_n none (truncf .bf16 (mulf v v) bitsLt_bf16_f32) bd (constant S512x128 .f32 0x00000000#32))
        (matmul dot_S512x128_S128x128_S512x128_1_0_0_1_n_n none
          (truncf .bf16 (subf (mulf v v) (extf .f32 (truncf .bf16 (mulf v v) bitsLt_bf16_f32) bitsLt_bf16_f32)) bitsLt_bf16_f32) bd
          (constant S512x128 .f32 0x00000000#32)))
      (broadcast S512x128 (Scalar.ofBits (F := Ideal) .f32 0x3C800000#32))) (broadcast S512x128 (Scalar.ofBits (F := Ideal) .f32 0x358637BD#32)))))
    (broadcastTo S512x128 g broadcasts_S1x128_S512x128)
/-- The chunk times the scale of the scores. -/
def scaled : FVec Ideal S512x128 .f32 := mulf v (broadcast S512x128 (Scalar.ofBits (F := Ideal) .f32 0x3E38AA3B#32))
/-- Which lanes lie in the first half of their head. -/
def firstHalf : IVec S512x128 1 :=
  k0_pay9 (iota .tc S512x128 32 [1] iota_S512x128_d1_w32) (Scalar.select (Scalar.cmpi .eq 64#32 0#32) 1#32 64#32) k0_pay8
/-- The rotation of a chunk. -/
def ropeK : FVec Ideal S512x128 .f32 :=
  addf (mulf v c) (mulf (select firstHalf (dynamicRotate 1 96#32 none v rotates_S512x128_d1) (dynamicRotate 1 32#32 none v rotates_S512x128_d1)) s)

theorem firstHalf_at (i : Fin 512) (l : Fin 128) : firstHalf (ix2 i l) = BitVec.ofBool (decide (l.val % 64 < 32)) := by
  rw [show firstHalf (ix2 i l) = firstHalf (ix2 0 l) from rfl]
  revert l; decide +kernel
theorem select_ofBool {α : Type} (p : Prop) [Decidable p] (x y : α) : Scalar.select (BitVec.ofBool (decide p)) x y = if p then x else y := by
  by_cases hp : p <;> simp [Scalar.select, hp]

variable (R : Fin 512 → Row)

/-- The blocks hold the rows' projections, cosines, signed sines, and the two-head matrix. -/
structure Blocks : Prop where
  hp : ∀ i (e : Fin 1408), p (ix2 i e) = (R i).P e.val
  fin : ∀ i e, Finite ((R i).P e)
  hc : ∀ i h d, c (ix2 i (lane h d)) = (R i).c ⟨d.val % 32, Nat.mod_lt _ (by decide)⟩
  hs : ∀ i h d, s (ix2 i (lane h d))
    = if d.val < 32 then -((R i).s ⟨d.val % 32, Nat.mod_lt _ (by decide)⟩) else (R i).s ⟨d.val % 32, Nat.mod_lt _ (by decide)⟩
  hbd : ∀ (h : Fin 2) (d : Fin 64) (j : Fin 128), bd (ix2 j (lane h d)) = if j.val / 64 = h.val then 1 else 0

variable {p v c s bd g R} (H : Blocks p c s bd R)
include H

theorem hnK_at (b : ℕ) (i : Fin 512) (gain : Fin 64 → EReal) (hv : ∀ l : Fin 128, v (ix2 i l) = (R i).P (b + l.val))
    (hg : ∀ h d, g (ix2 0 (lane h d)) = gain d) (h : Fin 2) (d : Fin 64) :
    hnK v bd g (ix2 i (lane h d)) = nrm ((R i).hd (b + 64 * h.val)) gain d := by
  have hl : (fun d => v (ix2 i (lane h d))) = (R i).hd (b + 64 * h.val) := funext fun d => by
    rw [hv]
    show (R i).P (b + (64 * h.val + d.val)) = (R i).P (b + 64 * h.val + d.val)
    rw [Nat.add_assoc]
  rw [← hl]
  refine Eq.trans ?_ (nrm_lane (fun l => v (ix2 i l)) (fun j => bd (ix2 j (lane h d))) (g (ix2 0 (lane h d))) gain h d
    (fun j => by rw [hv]; exact H.fin i _) (H.hbd h d) (hg h d))
  pointwise [hnK]

theorem ropeK_at (i : Fin 512) (h : Fin 2) (d : Fin 64) :
    ropeK v c s (ix2 i (lane h d)) = rope (fun d => v (ix2 i (lane h d))) (R i).c (R i).s d := by
  have hd : (lane h d).val % 64 = d.val := by show (64 * h.val + d.val) % 64 = _; omega
  refine Eq.trans ?_ (rope_lane (fun d => v (ix2 i (lane h d))) (R i).c (R i).s (c (ix2 i (lane h d))) (s (ix2 i (lane h d)))
    (dynamicRotate 1 96#32 none v rotates_S512x128_d1 (ix2 i (lane h d))) (dynamicRotate 1 32#32 none v rotates_S512x128_d1 (ix2 i (lane h d))) d
    (H.hc i h d) (H.hs i h d) ?_ ?_)
  · unfold ropeK
    pointwise
    rw [firstHalf_at, select_ofBool, hd]
  · intro h32
    pointwise
    refine congrArg (fun l : Fin 128 => v (ix2 i l)) (Fin.ext ?_)
    show (64 * h.val + d.val + 128 - 96 % 128) % 128 = 64 * h.val + (d.val + 32)
    omega
  · intro h32
    pointwise
    refine congrArg (fun l : Fin 128 => v (ix2 i l)) (Fin.ext ?_)
    show (64 * h.val + d.val + 128 - 32 % 128) % 128 = 64 * h.val + (d.val - 32)
    omega

end Stages

end Cert.ProjIdeal.PK

end
-- ==== Proof.ProjOut.lean ====
module

public import proofs.«01_k».proof.Proof.ProjTile

/-! What one grid point of the prompt's kernel stores, row by row. -/

@[expose] public section

set_option maxRecDepth 16384

noncomputable section

namespace Cert.ProjIdeal.PK

open Cert.ProjIdeal Cert.ProjIdeal.Gen Cert.ProjIdeal.Value Idealize.ShloMosaic Idealize.ShloMosaic.TcCoe Cert.ProjRow

variable (x0 : Vec Ideal S512x1024 .f32) (x1 : Vec Ideal S1x1024 .f32) (x2 : Vec Ideal S1024x3456 .bf16) (x3 x4 x5 : Vec Ideal S512x128 .f32)
  (x6 : Vec Ideal S1x128 .f32) (x7 : Vec Ideal S2x128 .f32) (x8 : Vec Ideal S128x128 .bf16)

/-- The gain and the packed columns the blocks hold, and the block's rows. -/
def bW : W where
  g k := x1 (ix2 0 k)
  w k e := if h : e < 3456 then x2 (ix2 k ⟨e, h⟩) else 0
def bX (i : Fin 512) (k : Fin 1024) : EReal := x0 (ix2 i k)

theorem ld0 : View.ld x0 r0_0 = x0 := by funext y; idx_vars y; pointwise
theorem ld1 : View.ld x1 r0_1 = x1 := by funext y; idx_vars y; pointwise; rw [Subsingleton.elim y0 0]

theorem pay2_at (i : Fin 512) (k : Fin 1024) : k0_pay2 x0 x1 (ix2 i k)
    = bX x0 i k * Ideal.rsqrt (Ideal.div (∑ j, bX x0 i j * bX x0 i j) (Ideal.ofBits .f32 0x44800000#32) + Ideal.ofBits .f32 0x358637BD#32) * (bW x1 x2).g k := by
  pointwise [k0_pay2]
  rfl
theorem pay54_at (i : Fin 512) (e : Fin 1408) : k0_pay54 x0 x1 x2 x3 x4 x5 x6 x7 x8 (ix2 i e) = (bW x1 x2).proj (bX x0 i) e.val := by
  unfold k0_pay54
  rw [ld0, ld1]
  unfold k0_pay3
  pointwise
  simp only [pay2_at x0 x1 x2]
  refine Finset.sum_congr rfl fun k _ => congrArg₂ (· * ·) rfl ?_
  have he : e.val < 3456 := by omega
  show _ = dite _ _ _
  rw [dif_pos he]
theorem pay4_at (i : Fin 512) (e : Fin 2048) : k0_pay4 (View.ld x0 r0_0) (View.ld x1 r0_1) (View.ld x2 r0_3) (ix2 i e)
    = (bW x1 x2).proj (bX x0 i) (1408 + e.val) := by
  rw [ld0, ld1]
  unfold k0_pay4
  pointwise
  simp only [pay2_at x0 x1 x2]
  refine Finset.sum_congr rfl fun k _ => congrArg₂ (· * ·) rfl ?_
  have he : 1408 + e.val < 3456 := by omega
  show _ = dite _ _ _
  rw [dif_pos he]

/-- What the blocks must hold for the rows `R`. -/
structure Holds (R : Fin 512 → Row) : Prop where
  hP : ∀ i e, (bW x1 x2).proj (bX x0 i) e = (R i).P e
  fin : ∀ i e, Finite ((R i).P e)
  hc : ∀ i h d, x3 (ix2 i (lane h d)) = (R i).c ⟨d.val % 32, Nat.mod_lt _ (by decide)⟩
  hs : ∀ i h d, x4 (ix2 i (lane h d))
    = if d.val < 32 then -((R i).s ⟨d.val % 32, Nat.mod_lt _ (by decide)⟩) else (R i).s ⟨d.val % 32, Nat.mod_lt _ (by decide)⟩
  hbd : ∀ (h : Fin 2) (d : Fin 64) (j : Fin 128), x8 (ix2 j (lane h d)) = if j.val / 64 = h.val then 1 else 0
  hq : ∀ i h d, x6 (ix2 0 (lane h d)) = (R i).gq d
  hk1 : ∀ i h d, x7 (ix2 0 (lane h d)) = (R i).gk1 d
  hk2 : ∀ i h d, x7 (ix2 1 (lane h d)) = (R i).gk2 d

variable {x0 x1 x2 x3 x4 x5 x6 x7 x8} {R : Fin 512 → Row} (H : Holds x0 x1 x2 x3 x4 x6 x7 x8 R)
include H

theorem blocks : Blocks (k0_pay54 x0 x1 x2 x3 x4 x5 x6 x7 x8) (k0_pay55 x0 x1 x2 x3 x4 x5 x6 x7 x8) (k0_pay56 x0 x1 x2 x3 x4 x5 x6 x7 x8)
    (k0_pay57 x0 x1 x2 x3 x4 x5 x6 x7 x8) R where
  hp i e := by rw [pay54_at]; exact H.hP i e.val
  fin := H.fin
  hc i h d := by pointwise [k0_pay55, k0_pay5]; exact H.hc i h d
  hs i h d := by pointwise [k0_pay56, k0_pay6]; exact H.hs i h d
  hbd h d j := by pointwise [k0_pay57, k0_pay7]; exact H.hbd h d j

theorem gq_at (i : Fin 512) (h : Fin 2) (d : Fin 64) : k0_pay60 x0 x1 x2 x3 x4 x5 x6 x7 x8 (ix2 0 (lane h d)) = (R i).gq d := by
  pointwise [k0_pay60, k0_pay10]
  exact H.hq i h d
theorem gk1_at (i : Fin 512) (h : Fin 2) (d : Fin 64) : shapeCast S1x128 (View.ld x7 r0_12) shapeCasts_S1x128_S1x128 (ix2 0 (lane h d)) = (R i).gk1 d := by
  pointwise
  exact H.hk1 i h d
theorem gk2_at (i : Fin 512) (h : Fin 2) (d : Fin 64) : k0_pay68 x0 x1 x2 x3 x4 x5 x6 x7 x8 (ix2 0 (lane h d)) = (R i).gk2 d := by
  pointwise [k0_pay68, k0_pay33]
  exact H.hk2 i h d

/-- The 128 columns of the projection from column `o` on. -/
theorem slice_at (o : ℕ) (ho : o + 128 ≤ 1408) (hs : S512x1408.Slices ![0, o] S512x128) (i : Fin 512) (l : Fin 128) :
    extractStridedSlice S512x128 ![0, o] (k0_pay54 x0 x1 x2 x3 x4 x5 x6 x7 x8) hs (ix2 i l) = (R i).P (o + l.val) := by
  rw [← (blocks H).hp i ⟨o + l.val, by omega⟩]
  refine congrArg (k0_pay54 x0 x1 x2 x3 x4 x5 x6 x7 x8) (funext fun a => Fin.ext ?_)
  match a with
  | ⟨0, _⟩ => show 0 + i.val = i.val; omega
  | ⟨1, _⟩ => rfl

/-- A chunk of queries, and the chunk rotated. -/
theorem q_at (k : ℕ) (hk : k < 4) (hs : S512x1408.Slices ![0, 128 * k] S512x128) (i : Fin 512) (l : Fin 128) :
    scaled (hnK (extractStridedSlice S512x128 ![0, 128 * k] (k0_pay54 x0 x1 x2 x3 x4 x5 x6 x7 x8) hs) (k0_pay57 x0 x1 x2 x3 x4 x5 x6 x7 x8)
      (k0_pay60 x0 x1 x2 x3 x4 x5 x6 x7 x8)) (ix2 i l) = (R i).qc (128 * k + l.val) := by
  obtain ⟨h, d, rfl⟩ := lane_surj l
  unfold scaled Row.qc
  pointwise
  rw [hnK_at (blocks H) (128 * k) i (R i).gq (fun l => slice_at H _ (by omega) hs i l) (gq_at H i) h d, head_lane, m64_lane]
theorem qr_at (k : ℕ) (hk : k < 4) (hs : S512x1408.Slices ![0, 128 * k] S512x128) (i : Fin 512) (l : Fin 128) :
    ropeK (scaled (hnK (extractStridedSlice S512x128 ![0, 128 * k] (k0_pay54 x0 x1 x2 x3 x4 x5 x6 x7 x8) hs) (k0_pay57 x0 x1 x2 x3 x4 x5 x6 x7 x8)
      (k0_pay60 x0 x1 x2 x3 x4 x5 x6 x7 x8))) (k0_pay55 x0 x1 x2 x3 x4 x5 x6 x7 x8) (k0_pay56 x0 x1 x2 x3 x4 x5 x6 x7 x8) (ix2 i l)
      = (R i).qr (128 * k + l.val) := by
  obtain ⟨h, d, rfl⟩ := lane_surj l
  rw [ropeK_at (blocks H) i h d]
  unfold Row.qr
  rw [head_lane, m64_lane, ← rope_scale]
  refine congrArg (fun f => rope f (R i).c (R i).s d) (funext fun d => ?_)
  rw [q_at H k hk hs i (lane h d)]
  unfold Row.qc
  rw [head_lane, m64_lane]
/-- A chunk of keys, normed and rotated. -/
theorem k_at (o : ℕ) (ho : o + 128 ≤ 1408) (hs : S512x1408.Slices ![0, o] S512x128) (g : FVec Ideal S1x128 .f32) (gain : Fin 64 → EReal)
    (i : Fin 512) (hg : ∀ h d, g (ix2 0 (lane h d)) = gain d) (h : Fin 2) (d : Fin 64) :
    ropeK (hnK (extractStridedSlice S512x128 ![0, o] (k0_pay54 x0 x1 x2 x3 x4 x5 x6 x7 x8) hs) (k0_pay57 x0 x1 x2 x3 x4 x5 x6 x7 x8) g)
      (k0_pay55 x0 x1 x2 x3 x4 x5 x6 x7 x8) (k0_pay56 x0 x1 x2 x3 x4 x5 x6 x7 x8) (ix2 i (lane h d))
      = rope (nrm ((R i).hd (o + 64 * h.val)) gain) (R i).c (R i).s d := by
  rw [ropeK_at (blocks H) i h d]
  exact congrArg (fun f => rope f (R i).c (R i).s d) (funext fun d => hnK_at (blocks H) o i gain (fun l => slice_at H _ ho hs i l) hg h d)

/-! ## The stored blocks -/

omit H in
theorem emb_row (n o : ℕ) (hb) (i : Fin 512) (l : Fin 128) :
    ((Rect.unit (s := ⟨2, ![512, n]⟩) ![0, o] S512x128.size hb).emb (ix2 i l) 0).val = i.val := by
  show 0 + 1 * i.val = i.val
  omega
omit H in
theorem emb_col (n o : ℕ) (hb) (i : Fin 512) (l : Fin 128) :
    ((Rect.unit (s := ⟨2, ![512, n]⟩) ![0, o] S512x128.size hb).emb (ix2 i l) 1).val = o + l.val := by
  show o + 1 * l.val = o + l.val
  omega

/-- A block of `n` columns that holds the function `f` of each row. -/
def blk (n : ℕ) (R : Fin 512 → Row) (f : Row → ℕ → EReal) (y : (⟨2, ![512, n]⟩ : Shape).Idx) : EReal := f (R (y 0)) (y 1).val

omit H in
theorem blk_emb (n o : ℕ) (f : Row → ℕ → EReal) (hb) (w : S512x128.Idx → EReal) (hw : ∀ i l, w (ix2 i l) = f (R i) (o + l.val)) (x : S512x128.Idx) :
    w x = blk n R f ((Rect.unit (s := ⟨2, ![512, n]⟩) ![0, o] S512x128.size hb).emb x) := by
  obtain ⟨i, l, rfl⟩ : ∃ (i : Fin 512) (l : Fin 128), x = ix2 i l := ⟨x 0, x 1, by funext a; match a with | ⟨0, _⟩ => rfl | ⟨1, _⟩ => rfl⟩
  unfold blk
  rw [hw, emb_col, show (Rect.unit (s := ⟨2, ![512, n]⟩) ![0, o] S512x128.size hb).emb (ix2 i l) 0 = i from Fin.ext (emb_row n o hb i l)]

theorem out9_at (y : S512x512.Idx) : out0_9 x0 x1 x2 x3 x4 x5 x6 x7 x8 y = blk 512 R Row.qc y := by
  unfold out0_9
  refine View.canon_apply_of_pieces (Val := Elt Ideal) (e := .bf16) (blk 512 R Row.qc) _ (fun p hp x => ?_) y (cover0_9 _ _ _ _ y)
  simp only [List.mem_cons, List.not_mem_nil, or_false] at hp
  rcases hp with rfl | rfl | rfl | rfl
  · exact blk_emb 512 384 Row.qc inb_S512x512_S512x128_0_384 _ (q_at H 3 (by decide) slices_S512x1408_o0_384_S512x128) x
  · exact blk_emb 512 256 Row.qc inb_S512x512_S512x128_0_256 _ (q_at H 2 (by decide) slices_S512x1408_o0_256_S512x128) x
  · exact blk_emb 512 128 Row.qc inb_S512x512_S512x128_0_128 _ (q_at H 1 (by decide) slices_S512x1408_o0_128_S512x128) x
  · exact blk_emb 512 0 Row.qc inb_S512x512_S512x128_0_0 _ (q_at H 0 (by decide) slices_S512x1408_o0_0_S512x128) x
theorem out10_at (y : S512x512.Idx) : out0_10 x0 x1 x2 x3 x4 x5 x6 x7 x8 y = blk 512 R Row.qr y := by
  unfold out0_10
  refine View.canon_apply_of_pieces (Val := Elt Ideal) (e := .bf16) (blk 512 R Row.qr) _ (fun p hp x => ?_) y (cover0_10 _ _ _ _ y)
  simp only [List.mem_cons, List.not_mem_nil, or_false] at hp
  rcases hp with rfl | rfl | rfl | rfl
  · exact blk_emb 512 384 Row.qr inb_S512x512_S512x128_0_384 _ (qr_at H 3 (by decide) slices_S512x1408_o0_384_S512x128) x
  · exact blk_emb 512 256 Row.qr inb_S512x512_S512x128_0_256 _ (qr_at H 2 (by decide) slices_S512x1408_o0_256_S512x128) x
  · exact blk_emb 512 128 Row.qr inb_S512x512_S512x128_0_128 _ (qr_at H 1 (by decide) slices_S512x1408_o0_128_S512x128) x
  · exact blk_emb 512 0 Row.qr inb_S512x512_S512x128_0_0 _ (qr_at H 0 (by decide) slices_S512x1408_o0_0_S512x128) x
theorem out11_at (y : S512x512.Idx) : out0_11 x0 x1 x2 x3 x4 x5 x6 x7 x8 y = blk 512 R Row.nsa y := by
  have plain : ∀ (k : ℕ) (hk : k < 4) (h2 : k ≠ 2) (hs : S512x1408.Slices ![0, 512 + 128 * k] S512x128) (i : Fin 512) (l : Fin 128),
      extractStridedSlice S512x128 ![0, 512 + 128 * k] (k0_pay54 x0 x1 x2 x3 x4 x5 x6 x7 x8) hs (ix2 i l) = (R i).nsa (128 * k + l.val) := fun k hk h2 hs i l => by
    rw [slice_at H _ (by omega) hs i l]
    unfold Row.nsa
    rw [chunk_lane, if_neg h2, Nat.add_assoc]
  unfold out0_11
  refine View.canon_apply_of_pieces (Val := Elt Ideal) (e := .f32) (blk 512 R Row.nsa) _ (fun p hp x => ?_) y (cover0_11 _ _ _ _ y)
  simp only [List.mem_cons, List.not_mem_nil, or_false] at hp
  rcases hp with rfl | rfl | rfl | rfl
  · exact blk_emb 512 384 Row.nsa inb_S512x512_S512x128_0_384 _ (plain 3 (by decide) (by decide) slices_S512x1408_o0_896_S512x128) x
  · refine blk_emb 512 256 Row.nsa inb_S512x512_S512x128_0_256 _ (fun i l => ?_) x
    obtain ⟨h, d, rfl⟩ := lane_surj l
    refine (k_at H 768 (by decide) slices_S512x1408_o0_768_S512x128 _ (R i).gk1 i (gk1_at H i) h d).trans ?_
    unfold Row.nsa
    rw [show 256 = 128 * 2 from rfl, chunk_lane, if_pos rfl, head_lane, m64_lane]
    rw [show 512 + (128 * 2 + 64 * h.val) = 768 + 64 * h.val by omega]
  · exact blk_emb 512 128 Row.nsa inb_S512x512_S512x128_0_128 _ (plain 1 (by decide) (by decide) slices_S512x1408_o0_640_S512x128) x
  · exact blk_emb 512 0 Row.nsa inb_S512x512_S512x128_0_0 _ (plain 0 (by decide) (by decide) slices_S512x1408_o0_512_S512x128) x
theorem out12_at (y : S512x256.Idx) : out0_12 x0 x1 x2 x3 x4 x5 x6 x7 x8 y = blk 256 R Row.win y := by
  unfold out0_12
  refine View.canon_apply_of_pieces (Val := Elt Ideal) (e := .f32) (blk 256 R Row.win) _ (fun p hp x => ?_) y (cover0_12 _ _ y)
  simp only [List.mem_cons, List.not_mem_nil, or_false] at hp
  rcases hp with rfl | rfl
  · refine blk_emb 256 128 Row.win inb_S512x256_S512x128_0_128 _ (fun i l => ?_) x
    refine (slice_at (x5 := x5) H 1152 (by decide) slices_S512x1408_o0_1152_S512x128 i l).trans ?_
    unfold Row.win
    rw [show (128 + l.val) / 128 = 1 from chunk_lane 1 l, if_neg (by decide), ← Nat.add_assoc]
  · refine blk_emb 256 0 Row.win inb_S512x256_S512x128_0_0 _ (fun i l => ?_) x
    obtain ⟨h, d, rfl⟩ := lane_surj l
    refine (k_at H 1024 (by decide) slices_S512x1408_o0_1024_S512x128 _ (R i).gk2 i (gk2_at H i) h d).trans ?_
    unfold Row.win
    rw [show 0 = 128 * 0 from rfl, chunk_lane, if_pos rfl, head_lane, m64_lane]
    rw [show 1024 + (128 * 0 + 64 * h.val) = 1024 + 64 * h.val by omega]
theorem out14_at (y : S512x128.Idx) : out0_14 x0 x1 x2 x3 x4 x5 x6 x7 x8 y = blk 128 R Row.gate y := by
  unfold out0_14
  refine View.canon_apply_of_pieces (Val := Elt Ideal) (e := .f32) (blk 128 R Row.gate) _ (fun p hp x => ?_) y (cover0_14 _ y)
  simp only [List.mem_cons, List.not_mem_nil, or_false] at hp
  subst hp
  refine blk_emb 128 0 Row.gate inb_S512x128_S512x128_0_0 _ (fun i l => ?_) x
  have hs := slice_at (x5 := x5) H 1280 (by decide) slices_S512x1408_o0_1280_S512x128 i l
  unfold k0_pay1 Row.gate
  generalize extractStridedSlice S512x128 ![0, 1280] (k0_pay54 x0 x1 x2 x3 x4 x5 x6 x7 x8) slices_S512x1408_o0_1280_S512x128 = v at hs ⊢
  pointwise
  rw [hs, zero_sub]
theorem out15_at (i : Fin 512) (e : Fin 2048) : out0_15 x0 x1 x2 x3 x4 x5 x6 x7 x8 (ix2 i e) = (R i).hg e.val := by
  have hy : (ix2 i e : S512x2048.Idx) = r0_4.emb (ix2 i e) := by
    funext a; apply Fin.ext
    match a with
    | ⟨0, _⟩ => show i.val = 0 + 1 * i.val; omega
    | ⟨1, _⟩ => show e.val = 0 + 1 * e.val; omega
  rw [hy]
  unfold out0_15
  refine (View.canon_cons_emb r0_4 _ _ _).trans ?_
  rw [pay4_at]
  exact H.hP i _

end Cert.ProjIdeal.PK

end
-- ==== Proof.ProjHost.lean ====
module

public import proofs.«01_k».proof.Proof.ProjOut
public import Idealize.ShloMosaic.Lib.StableHlo.ReadAt

/-! The arrays the prompt's kernel prepares for its grid, entry by entry. -/

@[expose] public section

set_option maxRecDepth 16384

noncomputable section

namespace Cert.ProjIdeal.PK

open Cert.ProjIdeal Cert.ProjIdeal.Gen Cert.ProjIdeal.Value Idealize.ShloMosaic Idealize.ShloMosaic.TcCoe Cert.ProjRow

variable (m : (ℓ : Loc nD τ sig) → Buf (Elt Ideal) ℓ) (c : Dev nD)

/-- The arguments as the run finds them. -/
def A0 : Vec Ideal S4x4096x1024 .f32 := m ((c : Thread nD τ).loc main_arg0)
def A1 : Vec Ideal S4x1024 .f32 := m ((c : Thread nD τ).loc main_arg1)
def A2 : Vec Ideal S4x1024x3352 .f32 := m ((c : Thread nD τ).loc main_arg2)
def A3 : Vec Ideal S4x64 .f32 := m ((c : Thread nD τ).loc main_arg3)
def A4 : Vec Ideal S4x3x64 .f32 := m ((c : Thread nD τ).loc main_arg4)

theorem lane_mod (h : Fin 2) (d : Fin 64) : (lane h d).val % 64 = d.val := by
  show (64 * h.val + d.val) % 64 = _
  omega
theorem cos_at (t : Fin 4096) (h : Fin 2) (d : Fin 64) : V m c main_v18 (ix2 t (lane h d)) = Ideal.cos (angle t.val (d.val % 32)) := by
  unfold angle V
  after_reads_at
  simp only [lane_mod]
  by_cases hd : d.val < 32
  · refine (dif_pos hd).trans ?_
    after_reads_at
    rw [Nat.mod_eq_of_lt hd]
  · refine (dif_neg hd).trans ?_
    after_reads_at
    rw [show d.val % 32 = d.val - 32 by omega]
theorem sin_at (t : Fin 4096) (h : Fin 2) (d : Fin 64) : V m c main_v23 (ix2 t (lane h d))
    = if d.val < 32 then -Ideal.sin (angle t.val (d.val % 32)) else Ideal.sin (angle t.val (d.val % 32)) := by
  unfold angle V
  after_reads_at
  simp only [lane_mod]
  by_cases hd : d.val < 32
  · refine (dif_pos hd).trans (Eq.trans ?_ (if_pos hd).symm)
    after_reads_at
    rw [Nat.mod_eq_of_lt hd]
  · refine (dif_neg hd).trans (Eq.trans ?_ (if_neg hd).symm)
    after_reads_at
    rw [show d.val % 32 = d.val - 32 by omega]
theorem w_at (k : Fin 1024) (e : Fin 3456) : V m c main_v31 (ix2 k e) = packed (fun e => A2 m c (ix3 3 k e)) e.val := by
  have h0 : FloatOps.sitofp (F := Ideal) .f32 (0#32) = (0 : EReal) := by
    show ((((0#32 : BitVec 32).toInt : ℤ) : ℝ) : EReal) = 0
    simp
  unfold A2 V
  after_reads_at
  by_cases h1 : e.val < 1280
  · refine (dif_pos h1).trans ?_
    rw [packed_lo _ _ (by omega)]
    after_reads_at
  · refine (dif_neg h1).trans ?_
    by_cases h2 : e.val - 1280 < 128
    · refine (dif_pos h2).trans ?_
      after_reads_at
      by_cases h3 : e.val < 1304
      · rw [packed_lo _ _ h3]
        refine (dif_pos (show e.val - 1280 < 24 by omega)).trans ?_
        exact congrArg (fun e => A2 m c (ix3 3 k e)) (Fin.ext (by show 1280 + (e.val - 1280) = e.val; omega))
      · rw [packed_mid _ _ (by omega) (by omega)]
        exact (dif_neg (show ¬ e.val - 1280 < 24 by omega)).trans h0
    · refine (dif_neg h2).trans ?_
      rw [packed_hi _ _ (by omega) e.isLt]
      after_reads_at
      exact congrArg (fun e => A2 m c (ix3 3 k e)) (Fin.ext (by show 1304 + (e.val - 1280 - 128) = e.val - 104; omega))
theorem g_at (k : Fin 1024) : V m c main_v34 (ix2 0 k) = A1 m c (ix2 3 k) := by
  unfold A1 V
  after_reads_at
theorem gq_of (h : Fin 2) (d : Fin 64) : V m c main_v40 (ix2 0 (lane h d)) = A3 m c (ix2 3 d) := by
  unfold A3 V
  after_reads_at
  simp only [lane_mod]
theorem gk1_of (h : Fin 2) (d : Fin 64) : V m c main_v53 (ix2 0 (lane h d)) = A4 m c (ix3 3 1 d) := by
  unfold A4 V
  after_reads_at
  simp only [lane_mod]
theorem gk2_of (h : Fin 2) (d : Fin 64) : V m c main_v53 (ix2 1 (lane h d)) = A4 m c (ix3 3 2 d) := by
  unfold A4 V
  after_reads_at
  simp only [lane_mod]
theorem x_of (r : Fin 16384) (k : Fin 1024) : V m c main_v54 (ix2 r k) = A0 m c (ix3 ⟨r.val / 4096, by omega⟩ ⟨r.val % 4096, Nat.mod_lt _ (by decide)⟩ k) := by
  unfold A0 V
  after_reads_at
/-- Whether two lanes are of one head. -/
theorem sameHead : ∀ j l : Fin 128, IntOp.cmpi CmpIPredicate.eq (IntOp.divsi ArithUnit.host (BitVec.ofNat 32 j.val) 64#32)
    (IntOp.divsi ArithUnit.host (BitVec.ofNat 32 l.val) 64#32) = BitVec.ofBool (j.val / 64 = l.val / 64) := by
  have h : ∀ j : Fin 128, IntOp.divsi ArithUnit.host (BitVec.ofNat 32 j.val) 64#32 = BitVec.ofNat 32 (j.val / 64) := by decide +kernel
  have h2 : ∀ a b : Fin 2, IntOp.cmpi CmpIPredicate.eq (BitVec.ofNat 32 a.val) (BitVec.ofNat 32 b.val) = BitVec.ofBool (a.val = b.val) := by decide +kernel
  intro j l
  rw [h, h]
  exact h2 ⟨j.val / 64, by omega⟩ ⟨l.val / 64, by omega⟩
theorem bd_at (j : Fin 128) (h : Fin 2) (d : Fin 64) : V m c main_v76 (ix2 j (lane h d)) = if j.val / 64 = h.val then (1 : EReal) else 0 := by
  unfold V
  after_reads_at
  rw [sameHead, show (lane h d).val / 64 = h.val by show (64 * h.val + d.val) / 64 = _; omega]
  by_cases e : j.val / 64 = h.val
  · simp [e]
    rfl
  · simp [e]
    rfl

end Cert.ProjIdeal.PK

end
-- ==== Proof.ProjKernel.lean ====
module

public import proofs.«01_k».proof.Proof.ProjHost

/-! The prompt kernel's result arrays, row by row. -/

@[expose] public section

set_option maxRecDepth 16384

noncomputable section

namespace Cert.ProjIdeal.PK

open Cert.ProjIdeal Cert.ProjIdeal.Gen Cert.ProjIdeal.Value Idealize.ShloMosaic Idealize.ShloMosaic.TcCoe Cert.ProjRow

variable (m : (ℓ : Loc nD τ sig) → Buf (Elt Ideal) ℓ) (c : Dev nD)

/-- The gain and the packed columns of layer 3, and the input rows. -/
def kW : W where
  g k := A1 m c (ix2 3 k)
  w k e := packed (fun e => A2 m c (ix3 3 k e)) e
def kX (b : Fin 4) (t : Fin 4096) (k : Fin 1024) : EReal := A0 m c (ix3 b t k)

/-- The sequence and position of a row of the flattened input, the row grid point `t` holds at `i`, and the row of results. -/
def seqOf (r : Fin 16384) : Fin 4 := ⟨r.val / 4096, by omega⟩
def posOf (r : Fin 16384) : Fin 4096 := ⟨r.val % 4096, Nat.mod_lt _ (by decide)⟩
def rowOf (t : Fin cfg0.N) (i : Fin 512) : Fin 16384 := ⟨512 * t.val + i.val, by have : t.val < 32 := lt_of_lt_of_eq t.isLt N_0; omega⟩
def kR (b : Fin 4) (t : Fin 4096) : Row where
  P := (kW m c).proj (kX m c b t)
  c k := Ideal.cos (angle t.val k.val)
  s k := Ideal.sin (angle t.val k.val)
  gq d := A3 m c (ix2 3 d)
  gk1 d := A4 m c (ix3 3 1 d)
  gk2 d := A4 m c (ix3 3 2 d)

/-- The gain and the matrix the projection is made of are finite. -/
structure FinW : Prop where
  hg : ∀ k, Finite (A1 m c (ix2 3 k))
  hw : ∀ k e, Finite (A2 m c (ix3 3 k e))

theorem kR_finite (H : FinW m c) (b : Fin 4) (t : Fin 4096) (e : ℕ) : Finite ((kR m c b t).P e) := by
  refine W.proj_finite (kW m c) _ H.hg (fun k e => ?_) e
  show Finite (packed (fun e => A2 m c (ix3 3 k e)) e)
  unfold packed
  split_ifs
  · exact H.hw k _
  · exact ⟨0, rfl⟩
  · exact H.hw k _
  · exact ⟨0, rfl⟩

theorem iblk0 (t : Fin cfg0.N) (i : Fin 512) (k : Fin 1024) : iblk m c 0 t (ix2 i k) = kX m c (seqOf (rowOf t i)) (posOf (rowOf t i)) k := by
  have h : ∀ t : Fin grid0.N, win0_0.index t (0 : Fin 2) = t.val ∧ win0_0.index t (1 : Fin 2) = 0 := by decide +kernel
  obtain ⟨e0, e1⟩ := h t
  have he : ((cfg0.win 0).blk t).view.emb (ix2 i k) = (ix2 (rowOf t i) k : S16384x1024.Idx) := by
    funext a; apply Fin.ext
    match a with
    | ⟨0, _⟩ => show win0_0.index t (0 : Fin 2) * 512 + 1 * i.val = 512 * t.val + i.val; omega
    | ⟨1, _⟩ => show win0_0.index t (1 : Fin 2) * 1024 + 1 * k.val = k.val; omega
  show V m c main_v54 (((cfg0.win 0).blk t).view.emb (ix2 i k)) = _
  rw [he]
  exact x_of m c (rowOf t i) k
theorem iblk1 (t : Fin cfg0.N) (k : Fin 1024) : iblk m c 1 t (ix2 0 k) = (kW m c).g k := by
  have h : ∀ t : Fin grid0.N, win0_1.index t (0 : Fin 2) = 0 ∧ win0_1.index t (1 : Fin 2) = 0 := by decide +kernel
  obtain ⟨e0, e1⟩ := h t
  have he : ((cfg0.win 1).blk t).view.emb (ix2 0 k) = (ix2 0 k : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  show V m c main_v34 (((cfg0.win 1).blk t).view.emb (ix2 0 k)) = _
  rw [he]
  exact g_at m c k
theorem iblk2 (t : Fin cfg0.N) (k : Fin 1024) (e : Fin 3456) : iblk m c 2 t (ix2 k e) = (kW m c).w k e.val := by
  have h : ∀ t : Fin grid0.N, win0_2.index t (0 : Fin 2) = 0 ∧ win0_2.index t (1 : Fin 2) = 0 := by decide +kernel
  obtain ⟨e0, e1⟩ := h t
  have he : ((cfg0.win 2).blk t).view.emb (ix2 k e) = (ix2 k e : S1024x3456.Idx) := by
    funext a; apply Fin.ext
    match a with
    | ⟨0, _⟩ => show win0_2.index t (0 : Fin 2) * 1024 + 1 * k.val = k.val; omega
    | ⟨1, _⟩ => show win0_2.index t (1 : Fin 2) * 3456 + 1 * e.val = e.val; omega
  show V m c main_v31 (((cfg0.win 2).blk t).view.emb (ix2 k e)) = _
  rw [he]
  exact w_at m c k e
theorem iblk3 (t : Fin cfg0.N) (i : Fin 512) (h : Fin 2) (d : Fin 64) : iblk m c 3 t (ix2 i (lane h d)) = (kR m c (seqOf (rowOf t i)) (posOf (rowOf t i))).c ⟨d.val % 32, Nat.mod_lt _ (by decide)⟩ := by
  have hw : ∀ t : Fin grid0.N, win0_3.index t (0 : Fin 2) = t.val % 8 ∧ win0_3.index t (1 : Fin 2) = 0 := by decide +kernel
  obtain ⟨e0, e1⟩ := hw t
  have he : ((cfg0.win 3).blk t).view.emb (ix2 i (lane h d)) = (ix2 (posOf (rowOf t i)) (lane h d) : S4096x128.Idx) := by
    funext a; apply Fin.ext
    match a with
    | ⟨0, _⟩ => show win0_3.index t (0 : Fin 2) * 512 + 1 * i.val = (512 * t.val + i.val) % 4096; omega
    | ⟨1, _⟩ => show win0_3.index t (1 : Fin 2) * 128 + 1 * (lane h d).val = (lane h d).val; omega
  show V m c main_v18 (((cfg0.win 3).blk t).view.emb (ix2 i (lane h d))) = _
  rw [he]
  exact cos_at m c (posOf (rowOf t i)) h d
theorem iblk4 (t : Fin cfg0.N) (i : Fin 512) (h : Fin 2) (d : Fin 64) : iblk m c 4 t (ix2 i (lane h d)) = (if d.val < 32 then -((kR m c (seqOf (rowOf t i)) (posOf (rowOf t i))).s ⟨d.val % 32, Nat.mod_lt _ (by decide)⟩)
      else (kR m c (seqOf (rowOf t i)) (posOf (rowOf t i))).s ⟨d.val % 32, Nat.mod_lt _ (by decide)⟩) := by
  have hw : ∀ t : Fin grid0.N, win0_4.index t (0 : Fin 2) = t.val % 8 ∧ win0_4.index t (1 : Fin 2) = 0 := by decide +kernel
  obtain ⟨e0, e1⟩ := hw t
  have he : ((cfg0.win 4).blk t).view.emb (ix2 i (lane h d)) = (ix2 (posOf (rowOf t i)) (lane h d) : S4096x128.Idx) := by
    funext a; apply Fin.ext
    match a with
    | ⟨0, _⟩ => show win0_4.index t (0 : Fin 2) * 512 + 1 * i.val = (512 * t.val + i.val) % 4096; omega
    | ⟨1, _⟩ => show win0_4.index t (1 : Fin 2) * 128 + 1 * (lane h d).val = (lane h d).val; omega
  show V m c main_v23 (((cfg0.win 4).blk t).view.emb (ix2 i (lane h d))) = _
  rw [he]
  exact sin_at m c (posOf (rowOf t i)) h d
theorem iblk6 (t : Fin cfg0.N) (h : Fin 2) (d : Fin 64) : iblk m c 6 t (ix2 0 (lane h d)) = A3 m c (ix2 3 d) := by
  have hw : ∀ t : Fin grid0.N, win0_6.index t (0 : Fin 2) = 0 ∧ win0_6.index t (1 : Fin 2) = 0 := by decide +kernel
  obtain ⟨e0, e1⟩ := hw t
  have he : ((cfg0.win 6).blk t).view.emb (ix2 0 (lane h d)) = (ix2 0 (lane h d) : S1x128.Idx) := by
    funext a; apply Fin.ext
    match a with
    | ⟨0, _⟩ => show win0_6.index t (0 : Fin 2) * 1 + 1 * 0 = 0; omega
    | ⟨1, _⟩ => show win0_6.index t (1 : Fin 2) * 128 + 1 * (lane h d).val = (lane h d).val; omega
  show V m c main_v40 (((cfg0.win 6).blk t).view.emb (ix2 0 (lane h d))) = _
  rw [he]
  exact gq_of m c h d
theorem iblk7a (t : Fin cfg0.N) (h : Fin 2) (d : Fin 64) : iblk m c 7 t (ix2 0 (lane h d)) = A4 m c (ix3 3 1 d) := by
  have hw : ∀ t : Fin grid0.N, win0_7.index t (0 : Fin 2) = 0 ∧ win0_7.index t (1 : Fin 2) = 0 := by decide +kernel
  obtain ⟨e0, e1⟩ := hw t
  have he : ((cfg0.win 7).blk t).view.emb (ix2 0 (lane h d)) = (ix2 0 (lane h d) : S2x128.Idx) := by
    funext a; apply Fin.ext
    match a with
    | ⟨0, _⟩ => show win0_7.index t (0 : Fin 2) * 2 + 1 * 0 = 0; omega
    | ⟨1, _⟩ => show win0_7.index t (1 : Fin 2) * 128 + 1 * (lane h d).val = (lane h d).val; omega
  show V m c main_v53 (((cfg0.win 7).blk t).view.emb (ix2 0 (lane h d))) = _
  rw [he]
  exact gk1_of m c h d
theorem iblk7b (t : Fin cfg0.N) (h : Fin 2) (d : Fin 64) : iblk m c 7 t (ix2 1 (lane h d)) = A4 m c (ix3 3 2 d) := by
  have hw : ∀ t : Fin grid0.N, win0_7.index t (0 : Fin 2) = 0 ∧ win0_7.index t (1 : Fin 2) = 0 := by decide +kernel
  obtain ⟨e0, e1⟩ := hw t
  have he : ((cfg0.win 7).blk t).view.emb (ix2 1 (lane h d)) = (ix2 1 (lane h d) : S2x128.Idx) := by
    funext a; apply Fin.ext
    match a with
    | ⟨0, _⟩ => show win0_7.index t (0 : Fin 2) * 2 + 1 * 1 = 1; omega
    | ⟨1, _⟩ => show win0_7.index t (1 : Fin 2) * 128 + 1 * (lane h d).val = (lane h d).val; omega
  show V m c main_v53 (((cfg0.win 7).blk t).view.emb (ix2 1 (lane h d))) = _
  rw [he]
  exact gk2_of m c h d
theorem iblk8 (t : Fin cfg0.N) (j : Fin 128) (h : Fin 2) (d : Fin 64) : iblk m c 8 t (ix2 j (lane h d)) = (if j.val / 64 = h.val then 1 else 0 : EReal) := by
  have hw : ∀ t : Fin grid0.N, win0_8.index t (0 : Fin 2) = 0 ∧ win0_8.index t (1 : Fin 2) = 0 := by decide +kernel
  obtain ⟨e0, e1⟩ := hw t
  have he : ((cfg0.win 8).blk t).view.emb (ix2 j (lane h d)) = (ix2 j (lane h d) : S128x128.Idx) := by
    funext a; apply Fin.ext
    match a with
    | ⟨0, _⟩ => show win0_8.index t (0 : Fin 2) * 128 + 1 * j.val = j.val; omega
    | ⟨1, _⟩ => show win0_8.index t (1 : Fin 2) * 128 + 1 * (lane h d).val = (lane h d).val; omega
  show V m c main_v76 (((cfg0.win 8).blk t).view.emb (ix2 j (lane h d))) = _
  rw [he]
  exact bd_at m c j h d

/-- The rows grid point `t` holds. -/
def tR (t : Fin cfg0.N) (i : Fin 512) : Row := kR m c (seqOf (rowOf t i)) (posOf (rowOf t i))

theorem holds (H : FinW m c) (t : Fin cfg0.N) : Holds (iblk m c 0 t) (iblk m c 1 t) (iblk m c 2 t) (iblk m c 3 t) (iblk m c 4 t) (iblk m c 6 t)
    (iblk m c 7 t) (iblk m c 8 t) (tR m c t) where
  hP i e := by
    have hx : bX (iblk m c 0 t) i = kX m c (seqOf (rowOf t i)) (posOf (rowOf t i)) := funext fun k => iblk0 m c t i k
    have hw : bW (iblk m c 1 t) (iblk m c 2 t) = kW m c := by
      unfold bW
      refine congrArg₂ W.mk (funext fun k => iblk1 m c t k) (funext fun k => funext fun e => ?_)
      by_cases h : e < 3456
      · exact (dif_pos h).trans (iblk2 m c t k ⟨e, h⟩)
      · refine (dif_neg h).trans ?_
        show 0 = packed _ _
        rw [packed_out _ _ (by omega)]
    rw [hx, hw]
    rfl
  fin i e := kR_finite m c H _ _ e
  hc i h d := iblk3 m c t i h d
  hs i h d := iblk4 m c t i h d
  hbd h d j := iblk8 m c t j h d
  hq i h d := iblk6 m c t h d
  hk1 i h d := iblk7a m c t h d
  hk2 i h d := iblk7b m c t h d

/-- The result arrays at row `r`. -/
theorem qc_kernel (H : FinW m c) (r : Fin 16384) (e : Fin 512) : (dats m 0 c).arrAt 9 cfg0.N (ix2 r e) = (kR m c (seqOf r) (posOf r)).qc e.val := by
  have hf : ∀ t : Fin grid0.N, (cfg0.win 9).flush t = true := by decide +kernel
  have h : ∀ t : Fin grid0.N, win0_9.index t (0 : Fin 2) = t.val ∧ win0_9.index t (1 : Fin 2) = 0 := by decide +kernel
  let t : Fin cfg0.N := ⟨r.val / 512, lt_of_lt_of_eq (by omega) N_0.symm⟩
  let i : Fin 512 := ⟨r.val % 512, Nat.mod_lt _ (by decide)⟩
  obtain ⟨e0, e1⟩ := h t
  have hr : rowOf t i = r := Fin.ext (by show 512 * (r.val / 512) + r.val % 512 = r.val; omega)
  have he : ((cfg0.win 9).blk t).view.emb (ix2 i e) = (ix2 r e : S16384x512.Idx) := by
    funext a; apply Fin.ext
    match a with
    | ⟨0, _⟩ => show win0_9.index t (0 : Fin 2) * 512 + 1 * (r.val % 512) = r.val; rw [e0]; show r.val / 512 * 512 + _ = _; omega
    | ⟨1, _⟩ => show win0_9.index t (1 : Fin 2) * 512 + 1 * e.val = e.val; omega
  have hb := congrFun ((blocks9 m c t (hf t)).trans (flushed9 m c t)) (ix2 i e)
  have hk : _ = (kR m c (seqOf (rowOf t i)) (posOf (rowOf t i))).qc e.val := (out9_at (x5 := iblk m c 5 t) (holds m c H t) (ix2 i e))
  rw [hr] at hk
  refine Eq.trans ?_ (hb.trans hk)
  show _ = (dats m 0 c).arrAt 9 cfg0.N (((cfg0.win 9).blk t).view.emb (ix2 i e))
  rw [he]
theorem qr_kernel (H : FinW m c) (r : Fin 16384) (e : Fin 512) : (dats m 0 c).arrAt 10 cfg0.N (ix2 r e) = (kR m c (seqOf r) (posOf r)).qr e.val := by
  have hf : ∀ t : Fin grid0.N, (cfg0.win 10).flush t = true := by decide +kernel
  have h : ∀ t : Fin grid0.N, win0_10.index t (0 : Fin 2) = t.val ∧ win0_10.index t (1 : Fin 2) = 0 := by decide +kernel
  let t : Fin cfg0.N := ⟨r.val / 512, lt_of_lt_of_eq (by omega) N_0.symm⟩
  let i : Fin 512 := ⟨r.val % 512, Nat.mod_lt _ (by decide)⟩
  obtain ⟨e0, e1⟩ := h t
  have hr : rowOf t i = r := Fin.ext (by show 512 * (r.val / 512) + r.val % 512 = r.val; omega)
  have he : ((cfg0.win 10).blk t).view.emb (ix2 i e) = (ix2 r e : S16384x512.Idx) := by
    funext a; apply Fin.ext
    match a with
    | ⟨0, _⟩ => show win0_10.index t (0 : Fin 2) * 512 + 1 * (r.val % 512) = r.val; rw [e0]; show r.val / 512 * 512 + _ = _; omega
    | ⟨1, _⟩ => show win0_10.index t (1 : Fin 2) * 512 + 1 * e.val = e.val; omega
  have hb := congrFun ((blocks10 m c t (hf t)).trans (flushed10 m c t)) (ix2 i e)
  have hk : _ = (kR m c (seqOf (rowOf t i)) (posOf (rowOf t i))).qr e.val := (out10_at (x5 := iblk m c 5 t) (holds m c H t) (ix2 i e))
  rw [hr] at hk
  refine Eq.trans ?_ (hb.trans hk)
  show _ = (dats m 0 c).arrAt 10 cfg0.N (((cfg0.win 10).blk t).view.emb (ix2 i e))
  rw [he]
theorem nsa_kernel (H : FinW m c) (r : Fin 16384) (e : Fin 512) : (dats m 0 c).arrAt 11 cfg0.N (ix2 r e) = (kR m c (seqOf r) (posOf r)).nsa e.val := by
  have hf : ∀ t : Fin grid0.N, (cfg0.win 11).flush t = true := by decide +kernel
  have h : ∀ t : Fin grid0.N, win0_11.index t (0 : Fin 2) = t.val ∧ win0_11.index t (1 : Fin 2) = 0 := by decide +kernel
  let t : Fin cfg0.N := ⟨r.val / 512, lt_of_lt_of_eq (by omega) N_0.symm⟩
  let i : Fin 512 := ⟨r.val % 512, Nat.mod_lt _ (by decide)⟩
  obtain ⟨e0, e1⟩ := h t
  have hr : rowOf t i = r := Fin.ext (by show 512 * (r.val / 512) + r.val % 512 = r.val; omega)
  have he : ((cfg0.win 11).blk t).view.emb (ix2 i e) = (ix2 r e : S16384x512.Idx) := by
    funext a; apply Fin.ext
    match a with
    | ⟨0, _⟩ => show win0_11.index t (0 : Fin 2) * 512 + 1 * (r.val % 512) = r.val; rw [e0]; show r.val / 512 * 512 + _ = _; omega
    | ⟨1, _⟩ => show win0_11.index t (1 : Fin 2) * 512 + 1 * e.val = e.val; omega
  have hb := congrFun ((blocks11 m c t (hf t)).trans (flushed11 m c t)) (ix2 i e)
  have hk : _ = (kR m c (seqOf (rowOf t i)) (posOf (rowOf t i))).nsa e.val := (out11_at (x5 := iblk m c 5 t) (holds m c H t) (ix2 i e))
  rw [hr] at hk
  refine Eq.trans ?_ (hb.trans hk)
  show _ = (dats m 0 c).arrAt 11 cfg0.N (((cfg0.win 11).blk t).view.emb (ix2 i e))
  rw [he]
theorem win_kernel (H : FinW m c) (r : Fin 16384) (e : Fin 256) : (dats m 0 c).arrAt 12 cfg0.N (ix2 r e) = (kR m c (seqOf r) (posOf r)).win e.val := by
  have hf : ∀ t : Fin grid0.N, (cfg0.win 12).flush t = true := by decide +kernel
  have h : ∀ t : Fin grid0.N, win0_12.index t (0 : Fin 2) = t.val ∧ win0_12.index t (1 : Fin 2) = 0 := by decide +kernel
  let t : Fin cfg0.N := ⟨r.val / 512, lt_of_lt_of_eq (by omega) N_0.symm⟩
  let i : Fin 512 := ⟨r.val % 512, Nat.mod_lt _ (by decide)⟩
  obtain ⟨e0, e1⟩ := h t
  have hr : rowOf t i = r := Fin.ext (by show 512 * (r.val / 512) + r.val % 512 = r.val; omega)
  have he : ((cfg0.win 12).blk t).view.emb (ix2 i e) = (ix2 r e : S16384x256.Idx) := by
    funext a; apply Fin.ext
    match a with
    | ⟨0, _⟩ => show win0_12.index t (0 : Fin 2) * 512 + 1 * (r.val % 512) = r.val; rw [e0]; show r.val / 512 * 512 + _ = _; omega
    | ⟨1, _⟩ => show win0_12.index t (1 : Fin 2) * 256 + 1 * e.val = e.val; omega
  have hb := congrFun ((blocks12 m c t (hf t)).trans (flushed12 m c t)) (ix2 i e)
  have hk : _ = (kR m c (seqOf (rowOf t i)) (posOf (rowOf t i))).win e.val := (out12_at (x5 := iblk m c 5 t) (holds m c H t) (ix2 i e))
  rw [hr] at hk
  refine Eq.trans ?_ (hb.trans hk)
  show _ = (dats m 0 c).arrAt 12 cfg0.N (((cfg0.win 12).blk t).view.emb (ix2 i e))
  rw [he]
theorem gate_kernel (H : FinW m c) (r : Fin 16384) (e : Fin 128) : (dats m 0 c).arrAt 14 cfg0.N (ix2 r e) = (kR m c (seqOf r) (posOf r)).gate e.val := by
  have hf : ∀ t : Fin grid0.N, (cfg0.win 14).flush t = true := by decide +kernel
  have h : ∀ t : Fin grid0.N, win0_14.index t (0 : Fin 2) = t.val ∧ win0_14.index t (1 : Fin 2) = 0 := by decide +kernel
  let t : Fin cfg0.N := ⟨r.val / 512, lt_of_lt_of_eq (by omega) N_0.symm⟩
  let i : Fin 512 := ⟨r.val % 512, Nat.mod_lt _ (by decide)⟩
  obtain ⟨e0, e1⟩ := h t
  have hr : rowOf t i = r := Fin.ext (by show 512 * (r.val / 512) + r.val % 512 = r.val; omega)
  have he : ((cfg0.win 14).blk t).view.emb (ix2 i e) = (ix2 r e : S16384x128.Idx) := by
    funext a; apply Fin.ext
    match a with
    | ⟨0, _⟩ => show win0_14.index t (0 : Fin 2) * 512 + 1 * (r.val % 512) = r.val; rw [e0]; show r.val / 512 * 512 + _ = _; omega
    | ⟨1, _⟩ => show win0_14.index t (1 : Fin 2) * 128 + 1 * e.val = e.val; omega
  have hb := congrFun ((blocks14 m c t (hf t)).trans (flushed14 m c t)) (ix2 i e)
  have hk : _ = (kR m c (seqOf (rowOf t i)) (posOf (rowOf t i))).gate e.val := (out14_at (x5 := iblk m c 5 t) (holds m c H t) (ix2 i e))
  rw [hr] at hk
  refine Eq.trans ?_ (hb.trans hk)
  show _ = (dats m 0 c).arrAt 14 cfg0.N (((cfg0.win 14).blk t).view.emb (ix2 i e))
  rw [he]
theorem hg_kernel (H : FinW m c) (r : Fin 16384) (e : Fin 2048) : (dats m 0 c).arrAt 15 cfg0.N (ix2 r e) = (kR m c (seqOf r) (posOf r)).hg e.val := by
  have hf : ∀ t : Fin grid0.N, (cfg0.win 15).flush t = true := by decide +kernel
  have h : ∀ t : Fin grid0.N, win0_15.index t (0 : Fin 2) = t.val ∧ win0_15.index t (1 : Fin 2) = 0 := by decide +kernel
  let t : Fin cfg0.N := ⟨r.val / 512, lt_of_lt_of_eq (by omega) N_0.symm⟩
  let i : Fin 512 := ⟨r.val % 512, Nat.mod_lt _ (by decide)⟩
  obtain ⟨e0, e1⟩ := h t
  have hr : rowOf t i = r := Fin.ext (by show 512 * (r.val / 512) + r.val % 512 = r.val; omega)
  have he : ((cfg0.win 15).blk t).view.emb (ix2 i e) = (ix2 r e : S16384x2048.Idx) := by
    funext a; apply Fin.ext
    match a with
    | ⟨0, _⟩ => show win0_15.index t (0 : Fin 2) * 512 + 1 * (r.val % 512) = r.val; rw [e0]; show r.val / 512 * 512 + _ = _; omega
    | ⟨1, _⟩ => show win0_15.index t (1 : Fin 2) * 2048 + 1 * e.val = e.val; omega
  have hb := congrFun ((blocks15 m c t (hf t)).trans (flushed15 m c t)) (ix2 i e)
  have hk : _ = (kR m c (seqOf (rowOf t i)) (posOf (rowOf t i))).hg e.val := (out15_at (x5 := iblk m c 5 t) (holds m c H t) i e)
  rw [hr] at hk
  refine Eq.trans ?_ (hb.trans hk)
  show _ = (dats m 0 c).arrAt 15 cfg0.N (((cfg0.win 15).blk t).view.emb (ix2 i e))
  rw [he]

end Cert.ProjIdeal.PK

end
-- ==== Proof.ProjRef.lean ====
module

public import proofs.«01_k».proof.Proof.ProjSpec
public import proofs.«01_k».proof.Proof.Gen.ProjReferenceIdeal.Run
public import Idealize.ShloMosaic.Lib.Quiescent

/-! The prompt reference's results, row by row. -/

@[expose] public section

set_option maxRecDepth 16384

noncomputable section

namespace Cert.ProjReferenceIdeal.PR

open Cert.ProjReferenceIdeal Cert.ProjReferenceIdeal.Gen Cert.ProjReferenceIdeal.Value Idealize.ShloMosaic Idealize.ShloMosaic.TcCoe Cert.ProjRow Idealize.SL.Sem

section Stages

variable (a0 : FVec Ideal S4x4096x1024 .f32) (a1 : FVec Ideal S4x1024 .f32) (a2 : FVec Ideal S4x1024x3352 .f32) (a3 : FVec Ideal S4x64 .f32)
  (a4 : FVec Ideal S4x3x64 .f32) (p : FVec Ideal S4x4096x3352 .f32) (g : FVec Ideal S64 .f32) (co si : FVec Ideal S1x4096x1x32 .f32)

/-- The reference's stages: the projection, the heads, their norm, the angles, the rotation, the results. -/
def proj : FVec Ideal S4x4096x3352 .f32 :=
  Host.dotGeneral dot_S4x4096x1024_S1024x3352_S4x4096x3352_2_0_01_1_n_n none (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ (extractStridedSlice S1x1024 ![3, 0] a1 slices_S4x1024_S1x1024_3_0) shapeCasts_S1x1024_S1024)))) (shapeCast _ (extractStridedSlice S1x1024x3352 ![3, 0, 0] a2 slices_S4x1024x3352_S1x1024x3352_3_0_0) shapeCasts_S1x1024x3352_S1024x3352)
def gain0 : FVec Ideal S64 .f32 := shapeCast S64 (extractStridedSlice S1x64 ![3, 0] a3 slices_S4x64_S1x64_3_0) shapeCasts_S1x64_S64
def gain1 : FVec Ideal S64 .f32 := shapeCast S64 (extractStridedSlice S1x1x64 ![3, 1, 0] a4 slices_S4x3x64_S1x1x64_3_1_0) shapeCasts_S1x1x64_S64
def gain2 : FVec Ideal S64 .f32 := shapeCast S64 (extractStridedSlice S1x1x64 ![3, 2, 0] a4 slices_S4x3x64_S1x1x64_3_2_0) shapeCasts_S1x1x64_S64
def heads8 : FVec Ideal S4x4096x8x64 .f32 :=
  shapeCast S4x4096x8x64 (extractStridedSlice S4x4096x512 ![0, 0, 0] p slices_S4x4096x3352_S4x4096x512_0_0_0) shapeCasts_S4x4096x512_S4x4096x8x64
def heads2 (b : Nat) (h : S4x4096x3352.Slices ![0, 0, b] S4x4096x128) : FVec Ideal S4x4096x2x64 .f32 :=
  shapeCast S4x4096x2x64 (extractStridedSlice S4x4096x128 ![0, 0, b] p h) shapeCasts_S4x4096x128_S4x4096x2x64
def norm8 (v : FVec Ideal S4x4096x8x64 .f32) : FVec Ideal S4x4096x8x64 .f32 :=
  mulf (mulf v (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf v v) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 g))
def norm2 (v : FVec Ideal S4x4096x2x64 .f32) : FVec Ideal S4x4096x2x64 .f32 :=
  mulf (mulf v (broadcastInDim S4x4096x2x64 ![0, 1, 2, 3] bcast_S4x4096x2x1_S4x4096x2x64_0_1_2_3 (Host.rsqrt (addf (Host.divf (broadcastInDim S4x4096x2x1 ![0, 1, 2] bcast_S4x4096x2_S4x4096x2x1_0_1_2 (Host.reduceAdd (mulf v v) (constant S_ .f32 0x00000000#32) reducesTo_S4x4096x2x64_S4x4096x2_d3 h_S_)) (broadcastInDim S4x4096x2x1 ![] bcast_S_S4x4096x2x1 (constant S_ .f32 0x42800000#32))) (broadcastInDim S4x4096x2x1 ![] bcast_S_S4x4096x2x1 (constant S_ .f32 0x358637BD#32)))))) (broadcastInDim S4x4096x2x64 ![0, 1, 2, 3] bcast_S1x1x1x64_S4x4096x2x64_0_1_2_3 (broadcastInDim S1x1x1x64 ![3] bcast_S64_S1x1x1x64_3 g))
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))
def cosT : FVec Ideal S1x4096x1x32 .f32 := broadcastInDim S1x4096x1x32 ![1, 3] bcast_S4096x32_S1x4096x1x32_1_3 (Host.cos angles)
def sinT : FVec Ideal S1x4096x1x32 .f32 := broadcastInDim S1x4096x1x32 ![1, 3] bcast_S4096x32_S1x4096x1x32_1_3 (Host.sin angles)
def lo8 (v : FVec Ideal S4x4096x8x64 .f32) : FVec Ideal S4x4096x8x32 .f32 := extractStridedSlice S4x4096x8x32 ![0, 0, 0, 0] v slices_S4x4096x8x64_S4x4096x8x32_0_0_0_0
def hi8 (v : FVec Ideal S4x4096x8x64 .f32) : FVec Ideal S4x4096x8x32 .f32 := extractStridedSlice S4x4096x8x32 ![0, 0, 0, 32] v slices_S4x4096x8x64_S4x4096x8x32_0_0_0_32
def rot8 (v : FVec Ideal S4x4096x8x64 .f32) : FVec Ideal S4x4096x8x64 .f32 :=
  concatenate S4x4096x8x64 3 [⟨S4x4096x8x32, (subf (mulf (lo8 v) (broadcastInDim S4x4096x8x32 ![0, 1, 2, 3] bcast_S1x4096x1x32_S4x4096x8x32_0_1_2_3 co)) (mulf (hi8 v) (broadcastInDim S4x4096x8x32 ![0, 1, 2, 3] bcast_S1x4096x1x32_S4x4096x8x32_0_1_2_3 si)))⟩,
    ⟨S4x4096x8x32, (addf (mulf (hi8 v) (broadcastInDim S4x4096x8x32 ![0, 1, 2, 3] bcast_S1x4096x1x32_S4x4096x8x32_0_1_2_3 co)) (mulf (lo8 v) (broadcastInDim S4x4096x8x32 ![0, 1, 2, 3] bcast_S1x4096x1x32_S4x4096x8x32_0_1_2_3 si)))⟩] concatenates_S4x4096x8x32_S4x4096x8x32_S4x4096x8x64_d3
def lo2 (v : FVec Ideal S4x4096x2x64 .f32) : FVec Ideal S4x4096x2x32 .f32 := extractStridedSlice S4x4096x2x32 ![0, 0, 0, 0] v slices_S4x4096x2x64_S4x4096x2x32_0_0_0_0
def hi2 (v : FVec Ideal S4x4096x2x64 .f32) : FVec Ideal S4x4096x2x32 .f32 := extractStridedSlice S4x4096x2x32 ![0, 0, 0, 32] v slices_S4x4096x2x64_S4x4096x2x32_0_0_0_32
def rot2 (v : FVec Ideal S4x4096x2x64 .f32) : FVec Ideal S4x4096x2x64 .f32 :=
  concatenate S4x4096x2x64 3 [⟨S4x4096x2x32, (subf (mulf (lo2 v) (broadcastInDim S4x4096x2x32 ![0, 1, 2, 3] bcast_S1x4096x1x32_S4x4096x2x32_0_1_2_3 co)) (mulf (hi2 v) (broadcastInDim S4x4096x2x32 ![0, 1, 2, 3] bcast_S1x4096x1x32_S4x4096x2x32_0_1_2_3 si)))⟩,
    ⟨S4x4096x2x32, (addf (mulf (hi2 v) (broadcastInDim S4x4096x2x32 ![0, 1, 2, 3] bcast_S1x4096x1x32_S4x4096x2x32_0_1_2_3 co)) (mulf (lo2 v) (broadcastInDim S4x4096x2x32 ![0, 1, 2, 3] bcast_S1x4096x1x32_S4x4096x2x32_0_1_2_3 si)))⟩] concatenates_S4x4096x2x32_S4x4096x2x32_S4x4096x2x64_d3
def flat (v : FVec Ideal S4x4096x8x64 .f32) : FVec Ideal S16384x512 .bf16 :=
  truncf .bf16 (shapeCast S16384x512 (mulf v (broadcastInDim S4x4096x8x64 ![] bcast_S_S4x4096x8x64 (constant S_ .f32 0x3E38AA3B#32))) shapeCasts_S4x4096x8x64_S16384x512) bitsLt_bf16_f32
def nsaOf (x0 x1 x2 x3 : FVec Ideal S4x4096x2x64 .f32) : FVec Ideal S16384x512 .f32 :=
  shapeCast S16384x512 (concatenate S4x4096x4x2x64 2 [⟨S4x4096x1x2x64, broadcastInDim S4x4096x1x2x64 ![0, 1, 3, 4] bcast_S4x4096x2x64_S4x4096x1x2x64_0_1_3_4 x0⟩, ⟨S4x4096x1x2x64, broadcastInDim S4x4096x1x2x64 ![0, 1, 3, 4] bcast_S4x4096x2x64_S4x4096x1x2x64_0_1_3_4 x1⟩,
    ⟨S4x4096x1x2x64, broadcastInDim S4x4096x1x2x64 ![0, 1, 3, 4] bcast_S4x4096x2x64_S4x4096x1x2x64_0_1_3_4 x2⟩, ⟨S4x4096x1x2x64, broadcastInDim S4x4096x1x2x64 ![0, 1, 3, 4] bcast_S4x4096x2x64_S4x4096x1x2x64_0_1_3_4 x3⟩]
    concatenates_S4x4096x1x2x64_S4x4096x1x2x64_S4x4096x1x2x64_S4x4096x1x2x64_S4x4096x4x2x64_d2) shapeCasts_S4x4096x4x2x64_S16384x512
def winOf (x0 x1 : FVec Ideal S4x4096x2x64 .f32) : FVec Ideal S16384x256 .f32 :=
  shapeCast S16384x256 (concatenate S4x4096x2x2x64 2 [⟨S4x4096x1x2x64, broadcastInDim S4x4096x1x2x64 ![0, 1, 3, 4] bcast_S4x4096x2x64_S4x4096x1x2x64_0_1_3_4 x0⟩, ⟨S4x4096x1x2x64, broadcastInDim S4x4096x1x2x64 ![0, 1, 3, 4] bcast_S4x4096x2x64_S4x4096x1x2x64_0_1_3_4 x1⟩]
    concatenates_S4x4096x1x2x64_S4x4096x1x2x64_S4x4096x2x2x64_d2) shapeCasts_S4x4096x2x2x64_S16384x256
def gates : FVec Ideal S4x4096x128 .f32 :=
  pad S4x4096x128 ![0, 0, 0] ![0, 0, 104] ![0, 0, 0] (extractStridedSlice S4x4096x24 ![0, 0, 1280] p slices_S4x4096x3352_S4x4096x24_0_0_1280) (sitofp .f32 (constantI S_ 32 0#32)) pads_S4x4096x24_S4x4096x128_000_000_01040 h_S_
def gateOf : FVec Ideal S16384x128 .f32 :=
  shapeCast S16384x128 (Host.divf (broadcastInDim S4x4096x128 ![] bcast_S_S4x4096x128 (constant S_ .f32 0x3F800000#32)) (addf (broadcastInDim S4x4096x128 ![] bcast_S_S4x4096x128 (constant S_ .f32 0x3F800000#32)) (Host.exp (Host.negf
    (gates p)))))
    shapeCasts_S4x4096x128_S16384x128
def hgOf : FVec Ideal S16384x2048 .f32 :=
  shapeCast S16384x2048 (extractStridedSlice S4x4096x2048 ![0, 0, 1304] p slices_S4x4096x3352_S4x4096x2048_0_0_1304) shapeCasts_S4x4096x2048_S16384x2048

/-- The sequence and position of a row of the flattened results, and the row. -/
def seqOf (r : Fin 16384) : Fin 4 := ⟨r.val / 4096, by omega⟩
def posOf (r : Fin 16384) : Fin 4096 := ⟨r.val % 4096, Nat.mod_lt _ (by decide)⟩
def rW : W where
  g k := a1 (ix2 3 k)
  w k e := packed (fun e => a2 (ix3 3 k e)) e
def rR (b : Fin 4) (t : Fin 4096) : Row where
  P := (rW a1 a2).proj (fun k => a0 (ix3 b t k))
  c k := Ideal.cos (angle t.val k.val)
  s k := Ideal.sin (angle t.val k.val)
  gq d := a3 (ix2 3 d)
  gk1 d := a4 (ix3 3 1 d)
  gk2 d := a4 (ix3 3 2 d)

theorem proj_at (b : Fin 4) (t : Fin 4096) (e : Fin 3352) (f : ℕ) (hf : f = if e.val < 1304 then e.val else e.val + 104) :
    proj a0 a1 a2 (ix3 b t e) = (rW a1 a2).proj (fun k => a0 (ix3 b t k)) f := by
  have hw : ∀ k, (rW a1 a2).w k f = a2 (ix3 3 k e) := fun k => by
    show packed (fun e => a2 (ix3 3 k e)) f = _
    by_cases h : e.val < 1304
    · rw [if_pos h] at hf
      subst hf
      rw [packed_lo _ _ h]
    · rw [if_neg h] at hf
      subst hf
      rw [packed_hi _ _ (by omega) (by omega)]
      exact congrArg (fun e => a2 (ix3 3 k e)) (Fin.ext (by show e.val + 104 - 104 = e.val; omega))
  unfold W.proj
  simp only [hw]
  pointwise [proj]
  rfl
theorem gain0_at (d : Fin 64) : gain0 a3 (ix1 d) = a3 (ix2 3 d) := by
  pointwise [gain0]
theorem gain1_at (d : Fin 64) : gain1 a4 (ix1 d) = a4 (ix3 3 1 d) := by
  pointwise [gain1]
theorem gain2_at (d : Fin 64) : gain2 a4 (ix1 d) = a4 (ix3 3 2 d) := by
  pointwise [gain2]
theorem heads8_at (b : Fin 4) (t : Fin 4096) (h : Fin 8) (d : Fin 64) : heads8 p (ix4 b t h d) = p (ix3 b t ⟨h.val * 64 + d.val, by omega⟩) := by
  pointwise [heads8]
theorem heads2_at (o : Nat) (ho : S4x4096x3352.Slices ![0, 0, o] S4x4096x128) (ho' : o ≤ 1152) (b : Fin 4) (t : Fin 4096) (h : Fin 2) (d : Fin 64) :
    heads2 p o ho (ix4 b t h d) = p (ix3 b t ⟨o + (h.val * 64 + d.val), by omega⟩) := by
  pointwise [heads2]
theorem cos_at (t : Fin 4096) (k : Fin 32) : cosT (ix4 0 t 0 k) = Ideal.cos (angle t.val k.val) := by
  unfold angle
  pointwise [cosT, angles]
theorem sin_at (t : Fin 4096) (k : Fin 32) : sinT (ix4 0 t 0 k) = Ideal.sin (angle t.val k.val) := by
  unfold angle
  pointwise [sinT, angles]
theorem norm8_at (v : FVec Ideal S4x4096x8x64 .f32) (b : Fin 4) (t : Fin 4096) (h : Fin 8) (d : Fin 64) :
    norm8 g v (ix4 b t h d) = nrm (fun d => v (ix4 b t h d)) (fun d => g (ix1 d)) d := by
  pointwise [norm8]
  rfl
theorem lo8_at (v : FVec Ideal S4x4096x8x64 .f32) (b : Fin 4) (t : Fin 4096) (h : Fin 8) (k : Fin 32) :
    lo8 v (ix4 b t h k) = v (ix4 b t h ⟨k.val, by omega⟩) := by
  pointwise [lo8]
theorem hi8_at (v : FVec Ideal S4x4096x8x64 .f32) (b : Fin 4) (t : Fin 4096) (h : Fin 8) (k : Fin 32) :
    hi8 v (ix4 b t h k) = v (ix4 b t h ⟨32 + k.val, by omega⟩) := by
  pointwise [hi8]
theorem rot8_at (v : FVec Ideal S4x4096x8x64 .f32) (b : Fin 4) (t : Fin 4096) (h : Fin 8) (d : Fin 64) :
    rot8 co si v (ix4 b t h d) = rope (fun d => v (ix4 b t h d)) (fun k => co (ix4 0 t 0 k)) (fun k => si (ix4 0 t 0 k)) d := by
  pointwise [rot8]
  simp only [lo8_at, hi8_at]
  unfold rope
  by_cases hd : d.val < 32
  · rw [dif_pos hd, dif_pos hd]
    simp only [Nat.add_comm 32]
  · rw [dif_neg hd, dif_neg hd]
    simp only [show 32 + (d.val - 32) = d.val by omega]
theorem norm2_at (v : FVec Ideal S4x4096x2x64 .f32) (b : Fin 4) (t : Fin 4096) (h : Fin 2) (d : Fin 64) :
    norm2 g v (ix4 b t h d) = nrm (fun d => v (ix4 b t h d)) (fun d => g (ix1 d)) d := by
  pointwise [norm2]
  rfl
theorem lo2_at (v : FVec Ideal S4x4096x2x64 .f32) (b : Fin 4) (t : Fin 4096) (h : Fin 2) (k : Fin 32) :
    lo2 v (ix4 b t h k) = v (ix4 b t h ⟨k.val, by omega⟩) := by
  pointwise [lo2]
theorem hi2_at (v : FVec Ideal S4x4096x2x64 .f32) (b : Fin 4) (t : Fin 4096) (h : Fin 2) (k : Fin 32) :
    hi2 v (ix4 b t h k) = v (ix4 b t h ⟨32 + k.val, by omega⟩) := by
  pointwise [hi2]
theorem rot2_at (v : FVec Ideal S4x4096x2x64 .f32) (b : Fin 4) (t : Fin 4096) (h : Fin 2) (d : Fin 64) :
    rot2 co si v (ix4 b t h d) = rope (fun d => v (ix4 b t h d)) (fun k => co (ix4 0 t 0 k)) (fun k => si (ix4 0 t 0 k)) d := by
  pointwise [rot2]
  simp only [lo2_at, hi2_at]
  unfold rope
  by_cases hd : d.val < 32
  · rw [dif_pos hd, dif_pos hd]
    simp only [Nat.add_comm 32]
  · rw [dif_neg hd, dif_neg hd]
    simp only [show 32 + (d.val - 32) = d.val by omega]
theorem flat_at (v : FVec Ideal S4x4096x8x64 .f32) (r : Fin 16384) (e : Fin 512) :
    flat v (ix2 r e) = v (ix4 (seqOf r) (posOf r) ⟨e.val / 64, by omega⟩ (m64 e.val)) * Ideal.ofBits .f32 0x3E38AA3B#32 := by
  pointwise [flat]
  rfl
theorem nsaOf_at (x0 x1 x2 x3 : FVec Ideal S4x4096x2x64 .f32) (r : Fin 16384) (e : Fin 512) :
    nsaOf x0 x1 x2 x3 (ix2 r e) = if e.val / 128 < 1 then x0 (ix4 (seqOf r) (posOf r) ⟨e.val / 64 % 2, by omega⟩ (m64 e.val))
      else if e.val / 128 - 1 < 1 then x1 (ix4 (seqOf r) (posOf r) ⟨e.val / 64 % 2, by omega⟩ (m64 e.val))
      else if e.val / 128 - 1 - 1 < 1 then x2 (ix4 (seqOf r) (posOf r) ⟨e.val / 64 % 2, by omega⟩ (m64 e.val))
      else x3 (ix4 (seqOf r) (posOf r) ⟨e.val / 64 % 2, by omega⟩ (m64 e.val)) := by
  pointwise [nsaOf]
  rfl
theorem winOf_at (x0 x1 : FVec Ideal S4x4096x2x64 .f32) (r : Fin 16384) (e : Fin 256) :
    winOf x0 x1 (ix2 r e) = if e.val / 128 < 1 then x0 (ix4 (seqOf r) (posOf r) ⟨e.val / 64 % 2, by omega⟩ (m64 e.val))
      else x1 (ix4 (seqOf r) (posOf r) ⟨e.val / 64 % 2, by omega⟩ (m64 e.val)) := by
  pointwise [winOf]
  rfl
theorem gates_at (b : Fin 4) (t : Fin 4096) (e : Fin 128) :
    gates p (ix3 b t e) = if h : e.val < 24 then p (ix3 b t ⟨1280 + e.val, by omega⟩) else 0 := by
  have h0 : FloatOps.sitofp (F := Ideal) .f32 (0#32) = (0 : EReal) := by
    show ((((0#32 : BitVec 32).toInt : ℤ) : ℝ) : EReal) = 0
    simp
  pointwise [gates]
  by_cases h : e.val < 24
  · rw [dif_pos h, dif_pos h]
  · rw [dif_neg h, dif_neg h, h0]
theorem gateOf_at (r : Fin 16384) (e : Fin 128) :
    gateOf p (ix2 r e) = Ideal.div 1 (1 + Ideal.exp (-(gates p (ix3 (seqOf r) (posOf r) e)))) := by
  pointwise [gateOf]
  rfl
theorem hgOf_at (r : Fin 16384) (e : Fin 2048) : hgOf p (ix2 r e) = p (ix3 (seqOf r) (posOf r) ⟨1304 + e.val, by omega⟩) := by
  pointwise [hgOf]
  rfl

end Stages

variable (m : (ℓ : Loc nD τ sig) → Buf (Elt Ideal) ℓ) (c : Dev nD)

/-- The arguments as the run finds them. -/
def A0 : FVec Ideal S4x4096x1024 .f32 := m ((c : Thread nD τ).loc main_arg0)
def A1 : FVec Ideal S4x1024 .f32 := m ((c : Thread nD τ).loc main_arg1)
def A2 : FVec Ideal S4x1024x3352 .f32 := m ((c : Thread nD τ).loc main_arg2)
def A3 : FVec Ideal S4x64 .f32 := m ((c : Thread nD τ).loc main_arg3)
def A4 : FVec Ideal S4x3x64 .f32 := m ((c : Thread nD τ).loc main_arg4)

/-- The results in the stages. -/
def P : FVec Ideal S4x4096x3352 .f32 := proj (A0 m c) (A1 m c) (A2 m c)
def Q : FVec Ideal S4x4096x8x64 .f32 := norm8 (gain0 (A3 m c)) (heads8 (P m c))
def K1 : FVec Ideal S4x4096x2x64 .f32 := norm2 (gain1 (A4 m c)) (heads2 (P m c) 768 slices_S4x4096x3352_S4x4096x128_0_0_768)
def K2 : FVec Ideal S4x4096x2x64 .f32 := norm2 (gain2 (A4 m c)) (heads2 (P m c) 1024 slices_S4x4096x3352_S4x4096x128_0_0_1024)
def qc : FVec Ideal S16384x512 .bf16 := flat (Q m c)
def qr : FVec Ideal S16384x512 .bf16 := flat (rot8 cosT sinT (Q m c))
def nsa : FVec Ideal S16384x512 .f32 := nsaOf (heads2 (P m c) 512 slices_S4x4096x3352_S4x4096x128_0_0_512) (heads2 (P m c) 640 slices_S4x4096x3352_S4x4096x128_0_0_640)
  (rot2 cosT sinT (K1 m c)) (heads2 (P m c) 896 slices_S4x4096x3352_S4x4096x128_0_0_896)
def win : FVec Ideal S16384x256 .f32 := winOf (rot2 cosT sinT (K2 m c)) (heads2 (P m c) 1152 slices_S4x4096x3352_S4x4096x128_0_0_1152)
def gate : FVec Ideal S16384x128 .f32 := gateOf (P m c)
def hg : FVec Ideal S16384x2048 .f32 := hgOf (P m c)

/-- The row of a sequence and position of the run's arguments. -/
def R (b : Fin 4) (t : Fin 4096) : Row := rR (A0 m c) (A1 m c) (A2 m c) (A3 m c) (A4 m c) b t

theorem P_lo (b : Fin 4) (t : Fin 4096) (e : Fin 3352) (h : e.val < 1304) : P m c (ix3 b t e) = (R m c b t).P e.val :=
  proj_at _ _ _ b t e e.val (if_pos h).symm
theorem P_hi (b : Fin 4) (t : Fin 4096) (e : Fin 3352) (h : 1304 ≤ e.val) : P m c (ix3 b t e) = (R m c b t).P (e.val + 104) :=
  proj_at _ _ _ b t e (e.val + 104) (if_neg (by omega)).symm
theorem pair_at (o : Nat) (ho : S4x4096x3352.Slices ![0, 0, o] S4x4096x128) (ho' : o ≤ 1152) (b : Fin 4) (t : Fin 4096) (h : Fin 2) (d : Fin 64) :
    heads2 (P m c) o ho (ix4 b t h d) = (R m c b t).P (o + (h.val * 64 + d.val)) := by
  rw [heads2_at _ o ho ho', P_lo _ _ _ _ _ (by show o + (h.val * 64 + d.val) < 1304; omega)]
theorem Q_at (b : Fin 4) (t : Fin 4096) (h : Fin 8) (d : Fin 64) : Q m c (ix4 b t h d) = nrm ((R m c b t).hd (64 * h.val)) (R m c b t).gq d := by
  unfold Q
  rw [norm8_at]
  refine congrArg₂ (fun v g => nrm v g d) (funext fun d => ?_) (funext fun d => gain0_at _ d)
  rw [heads8_at, P_lo _ _ _ _ _ (by show h.val * 64 + d.val < 1304; omega), Row.hd, Nat.mul_comm 64]
theorem K1_at (b : Fin 4) (t : Fin 4096) (h : Fin 2) (d : Fin 64) : K1 m c (ix4 b t h d) = nrm ((R m c b t).hd (768 + 64 * h.val)) (R m c b t).gk1 d := by
  unfold K1
  rw [norm2_at]
  refine congrArg₂ (fun v g => nrm v g d) (funext fun d => ?_) (funext fun d => gain1_at _ d)
  rw [pair_at _ _ _ _ (by decide), Row.hd, Nat.mul_comm 64, Nat.add_assoc]
theorem K2_at (b : Fin 4) (t : Fin 4096) (h : Fin 2) (d : Fin 64) : K2 m c (ix4 b t h d) = nrm ((R m c b t).hd (1024 + 64 * h.val)) (R m c b t).gk2 d := by
  unfold K2
  rw [norm2_at]
  refine congrArg₂ (fun v g => nrm v g d) (funext fun d => ?_) (funext fun d => gain2_at _ d)
  rw [pair_at _ _ _ _ (by decide), Row.hd, Nat.mul_comm 64, Nat.add_assoc]

/-- The reference's results are the row's. -/
theorem qc_ref (r : Fin 16384) (e : Fin 512) : qc m c (ix2 r e) = (R m c (seqOf r) (posOf r)).qc e.val := by
  unfold qc
  rw [flat_at, Q_at]
  rfl
theorem qr_ref (r : Fin 16384) (e : Fin 512) : qr m c (ix2 r e) = (R m c (seqOf r) (posOf r)).qr e.val := by
  unfold qr
  rw [flat_at, rot8_at]
  simp only [Q_at, cos_at, sin_at]
  rfl
theorem nsa_ref (r : Fin 16384) (e : Fin 512) : nsa m c (ix2 r e) = (R m c (seqOf r) (posOf r)).nsa e.val := by
  unfold nsa Row.nsa
  have hm : (m64 e.val).val = e.val % 64 := rfl
  rw [nsaOf_at]
  by_cases h0 : e.val / 128 < 1
  · rw [if_pos h0, if_neg (by omega), pair_at _ _ _ _ (by decide), hm]
    exact congrArg (R m c (seqOf r) (posOf r)).P (by show 512 + (e.val / 64 % 2 * 64 + e.val % 64) = 512 + e.val; omega)
  rw [if_neg h0]
  by_cases h1 : e.val / 128 - 1 < 1
  · rw [if_pos h1, if_neg (by omega), pair_at _ _ _ _ (by decide), hm]
    exact congrArg (R m c (seqOf r) (posOf r)).P (by show 640 + (e.val / 64 % 2 * 64 + e.val % 64) = 512 + e.val; omega)
  rw [if_neg h1]
  by_cases h2 : e.val / 128 - 1 - 1 < 1
  · rw [if_pos h2, if_pos (by omega), rot2_at]
    simp only [K1_at, cos_at, sin_at]
    rw [show 768 + 64 * (e.val / 64 % 2) = 512 + 64 * (e.val / 64) by omega]
    rfl
  · rw [if_neg h2, if_neg (by omega), pair_at _ _ _ _ (by decide), hm]
    exact congrArg (R m c (seqOf r) (posOf r)).P (by show 896 + (e.val / 64 % 2 * 64 + e.val % 64) = 512 + e.val; omega)
theorem win_ref (r : Fin 16384) (e : Fin 256) : win m c (ix2 r e) = (R m c (seqOf r) (posOf r)).win e.val := by
  unfold win Row.win
  have hm : (m64 e.val).val = e.val % 64 := rfl
  rw [winOf_at]
  by_cases h0 : e.val / 128 < 1
  · rw [if_pos h0, if_pos (by omega), rot2_at]
    simp only [K2_at, cos_at, sin_at]
    rw [show 1024 + 64 * (e.val / 64 % 2) = 1024 + 64 * (e.val / 64) by omega]
    rfl
  · rw [if_neg h0, if_neg (by omega), pair_at _ _ _ _ (by decide), hm]
    exact congrArg (R m c (seqOf r) (posOf r)).P (by show 1152 + (e.val / 64 % 2 * 64 + e.val % 64) = 1024 + e.val; omega)
theorem gate_ref (r : Fin 16384) (e : Fin 128) : gate m c (ix2 r e) = (R m c (seqOf r) (posOf r)).gate e.val := by
  unfold gate Row.gate
  rw [gateOf_at, gates_at]
  by_cases h : e.val < 24
  · rw [dif_pos h, P_lo _ _ _ _ _ (by show 1280 + e.val < 1304; omega)]
  · rw [dif_neg h]
    have hz : (R m c (seqOf r) (posOf r)).P (1280 + e.val) = 0 := by
      show (rW (A1 m c) (A2 m c)).proj (fun k => A0 m c (ix3 (seqOf r) (posOf r) k)) (1280 + e.val) = 0
      unfold W.proj
      refine Finset.sum_eq_zero fun k _ => ?_
      rw [show (rW (A1 m c) (A2 m c)).w k (1280 + e.val) = 0 from packed_mid (fun e => A2 m c (ix3 3 k e)) (1280 + e.val) (by omega) (by omega), mul_zero]
    rw [hz]
theorem hg_ref (r : Fin 16384) (e : Fin 2048) : hg m c (ix2 r e) = (R m c (seqOf r) (posOf r)).hg e.val := by
  unfold hg Row.hg
  rw [hgOf_at, P_hi _ _ _ _ _ (by show 1304 ≤ 1304 + e.val; omega)]
  exact congrArg (R m c (seqOf r) (posOf r)).P (by show 1304 + e.val + 104 = 1408 + e.val; omega)

/-- What the claims about the reference say of a final state. -/
theorem ref_run (ρ : Dev nD → PrngReg) : θ_run (defs (F := Ideal)) (onTc (τ := τ) (main (F := Ideal))) ⟨m, fun _ => 0, ρ⟩
    (fun r => (∀ c : Dev nD,
        r.2.mem ((c.tc : Thread nD τ).loc main_v185) = qc m c
        ∧ r.2.mem ((c.tc : Thread nD τ).loc main_v189) = qr m c
        ∧ r.2.mem ((c.tc : Thread nD τ).loc main_v190) = nsa m c
        ∧ r.2.mem ((c.tc : Thread nD τ).loc main_v191) = win m c
        ∧ r.2.mem ((c.tc : Thread nD τ).loc main_v192) = gate m c
        ∧ r.2.mem ((c.tc : Thread nD τ).loc main_v193) = hg m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run _ _ _).mono (fun r hr => ⟨hr, sem_eq_zero_of_no_sems rfl r.2⟩) (run m ρ)

end Cert.ProjReferenceIdeal.PR

end
-- ==== Proof.ProjEqual.lean ====
module

public import proofs.«01_k».proof.Proof.ProjKernel
public import proofs.«01_k».proof.Proof.ProjRef
public import proofs.«01_k».proof.Pre_finite
public import Idealize.ShloMosaic.Lib.ReduceAll

/-! The prompt's two programs compute the same projected rows from inputs that agree, where the gain and the matrix are finite. -/

@[expose] public section

set_option maxRecDepth 16384

noncomputable section

namespace Cert.ProjRow

open Idealize.ShloMosaic Idealize.ShloMosaic.TcCoe Idealize.SL.Sem

theorem finite_of_cmp (a : EReal) (h : Ideal.cmp .olt (max a (-a)) (Ideal.ofBits .f32 0x7F800000#32) = 1#1) : Finite a := by
  rw [word_top] at h
  refine finite_of_abs ?_
  by_contra hn
  simp [Ideal.cmp, hn] at h

/-- The precondition read back: the gain and the matrix of layer 3 are finite. -/
theorem finite_of [Cert.Pre_finite.Facts] (a0 : (Cert.Pre_finite.S4x4096x1024).Idx → EReal) (a1 : (Cert.Pre_finite.S4x1024).Idx → EReal)
    (a2 : (Cert.Pre_finite.S4x1024x3352).Idx → EReal) (a3 : (Cert.Pre_finite.S4x64).Idx → EReal) (a4 : (Cert.Pre_finite.S4x3x64).Idx → EReal)
    (h : Cert.Pre_finite.fn (F := Ideal) a0 a1 a2 a3 a4 = fun _ => 1#1) :
    (∀ k, Finite (a1 (ix2 3 k))) ∧ ∀ k e, Finite (a2 (ix3 3 k e)) := by
  have hs : Subsingleton (Cert.Pre_finite.S_).Idx := ⟨fun x y => funext fun a => a.elim0⟩
  have and2 : ∀ a b : BitVec 1, IntOp.andi a b = 1#1 → a = 1#1 ∧ b = 1#1 := by decide
  have h1 := and2 _ _ (congrFun h (Shape.Idx.first Cert.Pre_finite.Facts.h_S_))
  refine ⟨fun k => ?_, fun k e => ?_⟩
  · have hall := Host.reduce_andi_all _ _ _ _ (Shape.Idx.first Cert.Pre_finite.Facts.h_S_) h1.1 (ix1 k)
    revert hall
    pointwise
    exact finite_of_cmp _
  · have hall := Host.reduce_andi_all _ _ _ _ (Shape.Idx.first Cert.Pre_finite.Facts.h_S_) h1.2 (ix2 k e)
    revert hall
    pointwise
    exact finite_of_cmp _

/-- The two memories hold the same five arguments on core `c`, and the gain and the matrix of the projection are finite. -/
structure Agree (m : (ℓ : Loc Cert.ProjIdeal.nD Cert.ProjIdeal.τ Cert.ProjIdeal.sig) → Buf (Elt Ideal) ℓ)
    (m' : (ℓ : Loc Cert.ProjReferenceIdeal.nD Cert.ProjReferenceIdeal.τ Cert.ProjReferenceIdeal.sig) → Buf (Elt Ideal) ℓ)
    (c : Dev Cert.ProjIdeal.nD) : Prop where
  fin : ProjIdeal.PK.FinW m c
  h0 : ProjReferenceIdeal.PR.A0 m' c = ProjIdeal.PK.A0 m c
  h1 : ProjReferenceIdeal.PR.A1 m' c = ProjIdeal.PK.A1 m c
  h2 : ProjReferenceIdeal.PR.A2 m' c = ProjIdeal.PK.A2 m c
  h3 : ProjReferenceIdeal.PR.A3 m' c = ProjIdeal.PK.A3 m c
  h4 : ProjReferenceIdeal.PR.A4 m' c = ProjIdeal.PK.A4 m c

variable {m : (ℓ : Loc Cert.ProjIdeal.nD Cert.ProjIdeal.τ Cert.ProjIdeal.sig) → Buf (Elt Ideal) ℓ}
  {m' : (ℓ : Loc Cert.ProjReferenceIdeal.nD Cert.ProjReferenceIdeal.τ Cert.ProjReferenceIdeal.sig) → Buf (Elt Ideal) ℓ}
  {c : Dev Cert.ProjIdeal.nD} (H : Agree m m' c)
include H

theorem row_eq (b : Fin 4) (t : Fin 4096) : ProjReferenceIdeal.PR.R m' c b t = ProjIdeal.PK.kR m c b t := by
  unfold ProjReferenceIdeal.PR.R
  rw [H.h0, H.h1, H.h2, H.h3, H.h4]
  rfl

omit H in
/-- Two arrays of rows are the same when they are at every row and column. -/
theorem ext2 {α : Type} {n k : ℕ} (f g : (⟨2, ![n, k]⟩ : Shape).Idx → α) (h : ∀ (i : Fin n) (j : Fin k), f (ix2 i j) = g (ix2 i j)) : f = g := by
  funext y
  have hy : y = ix2 (y 0) (y 1) := by
    funext a
    match a with
    | ⟨0, _⟩ => rfl
    | ⟨1, _⟩ => rfl
  rw [hy]
  exact h (y 0) (y 1)

theorem qc_agree : ProjReferenceIdeal.PR.qc m' c = (ProjIdeal.Gen.dats m 0 c).arrAt 9 ProjIdeal.cfg0.N :=
  ext2 _ _ fun r e => (ProjReferenceIdeal.PR.qc_ref m' c r e).trans
    ((congrArg (fun R => Row.qc R e.val) (row_eq H _ _)).trans (ProjIdeal.PK.qc_kernel m c H.fin r e).symm)
theorem qr_agree : ProjReferenceIdeal.PR.qr m' c = (ProjIdeal.Gen.dats m 0 c).arrAt 10 ProjIdeal.cfg0.N :=
  ext2 _ _ fun r e => (ProjReferenceIdeal.PR.qr_ref m' c r e).trans
    ((congrArg (fun R => Row.qr R e.val) (row_eq H _ _)).trans (ProjIdeal.PK.qr_kernel m c H.fin r e).symm)
theorem nsa_agree : ProjReferenceIdeal.PR.nsa m' c = (ProjIdeal.Gen.dats m 0 c).arrAt 11 ProjIdeal.cfg0.N :=
  ext2 _ _ fun r e => (ProjReferenceIdeal.PR.nsa_ref m' c r e).trans
    ((congrArg (fun R => Row.nsa R e.val) (row_eq H _ _)).trans (ProjIdeal.PK.nsa_kernel m c H.fin r e).symm)
theorem win_agree : ProjReferenceIdeal.PR.win m' c = (ProjIdeal.Gen.dats m 0 c).arrAt 12 ProjIdeal.cfg0.N :=
  ext2 _ _ fun r e => (ProjReferenceIdeal.PR.win_ref m' c r e).trans
    ((congrArg (fun R => Row.win R e.val) (row_eq H _ _)).trans (ProjIdeal.PK.win_kernel m c H.fin r e).symm)
theorem gate_agree : ProjReferenceIdeal.PR.gate m' c = (ProjIdeal.Gen.dats m 0 c).arrAt 14 ProjIdeal.cfg0.N :=
  ext2 _ _ fun r e => (ProjReferenceIdeal.PR.gate_ref m' c r e).trans
    ((congrArg (fun R => Row.gate R e.val) (row_eq H _ _)).trans (ProjIdeal.PK.gate_kernel m c H.fin r e).symm)
theorem hg_agree : ProjReferenceIdeal.PR.hg m' c = (ProjIdeal.Gen.dats m 0 c).arrAt 15 ProjIdeal.cfg0.N :=
  ext2 _ _ fun r e => (ProjReferenceIdeal.PR.hg_ref m' c r e).trans
    ((congrArg (fun R => Row.hg R e.val) (row_eq H _ _)).trans (ProjIdeal.PK.hg_kernel m c H.fin r e).symm)

end Cert.ProjRow

end
-- ==== Proof.ProjSampleTile.lean ====
module

public import proofs.«01_k».proof.Proof.ProjSpec
public import proofs.«01_k».proof.Proof.Gen.ProjSampleIdeal.Value

/-! The head norm and the rotation of the sample's kernel on a chunk of two heads, row by row. -/

@[expose] public section

set_option maxRecDepth 16384

noncomputable section

namespace Cert.ProjSampleIdeal.PK

open Cert.ProjSampleIdeal Cert.ProjSampleIdeal.Gen Cert.ProjSampleIdeal.Value Idealize.ShloMosaic Idealize.ShloMosaic.TcCoe Cert.ProjRow

section Stages

variable (p : FVec Ideal S256x1408 .f32) (v c s : FVec Ideal S256x128 .f32) (bd : FVec Ideal S128x128 .bf16) (g : FVec Ideal S1x128 .f32)

/-- The head norm of a chunk: squares against the two-head matrix, and what rounding left of them against it again. -/
def hnK : FVec Ideal S256x128 .f32 :=
  mulf (mulf v (rsqrt (addf (mulf
      (addf (matmul dot_S256x128_S128x128_S256x128_1_0_0_1_n_n none (truncf .bf16 (mulf v v) bitsLt_bf16_f32) bd (constant S256x128 .f32 0x00000000#32))
        (matmul dot_S256x128_S128x128_S256x128_1_0_0_1_n_n none
          (truncf .bf16 (subf (mulf v v) (extf .f32 (truncf .bf16 (mulf v v) bitsLt_bf16_f32) bitsLt_bf16_f32)) bitsLt_bf16_f32) bd
          (constant S256x128 .f32 0x00000000#32)))
      (broadcast S256x128 (Scalar.ofBits (F := Ideal) .f32 0x3C800000#32))) (broadcast S256x128 (Scalar.ofBits (F := Ideal) .f32 0x358637BD#32)))))
    (broadcastTo S256x128 g broadcasts_S1x128_S256x128)
/-- The chunk times the scale of the scores. -/
def scaled : FVec Ideal S256x128 .f32 := mulf v (broadcast S256x128 (Scalar.ofBits (F := Ideal) .f32 0x3E38AA3B#32))
/-- Which lanes lie in the first half of their head. -/
def firstHalf : IVec S256x128 1 :=
  k0_pay9 (iota .tc S256x128 32 [1] iota_S256x128_d1_w32) (Scalar.select (Scalar.cmpi .eq 64#32 0#32) 1#32 64#32) k0_pay8
/-- The rotation of a chunk. -/
def ropeK : FVec Ideal S256x128 .f32 :=
  addf (mulf v c) (mulf (select firstHalf (dynamicRotate 1 96#32 none v rotates_S256x128_d1) (dynamicRotate 1 32#32 none v rotates_S256x128_d1)) s)

theorem firstHalf_at (i : Fin 256) (l : Fin 128) : firstHalf (ix2 i l) = BitVec.ofBool (decide (l.val % 64 < 32)) := by
  rw [show firstHalf (ix2 i l) = firstHalf (ix2 0 l) from rfl]
  revert l; decide +kernel
theorem select_ofBool {α : Type} (p : Prop) [Decidable p] (x y : α) : Scalar.select (BitVec.ofBool (decide p)) x y = if p then x else y := by
  by_cases hp : p <;> simp [Scalar.select, hp]

variable (R : Fin 256 → Row)

/-- The blocks hold the rows' projections, cosines, signed sines, and the two-head matrix. -/
structure Blocks : Prop where
  hp : ∀ i (e : Fin 1408), p (ix2 i e) = (R i).P e.val
  fin : ∀ i e, Finite ((R i).P e)
  hc : ∀ i h d, c (ix2 i (lane h d)) = (R i).c ⟨d.val % 32, Nat.mod_lt _ (by decide)⟩
  hs : ∀ i h d, s (ix2 i (lane h d))
    = if d.val < 32 then -((R i).s ⟨d.val % 32, Nat.mod_lt _ (by decide)⟩) else (R i).s ⟨d.val % 32, Nat.mod_lt _ (by decide)⟩
  hbd : ∀ (h : Fin 2) (d : Fin 64) (j : Fin 128), bd (ix2 j (lane h d)) = if j.val / 64 = h.val then 1 else 0

variable {p v c s bd g R} (H : Blocks p c s bd R)
include H

theorem hnK_at (b : ℕ) (i : Fin 256) (gain : Fin 64 → EReal) (hv : ∀ l : Fin 128, v (ix2 i l) = (R i).P (b + l.val))
    (hg : ∀ h d, g (ix2 0 (lane h d)) = gain d) (h : Fin 2) (d : Fin 64) :
    hnK v bd g (ix2 i (lane h d)) = nrm ((R i).hd (b + 64 * h.val)) gain d := by
  have hl : (fun d => v (ix2 i (lane h d))) = (R i).hd (b + 64 * h.val) := funext fun d => by
    rw [hv]
    show (R i).P (b + (64 * h.val + d.val)) = (R i).P (b + 64 * h.val + d.val)
    rw [Nat.add_assoc]
  rw [← hl]
  refine Eq.trans ?_ (nrm_lane (fun l => v (ix2 i l)) (fun j => bd (ix2 j (lane h d))) (g (ix2 0 (lane h d))) gain h d
    (fun j => by rw [hv]; exact H.fin i _) (H.hbd h d) (hg h d))
  pointwise [hnK]

theorem ropeK_at (i : Fin 256) (h : Fin 2) (d : Fin 64) :
    ropeK v c s (ix2 i (lane h d)) = rope (fun d => v (ix2 i (lane h d))) (R i).c (R i).s d := by
  have hd : (lane h d).val % 64 = d.val := by show (64 * h.val + d.val) % 64 = _; omega
  refine Eq.trans ?_ (rope_lane (fun d => v (ix2 i (lane h d))) (R i).c (R i).s (c (ix2 i (lane h d))) (s (ix2 i (lane h d)))
    (dynamicRotate 1 96#32 none v rotates_S256x128_d1 (ix2 i (lane h d))) (dynamicRotate 1 32#32 none v rotates_S256x128_d1 (ix2 i (lane h d))) d
    (H.hc i h d) (H.hs i h d) ?_ ?_)
  · unfold ropeK
    pointwise
    rw [firstHalf_at, select_ofBool, hd]
  · intro h32
    pointwise
    refine congrArg (fun l : Fin 128 => v (ix2 i l)) (Fin.ext ?_)
    show (64 * h.val + d.val + 128 - 96 % 128) % 128 = 64 * h.val + (d.val + 32)
    omega
  · intro h32
    pointwise
    refine congrArg (fun l : Fin 128 => v (ix2 i l)) (Fin.ext ?_)
    show (64 * h.val + d.val + 128 - 32 % 128) % 128 = 64 * h.val + (d.val - 32)
    omega

end Stages

end Cert.ProjSampleIdeal.PK

end
-- ==== Proof.ProjSampleOut.lean ====
module

public import proofs.«01_k».proof.Proof.ProjSampleTile

/-! What one grid point of the sample's kernel stores, row by row. -/

@[expose] public section

set_option maxRecDepth 16384

noncomputable section

namespace Cert.ProjSampleIdeal.PK

open Cert.ProjSampleIdeal Cert.ProjSampleIdeal.Gen Cert.ProjSampleIdeal.Value Idealize.ShloMosaic Idealize.ShloMosaic.TcCoe Cert.ProjRow

variable (x0 : Vec Ideal S256x1024 .f32) (x1 : Vec Ideal S1x1024 .f32) (x2 : Vec Ideal S1024x3456 .bf16) (x3 x4 x5 : Vec Ideal S256x128 .f32)
  (x6 : Vec Ideal S1x128 .f32) (x7 : Vec Ideal S2x128 .f32) (x8 : Vec Ideal S128x128 .bf16)

/-- The gain and the packed columns the blocks hold, and the block's rows. -/
def bW : W where
  g k := x1 (ix2 0 k)
  w k e := if h : e < 3456 then x2 (ix2 k ⟨e, h⟩) else 0
def bX (i : Fin 256) (k : Fin 1024) : EReal := x0 (ix2 i k)

theorem ld0 : View.ld x0 r0_0 = x0 := by funext y; idx_vars y; pointwise
theorem ld1 : View.ld x1 r0_1 = x1 := by funext y; idx_vars y; pointwise; rw [Subsingleton.elim y0 0]

theorem pay2_at (i : Fin 256) (k : Fin 1024) : k0_pay2 x0 x1 (ix2 i k)
    = bX x0 i k * Ideal.rsqrt (Ideal.div (∑ j, bX x0 i j * bX x0 i j) (Ideal.ofBits .f32 0x44800000#32) + Ideal.ofBits .f32 0x358637BD#32) * (bW x1 x2).g k := by
  pointwise [k0_pay2]
  rfl
theorem pay54_at (i : Fin 256) (e : Fin 1408) : k0_pay54 x0 x1 x2 x3 x4 x5 x6 x7 x8 (ix2 i e) = (bW x1 x2).proj (bX x0 i) e.val := by
  unfold k0_pay54
  rw [ld0, ld1]
  unfold k0_pay3
  pointwise
  simp only [pay2_at x0 x1 x2]
  refine Finset.sum_congr rfl fun k _ => congrArg₂ (· * ·) rfl ?_
  have he : e.val < 3456 := by omega
  show _ = dite _ _ _
  rw [dif_pos he]
theorem pay4_at (i : Fin 256) (e : Fin 2048) : k0_pay4 (View.ld x0 r0_0) (View.ld x1 r0_1) (View.ld x2 r0_3) (ix2 i e)
    = (bW x1 x2).proj (bX x0 i) (1408 + e.val) := by
  rw [ld0, ld1]
  unfold k0_pay4
  pointwise
  simp only [pay2_at x0 x1 x2]
  refine Finset.sum_congr rfl fun k _ => congrArg₂ (· * ·) rfl ?_
  have he : 1408 + e.val < 3456 := by omega
  show _ = dite _ _ _
  rw [dif_pos he]

/-- What the blocks must hold for the rows `R`. -/
structure Holds (R : Fin 256 → Row) : Prop where
  hP : ∀ i e, (bW x1 x2).proj (bX x0 i) e = (R i).P e
  fin : ∀ i e, Finite ((R i).P e)
  hc : ∀ i h d, x3 (ix2 i (lane h d)) = (R i).c ⟨d.val % 32, Nat.mod_lt _ (by decide)⟩
  hs : ∀ i h d, x4 (ix2 i (lane h d))
    = if d.val < 32 then -((R i).s ⟨d.val % 32, Nat.mod_lt _ (by decide)⟩) else (R i).s ⟨d.val % 32, Nat.mod_lt _ (by decide)⟩
  hbd : ∀ (h : Fin 2) (d : Fin 64) (j : Fin 128), x8 (ix2 j (lane h d)) = if j.val / 64 = h.val then 1 else 0
  hq : ∀ i h d, x6 (ix2 0 (lane h d)) = (R i).gq d
  hk1 : ∀ i h d, x7 (ix2 0 (lane h d)) = (R i).gk1 d
  hk2 : ∀ i h d, x7 (ix2 1 (lane h d)) = (R i).gk2 d

variable {x0 x1 x2 x3 x4 x5 x6 x7 x8} {R : Fin 256 → Row} (H : Holds x0 x1 x2 x3 x4 x6 x7 x8 R)
include H

theorem blocks : Blocks (k0_pay54 x0 x1 x2 x3 x4 x5 x6 x7 x8) (k0_pay55 x0 x1 x2 x3 x4 x5 x6 x7 x8) (k0_pay56 x0 x1 x2 x3 x4 x5 x6 x7 x8)
    (k0_pay57 x0 x1 x2 x3 x4 x5 x6 x7 x8) R where
  hp i e := by rw [pay54_at]; exact H.hP i e.val
  fin := H.fin
  hc i h d := by pointwise [k0_pay55, k0_pay5]; exact H.hc i h d
  hs i h d := by pointwise [k0_pay56, k0_pay6]; exact H.hs i h d
  hbd h d j := by pointwise [k0_pay57, k0_pay7]; exact H.hbd h d j

theorem gq_at (i : Fin 256) (h : Fin 2) (d : Fin 64) : k0_pay60 x0 x1 x2 x3 x4 x5 x6 x7 x8 (ix2 0 (lane h d)) = (R i).gq d := by
  pointwise [k0_pay60, k0_pay10]
  exact H.hq i h d
theorem gk1_at (i : Fin 256) (h : Fin 2) (d : Fin 64) : shapeCast S1x128 (View.ld x7 r0_12) shapeCasts_S1x128_S1x128 (ix2 0 (lane h d)) = (R i).gk1 d := by
  pointwise
  exact H.hk1 i h d
theorem gk2_at (i : Fin 256) (h : Fin 2) (d : Fin 64) : k0_pay68 x0 x1 x2 x3 x4 x5 x6 x7 x8 (ix2 0 (lane h d)) = (R i).gk2 d := by
  pointwise [k0_pay68, k0_pay33]
  exact H.hk2 i h d

/-- The 128 columns of the projection from column `o` on. -/
theorem slice_at (o : ℕ) (ho : o + 128 ≤ 1408) (hs : S256x1408.Slices ![0, o] S256x128) (i : Fin 256) (l : Fin 128) :
    extractStridedSlice S256x128 ![0, o] (k0_pay54 x0 x1 x2 x3 x4 x5 x6 x7 x8) hs (ix2 i l) = (R i).P (o + l.val) := by
  rw [← (blocks H).hp i ⟨o + l.val, by omega⟩]
  refine congrArg (k0_pay54 x0 x1 x2 x3 x4 x5 x6 x7 x8) (funext fun a => Fin.ext ?_)
  match a with
  | ⟨0, _⟩ => show 0 + i.val = i.val; omega
  | ⟨1, _⟩ => rfl

/-- A chunk of queries, and the chunk rotated. -/
theorem q_at (k : ℕ) (hk : k < 4) (hs : S256x1408.Slices ![0, 128 * k] S256x128) (i : Fin 256) (l : Fin 128) :
    scaled (hnK (extractStridedSlice S256x128 ![0, 128 * k] (k0_pay54 x0 x1 x2 x3 x4 x5 x6 x7 x8) hs) (k0_pay57 x0 x1 x2 x3 x4 x5 x6 x7 x8)
      (k0_pay60 x0 x1 x2 x3 x4 x5 x6 x7 x8)) (ix2 i l) = (R i).qc (128 * k + l.val) := by
  obtain ⟨h, d, rfl⟩ := lane_surj l
  unfold scaled Row.qc
  pointwise
  rw [hnK_at (blocks H) (128 * k) i (R i).gq (fun l => slice_at H _ (by omega) hs i l) (gq_at H i) h d, head_lane, m64_lane]
theorem qr_at (k : ℕ) (hk : k < 4) (hs : S256x1408.Slices ![0, 128 * k] S256x128) (i : Fin 256) (l : Fin 128) :
    ropeK (scaled (hnK (extractStridedSlice S256x128 ![0, 128 * k] (k0_pay54 x0 x1 x2 x3 x4 x5 x6 x7 x8) hs) (k0_pay57 x0 x1 x2 x3 x4 x5 x6 x7 x8)
      (k0_pay60 x0 x1 x2 x3 x4 x5 x6 x7 x8))) (k0_pay55 x0 x1 x2 x3 x4 x5 x6 x7 x8) (k0_pay56 x0 x1 x2 x3 x4 x5 x6 x7 x8) (ix2 i l)
      = (R i).qr (128 * k + l.val) := by
  obtain ⟨h, d, rfl⟩ := lane_surj l
  rw [ropeK_at (blocks H) i h d]
  unfold Row.qr
  rw [head_lane, m64_lane, ← rope_scale]
  refine congrArg (fun f => rope f (R i).c (R i).s d) (funext fun d => ?_)
  rw [q_at H k hk hs i (lane h d)]
  unfold Row.qc
  rw [head_lane, m64_lane]
/-- A chunk of keys, normed and rotated. -/
theorem k_at (o : ℕ) (ho : o + 128 ≤ 1408) (hs : S256x1408.Slices ![0, o] S256x128) (g : FVec Ideal S1x128 .f32) (gain : Fin 64 → EReal)
    (i : Fin 256) (hg : ∀ h d, g (ix2 0 (lane h d)) = gain d) (h : Fin 2) (d : Fin 64) :
    ropeK (hnK (extractStridedSlice S256x128 ![0, o] (k0_pay54 x0 x1 x2 x3 x4 x5 x6 x7 x8) hs) (k0_pay57 x0 x1 x2 x3 x4 x5 x6 x7 x8) g)
      (k0_pay55 x0 x1 x2 x3 x4 x5 x6 x7 x8) (k0_pay56 x0 x1 x2 x3 x4 x5 x6 x7 x8) (ix2 i (lane h d))
      = rope (nrm ((R i).hd (o + 64 * h.val)) gain) (R i).c (R i).s d := by
  rw [ropeK_at (blocks H) i h d]
  exact congrArg (fun f => rope f (R i).c (R i).s d) (funext fun d => hnK_at (blocks H) o i gain (fun l => slice_at H _ ho hs i l) hg h d)

/-! ## The stored blocks -/

omit H in
theorem emb_row (n o : ℕ) (hb) (i : Fin 256) (l : Fin 128) :
    ((Rect.unit (s := ⟨2, ![256, n]⟩) ![0, o] S256x128.size hb).emb (ix2 i l) 0).val = i.val := by
  show 0 + 1 * i.val = i.val
  omega
omit H in
theorem emb_col (n o : ℕ) (hb) (i : Fin 256) (l : Fin 128) :
    ((Rect.unit (s := ⟨2, ![256, n]⟩) ![0, o] S256x128.size hb).emb (ix2 i l) 1).val = o + l.val := by
  show o + 1 * l.val = o + l.val
  omega

/-- A block of `n` columns that holds the function `f` of each row. -/
def blk (n : ℕ) (R : Fin 256 → Row) (f : Row → ℕ → EReal) (y : (⟨2, ![256, n]⟩ : Shape).Idx) : EReal := f (R (y 0)) (y 1).val

omit H in
theorem blk_emb (n o : ℕ) (f : Row → ℕ → EReal) (hb) (w : S256x128.Idx → EReal) (hw : ∀ i l, w (ix2 i l) = f (R i) (o + l.val)) (x : S256x128.Idx) :
    w x = blk n R f ((Rect.unit (s := ⟨2, ![256, n]⟩) ![0, o] S256x128.size hb).emb x) := by
  obtain ⟨i, l, rfl⟩ : ∃ (i : Fin 256) (l : Fin 128), x = ix2 i l := ⟨x 0, x 1, by funext a; match a with | ⟨0, _⟩ => rfl | ⟨1, _⟩ => rfl⟩
  unfold blk
  rw [hw, emb_col, show (Rect.unit (s := ⟨2, ![256, n]⟩) ![0, o] S256x128.size hb).emb (ix2 i l) 0 = i from Fin.ext (emb_row n o hb i l)]

theorem out9_at (y : S256x512.Idx) : out0_9 x0 x1 x2 x3 x4 x5 x6 x7 x8 y = blk 512 R Row.qc y := by
  unfold out0_9
  refine View.canon_apply_of_pieces (Val := Elt Ideal) (e := .bf16) (blk 512 R Row.qc) _ (fun p hp x => ?_) y (cover0_9 _ _ _ _ y)
  simp only [List.mem_cons, List.not_mem_nil, or_false] at hp
  rcases hp with rfl | rfl | rfl | rfl
  · exact blk_emb 512 384 Row.qc inb_S256x512_S256x128_0_384 _ (q_at H 3 (by decide) slices_S256x1408_o0_384_S256x128) x
  · exact blk_emb 512 256 Row.qc inb_S256x512_S256x128_0_256 _ (q_at H 2 (by decide) slices_S256x1408_o0_256_S256x128) x
  · exact blk_emb 512 128 Row.qc inb_S256x512_S256x128_0_128 _ (q_at H 1 (by decide) slices_S256x1408_o0_128_S256x128) x
  · exact blk_emb 512 0 Row.qc inb_S256x512_S256x128_0_0 _ (q_at H 0 (by decide) slices_S256x1408_o0_0_S256x128) x
theorem out10_at (y : S256x512.Idx) : out0_10 x0 x1 x2 x3 x4 x5 x6 x7 x8 y = blk 512 R Row.qr y := by
  unfold out0_10
  refine View.canon_apply_of_pieces (Val := Elt Ideal) (e := .bf16) (blk 512 R Row.qr) _ (fun p hp x => ?_) y (cover0_10 _ _ _ _ y)
  simp only [List.mem_cons, List.not_mem_nil, or_false] at hp
  rcases hp with rfl | rfl | rfl | rfl
  · exact blk_emb 512 384 Row.qr inb_S256x512_S256x128_0_384 _ (qr_at H 3 (by decide) slices_S256x1408_o0_384_S256x128) x
  · exact blk_emb 512 256 Row.qr inb_S256x512_S256x128_0_256 _ (qr_at H 2 (by decide) slices_S256x1408_o0_256_S256x128) x
  · exact blk_emb 512 128 Row.qr inb_S256x512_S256x128_0_128 _ (qr_at H 1 (by decide) slices_S256x1408_o0_128_S256x128) x
  · exact blk_emb 512 0 Row.qr inb_S256x512_S256x128_0_0 _ (qr_at H 0 (by decide) slices_S256x1408_o0_0_S256x128) x
theorem out11_at (y : S256x512.Idx) : out0_11 x0 x1 x2 x3 x4 x5 x6 x7 x8 y = blk 512 R Row.nsa y := by
  have plain : ∀ (k : ℕ) (hk : k < 4) (h2 : k ≠ 2) (hs : S256x1408.Slices ![0, 512 + 128 * k] S256x128) (i : Fin 256) (l : Fin 128),
      extractStridedSlice S256x128 ![0, 512 + 128 * k] (k0_pay54 x0 x1 x2 x3 x4 x5 x6 x7 x8) hs (ix2 i l) = (R i).nsa (128 * k + l.val) := fun k hk h2 hs i l => by
    rw [slice_at H _ (by omega) hs i l]
    unfold Row.nsa
    rw [chunk_lane, if_neg h2, Nat.add_assoc]
  unfold out0_11
  refine View.canon_apply_of_pieces (Val := Elt Ideal) (e := .f32) (blk 512 R Row.nsa) _ (fun p hp x => ?_) y (cover0_11 _ _ _ _ y)
  simp only [List.mem_cons, List.not_mem_nil, or_false] at hp
  rcases hp with rfl | rfl | rfl | rfl
  · exact blk_emb 512 384 Row.nsa inb_S256x512_S256x128_0_384 _ (plain 3 (by decide) (by decide) slices_S256x1408_o0_896_S256x128) x
  · refine blk_emb 512 256 Row.nsa inb_S256x512_S256x128_0_256 _ (fun i l => ?_) x
    obtain ⟨h, d, rfl⟩ := lane_surj l
    refine (k_at H 768 (by decide) slices_S256x1408_o0_768_S256x128 _ (R i).gk1 i (gk1_at H i) h d).trans ?_
    unfold Row.nsa
    rw [show 256 = 128 * 2 from rfl, chunk_lane, if_pos rfl, head_lane, m64_lane]
    rw [show 512 + (128 * 2 + 64 * h.val) = 768 + 64 * h.val by omega]
  · exact blk_emb 512 128 Row.nsa inb_S256x512_S256x128_0_128 _ (plain 1 (by decide) (by decide) slices_S256x1408_o0_640_S256x128) x
  · exact blk_emb 512 0 Row.nsa inb_S256x512_S256x128_0_0 _ (plain 0 (by decide) (by decide) slices_S256x1408_o0_512_S256x128) x
theorem out12_at (y : S256x256.Idx) : out0_12 x0 x1 x2 x3 x4 x5 x6 x7 x8 y = blk 256 R Row.win y := by
  unfold out0_12
  refine View.canon_apply_of_pieces (Val := Elt Ideal) (e := .f32) (blk 256 R Row.win) _ (fun p hp x => ?_) y (cover0_12 _ _ y)
  simp only [List.mem_cons, List.not_mem_nil, or_false] at hp
  rcases hp with rfl | rfl
  · refine blk_emb 256 128 Row.win inb_S256x256_S256x128_0_128 _ (fun i l => ?_) x
    refine (slice_at (x5 := x5) H 1152 (by decide) slices_S256x1408_o0_1152_S256x128 i l).trans ?_
    unfold Row.win
    rw [show (128 + l.val) / 128 = 1 from chunk_lane 1 l, if_neg (by decide), ← Nat.add_assoc]
  · refine blk_emb 256 0 Row.win inb_S256x256_S256x128_0_0 _ (fun i l => ?_) x
    obtain ⟨h, d, rfl⟩ := lane_surj l
    refine (k_at H 1024 (by decide) slices_S256x1408_o0_1024_S256x128 _ (R i).gk2 i (gk2_at H i) h d).trans ?_
    unfold Row.win
    rw [show 0 = 128 * 0 from rfl, chunk_lane, if_pos rfl, head_lane, m64_lane]
    rw [show 1024 + (128 * 0 + 64 * h.val) = 1024 + 64 * h.val by omega]
theorem out14_at (y : S256x128.Idx) : out0_14 x0 x1 x2 x3 x4 x5 x6 x7 x8 y = blk 128 R Row.gate y := by
  unfold out0_14
  refine View.canon_apply_of_pieces (Val := Elt Ideal) (e := .f32) (blk 128 R Row.gate) _ (fun p hp x => ?_) y (cover0_14 _ y)
  simp only [List.mem_cons, List.not_mem_nil, or_false] at hp
  subst hp
  refine blk_emb 128 0 Row.gate inb_S256x128_S256x128_0_0 _ (fun i l => ?_) x
  have hs := slice_at (x5 := x5) H 1280 (by decide) slices_S256x1408_o0_1280_S256x128 i l
  unfold k0_pay1 Row.gate
  generalize extractStridedSlice S256x128 ![0, 1280] (k0_pay54 x0 x1 x2 x3 x4 x5 x6 x7 x8) slices_S256x1408_o0_1280_S256x128 = v at hs ⊢
  pointwise
  rw [hs, zero_sub]
theorem out15_at (i : Fin 256) (e : Fin 2048) : out0_15 x0 x1 x2 x3 x4 x5 x6 x7 x8 (ix2 i e) = (R i).hg e.val := by
  have hy : (ix2 i e : S256x2048.Idx) = r0_4.emb (ix2 i e) := by
    funext a; apply Fin.ext
    match a with
    | ⟨0, _⟩ => show i.val = 0 + 1 * i.val; omega
    | ⟨1, _⟩ => show e.val = 0 + 1 * e.val; omega
  rw [hy]
  unfold out0_15
  refine (View.canon_cons_emb r0_4 _ _ _).trans ?_
  rw [pay4_at]
  exact H.hP i _

end Cert.ProjSampleIdeal.PK

end
-- ==== Proof.ProjSampleHost.lean ====
module

public import proofs.«01_k».proof.Proof.ProjSampleOut
public import Idealize.ShloMosaic.Lib.StableHlo.ReadAt

/-! The arrays the sample's kernel prepares for its grid, entry by entry. -/

@[expose] public section

set_option maxRecDepth 16384

noncomputable section

namespace Cert.ProjSampleIdeal.PK

open Cert.ProjSampleIdeal Cert.ProjSampleIdeal.Gen Cert.ProjSampleIdeal.Value Idealize.ShloMosaic Idealize.ShloMosaic.TcCoe Cert.ProjRow

variable (m : (ℓ : Loc nD τ sig) → Buf (Elt Ideal) ℓ) (c : Dev nD)

/-- The arguments as the run finds them. -/
def A0 : Vec Ideal S32x8x1024 .f32 := m ((c : Thread nD τ).loc main_arg0)
def A1 : Vec Ideal S4x1024 .f32 := m ((c : Thread nD τ).loc main_arg1)
def A2 : Vec Ideal S4x1024x3352 .f32 := m ((c : Thread nD τ).loc main_arg2)
def A3 : Vec Ideal S4x64 .f32 := m ((c : Thread nD τ).loc main_arg3)
def A4 : Vec Ideal S4x3x64 .f32 := m ((c : Thread nD τ).loc main_arg4)

theorem lane_mod (h : Fin 2) (d : Fin 64) : (lane h d).val % 64 = d.val := by
  show (64 * h.val + d.val) % 64 = _
  omega
theorem cos_at (i : Fin 256) (h : Fin 2) (d : Fin 64) : V m c main_v28 (ix2 i (lane h d)) = Ideal.cos (angle (8192 + i.val % 8) (d.val % 32)) := by
  unfold angle V
  after_reads_at
  simp only [lane_mod]
  by_cases hd : d.val < 32
  · refine (dif_pos hd).trans ?_
    after_reads_at
    rw [Nat.mod_eq_of_lt hd, pos_word]
  · refine (dif_neg hd).trans ?_
    after_reads_at
    rw [show d.val % 32 = d.val - 32 by omega, pos_word]
theorem sin_at (i : Fin 256) (h : Fin 2) (d : Fin 64) : V m c main_v31 (ix2 i (lane h d))
    = if d.val < 32 then -Ideal.sin (angle (8192 + i.val % 8) (d.val % 32)) else Ideal.sin (angle (8192 + i.val % 8) (d.val % 32)) := by
  unfold angle V
  after_reads_at
  simp only [lane_mod]
  by_cases hd : d.val < 32
  · refine (dif_pos hd).trans (Eq.trans ?_ (if_pos hd).symm)
    after_reads_at
    rw [Nat.mod_eq_of_lt hd, pos_word]
  · refine (dif_neg hd).trans (Eq.trans ?_ (if_neg hd).symm)
    after_reads_at
    rw [show d.val % 32 = d.val - 32 by omega, pos_word]
theorem w_at (k : Fin 1024) (e : Fin 3456) : V m c main_v39 (ix2 k e) = packed (fun e => A2 m c (ix3 3 k e)) e.val := by
  have h0 : FloatOps.sitofp (F := Ideal) .f32 (0#32) = (0 : EReal) := by
    show ((((0#32 : BitVec 32).toInt : ℤ) : ℝ) : EReal) = 0
    simp
  unfold A2 V
  after_reads_at
  by_cases h1 : e.val < 1280
  · refine (dif_pos h1).trans ?_
    rw [packed_lo _ _ (by omega)]
    after_reads_at
  · refine (dif_neg h1).trans ?_
    by_cases h2 : e.val - 1280 < 128
    · refine (dif_pos h2).trans ?_
      after_reads_at
      by_cases h3 : e.val < 1304
      · rw [packed_lo _ _ h3]
        refine (dif_pos (show e.val - 1280 < 24 by omega)).trans ?_
        exact congrArg (fun e => A2 m c (ix3 3 k e)) (Fin.ext (by show 1280 + (e.val - 1280) = e.val; omega))
      · rw [packed_mid _ _ (by omega) (by omega)]
        exact (dif_neg (show ¬ e.val - 1280 < 24 by omega)).trans h0
    · refine (dif_neg h2).trans ?_
      rw [packed_hi _ _ (by omega) e.isLt]
      after_reads_at
      exact congrArg (fun e => A2 m c (ix3 3 k e)) (Fin.ext (by show 1304 + (e.val - 1280 - 128) = e.val - 104; omega))
theorem g_at (k : Fin 1024) : V m c main_v42 (ix2 0 k) = A1 m c (ix2 3 k) := by
  unfold A1 V
  after_reads_at
theorem gq_of (h : Fin 2) (d : Fin 64) : V m c main_v48 (ix2 0 (lane h d)) = A3 m c (ix2 3 d) := by
  unfold A3 V
  after_reads_at
  simp only [lane_mod]
theorem gk1_of (h : Fin 2) (d : Fin 64) : V m c main_v61 (ix2 0 (lane h d)) = A4 m c (ix3 3 1 d) := by
  unfold A4 V
  after_reads_at
  simp only [lane_mod]
theorem gk2_of (h : Fin 2) (d : Fin 64) : V m c main_v61 (ix2 1 (lane h d)) = A4 m c (ix3 3 2 d) := by
  unfold A4 V
  after_reads_at
  simp only [lane_mod]
theorem x_of (r : Fin 256) (k : Fin 1024) : V m c main_v62 (ix2 r k) = A0 m c (ix3 ⟨r.val / 8, by omega⟩ ⟨r.val % 8, Nat.mod_lt _ (by decide)⟩ k) := by
  unfold A0 V
  after_reads_at
/-- Whether two lanes are of one head. -/
theorem sameHead : ∀ j l : Fin 128, IntOp.cmpi CmpIPredicate.eq (IntOp.divsi ArithUnit.host (BitVec.ofNat 32 j.val) 64#32)
    (IntOp.divsi ArithUnit.host (BitVec.ofNat 32 l.val) 64#32) = BitVec.ofBool (j.val / 64 = l.val / 64) := by
  have h : ∀ j : Fin 128, IntOp.divsi ArithUnit.host (BitVec.ofNat 32 j.val) 64#32 = BitVec.ofNat 32 (j.val / 64) := by decide +kernel
  have h2 : ∀ a b : Fin 2, IntOp.cmpi CmpIPredicate.eq (BitVec.ofNat 32 a.val) (BitVec.ofNat 32 b.val) = BitVec.ofBool (a.val = b.val) := by decide +kernel
  intro j l
  rw [h, h]
  exact h2 ⟨j.val / 64, by omega⟩ ⟨l.val / 64, by omega⟩
theorem bd_at (j : Fin 128) (h : Fin 2) (d : Fin 64) : V m c main_v73 (ix2 j (lane h d)) = if j.val / 64 = h.val then (1 : EReal) else 0 := by
  unfold V
  after_reads_at
  rw [sameHead, show (lane h d).val / 64 = h.val by show (64 * h.val + d.val) / 64 = _; omega]
  by_cases e : j.val / 64 = h.val
  · simp [e]
    rfl
  · simp [e]
    rfl

end Cert.ProjSampleIdeal.PK

end
-- ==== Proof.ProjSampleKernel.lean ====
module

public import proofs.«01_k».proof.Proof.ProjSampleHost

/-! The sample kernel's result arrays, row by row. -/

@[expose] public section

set_option maxRecDepth 16384

noncomputable section

namespace Cert.ProjSampleIdeal.PK

open Cert.ProjSampleIdeal Cert.ProjSampleIdeal.Gen Cert.ProjSampleIdeal.Value Idealize.ShloMosaic Idealize.ShloMosaic.TcCoe Cert.ProjRow

variable (m : (ℓ : Loc nD τ sig) → Buf (Elt Ideal) ℓ) (c : Dev nD)

/-- The gain and the packed columns of layer 3, and the input rows. -/
def kW : W where
  g k := A1 m c (ix2 3 k)
  w k e := packed (fun e => A2 m c (ix3 3 k e)) e
def kX (b : Fin 32) (t : Fin 8) (k : Fin 1024) : EReal := A0 m c (ix3 b t k)

/-- The sequence and position of a row of the flattened input, the row grid point `t` holds at `i`, and the row of results. -/
def seqOf (r : Fin 256) : Fin 32 := ⟨r.val / 8, by omega⟩
def posOf (r : Fin 256) : Fin 8 := ⟨r.val % 8, Nat.mod_lt _ (by decide)⟩
def rowOf (t : Fin cfg0.N) (i : Fin 256) : Fin 256 := ⟨256 * t.val + i.val, by have : t.val < 1 := lt_of_lt_of_eq t.isLt N_0; omega⟩
def kR (b : Fin 32) (t : Fin 8) : Row where
  P := (kW m c).proj (kX m c b t)
  c k := Ideal.cos (angle (8192 + t.val) k.val)
  s k := Ideal.sin (angle (8192 + t.val) k.val)
  gq d := A3 m c (ix2 3 d)
  gk1 d := A4 m c (ix3 3 1 d)
  gk2 d := A4 m c (ix3 3 2 d)

/-- The gain and the matrix the projection is made of are finite. -/
structure FinW : Prop where
  hg : ∀ k, Finite (A1 m c (ix2 3 k))
  hw : ∀ k e, Finite (A2 m c (ix3 3 k e))

theorem kR_finite (H : FinW m c) (b : Fin 32) (t : Fin 8) (e : ℕ) : Finite ((kR m c b t).P e) := by
  refine W.proj_finite (kW m c) _ H.hg (fun k e => ?_) e
  show Finite (packed (fun e => A2 m c (ix3 3 k e)) e)
  unfold packed
  split_ifs
  · exact H.hw k _
  · exact ⟨0, rfl⟩
  · exact H.hw k _
  · exact ⟨0, rfl⟩

theorem iblk0 (t : Fin cfg0.N) (i : Fin 256) (k : Fin 1024) : iblk m c 0 t (ix2 i k) = kX m c (seqOf (rowOf t i)) (posOf (rowOf t i)) k := by
  have h : ∀ t : Fin grid0.N, win0_0.index t (0 : Fin 2) = t.val ∧ win0_0.index t (1 : Fin 2) = 0 := by decide +kernel
  obtain ⟨e0, e1⟩ := h t
  have he : ((cfg0.win 0).blk t).view.emb (ix2 i k) = (ix2 (rowOf t i) k : S256x1024.Idx) := by
    funext a; apply Fin.ext
    match a with
    | ⟨0, _⟩ => show win0_0.index t (0 : Fin 2) * 256 + 1 * i.val = 256 * t.val + i.val; omega
    | ⟨1, _⟩ => show win0_0.index t (1 : Fin 2) * 1024 + 1 * k.val = k.val; omega
  show V m c main_v62 (((cfg0.win 0).blk t).view.emb (ix2 i k)) = _
  rw [he]
  exact x_of m c (rowOf t i) k
theorem iblk1 (t : Fin cfg0.N) (k : Fin 1024) : iblk m c 1 t (ix2 0 k) = (kW m c).g k := by
  have h : ∀ t : Fin grid0.N, win0_1.index t (0 : Fin 2) = 0 ∧ win0_1.index t (1 : Fin 2) = 0 := by decide +kernel
  obtain ⟨e0, e1⟩ := h t
  have he : ((cfg0.win 1).blk t).view.emb (ix2 0 k) = (ix2 0 k : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  show V m c main_v42 (((cfg0.win 1).blk t).view.emb (ix2 0 k)) = _
  rw [he]
  exact g_at m c k
theorem iblk2 (t : Fin cfg0.N) (k : Fin 1024) (e : Fin 3456) : iblk m c 2 t (ix2 k e) = (kW m c).w k e.val := by
  have h : ∀ t : Fin grid0.N, win0_2.index t (0 : Fin 2) = 0 ∧ win0_2.index t (1 : Fin 2) = 0 := by decide +kernel
  obtain ⟨e0, e1⟩ := h t
  have he : ((cfg0.win 2).blk t).view.emb (ix2 k e) = (ix2 k e : S1024x3456.Idx) := by
    funext a; apply Fin.ext
    match a with
    | ⟨0, _⟩ => show win0_2.index t (0 : Fin 2) * 1024 + 1 * k.val = k.val; omega
    | ⟨1, _⟩ => show win0_2.index t (1 : Fin 2) * 3456 + 1 * e.val = e.val; omega
  show V m c main_v39 (((cfg0.win 2).blk t).view.emb (ix2 k e)) = _
  rw [he]
  exact w_at m c k e
theorem iblk3 (t : Fin cfg0.N) (i : Fin 256) (h : Fin 2) (d : Fin 64) : iblk m c 3 t (ix2 i (lane h d)) = (kR m c (seqOf (rowOf t i)) (posOf (rowOf t i))).c ⟨d.val % 32, Nat.mod_lt _ (by decide)⟩ := by
  have hw : ∀ t : Fin grid0.N, win0_3.index t (0 : Fin 2) = t.val ∧ win0_3.index t (1 : Fin 2) = 0 := by decide +kernel
  obtain ⟨e0, e1⟩ := hw t
  have he : ((cfg0.win 3).blk t).view.emb (ix2 i (lane h d)) = (ix2 (rowOf t i) (lane h d) : S256x128.Idx) := by
    funext a; apply Fin.ext
    match a with
    | ⟨0, _⟩ => show win0_3.index t (0 : Fin 2) * 256 + 1 * i.val = 256 * t.val + i.val; omega
    | ⟨1, _⟩ => show win0_3.index t (1 : Fin 2) * 128 + 1 * (lane h d).val = (lane h d).val; omega
  show V m c main_v28 (((cfg0.win 3).blk t).view.emb (ix2 i (lane h d))) = _
  rw [he]
  exact cos_at m c (rowOf t i) h d
theorem iblk4 (t : Fin cfg0.N) (i : Fin 256) (h : Fin 2) (d : Fin 64) : iblk m c 4 t (ix2 i (lane h d)) = (if d.val < 32 then -((kR m c (seqOf (rowOf t i)) (posOf (rowOf t i))).s ⟨d.val % 32, Nat.mod_lt _ (by decide)⟩)
      else (kR m c (seqOf (rowOf t i)) (posOf (rowOf t i))).s ⟨d.val % 32, Nat.mod_lt _ (by decide)⟩) := by
  have hw : ∀ t : Fin grid0.N, win0_4.index t (0 : Fin 2) = t.val ∧ win0_4.index t (1 : Fin 2) = 0 := by decide +kernel
  obtain ⟨e0, e1⟩ := hw t
  have he : ((cfg0.win 4).blk t).view.emb (ix2 i (lane h d)) = (ix2 (rowOf t i) (lane h d) : S256x128.Idx) := by
    funext a; apply Fin.ext
    match a with
    | ⟨0, _⟩ => show win0_4.index t (0 : Fin 2) * 256 + 1 * i.val = 256 * t.val + i.val; omega
    | ⟨1, _⟩ => show win0_4.index t (1 : Fin 2) * 128 + 1 * (lane h d).val = (lane h d).val; omega
  show V m c main_v31 (((cfg0.win 4).blk t).view.emb (ix2 i (lane h d))) = _
  rw [he]
  exact sin_at m c (rowOf t i) h d
theorem iblk6 (t : Fin cfg0.N) (h : Fin 2) (d : Fin 64) : iblk m c 6 t (ix2 0 (lane h d)) = A3 m c (ix2 3 d) := by
  have hw : ∀ t : Fin grid0.N, win0_6.index t (0 : Fin 2) = 0 ∧ win0_6.index t (1 : Fin 2) = 0 := by decide +kernel
  obtain ⟨e0, e1⟩ := hw t
  have he : ((cfg0.win 6).blk t).view.emb (ix2 0 (lane h d)) = (ix2 0 (lane h d) : S1x128.Idx) := by
    funext a; apply Fin.ext
    match a with
    | ⟨0, _⟩ => show win0_6.index t (0 : Fin 2) * 1 + 1 * 0 = 0; omega
    | ⟨1, _⟩ => show win0_6.index t (1 : Fin 2) * 128 + 1 * (lane h d).val = (lane h d).val; omega
  show V m c main_v48 (((cfg0.win 6).blk t).view.emb (ix2 0 (lane h d))) = _
  rw [he]
  exact gq_of m c h d
theorem iblk7a (t : Fin cfg0.N) (h : Fin 2) (d : Fin 64) : iblk m c 7 t (ix2 0 (lane h d)) = A4 m c (ix3 3 1 d) := by
  have hw : ∀ t : Fin grid0.N, win0_7.index t (0 : Fin 2) = 0 ∧ win0_7.index t (1 : Fin 2) = 0 := by decide +kernel
  obtain ⟨e0, e1⟩ := hw t
  have he : ((cfg0.win 7).blk t).view.emb (ix2 0 (lane h d)) = (ix2 0 (lane h d) : S2x128.Idx) := by
    funext a; apply Fin.ext
    match a with
    | ⟨0, _⟩ => show win0_7.index t (0 : Fin 2) * 2 + 1 * 0 = 0; omega
    | ⟨1, _⟩ => show win0_7.index t (1 : Fin 2) * 128 + 1 * (lane h d).val = (lane h d).val; omega
  show V m c main_v61 (((cfg0.win 7).blk t).view.emb (ix2 0 (lane h d))) = _
  rw [he]
  exact gk1_of m c h d
theorem iblk7b (t : Fin cfg0.N) (h : Fin 2) (d : Fin 64) : iblk m c 7 t (ix2 1 (lane h d)) = A4 m c (ix3 3 2 d) := by
  have hw : ∀ t : Fin grid0.N, win0_7.index t (0 : Fin 2) = 0 ∧ win0_7.index t (1 : Fin 2) = 0 := by decide +kernel
  obtain ⟨e0, e1⟩ := hw t
  have he : ((cfg0.win 7).blk t).view.emb (ix2 1 (lane h d)) = (ix2 1 (lane h d) : S2x128.Idx) := by
    funext a; apply Fin.ext
    match a with
    | ⟨0, _⟩ => show win0_7.index t (0 : Fin 2) * 2 + 1 * 1 = 1; omega
    | ⟨1, _⟩ => show win0_7.index t (1 : Fin 2) * 128 + 1 * (lane h d).val = (lane h d).val; omega
  show V m c main_v61 (((cfg0.win 7).blk t).view.emb (ix2 1 (lane h d))) = _
  rw [he]
  exact gk2_of m c h d
theorem iblk8 (t : Fin cfg0.N) (j : Fin 128) (h : Fin 2) (d : Fin 64) : iblk m c 8 t (ix2 j (lane h d)) = (if j.val / 64 = h.val then 1 else 0 : EReal) := by
  have hw : ∀ t : Fin grid0.N, win0_8.index t (0 : Fin 2) = 0 ∧ win0_8.index t (1 : Fin 2) = 0 := by decide +kernel
  obtain ⟨e0, e1⟩ := hw t
  have he : ((cfg0.win 8).blk t).view.emb (ix2 j (lane h d)) = (ix2 j (lane h d) : S128x128.Idx) := by
    funext a; apply Fin.ext
    match a with
    | ⟨0, _⟩ => show win0_8.index t (0 : Fin 2) * 128 + 1 * j.val = j.val; omega
    | ⟨1, _⟩ => show win0_8.index t (1 : Fin 2) * 128 + 1 * (lane h d).val = (lane h d).val; omega
  show V m c main_v73 (((cfg0.win 8).blk t).view.emb (ix2 j (lane h d))) = _
  rw [he]
  exact bd_at m c j h d

/-- The rows grid point `t` holds. -/
def tR (t : Fin cfg0.N) (i : Fin 256) : Row := kR m c (seqOf (rowOf t i)) (posOf (rowOf t i))

theorem holds (H : FinW m c) (t : Fin cfg0.N) : Holds (iblk m c 0 t) (iblk m c 1 t) (iblk m c 2 t) (iblk m c 3 t) (iblk m c 4 t) (iblk m c 6 t)
    (iblk m c 7 t) (iblk m c 8 t) (tR m c t) where
  hP i e := by
    have hx : bX (iblk m c 0 t) i = kX m c (seqOf (rowOf t i)) (posOf (rowOf t i)) := funext fun k => iblk0 m c t i k
    have hw : bW (iblk m c 1 t) (iblk m c 2 t) = kW m c := by
      unfold bW
      refine congrArg₂ W.mk (funext fun k => iblk1 m c t k) (funext fun k => funext fun e => ?_)
      by_cases h : e < 3456
      · exact (dif_pos h).trans (iblk2 m c t k ⟨e, h⟩)
      · refine (dif_neg h).trans ?_
        show 0 = packed _ _
        rw [packed_out _ _ (by omega)]
    rw [hx, hw]
    rfl
  fin i e := kR_finite m c H _ _ e
  hc i h d := iblk3 m c t i h d
  hs i h d := iblk4 m c t i h d
  hbd h d j := iblk8 m c t j h d
  hq i h d := iblk6 m c t h d
  hk1 i h d := iblk7a m c t h d
  hk2 i h d := iblk7b m c t h d

/-- The result arrays at row `r`. -/
theorem qc_kernel (H : FinW m c) (r : Fin 256) (e : Fin 512) : (dats m 0 c).arrAt 9 cfg0.N (ix2 r e) = (kR m c (seqOf r) (posOf r)).qc e.val := by
  have hf : ∀ t : Fin grid0.N, (cfg0.win 9).flush t = true := by decide +kernel
  have h : ∀ t : Fin grid0.N, win0_9.index t (0 : Fin 2) = t.val ∧ win0_9.index t (1 : Fin 2) = 0 := by decide +kernel
  let t : Fin cfg0.N := ⟨r.val / 256, lt_of_lt_of_eq (by omega) N_0.symm⟩
  let i : Fin 256 := ⟨r.val % 256, Nat.mod_lt _ (by decide)⟩
  obtain ⟨e0, e1⟩ := h t
  have hr : rowOf t i = r := Fin.ext (by show 256 * (r.val / 256) + r.val % 256 = r.val; omega)
  have he : ((cfg0.win 9).blk t).view.emb (ix2 i e) = (ix2 r e : S256x512.Idx) := by
    funext a; apply Fin.ext
    match a with
    | ⟨0, _⟩ => show win0_9.index t (0 : Fin 2) * 256 + 1 * (r.val % 256) = r.val; rw [e0]; show r.val / 256 * 256 + _ = _; omega
    | ⟨1, _⟩ => show win0_9.index t (1 : Fin 2) * 512 + 1 * e.val = e.val; omega
  have hb := congrFun ((blocks9 m c t (hf t)).trans (flushed9 m c t)) (ix2 i e)
  have hk : _ = (kR m c (seqOf (rowOf t i)) (posOf (rowOf t i))).qc e.val := (out9_at (x5 := iblk m c 5 t) (holds m c H t) (ix2 i e))
  rw [hr] at hk
  refine Eq.trans ?_ (hb.trans hk)
  show _ = (dats m 0 c).arrAt 9 cfg0.N (((cfg0.win 9).blk t).view.emb (ix2 i e))
  rw [he]
theorem qr_kernel (H : FinW m c) (r : Fin 256) (e : Fin 512) : (dats m 0 c).arrAt 10 cfg0.N (ix2 r e) = (kR m c (seqOf r) (posOf r)).qr e.val := by
  have hf : ∀ t : Fin grid0.N, (cfg0.win 10).flush t = true := by decide +kernel
  have h : ∀ t : Fin grid0.N, win0_10.index t (0 : Fin 2) = t.val ∧ win0_10.index t (1 : Fin 2) = 0 := by decide +kernel
  let t : Fin cfg0.N := ⟨r.val / 256, lt_of_lt_of_eq (by omega) N_0.symm⟩
  let i : Fin 256 := ⟨r.val % 256, Nat.mod_lt _ (by decide)⟩
  obtain ⟨e0, e1⟩ := h t
  have hr : rowOf t i = r := Fin.ext (by show 256 * (r.val / 256) + r.val % 256 = r.val; omega)
  have he : ((cfg0.win 10).blk t).view.emb (ix2 i e) = (ix2 r e : S256x512.Idx) := by
    funext a; apply Fin.ext
    match a with
    | ⟨0, _⟩ => show win0_10.index t (0 : Fin 2) * 256 + 1 * (r.val % 256) = r.val; rw [e0]; show r.val / 256 * 256 + _ = _; omega
    | ⟨1, _⟩ => show win0_10.index t (1 : Fin 2) * 512 + 1 * e.val = e.val; omega
  have hb := congrFun ((blocks10 m c t (hf t)).trans (flushed10 m c t)) (ix2 i e)
  have hk : _ = (kR m c (seqOf (rowOf t i)) (posOf (rowOf t i))).qr e.val := (out10_at (x5 := iblk m c 5 t) (holds m c H t) (ix2 i e))
  rw [hr] at hk
  refine Eq.trans ?_ (hb.trans hk)
  show _ = (dats m 0 c).arrAt 10 cfg0.N (((cfg0.win 10).blk t).view.emb (ix2 i e))
  rw [he]
theorem nsa_kernel (H : FinW m c) (r : Fin 256) (e : Fin 512) : (dats m 0 c).arrAt 11 cfg0.N (ix2 r e) = (kR m c (seqOf r) (posOf r)).nsa e.val := by
  have hf : ∀ t : Fin grid0.N, (cfg0.win 11).flush t = true := by decide +kernel
  have h : ∀ t : Fin grid0.N, win0_11.index t (0 : Fin 2) = t.val ∧ win0_11.index t (1 : Fin 2) = 0 := by decide +kernel
  let t : Fin cfg0.N := ⟨r.val / 256, lt_of_lt_of_eq (by omega) N_0.symm⟩
  let i : Fin 256 := ⟨r.val % 256, Nat.mod_lt _ (by decide)⟩
  obtain ⟨e0, e1⟩ := h t
  have hr : rowOf t i = r := Fin.ext (by show 256 * (r.val / 256) + r.val % 256 = r.val; omega)
  have he : ((cfg0.win 11).blk t).view.emb (ix2 i e) = (ix2 r e : S256x512.Idx) := by
    funext a; apply Fin.ext
    match a with
    | ⟨0, _⟩ => show win0_11.index t (0 : Fin 2) * 256 + 1 * (r.val % 256) = r.val; rw [e0]; show r.val / 256 * 256 + _ = _; omega
    | ⟨1, _⟩ => show win0_11.index t (1 : Fin 2) * 512 + 1 * e.val = e.val; omega
  have hb := congrFun ((blocks11 m c t (hf t)).trans (flushed11 m c t)) (ix2 i e)
  have hk : _ = (kR m c (seqOf (rowOf t i)) (posOf (rowOf t i))).nsa e.val := (out11_at (x5 := iblk m c 5 t) (holds m c H t) (ix2 i e))
  rw [hr] at hk
  refine Eq.trans ?_ (hb.trans hk)
  show _ = (dats m 0 c).arrAt 11 cfg0.N (((cfg0.win 11).blk t).view.emb (ix2 i e))
  rw [he]
theorem win_kernel (H : FinW m c) (r : Fin 256) (e : Fin 256) : (dats m 0 c).arrAt 12 cfg0.N (ix2 r e) = (kR m c (seqOf r) (posOf r)).win e.val := by
  have hf : ∀ t : Fin grid0.N, (cfg0.win 12).flush t = true := by decide +kernel
  have h : ∀ t : Fin grid0.N, win0_12.index t (0 : Fin 2) = t.val ∧ win0_12.index t (1 : Fin 2) = 0 := by decide +kernel
  let t : Fin cfg0.N := ⟨r.val / 256, lt_of_lt_of_eq (by omega) N_0.symm⟩
  let i : Fin 256 := ⟨r.val % 256, Nat.mod_lt _ (by decide)⟩
  obtain ⟨e0, e1⟩ := h t
  have hr : rowOf t i = r := Fin.ext (by show 256 * (r.val / 256) + r.val % 256 = r.val; omega)
  have he : ((cfg0.win 12).blk t).view.emb (ix2 i e) = (ix2 r e : S256x256.Idx) := by
    funext a; apply Fin.ext
    match a with
    | ⟨0, _⟩ => show win0_12.index t (0 : Fin 2) * 256 + 1 * (r.val % 256) = r.val; rw [e0]; show r.val / 256 * 256 + _ = _; omega
    | ⟨1, _⟩ => show win0_12.index t (1 : Fin 2) * 256 + 1 * e.val = e.val; omega
  have hb := congrFun ((blocks12 m c t (hf t)).trans (flushed12 m c t)) (ix2 i e)
  have hk : _ = (kR m c (seqOf (rowOf t i)) (posOf (rowOf t i))).win e.val := (out12_at (x5 := iblk m c 5 t) (holds m c H t) (ix2 i e))
  rw [hr] at hk
  refine Eq.trans ?_ (hb.trans hk)
  show _ = (dats m 0 c).arrAt 12 cfg0.N (((cfg0.win 12).blk t).view.emb (ix2 i e))
  rw [he]
theorem gate_kernel (H : FinW m c) (r : Fin 256) (e : Fin 128) : (dats m 0 c).arrAt 14 cfg0.N (ix2 r e) = (kR m c (seqOf r) (posOf r)).gate e.val := by
  have hf : ∀ t : Fin grid0.N, (cfg0.win 14).flush t = true := by decide +kernel
  have h : ∀ t : Fin grid0.N, win0_14.index t (0 : Fin 2) = t.val ∧ win0_14.index t (1 : Fin 2) = 0 := by decide +kernel
  let t : Fin cfg0.N := ⟨r.val / 256, lt_of_lt_of_eq (by omega) N_0.symm⟩
  let i : Fin 256 := ⟨r.val % 256, Nat.mod_lt _ (by decide)⟩
  obtain ⟨e0, e1⟩ := h t
  have hr : rowOf t i = r := Fin.ext (by show 256 * (r.val / 256) + r.val % 256 = r.val; omega)
  have he : ((cfg0.win 14).blk t).view.emb (ix2 i e) = (ix2 r e : S256x128.Idx) := by
    funext a; apply Fin.ext
    match a with
    | ⟨0, _⟩ => show win0_14.index t (0 : Fin 2) * 256 + 1 * (r.val % 256) = r.val; rw [e0]; show r.val / 256 * 256 + _ = _; omega
    | ⟨1, _⟩ => show win0_14.index t (1 : Fin 2) * 128 + 1 * e.val = e.val; omega
  have hb := congrFun ((blocks14 m c t (hf t)).trans (flushed14 m c t)) (ix2 i e)
  have hk : _ = (kR m c (seqOf (rowOf t i)) (posOf (rowOf t i))).gate e.val := (out14_at (x5 := iblk m c 5 t) (holds m c H t) (ix2 i e))
  rw [hr] at hk
  refine Eq.trans ?_ (hb.trans hk)
  show _ = (dats m 0 c).arrAt 14 cfg0.N (((cfg0.win 14).blk t).view.emb (ix2 i e))
  rw [he]
theorem hg_kernel (H : FinW m c) (r : Fin 256) (e : Fin 2048) : (dats m 0 c).arrAt 15 cfg0.N (ix2 r e) = (kR m c (seqOf r) (posOf r)).hg e.val := by
  have hf : ∀ t : Fin grid0.N, (cfg0.win 15).flush t = true := by decide +kernel
  have h : ∀ t : Fin grid0.N, win0_15.index t (0 : Fin 2) = t.val ∧ win0_15.index t (1 : Fin 2) = 0 := by decide +kernel
  let t : Fin cfg0.N := ⟨r.val / 256, lt_of_lt_of_eq (by omega) N_0.symm⟩
  let i : Fin 256 := ⟨r.val % 256, Nat.mod_lt _ (by decide)⟩
  obtain ⟨e0, e1⟩ := h t
  have hr : rowOf t i = r := Fin.ext (by show 256 * (r.val / 256) + r.val % 256 = r.val; omega)
  have he : ((cfg0.win 15).blk t).view.emb (ix2 i e) = (ix2 r e : S256x2048.Idx) := by
    funext a; apply Fin.ext
    match a with
    | ⟨0, _⟩ => show win0_15.index t (0 : Fin 2) * 256 + 1 * (r.val % 256) = r.val; rw [e0]; show r.val / 256 * 256 + _ = _; omega
    | ⟨1, _⟩ => show win0_15.index t (1 : Fin 2) * 2048 + 1 * e.val = e.val; omega
  have hb := congrFun ((blocks15 m c t (hf t)).trans (flushed15 m c t)) (ix2 i e)
  have hk : _ = (kR m c (seqOf (rowOf t i)) (posOf (rowOf t i))).hg e.val := (out15_at (x5 := iblk m c 5 t) (holds m c H t) i e)
  rw [hr] at hk
  refine Eq.trans ?_ (hb.trans hk)
  show _ = (dats m 0 c).arrAt 15 cfg0.N (((cfg0.win 15).blk t).view.emb (ix2 i e))
  rw [he]

end Cert.ProjSampleIdeal.PK

end
-- ==== Proof.ProjSampleRef.lean ====
module

public import proofs.«01_k».proof.Proof.ProjSpec
public import proofs.«01_k».proof.Proof.Gen.ProjSampleReferenceIdeal.Run
public import Idealize.ShloMosaic.Lib.Quiescent

/-! The sample reference's results, row by row. -/

@[expose] public section

set_option maxRecDepth 16384

noncomputable section

namespace Cert.ProjSampleReferenceIdeal.PR

open Cert.ProjSampleReferenceIdeal Cert.ProjSampleReferenceIdeal.Gen Cert.ProjSampleReferenceIdeal.Value Idealize.ShloMosaic Idealize.ShloMosaic.TcCoe Cert.ProjRow Idealize.SL.Sem

section Stages

variable (a0 : FVec Ideal S32x8x1024 .f32) (a1 : FVec Ideal S4x1024 .f32) (a2 : FVec Ideal S4x1024x3352 .f32) (a3 : FVec Ideal S4x64 .f32)
  (a4 : FVec Ideal S4x3x64 .f32) (p : FVec Ideal S32x8x3352 .f32) (g : FVec Ideal S64 .f32) (co si : FVec Ideal S1x8x1x32 .f32)

/-- The reference's stages: the projection, the heads, their norm, the angles, the rotation, the results. -/
def proj : FVec Ideal S32x8x3352 .f32 :=
  Host.dotGeneral dot_S32x8x1024_S1024x3352_S32x8x3352_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![3, 0] a1 slices_S4x1024_S1x1024_3_0) shapeCasts_S1x1024_S1024)))) (shapeCast _ (extractStridedSlice S1x1024x3352 ![3, 0, 0] a2 slices_S4x1024x3352_S1x1024x3352_3_0_0) shapeCasts_S1x1024x3352_S1024x3352)
def gain0 : FVec Ideal S64 .f32 := shapeCast S64 (extractStridedSlice S1x64 ![3, 0] a3 slices_S4x64_S1x64_3_0) shapeCasts_S1x64_S64
def gain1 : FVec Ideal S64 .f32 := shapeCast S64 (extractStridedSlice S1x1x64 ![3, 1, 0] a4 slices_S4x3x64_S1x1x64_3_1_0) shapeCasts_S1x1x64_S64
def gain2 : FVec Ideal S64 .f32 := shapeCast S64 (extractStridedSlice S1x1x64 ![3, 2, 0] a4 slices_S4x3x64_S1x1x64_3_2_0) shapeCasts_S1x1x64_S64
def heads8 : FVec Ideal S32x8x8x64 .f32 :=
  shapeCast S32x8x8x64 (extractStridedSlice S32x8x512 ![0, 0, 0] p slices_S32x8x3352_S32x8x512_0_0_0) shapeCasts_S32x8x512_S32x8x8x64
def heads2 (b : Nat) (h : S32x8x3352.Slices ![0, 0, b] S32x8x128) : FVec Ideal S32x8x2x64 .f32 :=
  shapeCast S32x8x2x64 (extractStridedSlice S32x8x128 ![0, 0, b] p h) shapeCasts_S32x8x128_S32x8x2x64
def norm8 (v : FVec Ideal S32x8x8x64 .f32) : FVec Ideal S32x8x8x64 .f32 :=
  mulf (mulf v (broadcastInDim S32x8x8x64 ![0, 1, 2, 3] bcast_S32x8x8x1_S32x8x8x64_0_1_2_3 (Host.rsqrt (addf (Host.divf (broadcastInDim S32x8x8x1 ![0, 1, 2] bcast_S32x8x8_S32x8x8x1_0_1_2 (Host.reduceAdd (mulf v v) (constant S_ .f32 0x00000000#32) reducesTo_S32x8x8x64_S32x8x8_d3 h_S_)) (broadcastInDim S32x8x8x1 ![] bcast_S_S32x8x8x1 (constant S_ .f32 0x42800000#32))) (broadcastInDim S32x8x8x1 ![] bcast_S_S32x8x8x1 (constant S_ .f32 0x358637BD#32)))))) (broadcastInDim S32x8x8x64 ![0, 1, 2, 3] bcast_S1x1x1x64_S32x8x8x64_0_1_2_3 (broadcastInDim S1x1x1x64 ![3] bcast_S64_S1x1x1x64_3 g))
def norm2 (v : FVec Ideal S32x8x2x64 .f32) : FVec Ideal S32x8x2x64 .f32 :=
  mulf (mulf v (broadcastInDim S32x8x2x64 ![0, 1, 2, 3] bcast_S32x8x2x1_S32x8x2x64_0_1_2_3 (Host.rsqrt (addf (Host.divf (broadcastInDim S32x8x2x1 ![0, 1, 2] bcast_S32x8x2_S32x8x2x1_0_1_2 (Host.reduceAdd (mulf v v) (constant S_ .f32 0x00000000#32) reducesTo_S32x8x2x64_S32x8x2_d3 h_S_)) (broadcastInDim S32x8x2x1 ![] bcast_S_S32x8x2x1 (constant S_ .f32 0x42800000#32))) (broadcastInDim S32x8x2x1 ![] bcast_S_S32x8x2x1 (constant S_ .f32 0x358637BD#32)))))) (broadcastInDim S32x8x2x64 ![0, 1, 2, 3] bcast_S1x1x1x64_S32x8x2x64_0_1_2_3 (broadcastInDim S1x1x1x64 ![3] bcast_S64_S1x1x1x64_3 g))
def angles : FVec Ideal S8x32 .f32 :=
  mulf (broadcastInDim S8x32 ![0, 1] bcast_S8x1_S8x32_0_1 (broadcastInDim S8x1 ![0] bcast_S8_S8x1_0 (sitofp .f32 (addi (broadcastInDim S8 ![] bcast_S_S8 (constantI S_ 32 8192#32)) (iotaInDim S8 32 0))))) (broadcastInDim S8x32 ![0, 1] bcast_S1x32_S8x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))
def cosT : FVec Ideal S1x8x1x32 .f32 := broadcastInDim S1x8x1x32 ![1, 3] bcast_S8x32_S1x8x1x32_1_3 (Host.cos angles)
def sinT : FVec Ideal S1x8x1x32 .f32 := broadcastInDim S1x8x1x32 ![1, 3] bcast_S8x32_S1x8x1x32_1_3 (Host.sin angles)
def lo8 (v : FVec Ideal S32x8x8x64 .f32) : FVec Ideal S32x8x8x32 .f32 := extractStridedSlice S32x8x8x32 ![0, 0, 0, 0] v slices_S32x8x8x64_S32x8x8x32_0_0_0_0
def hi8 (v : FVec Ideal S32x8x8x64 .f32) : FVec Ideal S32x8x8x32 .f32 := extractStridedSlice S32x8x8x32 ![0, 0, 0, 32] v slices_S32x8x8x64_S32x8x8x32_0_0_0_32
def rot8 (v : FVec Ideal S32x8x8x64 .f32) : FVec Ideal S32x8x8x64 .f32 :=
  concatenate S32x8x8x64 3 [⟨S32x8x8x32, (subf (mulf (lo8 v) (broadcastInDim S32x8x8x32 ![0, 1, 2, 3] bcast_S1x8x1x32_S32x8x8x32_0_1_2_3 co)) (mulf (hi8 v) (broadcastInDim S32x8x8x32 ![0, 1, 2, 3] bcast_S1x8x1x32_S32x8x8x32_0_1_2_3 si)))⟩,
    ⟨S32x8x8x32, (addf (mulf (hi8 v) (broadcastInDim S32x8x8x32 ![0, 1, 2, 3] bcast_S1x8x1x32_S32x8x8x32_0_1_2_3 co)) (mulf (lo8 v) (broadcastInDim S32x8x8x32 ![0, 1, 2, 3] bcast_S1x8x1x32_S32x8x8x32_0_1_2_3 si)))⟩] concatenates_S32x8x8x32_S32x8x8x32_S32x8x8x64_d3
def lo2 (v : FVec Ideal S32x8x2x64 .f32) : FVec Ideal S32x8x2x32 .f32 := extractStridedSlice S32x8x2x32 ![0, 0, 0, 0] v slices_S32x8x2x64_S32x8x2x32_0_0_0_0
def hi2 (v : FVec Ideal S32x8x2x64 .f32) : FVec Ideal S32x8x2x32 .f32 := extractStridedSlice S32x8x2x32 ![0, 0, 0, 32] v slices_S32x8x2x64_S32x8x2x32_0_0_0_32
def rot2 (v : FVec Ideal S32x8x2x64 .f32) : FVec Ideal S32x8x2x64 .f32 :=
  concatenate S32x8x2x64 3 [⟨S32x8x2x32, (subf (mulf (lo2 v) (broadcastInDim S32x8x2x32 ![0, 1, 2, 3] bcast_S1x8x1x32_S32x8x2x32_0_1_2_3 co)) (mulf (hi2 v) (broadcastInDim S32x8x2x32 ![0, 1, 2, 3] bcast_S1x8x1x32_S32x8x2x32_0_1_2_3 si)))⟩,
    ⟨S32x8x2x32, (addf (mulf (hi2 v) (broadcastInDim S32x8x2x32 ![0, 1, 2, 3] bcast_S1x8x1x32_S32x8x2x32_0_1_2_3 co)) (mulf (lo2 v) (broadcastInDim S32x8x2x32 ![0, 1, 2, 3] bcast_S1x8x1x32_S32x8x2x32_0_1_2_3 si)))⟩] concatenates_S32x8x2x32_S32x8x2x32_S32x8x2x64_d3
def flat (v : FVec Ideal S32x8x8x64 .f32) : FVec Ideal S256x512 .bf16 :=
  truncf .bf16 (shapeCast S256x512 (mulf v (broadcastInDim S32x8x8x64 ![] bcast_S_S32x8x8x64 (constant S_ .f32 0x3E38AA3B#32))) shapeCasts_S32x8x8x64_S256x512) bitsLt_bf16_f32
def nsaOf (x0 x1 x2 x3 : FVec Ideal S32x8x2x64 .f32) : FVec Ideal S256x512 .f32 :=
  shapeCast S256x512 (concatenate S32x8x4x2x64 2 [⟨S32x8x1x2x64, broadcastInDim S32x8x1x2x64 ![0, 1, 3, 4] bcast_S32x8x2x64_S32x8x1x2x64_0_1_3_4 x0⟩, ⟨S32x8x1x2x64, broadcastInDim S32x8x1x2x64 ![0, 1, 3, 4] bcast_S32x8x2x64_S32x8x1x2x64_0_1_3_4 x1⟩,
    ⟨S32x8x1x2x64, broadcastInDim S32x8x1x2x64 ![0, 1, 3, 4] bcast_S32x8x2x64_S32x8x1x2x64_0_1_3_4 x2⟩, ⟨S32x8x1x2x64, broadcastInDim S32x8x1x2x64 ![0, 1, 3, 4] bcast_S32x8x2x64_S32x8x1x2x64_0_1_3_4 x3⟩]
    concatenates_S32x8x1x2x64_S32x8x1x2x64_S32x8x1x2x64_S32x8x1x2x64_S32x8x4x2x64_d2) shapeCasts_S32x8x4x2x64_S256x512
def winOf (x0 x1 : FVec Ideal S32x8x2x64 .f32) : FVec Ideal S256x256 .f32 :=
  shapeCast S256x256 (concatenate S32x8x2x2x64 2 [⟨S32x8x1x2x64, broadcastInDim S32x8x1x2x64 ![0, 1, 3, 4] bcast_S32x8x2x64_S32x8x1x2x64_0_1_3_4 x0⟩, ⟨S32x8x1x2x64, broadcastInDim S32x8x1x2x64 ![0, 1, 3, 4] bcast_S32x8x2x64_S32x8x1x2x64_0_1_3_4 x1⟩]
    concatenates_S32x8x1x2x64_S32x8x1x2x64_S32x8x2x2x64_d2) shapeCasts_S32x8x2x2x64_S256x256
def gates : FVec Ideal S32x8x128 .f32 :=
  pad S32x8x128 ![0, 0, 0] ![0, 0, 104] ![0, 0, 0] (extractStridedSlice S32x8x24 ![0, 0, 1280] p slices_S32x8x3352_S32x8x24_0_0_1280) (sitofp .f32 (constantI S_ 32 0#32)) pads_S32x8x24_S32x8x128_000_000_01040 h_S_
def gateOf : FVec Ideal S256x128 .f32 :=
  shapeCast S256x128 (Host.divf (broadcastInDim S32x8x128 ![] bcast_S_S32x8x128 (constant S_ .f32 0x3F800000#32)) (addf (broadcastInDim S32x8x128 ![] bcast_S_S32x8x128 (constant S_ .f32 0x3F800000#32)) (Host.exp (Host.negf
    (gates p)))))
    shapeCasts_S32x8x128_S256x128
def hgOf : FVec Ideal S256x2048 .f32 :=
  shapeCast S256x2048 (extractStridedSlice S32x8x2048 ![0, 0, 1304] p slices_S32x8x3352_S32x8x2048_0_0_1304) shapeCasts_S32x8x2048_S256x2048

/-- The sequence and position of a row of the flattened results, and the row. -/
def seqOf (r : Fin 256) : Fin 32 := ⟨r.val / 8, by omega⟩
def posOf (r : Fin 256) : Fin 8 := ⟨r.val % 8, Nat.mod_lt _ (by decide)⟩
def rW : W where
  g k := a1 (ix2 3 k)
  w k e := packed (fun e => a2 (ix3 3 k e)) e
def rR (b : Fin 32) (t : Fin 8) : Row where
  P := (rW a1 a2).proj (fun k => a0 (ix3 b t k))
  c k := Ideal.cos (angle (8192 + t.val) k.val)
  s k := Ideal.sin (angle (8192 + t.val) k.val)
  gq d := a3 (ix2 3 d)
  gk1 d := a4 (ix3 3 1 d)
  gk2 d := a4 (ix3 3 2 d)

theorem proj_at (b : Fin 32) (t : Fin 8) (e : Fin 3352) (f : ℕ) (hf : f = if e.val < 1304 then e.val else e.val + 104) :
    proj a0 a1 a2 (ix3 b t e) = (rW a1 a2).proj (fun k => a0 (ix3 b t k)) f := by
  have hw : ∀ k, (rW a1 a2).w k f = a2 (ix3 3 k e) := fun k => by
    show packed (fun e => a2 (ix3 3 k e)) f = _
    by_cases h : e.val < 1304
    · rw [if_pos h] at hf
      subst hf
      rw [packed_lo _ _ h]
    · rw [if_neg h] at hf
      subst hf
      rw [packed_hi _ _ (by omega) (by omega)]
      exact congrArg (fun e => a2 (ix3 3 k e)) (Fin.ext (by show e.val + 104 - 104 = e.val; omega))
  unfold W.proj
  simp only [hw]
  pointwise [proj]
  rfl
theorem gain0_at (d : Fin 64) : gain0 a3 (ix1 d) = a3 (ix2 3 d) := by
  pointwise [gain0]
theorem gain1_at (d : Fin 64) : gain1 a4 (ix1 d) = a4 (ix3 3 1 d) := by
  pointwise [gain1]
theorem gain2_at (d : Fin 64) : gain2 a4 (ix1 d) = a4 (ix3 3 2 d) := by
  pointwise [gain2]
theorem heads8_at (b : Fin 32) (t : Fin 8) (h : Fin 8) (d : Fin 64) : heads8 p (ix4 b t h d) = p (ix3 b t ⟨h.val * 64 + d.val, by omega⟩) := by
  pointwise [heads8]
theorem heads2_at (o : Nat) (ho : S32x8x3352.Slices ![0, 0, o] S32x8x128) (ho' : o ≤ 1152) (b : Fin 32) (t : Fin 8) (h : Fin 2) (d : Fin 64) :
    heads2 p o ho (ix4 b t h d) = p (ix3 b t ⟨o + (h.val * 64 + d.val), by omega⟩) := by
  pointwise [heads2]
theorem cos_at (t : Fin 8) (k : Fin 32) : cosT (ix4 0 t 0 k) = Ideal.cos (angle (8192 + t.val) k.val) := by
  unfold angle
  pointwise [cosT, angles]
  rw [pos_word]
theorem sin_at (t : Fin 8) (k : Fin 32) : sinT (ix4 0 t 0 k) = Ideal.sin (angle (8192 + t.val) k.val) := by
  unfold angle
  pointwise [sinT, angles]
  rw [pos_word]
theorem norm8_at (v : FVec Ideal S32x8x8x64 .f32) (b : Fin 32) (t : Fin 8) (h : Fin 8) (d : Fin 64) :
    norm8 g v (ix4 b t h d) = nrm (fun d => v (ix4 b t h d)) (fun d => g (ix1 d)) d := by
  pointwise [norm8]
  rfl
theorem lo8_at (v : FVec Ideal S32x8x8x64 .f32) (b : Fin 32) (t : Fin 8) (h : Fin 8) (k : Fin 32) :
    lo8 v (ix4 b t h k) = v (ix4 b t h ⟨k.val, by omega⟩) := by
  pointwise [lo8]
theorem hi8_at (v : FVec Ideal S32x8x8x64 .f32) (b : Fin 32) (t : Fin 8) (h : Fin 8) (k : Fin 32) :
    hi8 v (ix4 b t h k) = v (ix4 b t h ⟨32 + k.val, by omega⟩) := by
  pointwise [hi8]
theorem rot8_at (v : FVec Ideal S32x8x8x64 .f32) (b : Fin 32) (t : Fin 8) (h : Fin 8) (d : Fin 64) :
    rot8 co si v (ix4 b t h d) = rope (fun d => v (ix4 b t h d)) (fun k => co (ix4 0 t 0 k)) (fun k => si (ix4 0 t 0 k)) d := by
  pointwise [rot8]
  simp only [lo8_at, hi8_at]
  unfold rope
  by_cases hd : d.val < 32
  · rw [dif_pos hd, dif_pos hd]
    simp only [Nat.add_comm 32]
  · rw [dif_neg hd, dif_neg hd]
    simp only [show 32 + (d.val - 32) = d.val by omega]
theorem norm2_at (v : FVec Ideal S32x8x2x64 .f32) (b : Fin 32) (t : Fin 8) (h : Fin 2) (d : Fin 64) :
    norm2 g v (ix4 b t h d) = nrm (fun d => v (ix4 b t h d)) (fun d => g (ix1 d)) d := by
  pointwise [norm2]
  rfl
theorem lo2_at (v : FVec Ideal S32x8x2x64 .f32) (b : Fin 32) (t : Fin 8) (h : Fin 2) (k : Fin 32) :
    lo2 v (ix4 b t h k) = v (ix4 b t h ⟨k.val, by omega⟩) := by
  pointwise [lo2]
theorem hi2_at (v : FVec Ideal S32x8x2x64 .f32) (b : Fin 32) (t : Fin 8) (h : Fin 2) (k : Fin 32) :
    hi2 v (ix4 b t h k) = v (ix4 b t h ⟨32 + k.val, by omega⟩) := by
  pointwise [hi2]
theorem rot2_at (v : FVec Ideal S32x8x2x64 .f32) (b : Fin 32) (t : Fin 8) (h : Fin 2) (d : Fin 64) :
    rot2 co si v (ix4 b t h d) = rope (fun d => v (ix4 b t h d)) (fun k => co (ix4 0 t 0 k)) (fun k => si (ix4 0 t 0 k)) d := by
  pointwise [rot2]
  simp only [lo2_at, hi2_at]
  unfold rope
  by_cases hd : d.val < 32
  · rw [dif_pos hd, dif_pos hd]
    simp only [Nat.add_comm 32]
  · rw [dif_neg hd, dif_neg hd]
    simp only [show 32 + (d.val - 32) = d.val by omega]
theorem flat_at (v : FVec Ideal S32x8x8x64 .f32) (r : Fin 256) (e : Fin 512) :
    flat v (ix2 r e) = v (ix4 (seqOf r) (posOf r) ⟨e.val / 64, by omega⟩ (m64 e.val)) * Ideal.ofBits .f32 0x3E38AA3B#32 := by
  pointwise [flat]
  rfl
theorem nsaOf_at (x0 x1 x2 x3 : FVec Ideal S32x8x2x64 .f32) (r : Fin 256) (e : Fin 512) :
    nsaOf x0 x1 x2 x3 (ix2 r e) = if e.val / 128 < 1 then x0 (ix4 (seqOf r) (posOf r) ⟨e.val / 64 % 2, by omega⟩ (m64 e.val))
      else if e.val / 128 - 1 < 1 then x1 (ix4 (seqOf r) (posOf r) ⟨e.val / 64 % 2, by omega⟩ (m64 e.val))
      else if e.val / 128 - 1 - 1 < 1 then x2 (ix4 (seqOf r) (posOf r) ⟨e.val / 64 % 2, by omega⟩ (m64 e.val))
      else x3 (ix4 (seqOf r) (posOf r) ⟨e.val / 64 % 2, by omega⟩ (m64 e.val)) := by
  pointwise [nsaOf]
  rfl
theorem winOf_at (x0 x1 : FVec Ideal S32x8x2x64 .f32) (r : Fin 256) (e : Fin 256) :
    winOf x0 x1 (ix2 r e) = if e.val / 128 < 1 then x0 (ix4 (seqOf r) (posOf r) ⟨e.val / 64 % 2, by omega⟩ (m64 e.val))
      else x1 (ix4 (seqOf r) (posOf r) ⟨e.val / 64 % 2, by omega⟩ (m64 e.val)) := by
  pointwise [winOf]
  rfl
theorem gates_at (b : Fin 32) (t : Fin 8) (e : Fin 128) :
    gates p (ix3 b t e) = if h : e.val < 24 then p (ix3 b t ⟨1280 + e.val, by omega⟩) else 0 := by
  have h0 : FloatOps.sitofp (F := Ideal) .f32 (0#32) = (0 : EReal) := by
    show ((((0#32 : BitVec 32).toInt : ℤ) : ℝ) : EReal) = 0
    simp
  pointwise [gates]
  by_cases h : e.val < 24
  · rw [dif_pos h, dif_pos h]
  · rw [dif_neg h, dif_neg h, h0]
theorem gateOf_at (r : Fin 256) (e : Fin 128) :
    gateOf p (ix2 r e) = Ideal.div 1 (1 + Ideal.exp (-(gates p (ix3 (seqOf r) (posOf r) e)))) := by
  pointwise [gateOf]
  rfl
theorem hgOf_at (r : Fin 256) (e : Fin 2048) : hgOf p (ix2 r e) = p (ix3 (seqOf r) (posOf r) ⟨1304 + e.val, by omega⟩) := by
  pointwise [hgOf]
  rfl

end Stages

variable (m : (ℓ : Loc nD τ sig) → Buf (Elt Ideal) ℓ) (c : Dev nD)

/-- The arguments as the run finds them. -/
def A0 : FVec Ideal S32x8x1024 .f32 := m ((c : Thread nD τ).loc main_arg0)
def A1 : FVec Ideal S4x1024 .f32 := m ((c : Thread nD τ).loc main_arg1)
def A2 : FVec Ideal S4x1024x3352 .f32 := m ((c : Thread nD τ).loc main_arg2)
def A3 : FVec Ideal S4x64 .f32 := m ((c : Thread nD τ).loc main_arg3)
def A4 : FVec Ideal S4x3x64 .f32 := m ((c : Thread nD τ).loc main_arg4)

/-- The results in the stages. -/
def P : FVec Ideal S32x8x3352 .f32 := proj (A0 m c) (A1 m c) (A2 m c)
def Q : FVec Ideal S32x8x8x64 .f32 := norm8 (gain0 (A3 m c)) (heads8 (P m c))
def K1 : FVec Ideal S32x8x2x64 .f32 := norm2 (gain1 (A4 m c)) (heads2 (P m c) 768 slices_S32x8x3352_S32x8x128_0_0_768)
def K2 : FVec Ideal S32x8x2x64 .f32 := norm2 (gain2 (A4 m c)) (heads2 (P m c) 1024 slices_S32x8x3352_S32x8x128_0_0_1024)
def qc : FVec Ideal S256x512 .bf16 := flat (Q m c)
def qr : FVec Ideal S256x512 .bf16 := flat (rot8 cosT sinT (Q m c))
def nsa : FVec Ideal S256x512 .f32 := nsaOf (heads2 (P m c) 512 slices_S32x8x3352_S32x8x128_0_0_512) (heads2 (P m c) 640 slices_S32x8x3352_S32x8x128_0_0_640)
  (rot2 cosT sinT (K1 m c)) (heads2 (P m c) 896 slices_S32x8x3352_S32x8x128_0_0_896)
def win : FVec Ideal S256x256 .f32 := winOf (rot2 cosT sinT (K2 m c)) (heads2 (P m c) 1152 slices_S32x8x3352_S32x8x128_0_0_1152)
def gate : FVec Ideal S256x128 .f32 := gateOf (P m c)
def hg : FVec Ideal S256x2048 .f32 := hgOf (P m c)

/-- The row of a sequence and position of the run's arguments. -/
def R (b : Fin 32) (t : Fin 8) : Row := rR (A0 m c) (A1 m c) (A2 m c) (A3 m c) (A4 m c) b t

theorem P_lo (b : Fin 32) (t : Fin 8) (e : Fin 3352) (h : e.val < 1304) : P m c (ix3 b t e) = (R m c b t).P e.val :=
  proj_at _ _ _ b t e e.val (if_pos h).symm
theorem P_hi (b : Fin 32) (t : Fin 8) (e : Fin 3352) (h : 1304 ≤ e.val) : P m c (ix3 b t e) = (R m c b t).P (e.val + 104) :=
  proj_at _ _ _ b t e (e.val + 104) (if_neg (by omega)).symm
theorem pair_at (o : Nat) (ho : S32x8x3352.Slices ![0, 0, o] S32x8x128) (ho' : o ≤ 1152) (b : Fin 32) (t : Fin 8) (h : Fin 2) (d : Fin 64) :
    heads2 (P m c) o ho (ix4 b t h d) = (R m c b t).P (o + (h.val * 64 + d.val)) := by
  rw [heads2_at _ o ho ho', P_lo _ _ _ _ _ (by show o + (h.val * 64 + d.val) < 1304; omega)]
theorem Q_at (b : Fin 32) (t : Fin 8) (h : Fin 8) (d : Fin 64) : Q m c (ix4 b t h d) = nrm ((R m c b t).hd (64 * h.val)) (R m c b t).gq d := by
  unfold Q
  rw [norm8_at]
  refine congrArg₂ (fun v g => nrm v g d) (funext fun d => ?_) (funext fun d => gain0_at _ d)
  rw [heads8_at, P_lo _ _ _ _ _ (by show h.val * 64 + d.val < 1304; omega), Row.hd, Nat.mul_comm 64]
theorem K1_at (b : Fin 32) (t : Fin 8) (h : Fin 2) (d : Fin 64) : K1 m c (ix4 b t h d) = nrm ((R m c b t).hd (768 + 64 * h.val)) (R m c b t).gk1 d := by
  unfold K1
  rw [norm2_at]
  refine congrArg₂ (fun v g => nrm v g d) (funext fun d => ?_) (funext fun d => gain1_at _ d)
  rw [pair_at _ _ _ _ (by decide), Row.hd, Nat.mul_comm 64, Nat.add_assoc]
theorem K2_at (b : Fin 32) (t : Fin 8) (h : Fin 2) (d : Fin 64) : K2 m c (ix4 b t h d) = nrm ((R m c b t).hd (1024 + 64 * h.val)) (R m c b t).gk2 d := by
  unfold K2
  rw [norm2_at]
  refine congrArg₂ (fun v g => nrm v g d) (funext fun d => ?_) (funext fun d => gain2_at _ d)
  rw [pair_at _ _ _ _ (by decide), Row.hd, Nat.mul_comm 64, Nat.add_assoc]

/-- The reference's results are the row's. -/
theorem qc_ref (r : Fin 256) (e : Fin 512) : qc m c (ix2 r e) = (R m c (seqOf r) (posOf r)).qc e.val := by
  unfold qc
  rw [flat_at, Q_at]
  rfl
theorem qr_ref (r : Fin 256) (e : Fin 512) : qr m c (ix2 r e) = (R m c (seqOf r) (posOf r)).qr e.val := by
  unfold qr
  rw [flat_at, rot8_at]
  simp only [Q_at, cos_at, sin_at]
  rfl
theorem nsa_ref (r : Fin 256) (e : Fin 512) : nsa m c (ix2 r e) = (R m c (seqOf r) (posOf r)).nsa e.val := by
  unfold nsa Row.nsa
  have hm : (m64 e.val).val = e.val % 64 := rfl
  rw [nsaOf_at]
  by_cases h0 : e.val / 128 < 1
  · rw [if_pos h0, if_neg (by omega), pair_at _ _ _ _ (by decide), hm]
    exact congrArg (R m c (seqOf r) (posOf r)).P (by show 512 + (e.val / 64 % 2 * 64 + e.val % 64) = 512 + e.val; omega)
  rw [if_neg h0]
  by_cases h1 : e.val / 128 - 1 < 1
  · rw [if_pos h1, if_neg (by omega), pair_at _ _ _ _ (by decide), hm]
    exact congrArg (R m c (seqOf r) (posOf r)).P (by show 640 + (e.val / 64 % 2 * 64 + e.val % 64) = 512 + e.val; omega)
  rw [if_neg h1]
  by_cases h2 : e.val / 128 - 1 - 1 < 1
  · rw [if_pos h2, if_pos (by omega), rot2_at]
    simp only [K1_at, cos_at, sin_at]
    rw [show 768 + 64 * (e.val / 64 % 2) = 512 + 64 * (e.val / 64) by omega]
    rfl
  · rw [if_neg h2, if_neg (by omega), pair_at _ _ _ _ (by decide), hm]
    exact congrArg (R m c (seqOf r) (posOf r)).P (by show 896 + (e.val / 64 % 2 * 64 + e.val % 64) = 512 + e.val; omega)
theorem win_ref (r : Fin 256) (e : Fin 256) : win m c (ix2 r e) = (R m c (seqOf r) (posOf r)).win e.val := by
  unfold win Row.win
  have hm : (m64 e.val).val = e.val % 64 := rfl
  rw [winOf_at]
  by_cases h0 : e.val / 128 < 1
  · rw [if_pos h0, if_pos (by omega), rot2_at]
    simp only [K2_at, cos_at, sin_at]
    rw [show 1024 + 64 * (e.val / 64 % 2) = 1024 + 64 * (e.val / 64) by omega]
    rfl
  · rw [if_neg h0, if_neg (by omega), pair_at _ _ _ _ (by decide), hm]
    exact congrArg (R m c (seqOf r) (posOf r)).P (by show 1152 + (e.val / 64 % 2 * 64 + e.val % 64) = 1024 + e.val; omega)
theorem gate_ref (r : Fin 256) (e : Fin 128) : gate m c (ix2 r e) = (R m c (seqOf r) (posOf r)).gate e.val := by
  unfold gate Row.gate
  rw [gateOf_at, gates_at]
  by_cases h : e.val < 24
  · rw [dif_pos h, P_lo _ _ _ _ _ (by show 1280 + e.val < 1304; omega)]
  · rw [dif_neg h]
    have hz : (R m c (seqOf r) (posOf r)).P (1280 + e.val) = 0 := by
      show (rW (A1 m c) (A2 m c)).proj (fun k => A0 m c (ix3 (seqOf r) (posOf r) k)) (1280 + e.val) = 0
      unfold W.proj
      refine Finset.sum_eq_zero fun k _ => ?_
      rw [show (rW (A1 m c) (A2 m c)).w k (1280 + e.val) = 0 from packed_mid (fun e => A2 m c (ix3 3 k e)) (1280 + e.val) (by omega) (by omega), mul_zero]
    rw [hz]
theorem hg_ref (r : Fin 256) (e : Fin 2048) : hg m c (ix2 r e) = (R m c (seqOf r) (posOf r)).hg e.val := by
  unfold hg Row.hg
  rw [hgOf_at, P_hi _ _ _ _ _ (by show 1304 ≤ 1304 + e.val; omega)]
  exact congrArg (R m c (seqOf r) (posOf r)).P (by show 1304 + e.val + 104 = 1408 + e.val; omega)

/-- What the claims about the reference say of a final state. -/
theorem ref_run (ρ : Dev nD → PrngReg) : θ_run (defs (F := Ideal)) (onTc (τ := τ) (main (F := Ideal))) ⟨m, fun _ => 0, ρ⟩
    (fun r => (∀ c : Dev nD,
        r.2.mem ((c.tc : Thread nD τ).loc main_v187) = qc m c
        ∧ r.2.mem ((c.tc : Thread nD τ).loc main_v191) = qr m c
        ∧ r.2.mem ((c.tc : Thread nD τ).loc main_v192) = nsa m c
        ∧ r.2.mem ((c.tc : Thread nD τ).loc main_v193) = win m c
        ∧ r.2.mem ((c.tc : Thread nD τ).loc main_v194) = gate m c
        ∧ r.2.mem ((c.tc : Thread nD τ).loc main_v195) = hg m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run _ _ _).mono (fun r hr => ⟨hr, sem_eq_zero_of_no_sems rfl r.2⟩) (run m ρ)

end Cert.ProjSampleReferenceIdeal.PR

end
-- ==== Proof.ProjSampleEqual.lean ====
module

public import proofs.«01_k».proof.Proof.ProjSampleKernel
public import proofs.«01_k».proof.Proof.ProjSampleRef
public import proofs.«01_k».proof.Proof.ProjEqual
public import proofs.«01_k».proof.Pre_finite_sample
public import Idealize.ShloMosaic.Lib.ReduceAll

/-! The sample's two programs compute the same projected rows from inputs that agree, where the gain and the matrix are finite. -/

@[expose] public section

set_option maxRecDepth 16384

noncomputable section

namespace Cert.ProjSampleRow

open Idealize.ShloMosaic Idealize.ShloMosaic.TcCoe Idealize.SL.Sem Cert.ProjRow

/-- The precondition read back: the gain and the matrix of layer 3 are finite. -/
theorem finite_of [Cert.Pre_finite_sample.Facts] (a0 : (Cert.Pre_finite_sample.S32x8x1024).Idx → EReal) (a1 : (Cert.Pre_finite_sample.S4x1024).Idx → EReal)
    (a2 : (Cert.Pre_finite_sample.S4x1024x3352).Idx → EReal) (a3 : (Cert.Pre_finite_sample.S4x64).Idx → EReal) (a4 : (Cert.Pre_finite_sample.S4x3x64).Idx → EReal)
    (h : Cert.Pre_finite_sample.fn (F := Ideal) a0 a1 a2 a3 a4 = fun _ => 1#1) :
    (∀ k, Finite (a1 (ix2 3 k))) ∧ ∀ k e, Finite (a2 (ix3 3 k e)) := by
  have hs : Subsingleton (Cert.Pre_finite_sample.S_).Idx := ⟨fun x y => funext fun a => a.elim0⟩
  have and2 : ∀ a b : BitVec 1, IntOp.andi a b = 1#1 → a = 1#1 ∧ b = 1#1 := by decide
  have h1 := and2 _ _ (congrFun h (Shape.Idx.first Cert.Pre_finite_sample.Facts.h_S_))
  refine ⟨fun k => ?_, fun k e => ?_⟩
  · have hall := Host.reduce_andi_all _ _ _ _ (Shape.Idx.first Cert.Pre_finite_sample.Facts.h_S_) h1.1 (ix1 k)
    revert hall
    pointwise
    exact finite_of_cmp _
  · have hall := Host.reduce_andi_all _ _ _ _ (Shape.Idx.first Cert.Pre_finite_sample.Facts.h_S_) h1.2 (ix2 k e)
    revert hall
    pointwise
    exact finite_of_cmp _

/-- The two memories hold the same five arguments on core `c`, and the gain and the matrix of the projection are finite. -/
structure Agree (m : (ℓ : Loc Cert.ProjSampleIdeal.nD Cert.ProjSampleIdeal.τ Cert.ProjSampleIdeal.sig) → Buf (Elt Ideal) ℓ)
    (m' : (ℓ : Loc Cert.ProjSampleReferenceIdeal.nD Cert.ProjSampleReferenceIdeal.τ Cert.ProjSampleReferenceIdeal.sig) → Buf (Elt Ideal) ℓ)
    (c : Dev Cert.ProjSampleIdeal.nD) : Prop where
  fin : ProjSampleIdeal.PK.FinW m c
  h0 : ProjSampleReferenceIdeal.PR.A0 m' c = ProjSampleIdeal.PK.A0 m c
  h1 : ProjSampleReferenceIdeal.PR.A1 m' c = ProjSampleIdeal.PK.A1 m c
  h2 : ProjSampleReferenceIdeal.PR.A2 m' c = ProjSampleIdeal.PK.A2 m c
  h3 : ProjSampleReferenceIdeal.PR.A3 m' c = ProjSampleIdeal.PK.A3 m c
  h4 : ProjSampleReferenceIdeal.PR.A4 m' c = ProjSampleIdeal.PK.A4 m c

variable {m : (ℓ : Loc Cert.ProjSampleIdeal.nD Cert.ProjSampleIdeal.τ Cert.ProjSampleIdeal.sig) → Buf (Elt Ideal) ℓ}
  {m' : (ℓ : Loc Cert.ProjSampleReferenceIdeal.nD Cert.ProjSampleReferenceIdeal.τ Cert.ProjSampleReferenceIdeal.sig) → Buf (Elt Ideal) ℓ}
  {c : Dev Cert.ProjSampleIdeal.nD} (H : Agree m m' c)
include H

theorem row_eq (b : Fin 32) (t : Fin 8) : ProjSampleReferenceIdeal.PR.R m' c b t = ProjSampleIdeal.PK.kR m c b t := by
  unfold ProjSampleReferenceIdeal.PR.R
  rw [H.h0, H.h1, H.h2, H.h3, H.h4]
  rfl

theorem qc_agree : ProjSampleReferenceIdeal.PR.qc m' c = (ProjSampleIdeal.Gen.dats m 0 c).arrAt 9 ProjSampleIdeal.cfg0.N :=
  ext2 _ _ fun r e => (ProjSampleReferenceIdeal.PR.qc_ref m' c r e).trans
    ((congrArg (fun R => Row.qc R e.val) (row_eq H _ _)).trans (ProjSampleIdeal.PK.qc_kernel m c H.fin r e).symm)
theorem qr_agree : ProjSampleReferenceIdeal.PR.qr m' c = (ProjSampleIdeal.Gen.dats m 0 c).arrAt 10 ProjSampleIdeal.cfg0.N :=
  ext2 _ _ fun r e => (ProjSampleReferenceIdeal.PR.qr_ref m' c r e).trans
    ((congrArg (fun R => Row.qr R e.val) (row_eq H _ _)).trans (ProjSampleIdeal.PK.qr_kernel m c H.fin r e).symm)
theorem nsa_agree : ProjSampleReferenceIdeal.PR.nsa m' c = (ProjSampleIdeal.Gen.dats m 0 c).arrAt 11 ProjSampleIdeal.cfg0.N :=
  ext2 _ _ fun r e => (ProjSampleReferenceIdeal.PR.nsa_ref m' c r e).trans
    ((congrArg (fun R => Row.nsa R e.val) (row_eq H _ _)).trans (ProjSampleIdeal.PK.nsa_kernel m c H.fin r e).symm)
theorem win_agree : ProjSampleReferenceIdeal.PR.win m' c = (ProjSampleIdeal.Gen.dats m 0 c).arrAt 12 ProjSampleIdeal.cfg0.N :=
  ext2 _ _ fun r e => (ProjSampleReferenceIdeal.PR.win_ref m' c r e).trans
    ((congrArg (fun R => Row.win R e.val) (row_eq H _ _)).trans (ProjSampleIdeal.PK.win_kernel m c H.fin r e).symm)
theorem gate_agree : ProjSampleReferenceIdeal.PR.gate m' c = (ProjSampleIdeal.Gen.dats m 0 c).arrAt 14 ProjSampleIdeal.cfg0.N :=
  ext2 _ _ fun r e => (ProjSampleReferenceIdeal.PR.gate_ref m' c r e).trans
    ((congrArg (fun R => Row.gate R e.val) (row_eq H _ _)).trans (ProjSampleIdeal.PK.gate_kernel m c H.fin r e).symm)
theorem hg_agree : ProjSampleReferenceIdeal.PR.hg m' c = (ProjSampleIdeal.Gen.dats m 0 c).arrAt 15 ProjSampleIdeal.cfg0.N :=
  ext2 _ _ fun r e => (ProjSampleReferenceIdeal.PR.hg_ref m' c r e).trans
    ((congrArg (fun R => Row.hg R e.val) (row_eq H _ _)).trans (ProjSampleIdeal.PK.hg_kernel m c H.fin r e).symm)

end Cert.ProjSampleRow

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_lb_range
public import proofs.«01_k».proof.Proof.HgEqual
public import proofs.«01_k».proof.Proof.MlpEqual
public import proofs.«01_k».proof.Proof.MlpSampleEqual
public import proofs.«01_k».proof.Proof.ProjEqual
public import proofs.«01_k».proof.Proof.ProjSampleEqual
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.MlpSample
public import proofs.«01_k».proof.Proof.Gen.MlpSample.Skeleton
public import proofs.«01_k».proof.Proof.Gen.MlpSample.Launch
public import proofs.«01_k».proof.Proof.Gen.MlpSample.Points
public import proofs.«01_k».proof.Proof.Gen.MlpSample.Frame
public import proofs.«01_k».proof.Proof.Gen.MlpSampleIdeal
public import proofs.«01_k».proof.Proof.Gen.MlpSampleIdeal.Skeleton
public import proofs.«01_k».proof.Proof.Gen.MlpSampleIdeal.Launch
public import proofs.«01_k».proof.Proof.Gen.MlpSampleIdeal.Points
public import proofs.«01_k».proof.Proof.Gen.MlpSampleIdeal.Frame
public import proofs.«01_k».proof.Proof.Gen.MlpSampleIdeal.Value
public import proofs.«01_k».proof.Proof.Gen.MlpSampleReferenceIdeal
public import proofs.«01_k».proof.Proof.Gen.MlpSampleReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleIdeal.Value
public import proofs.«01_k».proof.Proof.Gen.ProjReferenceIdeal
public import proofs.«01_k».proof.Proof.Gen.ProjReferenceIdeal.Run
public import proofs.«01_k».proof.Proof.Gen.ProjSampleReferenceIdeal
public import proofs.«01_k».proof.Proof.Gen.ProjSampleReferenceIdeal.Run
public import proofs.«01_k».proof.Proof.Gen.Pre_finite
public import proofs.«01_k».proof.Proof.Gen.Pre_finite_sample
public import Idealize.ShloMosaic.Adequacy
public import Idealize.ShloMosaic.Init

@[expose] public section

noncomputable section

namespace Cert.Proof

open Idealize.ShloMosaic Idealize.SL.Sem Cert.Kernel

/-- The prompt's input projection: kernel and reference give the same six arrays from inputs that agree, where the gain and the matrix are finite. -/
theorem prompt_projection : Cert.algebraic_ProjIdeal_ProjReferenceIdeal_pre_finite (hProjIdeal := Cert.ProjIdeal.Gen.facts)
    (hProjReferenceIdeal := Cert.ProjReferenceIdeal.Gen.facts) (hPre_finite := Cert.Pre_finite.Gen.facts) :=
  fun m g m' g' hpre hag => ⟨fun c => (Cert.ProjIdeal.Gen.dats m 0 c).arrAt 9 Cert.ProjIdeal.cfg0.N,
    fun c => (Cert.ProjIdeal.Gen.dats m 0 c).arrAt 10 Cert.ProjIdeal.cfg0.N,
    fun c => (Cert.ProjIdeal.Gen.dats m 0 c).arrAt 11 Cert.ProjIdeal.cfg0.N,
    fun c => (Cert.ProjIdeal.Gen.dats m 0 c).arrAt 12 Cert.ProjIdeal.cfg0.N,
    fun c => (Cert.ProjIdeal.Gen.dats m 0 c).arrAt 14 Cert.ProjIdeal.cfg0.N,
    fun c => (Cert.ProjIdeal.Gen.dats m 0 c).arrAt 15 Cert.ProjIdeal.cfg0.N,
    (θ_run _ _ _).mono (fun _ h c => ⟨(h c).1, (h c).2.1, (h c).2.2.1, (h c).2.2.2.1, (h c).2.2.2.2.2⟩) (Cert.ProjIdeal.Value.run_blocks m g),
    (θ_run _ _ _).mono (fun _ h c =>
      have hf := Cert.ProjRow.finite_of _ _ _ _ _ (hpre c)
      have a : Cert.ProjRow.Agree m m' c := ⟨⟨hf.1, hf.2⟩, (hag c).1, (hag c).2.1, (hag c).2.2.1, (hag c).2.2.2.1, (hag c).2.2.2.2⟩
      have r := h.1 c
      ⟨r.1.trans (Cert.ProjRow.qc_agree a), r.2.1.trans (Cert.ProjRow.qr_agree a), r.2.2.1.trans (Cert.ProjRow.nsa_agree a),
        r.2.2.2.1.trans (Cert.ProjRow.win_agree a), r.2.2.2.2.1.trans (Cert.ProjRow.gate_agree a),
        r.2.2.2.2.2.1.trans (Cert.ProjRow.hg_agree a), r.2.2.2.2.2.2⟩)
      (Cert.ProjReferenceIdeal.PR.ref_run m' g')⟩

/-- The reference of the prompt's input projection ends with its arguments unchanged. -/
theorem prompt_projection_frame : Cert.quiescent_ProjReferenceIdeal (hProjReferenceIdeal := Cert.ProjReferenceIdeal.Gen.facts) :=
  fun m g _ => (θ_run _ _ _).mono (fun _ h => ⟨fun c => (h.1 c).2.2.2.2.2.2, h.2⟩) (Cert.ProjReferenceIdeal.PR.ref_run m g)

/-- The sample's input projection: kernel and reference give the same six arrays from inputs that agree, where the gain and the matrix are finite. -/
theorem sample_projection : Cert.algebraic_ProjSampleIdeal_ProjSampleReferenceIdeal_pre_finite_sample (hProjSampleIdeal := Cert.ProjSampleIdeal.Gen.facts)
    (hProjSampleReferenceIdeal := Cert.ProjSampleReferenceIdeal.Gen.facts) (hPre_finite_sample := Cert.Pre_finite_sample.Gen.facts) :=
  fun m g m' g' hpre hag => ⟨fun c => (Cert.ProjSampleIdeal.Gen.dats m 0 c).arrAt 9 Cert.ProjSampleIdeal.cfg0.N,
    fun c => (Cert.ProjSampleIdeal.Gen.dats m 0 c).arrAt 10 Cert.ProjSampleIdeal.cfg0.N,
    fun c => (Cert.ProjSampleIdeal.Gen.dats m 0 c).arrAt 11 Cert.ProjSampleIdeal.cfg0.N,
    fun c => (Cert.ProjSampleIdeal.Gen.dats m 0 c).arrAt 12 Cert.ProjSampleIdeal.cfg0.N,
    fun c => (Cert.ProjSampleIdeal.Gen.dats m 0 c).arrAt 14 Cert.ProjSampleIdeal.cfg0.N,
    fun c => (Cert.ProjSampleIdeal.Gen.dats m 0 c).arrAt 15 Cert.ProjSampleIdeal.cfg0.N,
    (θ_run _ _ _).mono (fun _ h c => ⟨(h c).1, (h c).2.1, (h c).2.2.1, (h c).2.2.2.1, (h c).2.2.2.2.2⟩) (Cert.ProjSampleIdeal.Value.run_blocks m g),
    (θ_run _ _ _).mono (fun _ h c =>
      have hf := Cert.ProjSampleRow.finite_of _ _ _ _ _ (hpre c)
      have a : Cert.ProjSampleRow.Agree m m' c := ⟨⟨hf.1, hf.2⟩, (hag c).1, (hag c).2.1, (hag c).2.2.1, (hag c).2.2.2.1, (hag c).2.2.2.2⟩
      have r := h.1 c
      ⟨r.1.trans (Cert.ProjSampleRow.qc_agree a), r.2.1.trans (Cert.ProjSampleRow.qr_agree a), r.2.2.1.trans (Cert.ProjSampleRow.nsa_agree a),
        r.2.2.2.1.trans (Cert.ProjSampleRow.win_agree a), r.2.2.2.2.1.trans (Cert.ProjSampleRow.gate_agree a),
        r.2.2.2.2.2.1.trans (Cert.ProjSampleRow.hg_agree a), r.2.2.2.2.2.2⟩)
      (Cert.ProjSampleReferenceIdeal.PR.ref_run m' g')⟩

/-- The reference of the sample's input projection ends with its arguments unchanged. -/
theorem sample_projection_frame : Cert.quiescent_ProjSampleReferenceIdeal (hProjSampleReferenceIdeal := Cert.ProjSampleReferenceIdeal.Gen.facts) :=
  fun m g _ => (θ_run _ _ _).mono (fun _ h => ⟨fun c => (h.1 c).2.2.2.2.2.2, h.2⟩) (Cert.ProjSampleReferenceIdeal.PR.ref_run m g)

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.MlpSample.Gen.facts, Cert.MlpSampleIdeal.Gen.facts, Cert.MlpSampleReferenceIdeal.Gen.facts,
  Cert.Proj.Gen.facts, Cert.ProjIdeal.Gen.facts, Cert.ProjReferenceIdeal.Gen.facts,
  Cert.ProjSample.Gen.facts, Cert.ProjSampleIdeal.Gen.facts, Cert.ProjSampleReferenceIdeal.Gen.facts,
  Cert.Pre_lb_range.Gen.facts, Cert.Pre_finite.Gen.facts, Cert.Pre_finite_sample.Gen.facts,
  fun m g _ => Cert.Kernel.Gen.frame m g,
  fun m g _ => Cert.KernelIdeal.Gen.frame m g,
  fun m g _ => Cert.KernelIdeal.Gen.frame m g,
  fun m g _ => (θ_run _ _ _).mono (fun _ h => ⟨fun c => (h.1 c).2.2, h.2⟩) (Cert.ReferenceIdeal.HR.ref_run m g),
  fun m g _ => (θ_run _ _ _).mono (fun _ h => ⟨fun c => (h.1 c).2.2, h.2⟩) (Cert.ReferenceIdeal.HR.ref_run m g),
  fun m g _ => Cert.Mlp.Gen.frame m g,
  fun m g _ => Cert.MlpIdeal.Gen.frame m g,
  fun m g _ => (θ_run _ _ _).mono (fun _ h => ⟨fun c => (h.1 c).2, h.2⟩) (Cert.MlpReferenceIdeal.MR.ref_run m g),
  fun m g _ => Cert.MlpSample.Gen.frame m g,
  fun m g _ => Cert.MlpSampleIdeal.Gen.frame m g,
  fun m g _ => (θ_run _ _ _).mono (fun _ h => ⟨fun c => (h.1 c).2, h.2⟩) (Cert.MlpSampleReferenceIdeal.MR.ref_run m g),
  fun m g _ => Cert.Proj.Gen.frame m g,
  fun m g _ => Cert.ProjIdeal.Gen.frame m g,
  fun m g _ => Cert.ProjIdeal.Gen.frame m g,
  prompt_projection_frame,
  fun m g _ => prompt_projection_frame m g trivial,
  fun m g _ => Cert.ProjSample.Gen.frame m g,
  fun m g _ => Cert.ProjSampleIdeal.Gen.frame m g,
  fun m g _ => Cert.ProjSampleIdeal.Gen.frame m g,
  sample_projection_frame,
  fun m g _ => sample_projection_frame m g trivial,
  trivial,
  fun m g m' g' hpre hag => ⟨fun c => Cert.KernelIdeal.Value.G4 m c, fun c => Cert.KernelIdeal.Value.G5 m c,
    Cert.KernelIdeal.Value.run m g,
    (θ_run _ _ _).mono (fun _ h c =>
      have a : Cert.Hgrn.Agree m m' c := ⟨(hag c).1, (hag c).2.1, (hag c).2.2.1, (hag c).2.2.2⟩
      ⟨(h.1 c).1.trans (Cert.Hgrn.out_agree a hpre), (h.1 c).2.1.trans (Cert.Hgrn.fin_agree a hpre), (h.1 c).2.2⟩)
      (Cert.ReferenceIdeal.HR.ref_run m' g')⟩,
  trivial,
  fun m g m' g' _ hag => ⟨fun c => (Cert.MlpIdeal.Gen.dats m 0 c).arrAt 7 Cert.MlpIdeal.cfg0.N, Cert.MlpIdeal.Value.run_blocks m g,
    (θ_run _ _ _).mono (fun _ h c => ⟨(h.1 c).1.trans (Cert.MlpRow.out_agree m m' c (hag c).1 (hag c).2.1 (hag c).2.2.1 (hag c).2.2.2.1
      (hag c).2.2.2.2.1 (hag c).2.2.2.2.2.1 (hag c).2.2.2.2.2.2), (h.1 c).2⟩) (Cert.MlpReferenceIdeal.MR.ref_run m' g')⟩,
  trivial,
  fun m g m' g' _ hag => ⟨fun c => (Cert.MlpSampleIdeal.Gen.dats m 0 c).arrAt 7 Cert.MlpSampleIdeal.cfg0.N, Cert.MlpSampleIdeal.Value.run_blocks m g,
    (θ_run _ _ _).mono (fun _ h c => ⟨(h.1 c).1.trans (Cert.MlpRow.sample_agree m m' c (hag c).1 (hag c).2.1 (hag c).2.2.1 (hag c).2.2.2.1
      (hag c).2.2.2.2.1 (hag c).2.2.2.2.2.1 (hag c).2.2.2.2.2.2), (h.1 c).2⟩) (Cert.MlpSampleReferenceIdeal.MR.ref_run m' g')⟩,
  trivial,
  prompt_projection,
  trivial,
  sample_projection⟩

end Cert.Proof

end
